-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelPq (m : (ℓ : Loc Cert.KernelPq.nD Cert.KernelPq.τ Cert.KernelPq.sig) → Buf (Elt Bits) ℓ) : Prop :=
  True

def Pre_KernelPqIdeal (m : (ℓ : Loc Cert.KernelPqIdeal.nD Cert.KernelPqIdeal.τ Cert.KernelPqIdeal.sig) → Buf (Elt Ideal) ℓ) : Prop :=
  True

def Pre_ReferencePqIdeal (m : (ℓ : Loc Cert.ReferencePqIdeal.nD Cert.ReferencePqIdeal.τ Cert.ReferencePqIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelRot (m : (ℓ : Loc Cert.KernelRot.nD Cert.KernelRot.τ Cert.KernelRot.sig) → Buf (Elt Bits) ℓ) : Prop :=
  True

def Pre_KernelRotIdeal (m : (ℓ : Loc Cert.KernelRotIdeal.nD Cert.KernelRotIdeal.τ Cert.KernelRotIdeal.sig) → Buf (Elt Ideal) ℓ) : Prop :=
  True

def Pre_ReferenceRotIdeal (m : (ℓ : Loc Cert.ReferenceRotIdeal.nD Cert.ReferenceRotIdeal.τ Cert.ReferenceRotIdeal.sig) → Buf (Elt Ideal) ℓ) : Prop :=
  True

def Pre_KernelSmp (m : (ℓ : Loc Cert.KernelSmp.nD Cert.KernelSmp.τ Cert.KernelSmp.sig) → Buf (Elt Bits) ℓ) : Prop :=
  True

def Pre_KernelSmpIdeal (m : (ℓ : Loc Cert.KernelSmpIdeal.nD Cert.KernelSmpIdeal.τ Cert.KernelSmpIdeal.sig) → Buf (Elt Ideal) ℓ) : Prop :=
  True

def Pre_KernelSmpIdeal_last_gates [hPre_last_gates : Cert.Pre_last_gates.Facts] (m : (ℓ : Loc Cert.KernelSmpIdeal.nD Cert.KernelSmpIdeal.τ Cert.KernelSmpIdeal.sig) → Buf (Elt Ideal) ℓ) : Prop :=
  ∀ c : Dev Cert.KernelSmpIdeal.nD,
    (Cert.Pre_last_gates.fn (F := Ideal) (m ((c.tc : Thread Cert.KernelSmpIdeal.nD Cert.KernelSmpIdeal.τ).loc Cert.KernelSmpIdeal.main_arg0)) (m ((c.tc : Thread Cert.KernelSmpIdeal.nD Cert.KernelSmpIdeal.τ).loc Cert.KernelSmpIdeal.main_arg1)) (m ((c.tc : Thread Cert.KernelSmpIdeal.nD Cert.KernelSmpIdeal.τ).loc Cert.KernelSmpIdeal.main_arg2)) (m ((c.tc : Thread Cert.KernelSmpIdeal.nD Cert.KernelSmpIdeal.τ).loc Cert.KernelSmpIdeal.main_arg3)) (m ((c.tc : Thread Cert.KernelSmpIdeal.nD Cert.KernelSmpIdeal.τ).loc Cert.KernelSmpIdeal.main_arg4)) (m ((c.tc : Thread Cert.KernelSmpIdeal.nD Cert.KernelSmpIdeal.τ).loc Cert.KernelSmpIdeal.main_arg5))) = (fun _ => 1#1)

def Pre_ReferenceSmpIdeal (m : (ℓ : Loc Cert.ReferenceSmpIdeal.nD Cert.ReferenceSmpIdeal.τ Cert.ReferenceSmpIdeal.sig) → Buf (Elt Ideal) ℓ) : Prop :=
  True

def Pre_ReferenceSmpIdeal_last_gates [hPre_last_gates : Cert.Pre_last_gates.Facts] (m : (ℓ : Loc Cert.ReferenceSmpIdeal.nD Cert.ReferenceSmpIdeal.τ Cert.ReferenceSmpIdeal.sig) → Buf (Elt Ideal) ℓ) : Prop :=
  ∀ c : Dev Cert.ReferenceSmpIdeal.nD,
    (Cert.Pre_last_gates.fn (F := Ideal) (m ((c.tc : Thread Cert.ReferenceSmpIdeal.nD Cert.ReferenceSmpIdeal.τ).loc Cert.ReferenceSmpIdeal.main_arg0)) (m ((c.tc : Thread Cert.ReferenceSmpIdeal.nD Cert.ReferenceSmpIdeal.τ).loc Cert.ReferenceSmpIdeal.main_arg1)) (m ((c.tc : Thread Cert.ReferenceSmpIdeal.nD Cert.ReferenceSmpIdeal.τ).loc Cert.ReferenceSmpIdeal.main_arg2)) (m ((c.tc : Thread Cert.ReferenceSmpIdeal.nD Cert.ReferenceSmpIdeal.τ).loc Cert.ReferenceSmpIdeal.main_arg3)) (m ((c.tc : Thread Cert.ReferenceSmpIdeal.nD Cert.ReferenceSmpIdeal.τ).loc Cert.ReferenceSmpIdeal.main_arg4)) (m ((c.tc : Thread Cert.ReferenceSmpIdeal.nD Cert.ReferenceSmpIdeal.τ).loc Cert.ReferenceSmpIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1)
      ∧ r.2.mem ((c.tc : Thread Cert.KernelQkv.nD Cert.KernelQkv.τ).loc Cert.KernelQkv.main_arg2) = m ((c.tc : Thread Cert.KernelQkv.nD Cert.KernelQkv.τ).loc Cert.KernelQkv.main_arg2)
      ∧ r.2.mem ((c.tc : Thread Cert.KernelQkv.nD Cert.KernelQkv.τ).loc Cert.KernelQkv.main_arg3) = m ((c.tc : Thread Cert.KernelQkv.nD Cert.KernelQkv.τ).loc Cert.KernelQkv.main_arg3))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
      ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
      ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3))
      ∧ r.2.sem = fun _ => 0)

def quiescent_KernelPq [hKernelPq : Cert.KernelPq.Facts] : Prop :=
  ∀ (m : (ℓ : Loc Cert.KernelPq.nD Cert.KernelPq.τ Cert.KernelPq.sig) → Buf (Elt Bits) ℓ) (g : Dev Cert.KernelPq.nD → PrngReg), Pre_KernelPq m →
    θ_run (Cert.KernelPq.defs (F := Bits)) (onTc (τ := Cert.KernelPq.τ) (Cert.KernelPq.main (F := Bits))) ⟨m, fun _ => 0, g⟩ (fun r => (∀ c : Dev Cert.KernelPq.nD,
      r.2.mem ((c.tc : Thread Cert.KernelPq.nD Cert.KernelPq.τ).loc Cert.KernelPq.main_arg0) = m ((c.tc : Thread Cert.KernelPq.nD Cert.KernelPq.τ).loc Cert.KernelPq.main_arg0)
      ∧ r.2.mem ((c.tc : Thread Cert.KernelPq.nD Cert.KernelPq.τ).loc Cert.KernelPq.main_arg1) = m ((c.tc : Thread Cert.KernelPq.nD Cert.KernelPq.τ).loc Cert.KernelPq.main_arg1)
      ∧ r.2.mem ((c.tc : Thread Cert.KernelPq.nD Cert.KernelPq.τ).loc Cert.KernelPq.main_arg2) = m ((c.tc : Thread Cert.KernelPq.nD Cert.KernelPq.τ).loc Cert.KernelPq.main_arg2))
      ∧ r.2.sem = fun _ => 0)

def quiescent_KernelPqIdeal [hKernelPqIdeal : Cert.KernelPqIdeal.Facts] : Prop :=
  ∀ (m : (ℓ : Loc Cert.KernelPqIdeal.nD Cert.KernelPqIdeal.τ Cert.KernelPqIdeal.sig) → Buf (Elt Ideal) ℓ) (g : Dev Cert.KernelPqIdeal.nD → PrngReg), Pre_KernelPqIdeal m →
    θ_run (Cert.KernelPqIdeal.defs (F := Ideal)) (onTc (τ := Cert.KernelPqIdeal.τ) (Cert.KernelPqIdeal.main (F := Ideal))) ⟨m, fun _ => 0, g⟩ (fun r => (∀ c : Dev Cert.KernelPqIdeal.nD,
      r.2.mem ((c.tc : Thread Cert.KernelPqIdeal.nD Cert.KernelPqIdeal.τ).loc Cert.KernelPqIdeal.main_arg0) = m ((c.tc : Thread Cert.KernelPqIdeal.nD Cert.KernelPqIdeal.τ).loc Cert.KernelPqIdeal.main_arg0)
      ∧ r.2.mem ((c.tc : Thread Cert.KernelPqIdeal.nD Cert.KernelPqIdeal.τ).loc Cert.KernelPqIdeal.main_arg1) = m ((c.tc : Thread Cert.KernelPqIdeal.nD Cert.KernelPqIdeal.τ).loc Cert.KernelPqIdeal.main_arg1)
      ∧ r.2.mem ((c.tc : Thread Cert.KernelPqIdeal.nD Cert.KernelPqIdeal.τ).loc Cert.KernelPqIdeal.main_arg2) = m ((c.tc : Thread Cert.KernelPqIdeal.nD Cert.KernelPqIdeal.τ).loc Cert.KernelPqIdeal.main_arg2))
      ∧ r.2.sem = fun _ => 0)

def quiescent_ReferencePqIdeal [hReferencePqIdeal : Cert.ReferencePqIdeal.Facts] : Prop :=
  ∀ (m : (ℓ : Loc Cert.ReferencePqIdeal.nD Cert.ReferencePqIdeal.τ Cert.ReferencePqIdeal.sig) → Buf (Elt Ideal) ℓ) (g : Dev Cert.ReferencePqIdeal.nD → PrngReg), Pre_ReferencePqIdeal m →
    θ_run (Cert.ReferencePqIdeal.defs (F := Ideal)) (onTc (τ := Cert.ReferencePqIdeal.τ) (Cert.ReferencePqIdeal.main (F := Ideal))) ⟨m, fun _ => 0, g⟩ (fun r => (∀ c : Dev Cert.ReferencePqIdeal.nD,
      r.2.mem ((c.tc : Thread Cert.ReferencePqIdeal.nD Cert.ReferencePqIdeal.τ).loc Cert.ReferencePqIdeal.main_arg0) = m ((c.tc : Thread Cert.ReferencePqIdeal.nD Cert.ReferencePqIdeal.τ).loc Cert.ReferencePqIdeal.main_arg0)
      ∧ r.2.mem ((c.tc : Thread Cert.ReferencePqIdeal.nD Cert.ReferencePqIdeal.τ).loc Cert.ReferencePqIdeal.main_arg1) = m ((c.tc : Thread Cert.ReferencePqIdeal.nD Cert.ReferencePqIdeal.τ).loc Cert.ReferencePqIdeal.main_arg1)
      ∧ r.2.mem ((c.tc : Thread Cert.ReferencePqIdeal.nD Cert.ReferencePqIdeal.τ).loc Cert.ReferencePqIdeal.main_arg2) = m ((c.tc : Thread Cert.ReferencePqIdeal.nD Cert.ReferencePqIdeal.τ).loc Cert.ReferencePqIdeal.main_arg2))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelRot [hKernelRot : Cert.KernelRot.Facts] : Prop :=
  ∀ (m : (ℓ : Loc Cert.KernelRot.nD Cert.KernelRot.τ Cert.KernelRot.sig) → Buf (Elt Bits) ℓ) (g : Dev Cert.KernelRot.nD → PrngReg), Pre_KernelRot m →
    θ_run (Cert.KernelRot.defs (F := Bits)) (onTc (τ := Cert.KernelRot.τ) (Cert.KernelRot.main (F := Bits))) ⟨m, fun _ => 0, g⟩ (fun r => (∀ c : Dev Cert.KernelRot.nD,
      r.2.mem ((c.tc : Thread Cert.KernelRot.nD Cert.KernelRot.τ).loc Cert.KernelRot.main_arg0) = m ((c.tc : Thread Cert.KernelRot.nD Cert.KernelRot.τ).loc Cert.KernelRot.main_arg0))
      ∧ r.2.sem = fun _ => 0)

def quiescent_KernelRotIdeal [hKernelRotIdeal : Cert.KernelRotIdeal.Facts] : Prop :=
  ∀ (m : (ℓ : Loc Cert.KernelRotIdeal.nD Cert.KernelRotIdeal.τ Cert.KernelRotIdeal.sig) → Buf (Elt Ideal) ℓ) (g : Dev Cert.KernelRotIdeal.nD → PrngReg), Pre_KernelRotIdeal m →
    θ_run (Cert.KernelRotIdeal.defs (F := Ideal)) (onTc (τ := Cert.KernelRotIdeal.τ) (Cert.KernelRotIdeal.main (F := Ideal))) ⟨m, fun _ => 0, g⟩ (fun r => (∀ c : Dev Cert.KernelRotIdeal.nD,
      r.2.mem ((c.tc : Thread Cert.KernelRotIdeal.nD Cert.KernelRotIdeal.τ).loc Cert.KernelRotIdeal.main_arg0) = m ((c.tc : Thread Cert.KernelRotIdeal.nD Cert.KernelRotIdeal.τ).loc Cert.KernelRotIdeal.main_arg0))
      ∧ r.2.sem = fun _ => 0)

def quiescent_ReferenceRotIdeal [hReferenceRotIdeal : Cert.ReferenceRotIdeal.Facts] : Prop :=
  ∀ (m : (ℓ : Loc Cert.ReferenceRotIdeal.nD Cert.ReferenceRotIdeal.τ Cert.ReferenceRotIdeal.sig) → Buf (Elt Ideal) ℓ) (g : Dev Cert.ReferenceRotIdeal.nD → PrngReg), Pre_ReferenceRotIdeal m →
    θ_run (Cert.ReferenceRotIdeal.defs (F := Ideal)) (onTc (τ := Cert.ReferenceRotIdeal.τ) (Cert.ReferenceRotIdeal.main (F := Ideal))) ⟨m, fun _ => 0, g⟩ (fun r => (∀ c : Dev Cert.ReferenceRotIdeal.nD,
      r.2.mem ((c.tc : Thread Cert.ReferenceRotIdeal.nD Cert.ReferenceRotIdeal.τ).loc Cert.ReferenceRotIdeal.main_arg0) = m ((c.tc : Thread Cert.ReferenceRotIdeal.nD Cert.ReferenceRotIdeal.τ).loc Cert.ReferenceRotIdeal.main_arg0))
      ∧ r.2.sem = fun _ => 0)

def quiescent_KernelSmp [hKernelSmp : Cert.KernelSmp.Facts] : Prop :=
  ∀ (m : (ℓ : Loc Cert.KernelSmp.nD Cert.KernelSmp.τ Cert.KernelSmp.sig) → Buf (Elt Bits) ℓ) (g : Dev Cert.KernelSmp.nD → PrngReg), Pre_KernelSmp m →
    θ_run (Cert.KernelSmp.defs (F := Bits)) (onTc (τ := Cert.KernelSmp.τ) (Cert.KernelSmp.main (F := Bits))) ⟨m, fun _ => 0, g⟩ (fun r => (∀ c : Dev Cert.KernelSmp.nD,
      r.2.mem ((c.tc : Thread Cert.KernelSmp.nD Cert.KernelSmp.τ).loc Cert.KernelSmp.main_arg0) = m ((c.tc : Thread Cert.KernelSmp.nD Cert.KernelSmp.τ).loc Cert.KernelSmp.main_arg0)
      ∧ r.2.mem ((c.tc : Thread Cert.KernelSmp.nD Cert.KernelSmp.τ).loc Cert.KernelSmp.main_arg1) = m ((c.tc : Thread Cert.KernelSmp.nD Cert.KernelSmp.τ).loc Cert.KernelSmp.main_arg1)
      ∧ r.2.mem ((c.tc : Thread Cert.KernelSmp.nD Cert.KernelSmp.τ).loc Cert.KernelSmp.main_arg2) = m ((c.tc : Thread Cert.KernelSmp.nD Cert.KernelSmp.τ).loc Cert.KernelSmp.main_arg2)
      ∧ r.2.mem ((c.tc : Thread Cert.KernelSmp.nD Cert.KernelSmp.τ).loc Cert.KernelSmp.main_arg3) = m ((c.tc : Thread Cert.KernelSmp.nD Cert.KernelSmp.τ).loc Cert.KernelSmp.main_arg3)
      ∧ r.2.mem ((c.tc : Thread Cert.KernelSmp.nD Cert.KernelSmp.τ).loc Cert.KernelSmp.main_arg4) = m ((c.tc : Thread Cert.KernelSmp.nD Cert.KernelSmp.τ).loc Cert.KernelSmp.main_arg4)
      ∧ r.2.mem ((c.tc : Thread Cert.KernelSmp.nD Cert.KernelSmp.τ).loc Cert.KernelSmp.main_arg5) = m ((c.tc : Thread Cert.KernelSmp.nD Cert.KernelSmp.τ).loc Cert.KernelSmp.main_arg5))
      ∧ r.2.sem = fun _ => 0)

def quiescent_KernelSmpIdeal [hKernelSmpIdeal : Cert.KernelSmpIdeal.Facts] : Prop :=
  ∀ (m : (ℓ : Loc Cert.KernelSmpIdeal.nD Cert.KernelSmpIdeal.τ Cert.KernelSmpIdeal.sig) → Buf (Elt Ideal) ℓ) (g : Dev Cert.KernelSmpIdeal.nD → PrngReg), Pre_KernelSmpIdeal m →
    θ_run (Cert.KernelSmpIdeal.defs (F := Ideal)) (onTc (τ := Cert.KernelSmpIdeal.τ) (Cert.KernelSmpIdeal.main (F := Ideal))) ⟨m, fun _ => 0, g⟩ (fun r => (∀ c : Dev Cert.KernelSmpIdeal.nD,
      r.2.mem ((c.tc : Thread Cert.KernelSmpIdeal.nD Cert.KernelSmpIdeal.τ).loc Cert.KernelSmpIdeal.main_arg0) = m ((c.tc : Thread Cert.KernelSmpIdeal.nD Cert.KernelSmpIdeal.τ).loc Cert.KernelSmpIdeal.main_arg0)
      ∧ r.2.mem ((c.tc : Thread Cert.KernelSmpIdeal.nD Cert.KernelSmpIdeal.τ).loc Cert.KernelSmpIdeal.main_arg1) = m ((c.tc : Thread Cert.KernelSmpIdeal.nD Cert.KernelSmpIdeal.τ).loc Cert.KernelSmpIdeal.main_arg1)
      ∧ r.2.mem ((c.tc : Thread Cert.KernelSmpIdeal.nD Cert.KernelSmpIdeal.τ).loc Cert.KernelSmpIdeal.main_arg2) = m ((c.tc : Thread Cert.KernelSmpIdeal.nD Cert.KernelSmpIdeal.τ).loc Cert.KernelSmpIdeal.main_arg2)
      ∧ r.2.mem ((c.tc : Thread Cert.KernelSmpIdeal.nD Cert.KernelSmpIdeal.τ).loc Cert.KernelSmpIdeal.main_arg3) = m ((c.tc : Thread Cert.KernelSmpIdeal.nD Cert.KernelSmpIdeal.τ).loc Cert.KernelSmpIdeal.main_arg3)
      ∧ r.2.mem ((c.tc : Thread Cert.KernelSmpIdeal.nD Cert.KernelSmpIdeal.τ).loc Cert.KernelSmpIdeal.main_arg4) = m ((c.tc : Thread Cert.KernelSmpIdeal.nD Cert.KernelSmpIdeal.τ).loc Cert.KernelSmpIdeal.main_arg4)
      ∧ r.2.mem ((c.tc : Thread Cert.KernelSmpIdeal.nD Cert.KernelSmpIdeal.τ).loc Cert.KernelSmpIdeal.main_arg5) = m ((c.tc : Thread Cert.KernelSmpIdeal.nD Cert.KernelSmpIdeal.τ).loc Cert.KernelSmpIdeal.main_arg5))
      ∧ r.2.sem = fun _ => 0)

def quiescent_KernelSmpIdeal_pre_last_gates [hKernelSmpIdeal : Cert.KernelSmpIdeal.Facts] [hPre_last_gates : Cert.Pre_last_gates.Facts] : Prop :=
  ∀ (m : (ℓ : Loc Cert.KernelSmpIdeal.nD Cert.KernelSmpIdeal.τ Cert.KernelSmpIdeal.sig) → Buf (Elt Ideal) ℓ) (g : Dev Cert.KernelSmpIdeal.nD → PrngReg), Pre_KernelSmpIdeal_last_gates m →
    θ_run (Cert.KernelSmpIdeal.defs (F := Ideal)) (onTc (τ := Cert.KernelSmpIdeal.τ) (Cert.KernelSmpIdeal.main (F := Ideal))) ⟨m, fun _ => 0, g⟩ (fun r => (∀ c : Dev Cert.KernelSmpIdeal.nD,
      r.2.mem ((c.tc : Thread Cert.KernelSmpIdeal.nD Cert.KernelSmpIdeal.τ).loc Cert.KernelSmpIdeal.main_arg0) = m ((c.tc : Thread Cert.KernelSmpIdeal.nD Cert.KernelSmpIdeal.τ).loc Cert.KernelSmpIdeal.main_arg0)
      ∧ r.2.mem ((c.tc : Thread Cert.KernelSmpIdeal.nD Cert.KernelSmpIdeal.τ).loc Cert.KernelSmpIdeal.main_arg1) = m ((c.tc : Thread Cert.KernelSmpIdeal.nD Cert.KernelSmpIdeal.τ).loc Cert.KernelSmpIdeal.main_arg1)
      ∧ r.2.mem ((c.tc : Thread Cert.KernelSmpIdeal.nD Cert.KernelSmpIdeal.τ).loc Cert.KernelSmpIdeal.main_arg2) = m ((c.tc : Thread Cert.KernelSmpIdeal.nD Cert.KernelSmpIdeal.τ).loc Cert.KernelSmpIdeal.main_arg2)
      ∧ r.2.mem ((c.tc : Thread Cert.KernelSmpIdeal.nD Cert.KernelSmpIdeal.τ).loc Cert.KernelSmpIdeal.main_arg3) = m ((c.tc : Thread Cert.KernelSmpIdeal.nD Cert.KernelSmpIdeal.τ).loc Cert.KernelSmpIdeal.main_arg3)
      ∧ r.2.mem ((c.tc : Thread Cert.KernelSmpIdeal.nD Cert.KernelSmpIdeal.τ).loc Cert.KernelSmpIdeal.main_arg4) = m ((c.tc : Thread Cert.KernelSmpIdeal.nD Cert.KernelSmpIdeal.τ).loc Cert.KernelSmpIdeal.main_arg4)
      ∧ r.2.mem ((c.tc : Thread Cert.KernelSmpIdeal.nD Cert.KernelSmpIdeal.τ).loc Cert.KernelSmpIdeal.main_arg5) = m ((c.tc : Thread Cert.KernelSmpIdeal.nD Cert.KernelSmpIdeal.τ).loc Cert.KernelSmpIdeal.main_arg5))
      ∧ r.2.sem = fun _ => 0)

def quiescent_ReferenceSmpIdeal [hReferenceSmpIdeal : Cert.ReferenceSmpIdeal.Facts] : Prop :=
  ∀ (m : (ℓ : Loc Cert.ReferenceSmpIdeal.nD Cert.ReferenceSmpIdeal.τ Cert.ReferenceSmpIdeal.sig) → Buf (Elt Ideal) ℓ) (g : Dev Cert.ReferenceSmpIdeal.nD → PrngReg), Pre_ReferenceSmpIdeal m →
    θ_run (Cert.ReferenceSmpIdeal.defs (F := Ideal)) (onTc (τ := Cert.ReferenceSmpIdeal.τ) (Cert.ReferenceSmpIdeal.main (F := Ideal))) ⟨m, fun _ => 0, g⟩ (fun r => (∀ c : Dev Cert.ReferenceSmpIdeal.nD,
      r.2.mem ((c.tc : Thread Cert.ReferenceSmpIdeal.nD Cert.ReferenceSmpIdeal.τ).loc Cert.ReferenceSmpIdeal.main_arg0) = m ((c.tc : Thread Cert.ReferenceSmpIdeal.nD Cert.ReferenceSmpIdeal.τ).loc Cert.ReferenceSmpIdeal.main_arg0)
      ∧ r.2.mem ((c.tc : Thread Cert.ReferenceSmpIdeal.nD Cert.ReferenceSmpIdeal.τ).loc Cert.ReferenceSmpIdeal.main_arg1) = m ((c.tc : Thread Cert.ReferenceSmpIdeal.nD Cert.ReferenceSmpIdeal.τ).loc Cert.ReferenceSmpIdeal.main_arg1)
      ∧ r.2.mem ((c.tc : Thread Cert.ReferenceSmpIdeal.nD Cert.ReferenceSmpIdeal.τ).loc Cert.ReferenceSmpIdeal.main_arg2) = m ((c.tc : Thread Cert.ReferenceSmpIdeal.nD Cert.ReferenceSmpIdeal.τ).loc Cert.ReferenceSmpIdeal.main_arg2)
      ∧ r.2.mem ((c.tc : Thread Cert.ReferenceSmpIdeal.nD Cert.ReferenceSmpIdeal.τ).loc Cert.ReferenceSmpIdeal.main_arg3) = m ((c.tc : Thread Cert.ReferenceSmpIdeal.nD Cert.ReferenceSmpIdeal.τ).loc Cert.ReferenceSmpIdeal.main_arg3)
      ∧ r.2.mem ((c.tc : Thread Cert.ReferenceSmpIdeal.nD Cert.ReferenceSmpIdeal.τ).loc Cert.ReferenceSmpIdeal.main_arg4) = m ((c.tc : Thread Cert.ReferenceSmpIdeal.nD Cert.ReferenceSmpIdeal.τ).loc Cert.ReferenceSmpIdeal.main_arg4)
      ∧ r.2.mem ((c.tc : Thread Cert.ReferenceSmpIdeal.nD Cert.ReferenceSmpIdeal.τ).loc Cert.ReferenceSmpIdeal.main_arg5) = m ((c.tc : Thread Cert.ReferenceSmpIdeal.nD Cert.ReferenceSmpIdeal.τ).loc Cert.ReferenceSmpIdeal.main_arg5))
      ∧ r.2.sem = fun _ => 0)

def quiescent_ReferenceSmpIdeal_pre_last_gates [hReferenceSmpIdeal : Cert.ReferenceSmpIdeal.Facts] [hPre_last_gates : Cert.Pre_last_gates.Facts] : Prop :=
  ∀ (m : (ℓ : Loc Cert.ReferenceSmpIdeal.nD Cert.ReferenceSmpIdeal.τ Cert.ReferenceSmpIdeal.sig) → Buf (Elt Ideal) ℓ) (g : Dev Cert.ReferenceSmpIdeal.nD → PrngReg), Pre_ReferenceSmpIdeal_last_gates m →
    θ_run (Cert.ReferenceSmpIdeal.defs (F := Ideal)) (onTc (τ := Cert.ReferenceSmpIdeal.τ) (Cert.ReferenceSmpIdeal.main (F := Ideal))) ⟨m, fun _ => 0, g⟩ (fun r => (∀ c : Dev Cert.ReferenceSmpIdeal.nD,
      r.2.mem ((c.tc : Thread Cert.ReferenceSmpIdeal.nD Cert.ReferenceSmpIdeal.τ).loc Cert.ReferenceSmpIdeal.main_arg0) = m ((c.tc : Thread Cert.ReferenceSmpIdeal.nD Cert.ReferenceSmpIdeal.τ).loc Cert.ReferenceSmpIdeal.main_arg0)
      ∧ r.2.mem ((c.tc : Thread Cert.ReferenceSmpIdeal.nD Cert.ReferenceSmpIdeal.τ).loc Cert.ReferenceSmpIdeal.main_arg1) = m ((c.tc : Thread Cert.ReferenceSmpIdeal.nD Cert.ReferenceSmpIdeal.τ).loc Cert.ReferenceSmpIdeal.main_arg1)
      ∧ r.2.mem ((c.tc : Thread Cert.ReferenceSmpIdeal.nD Cert.ReferenceSmpIdeal.τ).loc Cert.ReferenceSmpIdeal.main_arg2) = m ((c.tc : Thread Cert.ReferenceSmpIdeal.nD Cert.ReferenceSmpIdeal.τ).loc Cert.ReferenceSmpIdeal.main_arg2)
      ∧ r.2.mem ((c.tc : Thread Cert.ReferenceSmpIdeal.nD Cert.ReferenceSmpIdeal.τ).loc Cert.ReferenceSmpIdeal.main_arg3) = m ((c.tc : Thread Cert.ReferenceSmpIdeal.nD Cert.ReferenceSmpIdeal.τ).loc Cert.ReferenceSmpIdeal.main_arg3)
      ∧ r.2.mem ((c.tc : Thread Cert.ReferenceSmpIdeal.nD Cert.ReferenceSmpIdeal.τ).loc Cert.ReferenceSmpIdeal.main_arg4) = m ((c.tc : Thread Cert.ReferenceSmpIdeal.nD Cert.ReferenceSmpIdeal.τ).loc Cert.ReferenceSmpIdeal.main_arg4)
      ∧ r.2.mem ((c.tc : Thread Cert.ReferenceSmpIdeal.nD Cert.ReferenceSmpIdeal.τ).loc Cert.ReferenceSmpIdeal.main_arg5) = m ((c.tc : Thread Cert.ReferenceSmpIdeal.nD Cert.ReferenceSmpIdeal.τ).loc Cert.ReferenceSmpIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v6)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v6) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v7) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)
      ∧ m' ((c.tc : Thread Cert.ReferenceQkvIdeal.nD Cert.ReferenceQkvIdeal.τ).loc Cert.ReferenceQkvIdeal.main_arg2) = m ((c.tc : Thread Cert.KernelQkvIdeal.nD Cert.KernelQkvIdeal.τ).loc Cert.KernelQkvIdeal.main_arg2)
      ∧ m' ((c.tc : Thread Cert.ReferenceQkvIdeal.nD Cert.ReferenceQkvIdeal.τ).loc Cert.ReferenceQkvIdeal.main_arg3) = m ((c.tc : Thread Cert.KernelQkvIdeal.nD Cert.KernelQkvIdeal.τ).loc Cert.KernelQkvIdeal.main_arg3)) →
    ∃ (v0 : (c : Dev Cert.KernelQkvIdeal.nD) → Buf (Elt Ideal) ((c.tc : Thread Cert.KernelQkvIdeal.nD Cert.KernelQkvIdeal.τ).loc Cert.KernelQkvIdeal.main_v6)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v6) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1)
          ∧ r.2.mem ((c.tc : Thread Cert.KernelQkvIdeal.nD Cert.KernelQkvIdeal.τ).loc Cert.KernelQkvIdeal.main_arg2) = m ((c.tc : Thread Cert.KernelQkvIdeal.nD Cert.KernelQkvIdeal.τ).loc Cert.KernelQkvIdeal.main_arg2)
          ∧ r.2.mem ((c.tc : Thread Cert.KernelQkvIdeal.nD Cert.KernelQkvIdeal.τ).loc Cert.KernelQkvIdeal.main_arg3) = m ((c.tc : Thread Cert.KernelQkvIdeal.nD Cert.KernelQkvIdeal.τ).loc Cert.KernelQkvIdeal.main_arg3))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v9) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3))

def preserves_KernelPq_KernelPqIdeal : Prop :=
  True

def algebraic_KernelPqIdeal_ReferencePqIdeal [hKernelPqIdeal : Cert.KernelPqIdeal.Facts] [hReferencePqIdeal : Cert.ReferencePqIdeal.Facts] : Prop :=
  ∀ (m : (ℓ : Loc Cert.KernelPqIdeal.nD Cert.KernelPqIdeal.τ Cert.KernelPqIdeal.sig) → Buf (Elt Ideal) ℓ) (g : Dev Cert.KernelPqIdeal.nD → PrngReg)
    (m' : (ℓ : Loc Cert.ReferencePqIdeal.nD Cert.ReferencePqIdeal.τ Cert.ReferencePqIdeal.sig) → Buf (Elt Ideal) ℓ) (g' : Dev Cert.ReferencePqIdeal.nD → PrngReg), Pre_KernelPqIdeal m →
    (∀ c : Dev Cert.KernelPqIdeal.nD,
      m' ((c.tc : Thread Cert.ReferencePqIdeal.nD Cert.ReferencePqIdeal.τ).loc Cert.ReferencePqIdeal.main_arg0) = m ((c.tc : Thread Cert.KernelPqIdeal.nD Cert.KernelPqIdeal.τ).loc Cert.KernelPqIdeal.main_arg0)
      ∧ m' ((c.tc : Thread Cert.ReferencePqIdeal.nD Cert.ReferencePqIdeal.τ).loc Cert.ReferencePqIdeal.main_arg1) = m ((c.tc : Thread Cert.KernelPqIdeal.nD Cert.KernelPqIdeal.τ).loc Cert.KernelPqIdeal.main_arg1)
      ∧ m' ((c.tc : Thread Cert.ReferencePqIdeal.nD Cert.ReferencePqIdeal.τ).loc Cert.ReferencePqIdeal.main_arg2) = m ((c.tc : Thread Cert.KernelPqIdeal.nD Cert.KernelPqIdeal.τ).loc Cert.KernelPqIdeal.main_arg2)) →
    ∃ (v0 : (c : Dev Cert.KernelPqIdeal.nD) → Buf (Elt Ideal) ((c.tc : Thread Cert.KernelPqIdeal.nD Cert.KernelPqIdeal.τ).loc Cert.KernelPqIdeal.main_v5)),
      θ_run (Cert.KernelPqIdeal.defs (F := Ideal)) (onTc (τ := Cert.KernelPqIdeal.τ) (Cert.KernelPqIdeal.main (F := Ideal))) ⟨m, fun _ => 0, g⟩ (fun r => ∀ c : Dev Cert.KernelPqIdeal.nD,
          r.2.mem ((c.tc : Thread Cert.KernelPqIdeal.nD Cert.KernelPqIdeal.τ).loc Cert.KernelPqIdeal.main_v5) = v0 c
          ∧ r.2.mem ((c.tc : Thread Cert.KernelPqIdeal.nD Cert.KernelPqIdeal.τ).loc Cert.KernelPqIdeal.main_arg0) = m ((c.tc : Thread Cert.KernelPqIdeal.nD Cert.KernelPqIdeal.τ).loc Cert.KernelPqIdeal.main_arg0)
          ∧ r.2.mem ((c.tc : Thread Cert.KernelPqIdeal.nD Cert.KernelPqIdeal.τ).loc Cert.KernelPqIdeal.main_arg1) = m ((c.tc : Thread Cert.KernelPqIdeal.nD Cert.KernelPqIdeal.τ).loc Cert.KernelPqIdeal.main_arg1)
          ∧ r.2.mem ((c.tc : Thread Cert.KernelPqIdeal.nD Cert.KernelPqIdeal.τ).loc Cert.KernelPqIdeal.main_arg2) = m ((c.tc : Thread Cert.KernelPqIdeal.nD Cert.KernelPqIdeal.τ).loc Cert.KernelPqIdeal.main_arg2))
      ∧ θ_run (Cert.ReferencePqIdeal.defs (F := Ideal)) (onTc (τ := Cert.ReferencePqIdeal.τ) (Cert.ReferencePqIdeal.main (F := Ideal))) ⟨m', fun _ => 0, g'⟩ (fun r => ∀ c : Dev Cert.ReferencePqIdeal.nD,
          r.2.mem ((c.tc : Thread Cert.ReferencePqIdeal.nD Cert.ReferencePqIdeal.τ).loc Cert.ReferencePqIdeal.main_v5) = v0 c
          ∧ r.2.mem ((c.tc : Thread Cert.ReferencePqIdeal.nD Cert.ReferencePqIdeal.τ).loc Cert.ReferencePqIdeal.main_arg0) = m' ((c.tc : Thread Cert.ReferencePqIdeal.nD Cert.ReferencePqIdeal.τ).loc Cert.ReferencePqIdeal.main_arg0)
          ∧ r.2.mem ((c.tc : Thread Cert.ReferencePqIdeal.nD Cert.ReferencePqIdeal.τ).loc Cert.ReferencePqIdeal.main_arg1) = m' ((c.tc : Thread Cert.ReferencePqIdeal.nD Cert.ReferencePqIdeal.τ).loc Cert.ReferencePqIdeal.main_arg1)
          ∧ r.2.mem ((c.tc : Thread Cert.ReferencePqIdeal.nD Cert.ReferencePqIdeal.τ).loc Cert.ReferencePqIdeal.main_arg2) = m' ((c.tc : Thread Cert.ReferencePqIdeal.nD Cert.ReferencePqIdeal.τ).loc Cert.ReferencePqIdeal.main_arg2))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v11)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v11) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v59) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v10)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v10) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v57) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelRot_KernelRotIdeal : Prop :=
  True

def algebraic_KernelRotIdeal_ReferenceRotIdeal [hKernelRotIdeal : Cert.KernelRotIdeal.Facts] [hReferenceRotIdeal : Cert.ReferenceRotIdeal.Facts] : Prop :=
  ∀ (m : (ℓ : Loc Cert.KernelRotIdeal.nD Cert.KernelRotIdeal.τ Cert.KernelRotIdeal.sig) → Buf (Elt Ideal) ℓ) (g : Dev Cert.KernelRotIdeal.nD → PrngReg)
    (m' : (ℓ : Loc Cert.ReferenceRotIdeal.nD Cert.ReferenceRotIdeal.τ Cert.ReferenceRotIdeal.sig) → Buf (Elt Ideal) ℓ) (g' : Dev Cert.ReferenceRotIdeal.nD → PrngReg), Pre_KernelRotIdeal m →
    (∀ c : Dev Cert.KernelRotIdeal.nD,
      m' ((c.tc : Thread Cert.ReferenceRotIdeal.nD Cert.ReferenceRotIdeal.τ).loc Cert.ReferenceRotIdeal.main_arg0) = m ((c.tc : Thread Cert.KernelRotIdeal.nD Cert.KernelRotIdeal.τ).loc Cert.KernelRotIdeal.main_arg0)) →
    ∃ (v0 : (c : Dev Cert.KernelRotIdeal.nD) → Buf (Elt Ideal) ((c.tc : Thread Cert.KernelRotIdeal.nD Cert.KernelRotIdeal.τ).loc Cert.KernelRotIdeal.main_v69_0)) (v1 : (c : Dev Cert.KernelRotIdeal.nD) → Buf (Elt Ideal) ((c.tc : Thread Cert.KernelRotIdeal.nD Cert.KernelRotIdeal.τ).loc Cert.KernelRotIdeal.main_v69_1)) (v2 : (c : Dev Cert.KernelRotIdeal.nD) → Buf (Elt Ideal) ((c.tc : Thread Cert.KernelRotIdeal.nD Cert.KernelRotIdeal.τ).loc Cert.KernelRotIdeal.main_v69_2)),
      θ_run (Cert.KernelRotIdeal.defs (F := Ideal)) (onTc (τ := Cert.KernelRotIdeal.τ) (Cert.KernelRotIdeal.main (F := Ideal))) ⟨m, fun _ => 0, g⟩ (fun r => ∀ c : Dev Cert.KernelRotIdeal.nD,
          r.2.mem ((c.tc : Thread Cert.KernelRotIdeal.nD Cert.KernelRotIdeal.τ).loc Cert.KernelRotIdeal.main_v69_0) = v0 c
          ∧ r.2.mem ((c.tc : Thread Cert.KernelRotIdeal.nD Cert.KernelRotIdeal.τ).loc Cert.KernelRotIdeal.main_v69_1) = v1 c
          ∧ r.2.mem ((c.tc : Thread Cert.KernelRotIdeal.nD Cert.KernelRotIdeal.τ).loc Cert.KernelRotIdeal.main_v69_2) = v2 c
          ∧ r.2.mem ((c.tc : Thread Cert.KernelRotIdeal.nD Cert.KernelRotIdeal.τ).loc Cert.KernelRotIdeal.main_arg0) = m ((c.tc : Thread Cert.KernelRotIdeal.nD Cert.KernelRotIdeal.τ).loc Cert.KernelRotIdeal.main_arg0))
      ∧ θ_run (Cert.ReferenceRotIdeal.defs (F := Ideal)) (onTc (τ := Cert.ReferenceRotIdeal.τ) (Cert.ReferenceRotIdeal.main (F := Ideal))) ⟨m', fun _ => 0, g'⟩ (fun r => ∀ c : Dev Cert.ReferenceRotIdeal.nD,
          r.2.mem ((c.tc : Thread Cert.ReferenceRotIdeal.nD Cert.ReferenceRotIdeal.τ).loc Cert.ReferenceRotIdeal.main_v123) = v0 c
          ∧ r.2.mem ((c.tc : Thread Cert.ReferenceRotIdeal.nD Cert.ReferenceRotIdeal.τ).loc Cert.ReferenceRotIdeal.main_v243) = v1 c
          ∧ r.2.mem ((c.tc : Thread Cert.ReferenceRotIdeal.nD Cert.ReferenceRotIdeal.τ).loc Cert.ReferenceRotIdeal.main_v248) = v2 c
          ∧ r.2.mem ((c.tc : Thread Cert.ReferenceRotIdeal.nD Cert.ReferenceRotIdeal.τ).loc Cert.ReferenceRotIdeal.main_arg0) = m' ((c.tc : Thread Cert.ReferenceRotIdeal.nD Cert.ReferenceRotIdeal.τ).loc Cert.ReferenceRotIdeal.main_arg0))

def preserves_KernelSmp_KernelSmpIdeal : Prop :=
  IdealRules.named_const.Statement Cert.KernelSmpIdeal.κ "mask" .f32 0xF149F2CA#32 ⊥

def algebraic_KernelSmpIdeal_ReferenceSmpIdeal_pre_last_gates [hKernelSmpIdeal : Cert.KernelSmpIdeal.Facts] [hReferenceSmpIdeal : Cert.ReferenceSmpIdeal.Facts] [hPre_last_gates : Cert.Pre_last_gates.Facts] : Prop :=
  ∀ (m : (ℓ : Loc Cert.KernelSmpIdeal.nD Cert.KernelSmpIdeal.τ Cert.KernelSmpIdeal.sig) → Buf (Elt Ideal) ℓ) (g : Dev Cert.KernelSmpIdeal.nD → PrngReg)
    (m' : (ℓ : Loc Cert.ReferenceSmpIdeal.nD Cert.ReferenceSmpIdeal.τ Cert.ReferenceSmpIdeal.sig) → Buf (Elt Ideal) ℓ) (g' : Dev Cert.ReferenceSmpIdeal.nD → PrngReg), Pre_KernelSmpIdeal_last_gates m →
    (∀ c : Dev Cert.KernelSmpIdeal.nD,
      m' ((c.tc : Thread Cert.ReferenceSmpIdeal.nD Cert.ReferenceSmpIdeal.τ).loc Cert.ReferenceSmpIdeal.main_arg0) = m ((c.tc : Thread Cert.KernelSmpIdeal.nD Cert.KernelSmpIdeal.τ).loc Cert.KernelSmpIdeal.main_arg0)
      ∧ m' ((c.tc : Thread Cert.ReferenceSmpIdeal.nD Cert.ReferenceSmpIdeal.τ).loc Cert.ReferenceSmpIdeal.main_arg1) = m ((c.tc : Thread Cert.KernelSmpIdeal.nD Cert.KernelSmpIdeal.τ).loc Cert.KernelSmpIdeal.main_arg1)
      ∧ m' ((c.tc : Thread Cert.ReferenceSmpIdeal.nD Cert.ReferenceSmpIdeal.τ).loc Cert.ReferenceSmpIdeal.main_arg2) = m ((c.tc : Thread Cert.KernelSmpIdeal.nD Cert.KernelSmpIdeal.τ).loc Cert.KernelSmpIdeal.main_arg2)
      ∧ m' ((c.tc : Thread Cert.ReferenceSmpIdeal.nD Cert.ReferenceSmpIdeal.τ).loc Cert.ReferenceSmpIdeal.main_arg3) = m ((c.tc : Thread Cert.KernelSmpIdeal.nD Cert.KernelSmpIdeal.τ).loc Cert.KernelSmpIdeal.main_arg3)
      ∧ m' ((c.tc : Thread Cert.ReferenceSmpIdeal.nD Cert.ReferenceSmpIdeal.τ).loc Cert.ReferenceSmpIdeal.main_arg4) = m ((c.tc : Thread Cert.KernelSmpIdeal.nD Cert.KernelSmpIdeal.τ).loc Cert.KernelSmpIdeal.main_arg4)
      ∧ m' ((c.tc : Thread Cert.ReferenceSmpIdeal.nD Cert.ReferenceSmpIdeal.τ).loc Cert.ReferenceSmpIdeal.main_arg5) = m ((c.tc : Thread Cert.KernelSmpIdeal.nD Cert.KernelSmpIdeal.τ).loc Cert.KernelSmpIdeal.main_arg5)) →
    ∃ (v0 : (c : Dev Cert.KernelSmpIdeal.nD) → Buf (Elt Ideal) ((c.tc : Thread Cert.KernelSmpIdeal.nD Cert.KernelSmpIdeal.τ).loc Cert.KernelSmpIdeal.main_v24_0)) (v1 : (c : Dev Cert.KernelSmpIdeal.nD) → Buf (Elt Ideal) ((c.tc : Thread Cert.KernelSmpIdeal.nD Cert.KernelSmpIdeal.τ).loc Cert.KernelSmpIdeal.main_v24_1)) (v2 : (c : Dev Cert.KernelSmpIdeal.nD) → Buf (Elt Ideal) ((c.tc : Thread Cert.KernelSmpIdeal.nD Cert.KernelSmpIdeal.τ).loc Cert.KernelSmpIdeal.main_v24_2)),
      θ_run (Cert.KernelSmpIdeal.defs (F := Ideal)) (onTc (τ := Cert.KernelSmpIdeal.τ) (Cert.KernelSmpIdeal.main (F := Ideal))) ⟨m, fun _ => 0, g⟩ (fun r => ∀ c : Dev Cert.KernelSmpIdeal.nD,
          r.2.mem ((c.tc : Thread Cert.KernelSmpIdeal.nD Cert.KernelSmpIdeal.τ).loc Cert.KernelSmpIdeal.main_v24_0) = v0 c
          ∧ r.2.mem ((c.tc : Thread Cert.KernelSmpIdeal.nD Cert.KernelSmpIdeal.τ).loc Cert.KernelSmpIdeal.main_v24_1) = v1 c
          ∧ r.2.mem ((c.tc : Thread Cert.KernelSmpIdeal.nD Cert.KernelSmpIdeal.τ).loc Cert.KernelSmpIdeal.main_v24_2) = v2 c
          ∧ r.2.mem ((c.tc : Thread Cert.KernelSmpIdeal.nD Cert.KernelSmpIdeal.τ).loc Cert.KernelSmpIdeal.main_arg0) = m ((c.tc : Thread Cert.KernelSmpIdeal.nD Cert.KernelSmpIdeal.τ).loc Cert.KernelSmpIdeal.main_arg0)
          ∧ r.2.mem ((c.tc : Thread Cert.KernelSmpIdeal.nD Cert.KernelSmpIdeal.τ).loc Cert.KernelSmpIdeal.main_arg1) = m ((c.tc : Thread Cert.KernelSmpIdeal.nD Cert.KernelSmpIdeal.τ).loc Cert.KernelSmpIdeal.main_arg1)
          ∧ r.2.mem ((c.tc : Thread Cert.KernelSmpIdeal.nD Cert.KernelSmpIdeal.τ).loc Cert.KernelSmpIdeal.main_arg2) = m ((c.tc : Thread Cert.KernelSmpIdeal.nD Cert.KernelSmpIdeal.τ).loc Cert.KernelSmpIdeal.main_arg2)
          ∧ r.2.mem ((c.tc : Thread Cert.KernelSmpIdeal.nD Cert.KernelSmpIdeal.τ).loc Cert.KernelSmpIdeal.main_arg3) = m ((c.tc : Thread Cert.KernelSmpIdeal.nD Cert.KernelSmpIdeal.τ).loc Cert.KernelSmpIdeal.main_arg3)
          ∧ r.2.mem ((c.tc : Thread Cert.KernelSmpIdeal.nD Cert.KernelSmpIdeal.τ).loc Cert.KernelSmpIdeal.main_arg4) = m ((c.tc : Thread Cert.KernelSmpIdeal.nD Cert.KernelSmpIdeal.τ).loc Cert.KernelSmpIdeal.main_arg4)
          ∧ r.2.mem ((c.tc : Thread Cert.KernelSmpIdeal.nD Cert.KernelSmpIdeal.τ).loc Cert.KernelSmpIdeal.main_arg5) = m ((c.tc : Thread Cert.KernelSmpIdeal.nD Cert.KernelSmpIdeal.τ).loc Cert.KernelSmpIdeal.main_arg5))
      ∧ θ_run (Cert.ReferenceSmpIdeal.defs (F := Ideal)) (onTc (τ := Cert.ReferenceSmpIdeal.τ) (Cert.ReferenceSmpIdeal.main (F := Ideal))) ⟨m', fun _ => 0, g'⟩ (fun r => ∀ c : Dev Cert.ReferenceSmpIdeal.nD,
          r.2.mem ((c.tc : Thread Cert.ReferenceSmpIdeal.nD Cert.ReferenceSmpIdeal.τ).loc Cert.ReferenceSmpIdeal.main_v117) = v0 c
          ∧ r.2.mem ((c.tc : Thread Cert.ReferenceSmpIdeal.nD Cert.ReferenceSmpIdeal.τ).loc Cert.ReferenceSmpIdeal.main_v116) = v1 c
          ∧ r.2.mem ((c.tc : Thread Cert.ReferenceSmpIdeal.nD Cert.ReferenceSmpIdeal.τ).loc Cert.ReferenceSmpIdeal.main_v119) = v2 c
          ∧ r.2.mem ((c.tc : Thread Cert.ReferenceSmpIdeal.nD Cert.ReferenceSmpIdeal.τ).loc Cert.ReferenceSmpIdeal.main_arg0) = m' ((c.tc : Thread Cert.ReferenceSmpIdeal.nD Cert.ReferenceSmpIdeal.τ).loc Cert.ReferenceSmpIdeal.main_arg0)
          ∧ r.2.mem ((c.tc : Thread Cert.ReferenceSmpIdeal.nD Cert.ReferenceSmpIdeal.τ).loc Cert.ReferenceSmpIdeal.main_arg1) = m' ((c.tc : Thread Cert.ReferenceSmpIdeal.nD Cert.ReferenceSmpIdeal.τ).loc Cert.ReferenceSmpIdeal.main_arg1)
          ∧ r.2.mem ((c.tc : Thread Cert.ReferenceSmpIdeal.nD Cert.ReferenceSmpIdeal.τ).loc Cert.ReferenceSmpIdeal.main_arg2) = m' ((c.tc : Thread Cert.ReferenceSmpIdeal.nD Cert.ReferenceSmpIdeal.τ).loc Cert.ReferenceSmpIdeal.main_arg2)
          ∧ r.2.mem ((c.tc : Thread Cert.ReferenceSmpIdeal.nD Cert.ReferenceSmpIdeal.τ).loc Cert.ReferenceSmpIdeal.main_arg3) = m' ((c.tc : Thread Cert.ReferenceSmpIdeal.nD Cert.ReferenceSmpIdeal.τ).loc Cert.ReferenceSmpIdeal.main_arg3)
          ∧ r.2.mem ((c.tc : Thread Cert.ReferenceSmpIdeal.nD Cert.ReferenceSmpIdeal.τ).loc Cert.ReferenceSmpIdeal.main_arg4) = m' ((c.tc : Thread Cert.ReferenceSmpIdeal.nD Cert.ReferenceSmpIdeal.τ).loc Cert.ReferenceSmpIdeal.main_arg4)
          ∧ r.2.mem ((c.tc : Thread Cert.ReferenceSmpIdeal.nD Cert.ReferenceSmpIdeal.τ).loc Cert.ReferenceSmpIdeal.main_arg5) = m' ((c.tc : Thread Cert.ReferenceSmpIdeal.nD Cert.ReferenceSmpIdeal.τ).loc Cert.ReferenceSmpIdeal.main_arg5))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelQkv : Cert.KernelQkv.Facts) (hKernelQkvIdeal : Cert.KernelQkvIdeal.Facts) (hReferenceQkvIdeal : Cert.ReferenceQkvIdeal.Facts) (hKernelPq : Cert.KernelPq.Facts) (hKernelPqIdeal : Cert.KernelPqIdeal.Facts) (hReferencePqIdeal : Cert.ReferencePqIdeal.Facts) (hKernelMix : Cert.KernelMix.Facts) (hKernelMixIdeal : Cert.KernelMixIdeal.Facts) (hReferenceMixIdeal : Cert.ReferenceMixIdeal.Facts) (hKernelFfn : Cert.KernelFfn.Facts) (hKernelFfnIdeal : Cert.KernelFfnIdeal.Facts) (hReferenceFfnIdeal : Cert.ReferenceFfnIdeal.Facts) (hKernelRot : Cert.KernelRot.Facts) (hKernelRotIdeal : Cert.KernelRotIdeal.Facts) (hReferenceRotIdeal : Cert.ReferenceRotIdeal.Facts) (hKernelSmp : Cert.KernelSmp.Facts) (hKernelSmpIdeal : Cert.KernelSmpIdeal.Facts) (hReferenceSmpIdeal : Cert.ReferenceSmpIdeal.Facts) (hPre_finite_rows : Cert.Pre_finite_rows.Facts) (hPre_last_gates : Cert.Pre_last_gates.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelPq (hKernelPq := hKernelPq)
    ∧ quiescent_KernelPqIdeal (hKernelPqIdeal := hKernelPqIdeal)
    ∧ quiescent_ReferencePqIdeal (hReferencePqIdeal := hReferencePqIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelRot (hKernelRot := hKernelRot)
    ∧ quiescent_KernelRotIdeal (hKernelRotIdeal := hKernelRotIdeal)
    ∧ quiescent_ReferenceRotIdeal (hReferenceRotIdeal := hReferenceRotIdeal)
    ∧ quiescent_KernelSmp (hKernelSmp := hKernelSmp)
    ∧ quiescent_KernelSmpIdeal (hKernelSmpIdeal := hKernelSmpIdeal)
    ∧ quiescent_KernelSmpIdeal_pre_last_gates (hKernelSmpIdeal := hKernelSmpIdeal) (hPre_last_gates := hPre_last_gates)
    ∧ quiescent_ReferenceSmpIdeal (hReferenceSmpIdeal := hReferenceSmpIdeal)
    ∧ quiescent_ReferenceSmpIdeal_pre_last_gates (hReferenceSmpIdeal := hReferenceSmpIdeal) (hPre_last_gates := hPre_last_gates)
    ∧ preserves_Kernel_KernelIdeal
    ∧ algebraic_KernelIdeal_ReferenceIdeal_pre_finite_rows (hKernelIdeal := hKernelIdeal) (hReferenceIdeal := hReferenceIdeal) (hPre_finite_rows := hPre_finite_rows)
    ∧ preserves_KernelIn_KernelInIdeal
    ∧ algebraic_KernelInIdeal_ReferenceInIdeal (hKernelInIdeal := hKernelInIdeal) (hReferenceInIdeal := hReferenceInIdeal)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelPq_KernelPqIdeal
    ∧ algebraic_KernelPqIdeal_ReferencePqIdeal (hKernelPqIdeal := hKernelPqIdeal) (hReferencePqIdeal := hReferencePqIdeal)
    ∧ preserves_KernelMix_KernelMixIdeal
    ∧ algebraic_KernelMixIdeal_ReferenceMixIdeal (hKernelMixIdeal := hKernelMixIdeal) (hReferenceMixIdeal := hReferenceMixIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelRot_KernelRotIdeal
    ∧ algebraic_KernelRotIdeal_ReferenceRotIdeal (hKernelRotIdeal := hKernelRotIdeal) (hReferenceRotIdeal := hReferenceRotIdeal)
    ∧ preserves_KernelSmp_KernelSmpIdeal
    ∧ algebraic_KernelSmpIdeal_ReferenceSmpIdeal_pre_last_gates (hKernelSmpIdeal := hKernelSmpIdeal) (hReferenceSmpIdeal := hReferenceSmpIdeal) (hPre_last_gates := hPre_last_gates)
-- ==== Pre_finite_rows.lean ====
abbrev S33280x3072 : Shape := ⟨2, ![33280, 3072]⟩
abbrev S33280x128 : Shape := ⟨2, ![33280, 128]⟩
abbrev S1024 : Shape := ⟨1, ![1024]⟩
abbrev S32768x2048 : Shape := ⟨2, ![32768, 2048]⟩
abbrev S_ : Shape := ⟨0, ![]⟩
abbrev S32768x16 : Shape := ⟨2, ![32768, 16]⟩

class Facts : Prop where
  slices_S33280x3072_S32768x2048_0_0 : S33280x3072.Slices ![0, 0] S32768x2048
  bcast_S_S32768x2048 : S_.BroadcastsInDim S32768x2048 (![] : Fin 0 → Fin S32768x2048.rank)
  reducesTo_S32768x2048_S_d0_1 : S32768x2048.ReducesTo [0, 1] S_
  h_S_ : 0 < S_.numel
  slices_S33280x128_S32768x16_0_0 : S33280x128.Slices ![0, 0] S32768x16
  bcast_S_S32768x16 : S_.BroadcastsInDim S32768x16 (![] : Fin 0 → Fin S32768x16.rank)
  reducesTo_S32768x16_S_d0_1 : S32768x16.ReducesTo [0, 1] S_

variable [Facts]

def fn {F : FTy → Type} [FloatOps F] (main_arg0 : FVec F S33280x3072 .f32) (main_arg1 : FVec F S33280x128 .f32) (main_arg2 : FVec F S1024 .f32) : IVec S_ 1 :=
  let main_v0 : FVec F S32768x2048 .f32 := (extractStridedSlice S32768x2048 ![0, 0] · slices_S33280x3072_S32768x2048_0_0) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_c : IVec S_ 1 := constantI S_ 1 1#1
  let main_v4 : IVec S_ 1 := (fun x v => Host.reduce IntOp.andi x v reducesTo_S32768x2048_S_d0_1 h_S_) main_v3 main_c
  let main_v5 : FVec F S32768x16 .f32 := (extractStridedSlice S32768x16 ![0, 0] · slices_S33280x128_S32768x16_0_0) main_arg1
  let main_v6 : FVec F S32768x16 .f32 := Host.absf main_v5
  let main_cst_0 : FVec F S_ .f32 := constant S_ .f32 0x7F800000#32
  let main_v7 : FVec F S32768x16 .f32 := broadcastInDim S32768x16 ![] bcast_S_S32768x16 main_cst_0
  let main_v8 : IVec S32768x16 1 := cmpf .olt main_v6 main_v7
  let main_c_1 : IVec S_ 1 := constantI S_ 1 1#1
  let main_v9 : IVec S_ 1 := (fun x v => Host.reduce IntOp.andi x v reducesTo_S32768x16_S_d0_1 h_S_) main_v8 main_c_1
  let main_v10 : IVec S_ 1 := andi main_v4 main_v9
  main_v10
-- ==== Pre_last_gates.lean ====
abbrev S33280x3072 : Shape := ⟨2, ![33280, 3072]⟩
abbrev S33280x128 : Shape := ⟨2, ![33280, 128]⟩
abbrev S32x8x64x128 : Shape := ⟨4, ![32, 8, 64, 128]⟩
abbrev S32x8x64 : Shape := ⟨3, ![32, 8, 64]⟩
abbrev S32x8 : Shape := ⟨2, ![32, 8]⟩
abbrev S1024 : Shape := ⟨1, ![1024]⟩
abbrev S128x128 : Shape := ⟨2, ![128, 128]⟩
abbrev S32x4x128 : Shape := ⟨3, ![32, 4, 128]⟩
abbrev S32x1x8 : Shape := ⟨3, ![32, 1, 8]⟩
abbrev S_ : Shape := ⟨0, ![]⟩

class Facts : Prop where
  slices_S33280x128_S128x128_32768_0 : S33280x128.Slices ![32768, 0] S128x128
  shapeCasts_S128x128_S32x4x128 : S128x128.ShapeCasts S32x4x128
  slices_S32x4x128_S32x1x8_0_3_0 : S32x4x128.Slices ![0, 3, 0] S32x1x8
  bcast_S_S32x1x8 : S_.BroadcastsInDim S32x1x8 (![] : Fin 0 → Fin S32x1x8.rank)
  reducesTo_S32x1x8_S_d0_1_2 : S32x1x8.ReducesTo [0, 1, 2] S_
  h_S_ : 0 < S_.numel

variable [Facts]

def fn {F : FTy → Type} [FloatOps F] (main_arg0 : FVec F S33280x3072 .f32) (main_arg1 : FVec F S33280x128 .f32) (main_arg2 : FVec F S32x8x64x128 .f32) (main_arg3 : FVec F S32x8x64 .f32) (main_arg4 : FVec F S32x8 .f32) (main_arg5 : FVec F S1024 .f32) : IVec S_ 1 :=
  let main_v0 : FVec F S128x128 .f32 := (extractStridedSlice S128x128 ![32768, 0] · slices_S33280x128_S128x128_32768_0) main_arg1
  let main_v1 : FVec F S32x4x128 .f32 := shapeCast S32x4x128 main_v0 shapeCasts_S128x128_S32x4x128
  let main_v2 : FVec F S32x1x8 .f32 := (extractStridedSlice S32x1x8 ![0, 3, 0] · slices_S32x4x128_S32x1x8_0_3_0) main_v1
  let main_cst : FVec F S_ .f32 := constant S_ .f32 0xF149F2CA#32
  let main_v3 : FVec F S32x1x8 .f32 := broadcastInDim S32x1x8 ![] bcast_S_S32x1x8 main_cst
  let main_v4 : IVec S32x1x8 1 := cmpf .oge main_v2 main_v3
  let main_c : IVec S_ 1 := constantI S_ 1 1#1
  let main_v5 : IVec S_ 1 := (fun x v => Host.reduce IntOp.andi x v reducesTo_S32x1x8_S_d0_1_2 h_S_) main_v4 main_c
  main_v5
-- ==== Kernel.lean ====
abbrev S33280x3072 : Shape := ⟨2, ![33280, 3072]⟩
abbrev S33280x128 : Shape := ⟨2, ![33280, 128]⟩
abbrev S1024 : Shape := ⟨1, ![1024]⟩
abbrev S32768x512 : Shape := ⟨2, ![32768, 512]⟩
abbrev S8x4096x512 : Shape := ⟨3, ![8, 4096, 512]⟩
abbrev S8x512x4096 : Shape := ⟨3, ![8, 512, 4096]⟩
abbrev S32768x16 : Shape := ⟨2, ![32768, 16]⟩
abbrev S8x4096x16 : Shape := ⟨3, ![8, 4096, 16]⟩
abbrev S8x16x4096 : Shape := ⟨3, ![8, 16, 4096]⟩
abbrev S_ : Shape := ⟨0, ![]⟩
abbrev S8x8x64x256 : Shape := ⟨4, ![8, 8, 64, 256]⟩
abbrev S8x8x128 : Shape := ⟨3, ![8, 8, 128]⟩
abbrev S1x1024 : Shape := ⟨2, ![1, 1024]⟩
abbrev S32768x1024 : Shape := ⟨2, ![32768, 1024]⟩
abbrev S256x512 : Shape := ⟨2, ![256, 512]⟩
abbrev S1x512x256 : Shape := ⟨3, ![1, 512, 256]⟩
abbrev S256x1024 : Shape := ⟨2, ![256, 1024]⟩
abbrev S256x128 : Shape := ⟨2, ![256, 128]⟩
abbrev S1x16x256 : Shape := ⟨3, ![1, 16, 256]⟩
abbrev S1x8x64x256 : Shape := ⟨4, ![1, 8, 64, 256]⟩
abbrev S1x8x128 : Shape := ⟨3, ![1, 8, 128]⟩
abbrev S8x64x256 : Shape := ⟨3, ![8, 64, 256]⟩
abbrev S8x128 : Shape := ⟨2, ![8, 128]⟩
abbrev S16x256 : Shape := ⟨2, ![16, 256]⟩
abbrev S256x256 : Shape := ⟨2, ![256, 256]⟩
abbrev S256x1 : Shape := ⟨2, ![256, 1]⟩
abbrev S1x256 : Shape := ⟨2, ![1, 256]⟩
abbrev S1x1 : Shape := ⟨2, ![1, 1]⟩
abbrev S256 : Shape := ⟨1, ![256]⟩
abbrev S256x64 : Shape := ⟨2, ![256, 64]⟩
abbrev S1x64x256 : Shape := ⟨3, ![1, 64, 256]⟩
abbrev S64x256 : Shape := ⟨2, ![64, 256]⟩
abbrev S1x128 : Shape := ⟨2, ![1, 128]⟩

abbrev nBuf : Space → Nat
  | .hbm => 17
  | .vmem => 25
  | .smem => 0
  | _ => 0

abbrev bufTy : (tb : Table) → Fin (tcTables nBuf tb) → BufTy
  | .hbm, ⟨0, _⟩ => ⟨S33280x3072, .f32⟩
  | .hbm, ⟨1, _⟩ => ⟨S33280x128, .f32⟩
  | .hbm, ⟨2, _⟩ => ⟨S1024, .f32⟩
  | .hbm, ⟨3, _⟩ => ⟨S32768x512, .f32⟩
  | .hbm, ⟨4, _⟩ => ⟨S8x4096x512, .f32⟩
  | .hbm, ⟨5, _⟩ => ⟨S8x512x4096, .f32⟩
  | .hbm, ⟨6, _⟩ => ⟨S32768x16, .f32⟩
  | .hbm, ⟨7, _⟩ => ⟨S8x4096x16, .f32⟩
  | .hbm, ⟨8, _⟩ => ⟨S8x16x4096, .f32⟩
  | .hbm, ⟨9, _⟩ => ⟨S_, .f32⟩
  | .hbm, ⟨10, _⟩ => ⟨S8x8x64x256, .f32⟩
  | .hbm, ⟨11, _⟩ => ⟨S_, .f32⟩
  | .hbm, ⟨12, _⟩ => ⟨S8x8x128, .f32⟩
  | .hbm, ⟨13, _⟩ => ⟨S1x1024, .f32⟩
  | .hbm, ⟨14, _⟩ => ⟨S32768x1024, .f32⟩
  | .hbm, ⟨15, _⟩ => ⟨S8x8x64x256, .f32⟩
  | .hbm, ⟨16, _⟩ => ⟨S8x8x128, .f32⟩
  | .local _ .vmem, ⟨0, _⟩ => ⟨S256x512, .f32⟩
  | .local _ .vmem, ⟨1, _⟩ => ⟨S256x512, .f32⟩
  | .local _ .vmem, ⟨2, _⟩ => ⟨S1x512x256, .f32⟩
  | .local _ .vmem, ⟨3, _⟩ => ⟨S1x512x256, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S1x16x256, .f32⟩
  | .local _ .vmem, ⟨11, _⟩ => ⟨S1x16x256, .f32⟩
  | .local _ .vmem, ⟨12, _⟩ => ⟨S1x8x64x256, .f32⟩
  | .local _ .vmem, ⟨13, _⟩ => ⟨S1x8x64x256, .f32⟩
  | .local _ .vmem, ⟨14, _⟩ => ⟨S1x8x128, .f32⟩
  | .local _ .vmem, ⟨15, _⟩ => ⟨S1x8x128, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1x8x64x256, .f32⟩
  | .local _ .vmem, ⟨20, _⟩ => ⟨S1x8x64x256, .f32⟩
  | .local _ .vmem, ⟨21, _⟩ => ⟨S1x8x128, .f32⟩
  | .local _ .vmem, ⟨22, _⟩ => ⟨S1x8x128, .f32⟩
  | .local _ .vmem, ⟨23, _⟩ => ⟨S8x64x256, .f32⟩
  | .local _ .vmem, ⟨24, _⟩ => ⟨S8x128, .f32⟩
  | _, _ => ⟨S33280x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v830 : BitVec 1 := Scalar.cmpi .eq arg1 c15_i32
  let v831 : BitVec 32 := Scalar.extui v830
  let c0_i32_285 : BitVec 32 := 0#32
  let v832 : BitVec 1 := Scalar.cmpi .ne v831 c0_i32_285
  v832

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S33280x3072 : Shape := ⟨2, ![33280, 3072]⟩
abbrev S33280x128 : Shape := ⟨2, ![33280, 128]⟩
abbrev S1024 : Shape := ⟨1, ![1024]⟩
abbrev S32768x3072 : Shape := ⟨2, ![32768, 3072]⟩
abbrev S8x4096x3072 : Shape := ⟨3, ![8, 4096, 3072]⟩
abbrev S32768x128 : Shape := ⟨2, ![32768, 128]⟩
abbrev S8x4096x128 : Shape := ⟨3, ![8, 4096, 128]⟩
abbrev S8x4096x512 : Shape := ⟨3, ![8, 4096, 512]⟩
abbrev S8x4096x1024 : Shape := ⟨3, ![8, 4096, 1024]⟩
abbrev S8x4096x8 : Shape := ⟨3, ![8, 4096, 8]⟩
abbrev S8x8x4096 : Shape := ⟨3, ![8, 8, 4096]⟩
abbrev S8x4096x8x64 : Shape := ⟨4, ![8, 4096, 8, 64]⟩
abbrev S8x8x4096x64 : Shape := ⟨4, ![8, 8, 4096, 64]⟩
abbrev S_ : Shape := ⟨0, ![]⟩
abbrev S8x4096x8x128 : Shape := ⟨4, ![8, 4096, 8, 128]⟩
abbrev S8x8x4096x128 : Shape := ⟨4, ![8, 8, 4096, 128]⟩
abbrev S8x8x64x128 : Shape := ⟨4, ![8, 8, 64, 128]⟩
abbrev S8x8x64 : Shape := ⟨3, ![8, 8, 64]⟩
abbrev S8x8 : Shape := ⟨2, ![8, 8]⟩
abbrev S8x8x64x64x64 : Shape := ⟨5, ![8, 8, 64, 64, 64]⟩
abbrev S64x8x8x64x64 : Shape := ⟨5, ![64, 8, 8, 64, 64]⟩
abbrev S8x8x64x64x128 : Shape := ⟨5, ![8, 8, 64, 64, 128]⟩
abbrev S64x8x8x64x128 : Shape := ⟨5, ![64, 8, 8, 64, 128]⟩
abbrev S8x8x64x64 : Shape := ⟨4, ![8, 8, 64, 64]⟩
abbrev S64x8x8x64 : Shape := ⟨4, ![64, 8, 8, 64]⟩
abbrev S1x8x8x64x64 : Shape := ⟨5, ![1, 8, 8, 64, 64]⟩
abbrev S1x8x8x64x128 : Shape := ⟨5, ![1, 8, 8, 64, 128]⟩
abbrev S1x8x8x64 : Shape := ⟨4, ![1, 8, 8, 64]⟩
abbrev S64x64 : Shape := ⟨2, ![64, 64]⟩
abbrev S8x8x64x1 : Shape := ⟨4, ![8, 8, 64, 1]⟩
abbrev S8x8x1x64 : Shape := ⟨4, ![8, 8, 1, 64]⟩
abbrev S8x8x1 : Shape := ⟨3, ![8, 8, 1]⟩
abbrev S8x8x1x1 : Shape := ⟨4, ![8, 8, 1, 1]⟩
abbrev S8x4096x8x1 : Shape := ⟨4, ![8, 4096, 8, 1]⟩
abbrev S32768x1024 : Shape := ⟨2, ![32768, 1024]⟩
abbrev S1x1x1024 : Shape := ⟨3, ![1, 1, 1024]⟩
abbrev S8x8x64x127 : Shape := ⟨4, ![8, 8, 64, 127]⟩
abbrev S8x8x64x256 : Shape := ⟨4, ![8, 8, 64, 256]⟩
abbrev S8x8x128 : Shape := ⟨3, ![8, 8, 128]⟩

abbrev nBuf : Space → Nat
  | .hbm => 216
  | .vmem => 0
  | .smem => 0
  | _ => 0

abbrev hbmTy0_0 (i : Nat) : BufTy := match i % 128 with
  | 0 => ⟨S33280x3072, .f32⟩
  | 1 => ⟨S33280x128, .f32⟩
  | 2 => ⟨S1024, .f32⟩
  | 3 => ⟨S32768x3072, .f32⟩
  | 4 => ⟨S8x4096x3072, .f32⟩
  | 5 => ⟨S32768x128, .f32⟩
  | 6 => ⟨S8x4096x128, .f32⟩
  | 7 => ⟨S8x4096x512, .f32⟩
  | 8 => ⟨S8x4096x512, .f32⟩
  | 9 => ⟨S8x4096x1024, .f32⟩
  | 10 => ⟨S8x4096x8, .f32⟩
  | 11 => ⟨S8x8x4096, .f32⟩
  | 12 => ⟨S8x4096x8, .f32⟩
  | 13 => ⟨S8x8x4096, .f32⟩
  | 14 => ⟨S8x4096x8x64, .f32⟩
  | 15 => ⟨S8x8x4096x64, .f32⟩
  | 16 => ⟨S_, .f32⟩
  | 17 => ⟨S8x8x4096x64, .f32⟩
  | 18 => ⟨S8x8x4096x64, .f32⟩
  | 19 => ⟨S8x4096x8x64, .f32⟩
  | 20 => ⟨S8x8x4096x64, .f32⟩
  | 21 => ⟨S8x4096x8x128, .f32⟩
  | 22 => ⟨S8x8x4096x128, .f32⟩
  | 23 => ⟨S_, .f32⟩
  | 24 => ⟨S8x8x64x128, .f32⟩
  | 25 => ⟨S_, .f32⟩
  | 26 => ⟨S8x8x64, .f32⟩
  | 27 => ⟨S_, .f32⟩
  | 28 => ⟨S8x8, .f32⟩
  | 29 => ⟨S8x8x64x64x64, .f32⟩
  | 30 => ⟨S64x8x8x64x64, .f32⟩
  | 31 => ⟨S8x8x64x64x64, .f32⟩
  | 32 => ⟨S64x8x8x64x64, .f32⟩
  | 33 => ⟨S8x8x64x64x128, .f32⟩
  | 34 => ⟨S64x8x8x64x128, .f32⟩
  | 35 => ⟨S8x8x64x64, .f32⟩
  | 36 => ⟨S64x8x8x64, .f32⟩
  | 37 => ⟨S8x8x64x64, .f32⟩
  | 38 => ⟨S64x8x8x64, .f32⟩
  | 39 => ⟨S_, .f32⟩
  | 40 => ⟨S64x8x8x64x128, .f32⟩
  | 41 => ⟨S_, .i32⟩
  | 42 => ⟨S64x8x8x64x64, .f32⟩
  | 43 => ⟨S64x8x8x64x64, .f32⟩
  | 44 => ⟨S64x8x8x64x128, .f32⟩
  | 45 => ⟨S64x8x8x64, .f32⟩
  | 46 => ⟨S64x8x8x64, .f32⟩
  | 47 => ⟨S_, .i32⟩
  | 48 => ⟨S8x8x64x128, .f32⟩
  | 49 => ⟨S8x8x64, .f32⟩
  | 50 => ⟨S8x8, .f32⟩
  | 51 => ⟨S64x8x8x64x128, .f32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S1x8x8x64x64, .f32⟩
  | 59 => ⟨S8x8x64x64, .f32⟩
  | 60 => ⟨S_, .i32⟩
  | 61 => ⟨S_, .i32⟩
  | 62 => ⟨S_, .i32⟩
  | 63 => ⟨S_, .i32⟩
  | 64 => ⟨S1x8x8x64x64, .f32⟩
  | 65 => ⟨S8x8x64x64, .f32⟩
  | 66 => ⟨S_, .i32⟩
  | 67 => ⟨S_, .i32⟩
  | 68 => ⟨S_, .i32⟩
  | 69 => ⟨S_, .i32⟩
  | 70 => ⟨S1x8x8x64x128, .f32⟩
  | 71 => ⟨S8x8x64x128, .f32⟩
  | 72 => ⟨S_, .i32⟩
  | 73 => ⟨S_, .i32⟩
  | 74 => ⟨S_, .i32⟩
  | 75 => ⟨S1x8x8x64, .f32⟩
  | 76 => ⟨S8x8x64, .f32⟩
  | 77 => ⟨S_, .i32⟩
  | 78 => ⟨S_, .i32⟩
  | 79 => ⟨S_, .i32⟩
  | 80 => ⟨S1x8x8x64, .f32⟩
  | 81 => ⟨S8x8x64, .f32⟩
  | 82 => ⟨S_, .f32⟩
  | 83 => ⟨S_, .f32⟩
  | 84 => ⟨S8x8x64, .f32⟩
  | 85 => ⟨S_, .i1⟩
  | 86 => ⟨S64x64, .i1⟩
  | 87 => ⟨S64x64, .i32⟩
  | 88 => ⟨S_, .i32⟩
  | 89 => ⟨S64x64, .i32⟩
  | 90 => ⟨S64x64, .i32⟩
  | 91 => ⟨S64x64, .i32⟩
  | 92 => ⟨S64x64, .i1⟩
  | 93 => ⟨S_, .i1⟩
  | 94 => ⟨S64x64, .i1⟩
  | 95 => ⟨S64x64, .i1⟩
  | 96 => ⟨S8x8x64x1, .f32⟩
  | 97 => ⟨S8x8x1x64, .f32⟩
  | 98 => ⟨S8x8x64x64, .f32⟩
  | 99 => ⟨S8x8x64x64, .f32⟩
  | 100 => ⟨S8x8x64x64, .f32⟩
  | 101 => ⟨S8x8x1x64, .f32⟩
  | 102 => ⟨S8x8x64x64, .f32⟩
  | 103 => ⟨S8x8x64x64, .f32⟩
  | 104 => ⟨S_, .f32⟩
  | 105 => ⟨S_, .f32⟩
  | 106 => ⟨S8x8x64x64, .i1⟩
  | 107 => ⟨S8x8x64x64, .f32⟩
  | 108 => ⟨S8x8x64x64, .f32⟩
  | 109 => ⟨S8x8x1, .f32⟩
  | 110 => ⟨S8x8x64, .f32⟩
  | 111 => ⟨S8x8x64, .f32⟩
  | 112 => ⟨S_, .f32⟩
  | 113 => ⟨S8x8x64, .f32⟩
  | 114 => ⟨S8x8x64, .f32⟩
  | 115 => ⟨S8x8x64x1, .f32⟩
  | 116 => ⟨S8x8x64x64, .f32⟩
  | 117 => ⟨S8x8x64x64, .f32⟩
  | 118 => ⟨S8x8x64x64, .f32⟩
  | 119 => ⟨S8x8x64, .f32⟩
  | 120 => ⟨S8x8x64, .f32⟩
  | 121 => ⟨S8x8x64x64, .f32⟩
  | 122 => ⟨S8x8x64x64, .f32⟩
  | 123 => ⟨S8x8x64x128, .f32⟩
  | 124 => ⟨S8x8x64x1, .f32⟩
  | 125 => ⟨S8x8x64x128, .f32⟩
  | 126 => ⟨S8x8x64x128, .f32⟩
  | 127 => ⟨S8x8x64x128, .f32⟩
  | _ => ⟨S33280x3072, .f32⟩

abbrev hbmTy0_1 (i : Nat) : BufTy := match i % 128 with
  | 0 => ⟨S8x8x64x128, .f32⟩
  | 1 => ⟨S_, .f32⟩
  | 2 => ⟨S8x8x64, .f32⟩
  | 3 => ⟨S8x8x64, .f32⟩
  | 4 => ⟨S8x8x64, .f32⟩
  | 5 => ⟨S8x8x64, .f32⟩
  | 6 => ⟨S8x8x64, .f32⟩
  | 7 => ⟨S8x8x64, .f32⟩
  | 8 => ⟨S8x8x64, .f32⟩
  | 9 => ⟨S8x8x64, .f32⟩
  | 10 => ⟨S8x8x64x1, .f32⟩
  | 11 => ⟨S8x8x64x128, .f32⟩
  | 12 => ⟨S8x8x64x128, .f32⟩
  | 13 => ⟨S8x8x1, .f32⟩
  | 14 => ⟨S8x8, .f32⟩
  | 15 => ⟨S8x8x1, .f32⟩
  | 16 => ⟨S8x8, .f32⟩
  | 17 => ⟨S8x8, .f32⟩
  | 18 => ⟨S8x8, .f32⟩
  | 19 => ⟨S8x8, .f32⟩
  | 20 => ⟨S8x8x1, .f32⟩
  | 21 => ⟨S8x8x64, .f32⟩
  | 22 => ⟨S8x8x64, .f32⟩
  | 23 => ⟨S8x8x64, .f32⟩
  | 24 => ⟨S8x8x1, .f32⟩
  | 25 => ⟨S8x8x64, .f32⟩
  | 26 => ⟨S8x8x64, .f32⟩
  | 27 => ⟨S8x8x64, .f32⟩
  | 28 => ⟨S8x8x64x1, .f32⟩
  | 29 => ⟨S8x8x64x64, .f32⟩
  | 30 => ⟨S8x8x64x64, .f32⟩
  | 31 => ⟨S8x8x1x1, .f32⟩
  | 32 => ⟨S8x8x64x128, .f32⟩
  | 33 => ⟨S8x8x64x128, .f32⟩
  | 34 => ⟨S8x8x64x128, .f32⟩
  | 35 => ⟨S8x8x64x128, .f32⟩
  | 36 => ⟨S8x8x1, .f32⟩
  | 37 => ⟨S8x8x64, .f32⟩
  | 38 => ⟨S8x8x64, .f32⟩
  | 39 => ⟨S_, .f32⟩
  | 40 => ⟨S8x8x64, .f32⟩
  | 41 => ⟨S8x8x64, .f32⟩
  | 42 => ⟨S1x8x8x64x128, .f32⟩
  | 43 => ⟨S_, .i32⟩
  | 44 => ⟨S_, .i32⟩
  | 45 => ⟨S_, .i32⟩
  | 46 => ⟨S_, .i32⟩
  | 47 => ⟨S64x8x8x64x128, .f32⟩
  | 48 => ⟨S_, .i32⟩
  | 49 => ⟨S_, .i32⟩
  | 50 => ⟨S8x8x64x64x128, .f32⟩
  | 51 => ⟨S8x8x4096x128, .f32⟩
  | 52 => ⟨S8x4096x8x128, .f32⟩
  | 53 => ⟨S8x4096x8x128, .f32⟩
  | 54 => ⟨S_, .f32⟩
  | 55 => ⟨S8x4096x8, .f32⟩
  | 56 => ⟨S8x4096x8x1, .f32⟩
  | 57 => ⟨S_, .f32⟩
  | 58 => ⟨S8x4096x8x1, .f32⟩
  | 59 => ⟨S8x4096x8x1, .f32⟩
  | 60 => ⟨S_, .f32⟩
  | 61 => ⟨S8x4096x8x1, .f32⟩
  | 62 => ⟨S8x4096x8x1, .f32⟩
  | 63 => ⟨S8x4096x8x1, .f32⟩
  | 64 => ⟨S8x4096x8x128, .f32⟩
  | 65 => ⟨S8x4096x8x128, .f32⟩
  | 66 => ⟨S32768x1024, .f32⟩
  | 67 => ⟨S8x4096x1024, .f32⟩
  | 68 => ⟨S8x4096x1024, .f32⟩
  | 69 => ⟨S1x1x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S_, .f32⟩
  | 75 => ⟨S8x4096x1024, .f32⟩
  | 76 => ⟨S8x4096x1024, .f32⟩
  | 77 => ⟨S_, .f32⟩
  | 78 => ⟨S8x4096x1024, .f32⟩
  | 79 => ⟨S8x4096x1024, .f32⟩
  | 80 => ⟨S8x4096x1024, .f32⟩
  | 81 => ⟨S8x8x64x1, .f32⟩
  | 82 => ⟨S_, .f32⟩
  | 83 => ⟨S8x8x64x127, .f32⟩
  | 84 => ⟨S8x8x64x256, .f32⟩
  | 85 => ⟨S32768x1024, .f32⟩
  | 86 => ⟨S8x8x1, .f32⟩
  | 87 => ⟨S8x8x128, .f32⟩
  | _ => ⟨S33280x3072, .f32⟩

abbrev hbmTy (i : Nat) : BufTy := match i / 128 with
  | 0 => hbmTy0_0 i
  | 1 => hbmTy0_1 i
  | _ => ⟨S33280x3072, .f32⟩

abbrev bufTy : (tb : Table) → Fin (tcTables nBuf tb) → BufTy
  | .hbm, ⟨i, _⟩ => hbmTy i
  | _, _ => ⟨S33280x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_c : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev main_v33_4 : Ref sig .tc := ⟨.hbm, 46, rfl⟩
abbrev main_v33_5 : Ref sig .tc := ⟨.hbm, 47, rfl⟩
abbrev main_v33_6 : Ref sig .tc := ⟨.hbm, 48, rfl⟩
abbrev main_v33_7 : Ref sig .tc := ⟨.hbm, 49, rfl⟩
abbrev main_v33_8 : Ref sig .tc := ⟨.hbm, 50, rfl⟩
abbrev main_v33_9 : Ref sig .tc := ⟨.hbm, 51, rfl⟩
abbrev main_while0c_c_19 : Ref sig .tc := ⟨.hbm, 52, rfl⟩
abbrev main_while0c_v66 : Ref sig .tc := ⟨.hbm, 53, rfl⟩
abbrev main_while0b_call0_c : Ref sig .tc := ⟨.hbm, 54, rfl⟩
abbrev main_while0b_call0_c_0 : Ref sig .tc := ⟨.hbm, 55, rfl⟩
abbrev main_while0b_call0_c_1 : Ref sig .tc := ⟨.hbm, 56, rfl⟩
abbrev main_while0b_call0_c_2 : Ref sig .tc := ⟨.hbm, 57, rfl⟩
abbrev main_while0b_call0_v0 : Ref sig .tc := ⟨.hbm, 58, rfl⟩
abbrev main_while0b_v66 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_c_2 : Ref sig .tc := ⟨.hbm, 63, rfl⟩
abbrev main_while0b_call1_v0 : Ref sig .tc := ⟨.hbm, 64, rfl⟩
abbrev main_while0b_v67 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_c_2 : Ref sig .tc := ⟨.hbm, 69, rfl⟩
abbrev main_while0b_call2_v0 : Ref sig .tc := ⟨.hbm, 70, rfl⟩
abbrev main_while0b_v68 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_v0 : Ref sig .tc := ⟨.hbm, 75, rfl⟩
abbrev main_while0b_v69 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_call4_v0 : Ref sig .tc := ⟨.hbm, 80, rfl⟩
abbrev main_while0b_v70 : Ref sig .tc := ⟨.hbm, 81, rfl⟩
abbrev main_while0b_call5_call0_cst : Ref sig .tc := ⟨.hbm, 82, rfl⟩
abbrev main_while0b_call5_call0_v0 : Ref sig .tc := ⟨.hbm, 83, rfl⟩
abbrev main_while0b_v71 : Ref sig .tc := ⟨.hbm, 84, rfl⟩
abbrev main_while0b_c_19 : Ref sig .tc := ⟨.hbm, 85, rfl⟩
abbrev main_while0b_v72 : Ref sig .tc := ⟨.hbm, 86, rfl⟩
abbrev main_while0b_call6_v0 : Ref sig .tc := ⟨.hbm, 87, rfl⟩
abbrev main_while0b_call6_c : Ref sig .tc := ⟨.hbm, 88, rfl⟩
abbrev main_while0b_call6_v1 : Ref sig .tc := ⟨.hbm, 89, rfl⟩
abbrev main_while0b_call6_v2 : Ref sig .tc := ⟨.hbm, 90, rfl⟩
abbrev main_while0b_call6_v3 : Ref sig .tc := ⟨.hbm, 91, rfl⟩
abbrev main_while0b_call6_v4 : Ref sig .tc := ⟨.hbm, 92, rfl⟩
abbrev main_while0b_call6_c_0 : Ref sig .tc := ⟨.hbm, 93, rfl⟩
abbrev main_while0b_call6_v5 : Ref sig .tc := ⟨.hbm, 94, rfl⟩
abbrev main_while0b_v73 : Ref sig .tc := ⟨.hbm, 95, rfl⟩
abbrev main_while0b_v74 : Ref sig .tc := ⟨.hbm, 96, rfl⟩
abbrev main_while0b_v75 : Ref sig .tc := ⟨.hbm, 97, rfl⟩
abbrev main_while0b_v76 : Ref sig .tc := ⟨.hbm, 98, rfl⟩
abbrev main_while0b_v77 : Ref sig .tc := ⟨.hbm, 99, rfl⟩
abbrev main_while0b_v78 : Ref sig .tc := ⟨.hbm, 100, rfl⟩
abbrev main_while0b_v79 : Ref sig .tc := ⟨.hbm, 101, rfl⟩
abbrev main_while0b_v80 : Ref sig .tc := ⟨.hbm, 102, rfl⟩
abbrev main_while0b_v81 : Ref sig .tc := ⟨.hbm, 103, rfl⟩
abbrev main_while0b_cst_20 : Ref sig .tc := ⟨.hbm, 104, rfl⟩
abbrev main_while0b_call7_v0 : Ref sig .tc := ⟨.hbm, 105, rfl⟩
abbrev main_while0b_call7_v1 : Ref sig .tc := ⟨.hbm, 106, rfl⟩
abbrev main_while0b_call7_v2 : Ref sig .tc := ⟨.hbm, 107, rfl⟩
abbrev main_while0b_v82 : Ref sig .tc := ⟨.hbm, 108, rfl⟩
abbrev main_while0b_v83 : Ref sig .tc := ⟨.hbm, 109, rfl⟩
abbrev main_while0b_v84 : Ref sig .tc := ⟨.hbm, 110, rfl⟩
abbrev main_while0b_v85 : Ref sig .tc := ⟨.hbm, 111, rfl⟩
abbrev main_while0b_cst_21 : Ref sig .tc := ⟨.hbm, 112, rfl⟩
abbrev main_while0b_v86 : Ref sig .tc := ⟨.hbm, 113, rfl⟩
abbrev main_while0b_v87 : Ref sig .tc := ⟨.hbm, 114, rfl⟩
abbrev main_while0b_v88 : Ref sig .tc := ⟨.hbm, 115, rfl⟩
abbrev main_while0b_v89 : Ref sig .tc := ⟨.hbm, 116, rfl⟩
abbrev main_while0b_v90 : Ref sig .tc := ⟨.hbm, 117, rfl⟩
abbrev main_while0b_v91 : Ref sig .tc := ⟨.hbm, 118, rfl⟩
abbrev main_while0b_v92 : Ref sig .tc := ⟨.hbm, 119, rfl⟩
abbrev main_while0b_v93 : Ref sig .tc := ⟨.hbm, 120, rfl⟩
abbrev main_while0b_v94 : Ref sig .tc := ⟨.hbm, 121, rfl⟩
abbrev main_while0b_v95 : Ref sig .tc := ⟨.hbm, 122, rfl⟩
abbrev main_while0b_v96 : Ref sig .tc := ⟨.hbm, 123, rfl⟩
abbrev main_while0b_v97 : Ref sig .tc := ⟨.hbm, 124, rfl⟩
abbrev main_while0b_v98 : Ref sig .tc := ⟨.hbm, 125, rfl⟩
abbrev main_while0b_v99 : Ref sig .tc := ⟨.hbm, 126, rfl⟩
abbrev main_while0b_v100 : Ref sig .tc := ⟨.hbm, 127, rfl⟩
abbrev main_while0b_v101 : Ref sig .tc := ⟨.hbm, 128, rfl⟩
abbrev main_while0b_cst_22 : Ref sig .tc := ⟨.hbm, 129, rfl⟩
abbrev main_while0b_v102 : Ref sig .tc := ⟨.hbm, 130, rfl⟩
abbrev main_while0b_v103 : Ref sig .tc := ⟨.hbm, 131, rfl⟩
abbrev main_while0b_v104 : Ref sig .tc := ⟨.hbm, 132, rfl⟩
abbrev main_while0b_v105 : Ref sig .tc := ⟨.hbm, 133, rfl⟩
abbrev main_while0b_v106 : Ref sig .tc := ⟨.hbm, 134, rfl⟩
abbrev main_while0b_v107 : Ref sig .tc := ⟨.hbm, 135, rfl⟩
abbrev main_while0b_v108 : Ref sig .tc := ⟨.hbm, 136, rfl⟩
abbrev main_while0b_v109 : Ref sig .tc := ⟨.hbm, 137, rfl⟩
abbrev main_while0b_v110 : Ref sig .tc := ⟨.hbm, 138, rfl⟩
abbrev main_while0b_v111 : Ref sig .tc := ⟨.hbm, 139, rfl⟩
abbrev main_while0b_v112 : Ref sig .tc := ⟨.hbm, 140, rfl⟩
abbrev main_while0b_v113 : Ref sig .tc := ⟨.hbm, 141, rfl⟩
abbrev main_while0b_v114 : Ref sig .tc := ⟨.hbm, 142, rfl⟩
abbrev main_while0b_v115 : Ref sig .tc := ⟨.hbm, 143, rfl⟩
abbrev main_while0b_v116 : Ref sig .tc := ⟨.hbm, 144, rfl⟩
abbrev main_while0b_v117 : Ref sig .tc := ⟨.hbm, 145, rfl⟩
abbrev main_while0b_v118 : Ref sig .tc := ⟨.hbm, 146, rfl⟩
abbrev main_while0b_v119 : Ref sig .tc := ⟨.hbm, 147, rfl⟩
abbrev main_while0b_v120 : Ref sig .tc := ⟨.hbm, 148, rfl⟩
abbrev main_while0b_v121 : Ref sig .tc := ⟨.hbm, 149, rfl⟩
abbrev main_while0b_v122 : Ref sig .tc := ⟨.hbm, 150, rfl⟩
abbrev main_while0b_v123 : Ref sig .tc := ⟨.hbm, 151, rfl⟩
abbrev main_while0b_v124 : Ref sig .tc := ⟨.hbm, 152, rfl⟩
abbrev main_while0b_v125 : Ref sig .tc := ⟨.hbm, 153, rfl⟩
abbrev main_while0b_v126 : Ref sig .tc := ⟨.hbm, 154, rfl⟩
abbrev main_while0b_v127 : Ref sig .tc := ⟨.hbm, 155, rfl⟩
abbrev main_while0b_v128 : Ref sig .tc := ⟨.hbm, 156, rfl⟩
abbrev main_while0b_v129 : Ref sig .tc := ⟨.hbm, 157, rfl⟩
abbrev main_while0b_v130 : Ref sig .tc := ⟨.hbm, 158, rfl⟩
abbrev main_while0b_v131 : Ref sig .tc := ⟨.hbm, 159, rfl⟩
abbrev main_while0b_v132 : Ref sig .tc := ⟨.hbm, 160, rfl⟩
abbrev main_while0b_v133 : Ref sig .tc := ⟨.hbm, 161, rfl⟩
abbrev main_while0b_v134 : Ref sig .tc := ⟨.hbm, 162, rfl⟩
abbrev main_while0b_v135 : Ref sig .tc := ⟨.hbm, 163, rfl⟩
abbrev main_while0b_v136 : Ref sig .tc := ⟨.hbm, 164, rfl⟩
abbrev main_while0b_v137 : Ref sig .tc := ⟨.hbm, 165, rfl⟩
abbrev main_while0b_v138 : Ref sig .tc := ⟨.hbm, 166, rfl⟩
abbrev main_while0b_cst_23 : Ref sig .tc := ⟨.hbm, 167, rfl⟩
abbrev main_while0b_v139 : Ref sig .tc := ⟨.hbm, 168, rfl⟩
abbrev main_while0b_v140 : Ref sig .tc := ⟨.hbm, 169, rfl⟩
abbrev main_while0b_call8_v0 : Ref sig .tc := ⟨.hbm, 170, rfl⟩
abbrev main_while0b_call8_c : Ref sig .tc := ⟨.hbm, 171, rfl⟩
abbrev main_while0b_call8_c_0 : Ref sig .tc := ⟨.hbm, 172, rfl⟩
abbrev main_while0b_call8_c_1 : Ref sig .tc := ⟨.hbm, 173, rfl⟩
abbrev main_while0b_call8_c_2 : Ref sig .tc := ⟨.hbm, 174, rfl⟩
abbrev main_while0b_v141 : Ref sig .tc := ⟨.hbm, 175, rfl⟩
abbrev main_while0b_c_24 : Ref sig .tc := ⟨.hbm, 176, rfl⟩
abbrev main_while0b_v142 : Ref sig .tc := ⟨.hbm, 177, rfl⟩
abbrev main_v34 : Ref sig .tc := ⟨.hbm, 178, rfl⟩
abbrev main_v35 : Ref sig .tc := ⟨.hbm, 179, rfl⟩
abbrev main_v36 : Ref sig .tc := ⟨.hbm, 180, rfl⟩
abbrev main_v37 : Ref sig .tc := ⟨.hbm, 181, rfl⟩
abbrev main_cst_4 : Ref sig .tc := ⟨.hbm, 182, rfl⟩
abbrev main_v38 : Ref sig .tc := ⟨.hbm, 183, rfl⟩
abbrev main_v39 : Ref sig .tc := ⟨.hbm, 184, rfl⟩
abbrev main_cst_5 : Ref sig .tc := ⟨.hbm, 185, rfl⟩
abbrev main_v40 : Ref sig .tc := ⟨.hbm, 186, rfl⟩
abbrev main_v41 : Ref sig .tc := ⟨.hbm, 187, rfl⟩
abbrev main_cst_6 : Ref sig .tc := ⟨.hbm, 188, rfl⟩
abbrev main_v42 : Ref sig .tc := ⟨.hbm, 189, rfl⟩
abbrev main_v43 : Ref sig .tc := ⟨.hbm, 190, rfl⟩
abbrev main_v44 : Ref sig .tc := ⟨.hbm, 191, rfl⟩
abbrev main_v45 : Ref sig .tc := ⟨.hbm, 192, rfl⟩
abbrev main_v46 : Ref sig .tc := ⟨.hbm, 193, rfl⟩
abbrev main_v47 : Ref sig .tc := ⟨.hbm, 194, rfl⟩
abbrev main_v48 : Ref sig .tc := ⟨.hbm, 195, rfl⟩
abbrev main_v49 : Ref sig .tc := ⟨.hbm, 196, rfl⟩
abbrev main_v50 : Ref sig .tc := ⟨.hbm, 197, rfl⟩
abbrev main_v51 : Ref sig .tc := ⟨.hbm, 198, rfl⟩
abbrev main_v52 : Ref sig .tc := ⟨.hbm, 199, rfl⟩
abbrev main_v53 : Ref sig .tc := ⟨.hbm, 200, rfl⟩
abbrev main_v54 : Ref sig .tc := ⟨.hbm, 201, rfl⟩
abbrev main_cst_7 : Ref sig .tc := ⟨.hbm, 202, rfl⟩
abbrev main_v55 : Ref sig .tc := ⟨.hbm, 203, rfl⟩
abbrev main_v56 : Ref sig .tc := ⟨.hbm, 204, rfl⟩
abbrev main_cst_8 : Ref sig .tc := ⟨.hbm, 205, rfl⟩
abbrev main_v57 : Ref sig .tc := ⟨.hbm, 206, rfl⟩
abbrev main_v58 : Ref sig .tc := ⟨.hbm, 207, rfl⟩
abbrev main_v59 : Ref sig .tc := ⟨.hbm, 208, rfl⟩
abbrev main_v60 : Ref sig .tc := ⟨.hbm, 209, rfl⟩
abbrev main_cst_9 : Ref sig .tc := ⟨.hbm, 210, rfl⟩
abbrev main_v61 : Ref sig .tc := ⟨.hbm, 211, rfl⟩
abbrev main_v62 : Ref sig .tc := ⟨.hbm, 212, rfl⟩
abbrev main_v63 : Ref sig .tc := ⟨.hbm, 213, rfl⟩
abbrev main_v64 : Ref sig .tc := ⟨.hbm, 214, rfl⟩
abbrev main_v65 : Ref sig .tc := ⟨.hbm, 215, rfl⟩

abbrev nD : Nat := 1
abbrev τ : Topo := Topo.v7x

variable {F : FTy → Type} [FloatOps F]

abbrev main_while0_count : Scf.Loop 32 := ⟨0#32, 64#32, 1#32⟩
-- ==== KernelIn.lean ====
abbrev S8x4096x1024 : Shape := ⟨3, ![8, 4096, 1024]⟩
abbrev S32x4x1024 : Shape := ⟨3, ![32, 4, 1024]⟩
abbrev S1024x3088 : Shape := ⟨2, ![1024, 3088]⟩
abbrev S32768x1024 : Shape := ⟨2, ![32768, 1024]⟩
abbrev S128x1024 : Shape := ⟨2, ![128, 1024]⟩
abbrev S_ : Shape := ⟨0, ![]⟩
abbrev S384x1024 : Shape := ⟨2, ![384, 1024]⟩
abbrev S33280x1024 : Shape := ⟨2, ![33280, 1024]⟩
abbrev S1024x3072 : Shape := ⟨2, ![1024, 3072]⟩
abbrev S33280x3072 : Shape := ⟨2, ![33280, 3072]⟩
abbrev S512x1024 : Shape := ⟨2, ![512, 1024]⟩
abbrev S512x3072 : Shape := ⟨2, ![512, 3072]⟩

abbrev nBuf : Space → Nat
  | .hbm => 11
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S32x4x1024, .f32⟩
  | .hbm, ⟨2, _⟩ => ⟨S1024x3088, .f32⟩
  | .hbm, ⟨3, _⟩ => ⟨S32768x1024, .f32⟩
  | .hbm, ⟨4, _⟩ => ⟨S128x1024, .f32⟩
  | .hbm, ⟨5, _⟩ => ⟨S_, .f32⟩
  | .hbm, ⟨6, _⟩ => ⟨S384x1024, .f32⟩
  | .hbm, ⟨7, _⟩ => ⟨S33280x1024, .f32⟩
  | .hbm, ⟨8, _⟩ => ⟨S1024x3072, .f32⟩
  | .hbm, ⟨9, _⟩ => ⟨S1024x3072, .bf16⟩
  | .hbm, ⟨10, _⟩ => ⟨S33280x3072, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceInIdeal.lean ====
abbrev S8x4096x1024 : Shape := ⟨3, ![8, 4096, 1024]⟩
abbrev S32x4x1024 : Shape := ⟨3, ![32, 4, 1024]⟩
abbrev S1024x3088 : Shape := ⟨2, ![1024, 3088]⟩
abbrev S8x4096x3088 : Shape := ⟨3, ![8, 4096, 3088]⟩
abbrev S8x4096x3072 : Shape := ⟨3, ![8, 4096, 3072]⟩
abbrev S32x4x3088 : Shape := ⟨3, ![32, 4, 3088]⟩
abbrev S32x4x3072 : Shape := ⟨3, ![32, 4, 3072]⟩
abbrev S32768x3072 : Shape := ⟨2, ![32768, 3072]⟩
abbrev S128x3072 : Shape := ⟨2, ![128, 3072]⟩
abbrev S_ : Shape := ⟨0, ![]⟩
abbrev S384x3072 : Shape := ⟨2, ![384, 3072]⟩
abbrev S33280x3072 : Shape := ⟨2, ![33280, 3072]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32x4x1024, .f32⟩
  | .hbm, ⟨2, _⟩ => ⟨S1024x3088, .f32⟩
  | .hbm, ⟨3, _⟩ => ⟨S8x4096x3088, .f32⟩
  | .hbm, ⟨4, _⟩ => ⟨S8x4096x3072, .f32⟩
  | .hbm, ⟨5, _⟩ => ⟨S32x4x3088, .f32⟩
  | .hbm, ⟨6, _⟩ => ⟨S32x4x3072, .f32⟩
  | .hbm, ⟨7, _⟩ => ⟨S32768x3072, .f32⟩
  | .hbm, ⟨8, _⟩ => ⟨S128x3072, .f32⟩
  | .hbm, ⟨9, _⟩ => ⟨S_, .f32⟩
  | .hbm, ⟨10, _⟩ => ⟨S384x3072, .f32⟩
  | .hbm, ⟨11, _⟩ => ⟨S33280x3072, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelQkv.lean ====
abbrev S8x4096x1024 : Shape := ⟨3, ![8, 4096, 1024]⟩
abbrev S32x4x1024 : Shape := ⟨3, ![32, 4, 1024]⟩
abbrev S1024x1024 : Shape := ⟨2, ![1024, 1024]⟩
abbrev S1024x2048 : Shape := ⟨2, ![1024, 2048]⟩
abbrev S32768x1024 : Shape := ⟨2, ![32768, 1024]⟩
abbrev S128x1024 : Shape := ⟨2, ![128, 1024]⟩
abbrev S_ : Shape := ⟨0, ![]⟩
abbrev S384x1024 : Shape := ⟨2, ![384, 1024]⟩
abbrev S33280x1024 : Shape := ⟨2, ![33280, 1024]⟩
abbrev S1024x3072 : Shape := ⟨2, ![1024, 3072]⟩
abbrev S33280x3072 : Shape := ⟨2, ![33280, 3072]⟩
abbrev S512x1024 : Shape := ⟨2, ![512, 1024]⟩
abbrev S512x3072 : Shape := ⟨2, ![512, 3072]⟩

abbrev nBuf : Space → Nat
  | .hbm => 12
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S32x4x1024, .f32⟩
  | .hbm, ⟨2, _⟩ => ⟨S1024x1024, .f32⟩
  | .hbm, ⟨3, _⟩ => ⟨S1024x2048, .f32⟩
  | .hbm, ⟨4, _⟩ => ⟨S32768x1024, .f32⟩
  | .hbm, ⟨5, _⟩ => ⟨S128x1024, .f32⟩
  | .hbm, ⟨6, _⟩ => ⟨S_, .f32⟩
  | .hbm, ⟨7, _⟩ => ⟨S384x1024, .f32⟩
  | .hbm, ⟨8, _⟩ => ⟨S33280x1024, .f32⟩
  | .hbm, ⟨9, _⟩ => ⟨S1024x3072, .f32⟩
  | .hbm, ⟨10, _⟩ => ⟨S1024x3072, .bf16⟩
  | .hbm, ⟨11, _⟩ => ⟨S33280x3072, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceQkvIdeal.lean ====
abbrev S8x4096x1024 : Shape := ⟨3, ![8, 4096, 1024]⟩
abbrev S32x4x1024 : Shape := ⟨3, ![32, 4, 1024]⟩
abbrev S1024x1024 : Shape := ⟨2, ![1024, 1024]⟩
abbrev S1024x2048 : Shape := ⟨2, ![1024, 2048]⟩
abbrev S8x4096x2048 : Shape := ⟨3, ![8, 4096, 2048]⟩
abbrev S32x4x2048 : Shape := ⟨3, ![32, 4, 2048]⟩
abbrev S8x4096x3072 : Shape := ⟨3, ![8, 4096, 3072]⟩
abbrev S32x4x3072 : Shape := ⟨3, ![32, 4, 3072]⟩
abbrev S32768x3072 : Shape := ⟨2, ![32768, 3072]⟩
abbrev S128x3072 : Shape := ⟨2, ![128, 3072]⟩
abbrev S_ : Shape := ⟨0, ![]⟩
abbrev S384x3072 : Shape := ⟨2, ![384, 3072]⟩
abbrev S33280x3072 : Shape := ⟨2, ![33280, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32x4x1024, .f32⟩
  | .hbm, ⟨2, _⟩ => ⟨S1024x1024, .f32⟩
  | .hbm, ⟨3, _⟩ => ⟨S1024x2048, .f32⟩
  | .hbm, ⟨4, _⟩ => ⟨S8x4096x1024, .f32⟩
  | .hbm, ⟨5, _⟩ => ⟨S8x4096x2048, .f32⟩
  | .hbm, ⟨6, _⟩ => ⟨S32x4x1024, .f32⟩
  | .hbm, ⟨7, _⟩ => ⟨S32x4x2048, .f32⟩
  | .hbm, ⟨8, _⟩ => ⟨S8x4096x3072, .f32⟩
  | .hbm, ⟨9, _⟩ => ⟨S32x4x3072, .f32⟩
  | .hbm, ⟨10, _⟩ => ⟨S32768x3072, .f32⟩
  | .hbm, ⟨11, _⟩ => ⟨S128x3072, .f32⟩
  | .hbm, ⟨12, _⟩ => ⟨S_, .f32⟩
  | .hbm, ⟨13, _⟩ => ⟨S384x3072, .f32⟩
  | .hbm, ⟨14, _⟩ => ⟨S33280x3072, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelPq.lean ====
abbrev S8x4096x1024 : Shape := ⟨3, ![8, 4096, 1024]⟩
abbrev S32x4x1024 : Shape := ⟨3, ![32, 4, 1024]⟩
abbrev S1024x2048 : Shape := ⟨2, ![1024, 2048]⟩
abbrev S32768x1024 : Shape := ⟨2, ![32768, 1024]⟩
abbrev S128x1024 : Shape := ⟨2, ![128, 1024]⟩
abbrev S_ : Shape := ⟨0, ![]⟩
abbrev S384x1024 : Shape := ⟨2, ![384, 1024]⟩
abbrev S33280x1024 : Shape := ⟨2, ![33280, 1024]⟩
abbrev S33280x2048 : Shape := ⟨2, ![33280, 2048]⟩
abbrev S512x1024 : Shape := ⟨2, ![512, 1024]⟩
abbrev S512x2048 : Shape := ⟨2, ![512, 2048]⟩

abbrev nBuf : Space → Nat
  | .hbm => 10
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S32x4x1024, .f32⟩
  | .hbm, ⟨2, _⟩ => ⟨S1024x2048, .f32⟩
  | .hbm, ⟨3, _⟩ => ⟨S32768x1024, .f32⟩
  | .hbm, ⟨4, _⟩ => ⟨S128x1024, .f32⟩
  | .hbm, ⟨5, _⟩ => ⟨S_, .f32⟩
  | .hbm, ⟨6, _⟩ => ⟨S384x1024, .f32⟩
  | .hbm, ⟨7, _⟩ => ⟨S33280x1024, .f32⟩
  | .hbm, ⟨8, _⟩ => ⟨S1024x2048, .bf16⟩
  | .hbm, ⟨9, _⟩ => ⟨S33280x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePqIdeal.lean ====
abbrev S8x4096x1024 : Shape := ⟨3, ![8, 4096, 1024]⟩
abbrev S32x4x1024 : Shape := ⟨3, ![32, 4, 1024]⟩
abbrev S1024x2048 : Shape := ⟨2, ![1024, 2048]⟩
abbrev S8x4096x2048 : Shape := ⟨3, ![8, 4096, 2048]⟩
abbrev S32x4x2048 : Shape := ⟨3, ![32, 4, 2048]⟩
abbrev S32768x2048 : Shape := ⟨2, ![32768, 2048]⟩
abbrev S128x2048 : Shape := ⟨2, ![128, 2048]⟩
abbrev S_ : Shape := ⟨0, ![]⟩
abbrev S384x2048 : Shape := ⟨2, ![384, 2048]⟩
abbrev S33280x2048 : Shape := ⟨2, ![33280, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32x4x1024, .f32⟩
  | .hbm, ⟨2, _⟩ => ⟨S1024x2048, .f32⟩
  | .hbm, ⟨3, _⟩ => ⟨S8x4096x2048, .f32⟩
  | .hbm, ⟨4, _⟩ => ⟨S32x4x2048, .f32⟩
  | .hbm, ⟨5, _⟩ => ⟨S32768x2048, .f32⟩
  | .hbm, ⟨6, _⟩ => ⟨S128x2048, .f32⟩
  | .hbm, ⟨7, _⟩ => ⟨S_, .f32⟩
  | .hbm, ⟨8, _⟩ => ⟨S384x2048, .f32⟩
  | .hbm, ⟨9, _⟩ => ⟨S33280x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelMix.lean ====
abbrev S8x4096x1024 : Shape := ⟨3, ![8, 4096, 1024]⟩
abbrev S32x4x1024 : Shape := ⟨3, ![32, 4, 1024]⟩
abbrev S1024x1024 : Shape := ⟨2, ![1024, 1024]⟩
abbrev S1024 : Shape := ⟨1, ![1024]⟩
abbrev S32768x1024 : Shape := ⟨2, ![32768, 1024]⟩
abbrev S128x1024 : Shape := ⟨2, ![128, 1024]⟩
abbrev S_ : Shape := ⟨0, ![]⟩
abbrev S384x1024 : Shape := ⟨2, ![384, 1024]⟩
abbrev S33280x1024 : Shape := ⟨2, ![33280, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S32x4x1024, .f32⟩
  | .hbm, ⟨2, _⟩ => ⟨S1024x1024, .f32⟩
  | .hbm, ⟨3, _⟩ => ⟨S8x4096x1024, .f32⟩
  | .hbm, ⟨4, _⟩ => ⟨S32x4x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S128x1024, .f32⟩
  | .hbm, ⟨9, _⟩ => ⟨S_, .f32⟩
  | .hbm, ⟨10, _⟩ => ⟨S384x1024, .f32⟩
  | .hbm, ⟨11, _⟩ => ⟨S33280x1024, .f32⟩
  | .hbm, ⟨12, _⟩ => ⟨S1024x1024, .bf16⟩
  | .hbm, ⟨13, _⟩ => ⟨S32768x1024, .f32⟩
  | .hbm, ⟨14, _⟩ => ⟨S128x1024, .f32⟩
  | .hbm, ⟨15, _⟩ => ⟨S_, .f32⟩
  | .hbm, ⟨16, _⟩ => ⟨S384x1024, .f32⟩
  | .hbm, ⟨17, _⟩ => ⟨S33280x1024, .f32⟩
  | .hbm, ⟨18, _⟩ => ⟨S1x1024, .f32⟩
  | .hbm, ⟨19, _⟩ => ⟨S1x1024, .f32⟩
  | .hbm, ⟨20, _⟩ => ⟨S33280x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceMixIdeal.lean ====
abbrev S8x4096x1024 : Shape := ⟨3, ![8, 4096, 1024]⟩
abbrev S32x4x1024 : Shape := ⟨3, ![32, 4, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32x4 : Shape := ⟨2, ![32, 4]⟩
abbrev S32x4x1 : Shape := ⟨3, ![32, 4, 1]⟩
abbrev S32768x1024 : Shape := ⟨2, ![32768, 1024]⟩
abbrev S128x1024 : Shape := ⟨2, ![128, 1024]⟩
abbrev S384x1024 : Shape := ⟨2, ![384, 1024]⟩
abbrev S33280x1024 : Shape := ⟨2, ![33280, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32x4x1024, .f32⟩
  | .hbm, ⟨2, _⟩ => ⟨S1024x1024, .f32⟩
  | .hbm, ⟨3, _⟩ => ⟨S8x4096x1024, .f32⟩
  | .hbm, ⟨4, _⟩ => ⟨S32x4x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1, .f32⟩
  | .hbm, ⟨33, _⟩ => ⟨S8x4096x1024, .f32⟩
  | .hbm, ⟨34, _⟩ => ⟨S8x4096x1024, .f32⟩
  | .hbm, ⟨35, _⟩ => ⟨S1x1x1024, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S32x4x1024, .f32⟩
  | .hbm, ⟨43, _⟩ => ⟨S32x4x1024, .f32⟩
  | .hbm, ⟨44, _⟩ => ⟨S32x4x1024, .f32⟩
  | .hbm, ⟨45, _⟩ => ⟨S32x4x1024, .f32⟩
  | .hbm, ⟨46, _⟩ => ⟨S_, .f32⟩
  | .hbm, ⟨47, _⟩ => ⟨S32x4, .f32⟩
  | .hbm, ⟨48, _⟩ => ⟨S32x4x1, .f32⟩
  | .hbm, ⟨49, _⟩ => ⟨S_, .f32⟩
  | .hbm, ⟨50, _⟩ => ⟨S32x4x1, .f32⟩
  | .hbm, ⟨51, _⟩ => ⟨S32x4x1, .f32⟩
  | .hbm, ⟨52, _⟩ => ⟨S32x4x1024, .f32⟩
  | .hbm, ⟨53, _⟩ => ⟨S32x4x1024, .f32⟩
  | .hbm, ⟨54, _⟩ => ⟨S32x4x1024, .f32⟩
  | .hbm, ⟨55, _⟩ => ⟨S_, .f32⟩
  | .hbm, ⟨56, _⟩ => ⟨S32x4, .f32⟩
  | .hbm, ⟨57, _⟩ => ⟨S32x4x1, .f32⟩
  | .hbm, ⟨58, _⟩ => ⟨S_, .f32⟩
  | .hbm, ⟨59, _⟩ => ⟨S32x4x1, .f32⟩
  | .hbm, ⟨60, _⟩ => ⟨S32x4x1, .f32⟩
  | .hbm, ⟨61, _⟩ => ⟨S32x4x1024, .f32⟩
  | .hbm, ⟨62, _⟩ => ⟨S32x4x1024, .f32⟩
  | .hbm, ⟨63, _⟩ => ⟨S_, .f32⟩
  | .hbm, ⟨64, _⟩ => ⟨S32x4x1, .f32⟩
  | .hbm, ⟨65, _⟩ => ⟨S32x4x1, .f32⟩
  | .hbm, ⟨66, _⟩ => ⟨S32x4x1, .f32⟩
  | .hbm, ⟨67, _⟩ => ⟨S32x4x1024, .f32⟩
  | .hbm, ⟨68, _⟩ => ⟨S32x4x1024, .f32⟩
  | .hbm, ⟨69, _⟩ => ⟨S1x1x1024, .f32⟩
  | .hbm, ⟨70, _⟩ => ⟨S32x4x1024, .f32⟩
  | .hbm, ⟨71, _⟩ => ⟨S32x4x1024, .f32⟩
  | .hbm, ⟨72, _⟩ => ⟨S1x1x1024, .f32⟩
  | .hbm, ⟨73, _⟩ => ⟨S32x4x1024, .f32⟩
  | .hbm, ⟨74, _⟩ => ⟨S32x4x1024, .f32⟩
  | .hbm, ⟨75, _⟩ => ⟨S32768x1024, .f32⟩
  | .hbm, ⟨76, _⟩ => ⟨S128x1024, .f32⟩
  | .hbm, ⟨77, _⟩ => ⟨S384x1024, .f32⟩
  | .hbm, ⟨78, _⟩ => ⟨S33280x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== KernelFfn.lean ====
abbrev S8x4096x1024 : Shape := ⟨3, ![8, 4096, 1024]⟩
abbrev S32x4x1024 : Shape := ⟨3, ![32, 4, 1024]⟩
abbrev S1024 : Shape := ⟨1, ![1024]⟩
abbrev S32768x1024 : Shape := ⟨2, ![32768, 1024]⟩
abbrev S128x1024 : Shape := ⟨2, ![128, 1024]⟩
abbrev S_ : Shape := ⟨0, ![]⟩
abbrev S384x1024 : Shape := ⟨2, ![384, 1024]⟩
abbrev S33280x1024 : Shape := ⟨2, ![33280, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S32x4x1024, .f32⟩
  | .hbm, ⟨2, _⟩ => ⟨S8x4096x1024, .f32⟩
  | .hbm, ⟨3, _⟩ => ⟨S32x4x1024, .f32⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S128x1024, .f32⟩
  | .hbm, ⟨8, _⟩ => ⟨S_, .f32⟩
  | .hbm, ⟨9, _⟩ => ⟨S384x1024, .f32⟩
  | .hbm, ⟨10, _⟩ => ⟨S33280x1024, .f32⟩
  | .hbm, ⟨11, _⟩ => ⟨S32768x1024, .f32⟩
  | .hbm, ⟨12, _⟩ => ⟨S128x1024, .f32⟩
  | .hbm, ⟨13, _⟩ => ⟨S_, .f32⟩
  | .hbm, ⟨14, _⟩ => ⟨S384x1024, .f32⟩
  | .hbm, ⟨15, _⟩ => ⟨S33280x1024, .f32⟩
  | .hbm, ⟨16, _⟩ => ⟨S1x1024, .f32⟩
  | .hbm, ⟨17, _⟩ => ⟨S1x1024, .f32⟩
  | .hbm, ⟨18, _⟩ => ⟨S33280x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceFfnIdeal.lean ====
abbrev S8x4096x1024 : Shape := ⟨3, ![8, 4096, 1024]⟩
abbrev S32x4x1024 : Shape := ⟨3, ![32, 4, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32x4 : Shape := ⟨2, ![32, 4]⟩
abbrev S32x4x1 : Shape := ⟨3, ![32, 4, 1]⟩
abbrev S32768x1024 : Shape := ⟨2, ![32768, 1024]⟩
abbrev S128x1024 : Shape := ⟨2, ![128, 1024]⟩
abbrev S384x1024 : Shape := ⟨2, ![384, 1024]⟩
abbrev S33280x1024 : Shape := ⟨2, ![33280, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32x4x1024, .f32⟩
  | .hbm, ⟨2, _⟩ => ⟨S8x4096x1024, .f32⟩
  | .hbm, ⟨3, _⟩ => ⟨S32x4x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S32x4x1024, .f32⟩
  | .hbm, ⟨41, _⟩ => ⟨S32x4x1024, .f32⟩
  | .hbm, ⟨42, _⟩ => ⟨S32x4x1024, .f32⟩
  | .hbm, ⟨43, _⟩ => ⟨S_, .f32⟩
  | .hbm, ⟨44, _⟩ => ⟨S32x4, .f32⟩
  | .hbm, ⟨45, _⟩ => ⟨S32x4x1, .f32⟩
  | .hbm, ⟨46, _⟩ => ⟨S_, .f32⟩
  | .hbm, ⟨47, _⟩ => ⟨S32x4x1, .f32⟩
  | .hbm, ⟨48, _⟩ => ⟨S32x4x1, .f32⟩
  | .hbm, ⟨49, _⟩ => ⟨S32x4x1024, .f32⟩
  | .hbm, ⟨50, _⟩ => ⟨S32x4x1024, .f32⟩
  | .hbm, ⟨51, _⟩ => ⟨S32x4x1024, .f32⟩
  | .hbm, ⟨52, _⟩ => ⟨S_, .f32⟩
  | .hbm, ⟨53, _⟩ => ⟨S32x4, .f32⟩
  | .hbm, ⟨54, _⟩ => ⟨S32x4x1, .f32⟩
  | .hbm, ⟨55, _⟩ => ⟨S_, .f32⟩
  | .hbm, ⟨56, _⟩ => ⟨S32x4x1, .f32⟩
  | .hbm, ⟨57, _⟩ => ⟨S32x4x1, .f32⟩
  | .hbm, ⟨58, _⟩ => ⟨S32x4x1024, .f32⟩
  | .hbm, ⟨59, _⟩ => ⟨S32x4x1024, .f32⟩
  | .hbm, ⟨60, _⟩ => ⟨S_, .f32⟩
  | .hbm, ⟨61, _⟩ => ⟨S32x4x1, .f32⟩
  | .hbm, ⟨62, _⟩ => ⟨S32x4x1, .f32⟩
  | .hbm, ⟨63, _⟩ => ⟨S32x4x1, .f32⟩
  | .hbm, ⟨64, _⟩ => ⟨S32x4x1024, .f32⟩
  | .hbm, ⟨65, _⟩ => ⟨S32x4x1024, .f32⟩
  | .hbm, ⟨66, _⟩ => ⟨S1x1x1024, .f32⟩
  | .hbm, ⟨67, _⟩ => ⟨S32x4x1024, .f32⟩
  | .hbm, ⟨68, _⟩ => ⟨S32x4x1024, .f32⟩
  | .hbm, ⟨69, _⟩ => ⟨S1x1x1024, .f32⟩
  | .hbm, ⟨70, _⟩ => ⟨S32x4x1024, .f32⟩
  | .hbm, ⟨71, _⟩ => ⟨S32x4x1024, .f32⟩
  | .hbm, ⟨72, _⟩ => ⟨S32768x1024, .f32⟩
  | .hbm, ⟨73, _⟩ => ⟨S128x1024, .f32⟩
  | .hbm, ⟨74, _⟩ => ⟨S384x1024, .f32⟩
  | .hbm, ⟨75, _⟩ => ⟨S33280x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== KernelRot.lean ====
abbrev S33280x3072 : Shape := ⟨2, ![33280, 3072]⟩
abbrev S4096 : Shape := ⟨1, ![4096]⟩
abbrev S1x4096 : Shape := ⟨2, ![1, 4096]⟩
abbrev S8x4096 : Shape := ⟨2, ![8, 4096]⟩
abbrev S32768 : Shape := ⟨1, ![32768]⟩
abbrev S4 : Shape := ⟨1, ![4]⟩
abbrev S1x4 : Shape := ⟨2, ![1, 4]⟩
abbrev S32x4 : Shape := ⟨2, ![32, 4]⟩
abbrev S128 : Shape := ⟨1, ![128]⟩
abbrev S_ : Shape := ⟨0, ![]⟩
abbrev S384 : Shape := ⟨1, ![384]⟩
abbrev S33280 : Shape := ⟨1, ![33280]⟩
abbrev S8 : Shape := ⟨1, ![8]⟩
abbrev S33280x1 : Shape := ⟨2, ![33280, 1]⟩
abbrev S1x8 : Shape := ⟨2, ![1, 8]⟩
abbrev S33280x8 : Shape := ⟨2, ![33280, 8]⟩
abbrev S1x128 : Shape := ⟨2, ![1, 128]⟩
abbrev S128x1 : Shape := ⟨2, ![128, 1]⟩
abbrev S33280x128 : Shape := ⟨2, ![33280, 128]⟩
abbrev S33280x1024 : Shape := ⟨2, ![33280, 1024]⟩
abbrev S130x1x1024 : Shape := ⟨3, ![130, 1, 1024]⟩
abbrev S256x1024 : Shape := ⟨2, ![256, 1024]⟩
abbrev S256x128 : Shape := ⟨2, ![256, 128]⟩
abbrev S1x1x1024 : Shape := ⟨3, ![1, 1, 1024]⟩
abbrev S1024 : Shape := ⟨1, ![1024]⟩
abbrev S1x1024 : Shape := ⟨2, ![1, 1024]⟩

abbrev nBuf : Space → Nat
  | .hbm => 142
  | .vmem => 16
  | .smem => 0
  | _ => 0

abbrev hbmTy0_0 (i : Nat) : BufTy := match i % 128 with
  | 0 => ⟨S33280x3072, .f32⟩
  | 1 => ⟨S4096, .i32⟩
  | 2 => ⟨S1x4096, .i32⟩
  | 3 => ⟨S8x4096, .i32⟩
  | 4 => ⟨S32768, .i32⟩
  | 5 => ⟨S4, .i32⟩
  | 6 => ⟨S1x4, .i32⟩
  | 7 => ⟨S32x4, .i32⟩
  | 8 => ⟨S128, .i32⟩
  | 9 => ⟨S_, .i32⟩
  | 10 => ⟨S128, .i32⟩
  | 11 => ⟨S128, .i32⟩
  | 12 => ⟨S_, .i32⟩
  | 13 => ⟨S384, .i32⟩
  | 14 => ⟨S33280, .i32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S33280, .f32⟩
  | 30 => ⟨S33280x1, .f32⟩
  | 31 => ⟨S1x8, .f32⟩
  | 32 => ⟨S33280x8, .f32⟩
  | 33 => ⟨S33280x8, .f32⟩
  | 34 => ⟨S33280x8, .f32⟩
  | 35 => ⟨S33280x8, .f32⟩
  | 36 => ⟨S33280x8, .f32⟩
  | 37 => ⟨S128, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S128, .i32⟩
  | 45 => ⟨S128, .i32⟩
  | 46 => ⟨S_, .i32⟩
  | 47 => ⟨S128, .i32⟩
  | 48 => ⟨S128, .i1⟩
  | 49 => ⟨S_, .i32⟩
  | 50 => ⟨S128, .i32⟩
  | 51 => ⟨S128, .i1⟩
  | 52 => ⟨S_, .i32⟩
  | 53 => ⟨S_, .i1⟩
  | 54 => ⟨S128, .i1⟩
  | 55 => ⟨S128, .i1⟩
  | 56 => ⟨S128, .i1⟩
  | 57 => ⟨S128, .i32⟩
  | 58 => ⟨S128, .i32⟩
  | 59 => ⟨S128, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S128, .i32⟩
  | 67 => ⟨S128, .i32⟩
  | 68 => ⟨S_, .i32⟩
  | 69 => ⟨S128, .i32⟩
  | 70 => ⟨S128, .i1⟩
  | 71 => ⟨S_, .i32⟩
  | 72 => ⟨S128, .i32⟩
  | 73 => ⟨S128, .i1⟩
  | 74 => ⟨S_, .i32⟩
  | 75 => ⟨S_, .i1⟩
  | 76 => ⟨S128, .i1⟩
  | 77 => ⟨S128, .i1⟩
  | 78 => ⟨S128, .i1⟩
  | 79 => ⟨S128, .i32⟩
  | 80 => ⟨S128, .i32⟩
  | 81 => ⟨S128, .i32⟩
  | 82 => ⟨S_, .i32⟩
  | 83 => ⟨S128, .i32⟩
  | 84 => ⟨S128, .i1⟩
  | 85 => ⟨S_, .i32⟩
  | 86 => ⟨S128, .i32⟩
  | 87 => ⟨S128, .i1⟩
  | 88 => ⟨S_, .i32⟩
  | 89 => ⟨S128, .i32⟩
  | 90 => ⟨S128, .i1⟩
  | 91 => ⟨S128, .i1⟩
  | 92 => ⟨S128, .i1⟩
  | 93 => ⟨S1x128, .i1⟩
  | 94 => ⟨S_, .i32⟩
  | 95 => ⟨S128, .i32⟩
  | 96 => ⟨S128, .i1⟩
  | 97 => ⟨S_, .i32⟩
  | 98 => ⟨S128, .i32⟩
  | 99 => ⟨S128, .i32⟩
  | 100 => ⟨S128, .i32⟩
  | 101 => ⟨S128x1, .i32⟩
  | 102 => ⟨S33280x128, .f32⟩
  | 103 => ⟨S_, .f32⟩
  | 104 => ⟨S_, .f32⟩
  | 105 => ⟨S33280x128, .i1⟩
  | 106 => ⟨S33280x128, .f32⟩
  | 107 => ⟨S33280x128, .f32⟩
  | 108 => ⟨S1x128, .i1⟩
  | 109 => ⟨S_, .i32⟩
  | 110 => ⟨S128, .i32⟩
  | 111 => ⟨S128, .i1⟩
  | 112 => ⟨S_, .i32⟩
  | 113 => ⟨S128, .i32⟩
  | 114 => ⟨S128, .i32⟩
  | 115 => ⟨S128, .i32⟩
  | 116 => ⟨S128x1, .i32⟩
  | 117 => ⟨S33280x128, .f32⟩
  | 118 => ⟨S33280x128, .f32⟩
  | 119 => ⟨S_, .f32⟩
  | 120 => ⟨S_, .f32⟩
  | 121 => ⟨S33280x128, .i1⟩
  | 122 => ⟨S33280x128, .f32⟩
  | 123 => ⟨S33280x128, .f32⟩
  | 124 => ⟨S1x128, .i1⟩
  | 125 => ⟨S_, .i32⟩
  | 126 => ⟨S128, .i32⟩
  | 127 => ⟨S128, .i1⟩
  | _ => ⟨S33280x3072, .f32⟩

abbrev hbmTy0_1 (i : Nat) : BufTy := match i % 128 with
  | 0 => ⟨S_, .i32⟩
  | 1 => ⟨S128, .i32⟩
  | 2 => ⟨S128, .i32⟩
  | 3 => ⟨S128, .i32⟩
  | 4 => ⟨S128x1, .i32⟩
  | 5 => ⟨S33280x128, .f32⟩
  | 6 => ⟨S_, .f32⟩
  | 7 => ⟨S_, .f32⟩
  | 8 => ⟨S33280x128, .i1⟩
  | 9 => ⟨S33280x128, .f32⟩
  | 10 => ⟨S33280x128, .f32⟩
  | 11 => ⟨S33280x1024, .f32⟩
  | 12 => ⟨S33280x1024, .f32⟩
  | 13 => ⟨S130x1x1024, .f32⟩
  | _ => ⟨S33280x3072, .f32⟩

abbrev hbmTy (i : Nat) : BufTy := match i / 128 with
  | 0 => hbmTy0_0 i
  | 1 => hbmTy0_1 i
  | _ => ⟨S33280x3072, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1x1024, .f32⟩
  | .local _ .vmem, ⟨15, _⟩ => ⟨S1x1x1024, .f32⟩
  | _, _ => ⟨S33280x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_4 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_1 : Ref sig .tc := ⟨.hbm, 46, rfl⟩
abbrev main_call0_v5 : Ref sig .tc := ⟨.hbm, 47, rfl⟩
abbrev main_call0_v6 : Ref sig .tc := ⟨.hbm, 48, rfl⟩
abbrev main_call0_c_2 : Ref sig .tc := ⟨.hbm, 49, rfl⟩
abbrev main_call0_v7 : Ref sig .tc := ⟨.hbm, 50, rfl⟩
abbrev main_call0_v8 : Ref sig .tc := ⟨.hbm, 51, rfl⟩
abbrev main_call0_c_3 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_v31 : Ref sig .tc := ⟨.hbm, 59, rfl⟩
abbrev main_c_5 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v32 : Ref sig .tc := ⟨.hbm, 81, rfl⟩
abbrev main_c_6 : Ref sig .tc := ⟨.hbm, 82, rfl⟩
abbrev main_v33 : Ref sig .tc := ⟨.hbm, 83, rfl⟩
abbrev main_v34 : Ref sig .tc := ⟨.hbm, 84, rfl⟩
abbrev main_c_7 : Ref sig .tc := ⟨.hbm, 85, rfl⟩
abbrev main_v35 : Ref sig .tc := ⟨.hbm, 86, rfl⟩
abbrev main_v36 : Ref sig .tc := ⟨.hbm, 87, rfl⟩
abbrev main_c_8 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_c_9 : Ref sig .tc := ⟨.hbm, 94, rfl⟩
abbrev main_v42 : Ref sig .tc := ⟨.hbm, 95, rfl⟩
abbrev main_v43 : Ref sig .tc := ⟨.hbm, 96, rfl⟩
abbrev main_c_10 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_cst_11 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v49 : Ref sig .tc := ⟨.hbm, 107, rfl⟩
abbrev main_v50 : Ref sig .tc := ⟨.hbm, 108, rfl⟩
abbrev main_c_12 : Ref sig .tc := ⟨.hbm, 109, rfl⟩
abbrev main_v51 : Ref sig .tc := ⟨.hbm, 110, rfl⟩
abbrev main_v52 : Ref sig .tc := ⟨.hbm, 111, rfl⟩
abbrev main_c_13 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_14 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v59 : Ref sig .tc := ⟨.hbm, 123, rfl⟩
abbrev main_v60 : Ref sig .tc := ⟨.hbm, 124, rfl⟩
abbrev main_c_15 : Ref sig .tc := ⟨.hbm, 125, rfl⟩
abbrev main_v61 : Ref sig .tc := ⟨.hbm, 126, rfl⟩
abbrev main_v62 : Ref sig .tc := ⟨.hbm, 127, rfl⟩
abbrev main_c_16 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_17 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v68 : Ref sig .tc := ⟨.hbm, 138, rfl⟩
abbrev main_v69_0 : Ref sig .tc := ⟨.hbm, 139, rfl⟩
abbrev main_v69_1 : Ref sig .tc := ⟨.hbm, 140, rfl⟩
abbrev main_v69_2 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceRotIdeal.lean ====
abbrev S33280x3072 : Shape := ⟨2, ![33280, 3072]⟩
abbrev S4096 : Shape := ⟨1, ![4096]⟩
abbrev S4 : Shape := ⟨1, ![4]⟩
abbrev S_ : Shape := ⟨0, ![]⟩
abbrev S33280x1024 : Shape := ⟨2, ![33280, 1024]⟩
abbrev S32768x1024 : Shape := ⟨2, ![32768, 1024]⟩
abbrev S8x4096x16x64 : Shape := ⟨4, ![8, 4096, 16, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S8x4096x16x16 : Shape := ⟨4, ![8, 4096, 16, 16]⟩
abbrev S8x4096x16x8 : Shape := ⟨4, ![8, 4096, 16, 8]⟩
abbrev S8x4096x16x48 : Shape := ⟨4, ![8, 4096, 16, 48]⟩
abbrev S128x1024 : Shape := ⟨2, ![128, 1024]⟩
abbrev S32x4x16x64 : Shape := ⟨4, ![32, 4, 16, 64]⟩
abbrev S4x1 : Shape := ⟨2, ![4, 1]⟩
abbrev S4x8 : Shape := ⟨2, ![4, 8]⟩
abbrev S1x4x1x8 : Shape := ⟨4, ![1, 4, 1, 8]⟩
abbrev S32x4x16x16 : Shape := ⟨4, ![32, 4, 16, 16]⟩
abbrev S32x4x16x8 : Shape := ⟨4, ![32, 4, 16, 8]⟩
abbrev S32x4x16x48 : Shape := ⟨4, ![32, 4, 16, 48]⟩
abbrev S384x1024 : Shape := ⟨2, ![384, 1024]⟩
abbrev S1x384x16x64 : Shape := ⟨4, ![1, 384, 16, 64]⟩
abbrev S384 : Shape := ⟨1, ![384]⟩
abbrev S384x1 : Shape := ⟨2, ![384, 1]⟩
abbrev S384x8 : Shape := ⟨2, ![384, 8]⟩
abbrev S1x384x1x8 : Shape := ⟨4, ![1, 384, 1, 8]⟩
abbrev S1x384x16x16 : Shape := ⟨4, ![1, 384, 16, 16]⟩
abbrev S1x384x16x8 : Shape := ⟨4, ![1, 384, 16, 8]⟩
abbrev S1x384x16x48 : Shape := ⟨4, ![1, 384, 16, 48]⟩
abbrev S130x256x1024 : Shape := ⟨3, ![130, 256, 1024]⟩
abbrev S130x1024 : Shape := ⟨2, ![130, 1024]⟩
abbrev S130x1x1024 : Shape := ⟨3, ![130, 1, 1024]⟩

abbrev nBuf : Space → Nat
  | .hbm => 279
  | .vmem => 0
  | .smem => 0
  | _ => 0

abbrev hbmTy0_0 (i : Nat) : BufTy := match i % 128 with
  | 0 => ⟨S33280x3072, .f32⟩
  | 1 => ⟨S4096, .i32⟩
  | 2 => ⟨S4, .i32⟩
  | 3 => ⟨S_, .i32⟩
  | 4 => ⟨S4, .i32⟩
  | 5 => ⟨S4, .i32⟩
  | 6 => ⟨S33280x1024, .f32⟩
  | 7 => ⟨S32768x1024, .f32⟩
  | 8 => ⟨S8x4096x16x64, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S4096, .f32⟩
  | 24 => ⟨S4096x1, .f32⟩
  | 25 => ⟨S1x8, .f32⟩
  | 26 => ⟨S4096x8, .f32⟩
  | 27 => ⟨S4096x8, .f32⟩
  | 28 => ⟨S4096x8, .f32⟩
  | 29 => ⟨S4096x8, .f32⟩
  | 30 => ⟨S1x4096x1x8, .f32⟩
  | 31 => ⟨S4096x8, .f32⟩
  | 32 => ⟨S1x4096x1x8, .f32⟩
  | 33 => ⟨S8x4096x16x16, .f32⟩
  | 34 => ⟨S8x4096x16x8, .f32⟩
  | 35 => ⟨S8x4096x16x8, .f32⟩
  | 36 => ⟨S8x4096x16x8, .f32⟩
  | 37 => ⟨S8x4096x16x8, .f32⟩
  | 38 => ⟨S8x4096x16x8, .f32⟩
  | 39 => ⟨S8x4096x16x8, .f32⟩
  | 40 => ⟨S8x4096x16x8, .f32⟩
  | 41 => ⟨S8x4096x16x8, .f32⟩
  | 42 => ⟨S8x4096x16x8, .f32⟩
  | 43 => ⟨S8x4096x16x8, .f32⟩
  | 44 => ⟨S8x4096x16x8, .f32⟩
  | 45 => ⟨S8x4096x16x8, .f32⟩
  | 46 => ⟨S8x4096x16x16, .f32⟩
  | 47 => ⟨S8x4096x16x48, .f32⟩
  | 48 => ⟨S8x4096x16x64, .f32⟩
  | 49 => ⟨S128x1024, .f32⟩
  | 50 => ⟨S32x4x16x64, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S4, .f32⟩
  | 66 => ⟨S4x1, .f32⟩
  | 67 => ⟨S1x8, .f32⟩
  | 68 => ⟨S4x8, .f32⟩
  | 69 => ⟨S4x8, .f32⟩
  | 70 => ⟨S4x8, .f32⟩
  | 71 => ⟨S4x8, .f32⟩
  | 72 => ⟨S1x4x1x8, .f32⟩
  | 73 => ⟨S4x8, .f32⟩
  | 74 => ⟨S1x4x1x8, .f32⟩
  | 75 => ⟨S32x4x16x16, .f32⟩
  | 76 => ⟨S32x4x16x8, .f32⟩
  | 77 => ⟨S32x4x16x8, .f32⟩
  | 78 => ⟨S32x4x16x8, .f32⟩
  | 79 => ⟨S32x4x16x8, .f32⟩
  | 80 => ⟨S32x4x16x8, .f32⟩
  | 81 => ⟨S32x4x16x8, .f32⟩
  | 82 => ⟨S32x4x16x8, .f32⟩
  | 83 => ⟨S32x4x16x8, .f32⟩
  | 84 => ⟨S32x4x16x8, .f32⟩
  | 85 => ⟨S32x4x16x8, .f32⟩
  | 86 => ⟨S32x4x16x8, .f32⟩
  | 87 => ⟨S32x4x16x8, .f32⟩
  | 88 => ⟨S32x4x16x16, .f32⟩
  | 89 => ⟨S32x4x16x48, .f32⟩
  | 90 => ⟨S32x4x16x64, .f32⟩
  | 91 => ⟨S384x1024, .f32⟩
  | 92 => ⟨S1x384x16x64, .f32⟩
  | 93 => ⟨S_, .i32⟩
  | 94 => ⟨S384, .i32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S384, .f32⟩
  | 110 => ⟨S384x1, .f32⟩
  | 111 => ⟨S1x8, .f32⟩
  | 112 => ⟨S384x8, .f32⟩
  | 113 => ⟨S384x8, .f32⟩
  | 114 => ⟨S384x8, .f32⟩
  | 115 => ⟨S384x8, .f32⟩
  | 116 => ⟨S1x384x1x8, .f32⟩
  | 117 => ⟨S384x8, .f32⟩
  | 118 => ⟨S1x384x1x8, .f32⟩
  | 119 => ⟨S1x384x16x16, .f32⟩
  | 120 => ⟨S1x384x16x8, .f32⟩
  | 121 => ⟨S1x384x16x8, .f32⟩
  | 122 => ⟨S1x384x16x8, .f32⟩
  | 123 => ⟨S1x384x16x8, .f32⟩
  | 124 => ⟨S1x384x16x8, .f32⟩
  | 125 => ⟨S1x384x16x8, .f32⟩
  | 126 => ⟨S1x384x16x8, .f32⟩
  | 127 => ⟨S1x384x16x8, .f32⟩
  | _ => ⟨S33280x3072, .f32⟩

abbrev hbmTy0_1 (i : Nat) : BufTy := match i % 128 with
  | 0 => ⟨S1x384x16x8, .f32⟩
  | 1 => ⟨S1x384x16x8, .f32⟩
  | 2 => ⟨S1x384x16x8, .f32⟩
  | 3 => ⟨S1x384x16x8, .f32⟩
  | 4 => ⟨S1x384x16x16, .f32⟩
  | 5 => ⟨S1x384x16x48, .f32⟩
  | 6 => ⟨S1x384x16x64, .f32⟩
  | 7 => ⟨S32768x1024, .f32⟩
  | 8 => ⟨S128x1024, .f32⟩
  | 9 => ⟨S384x1024, .f32⟩
  | 10 => ⟨S33280x1024, .f32⟩
  | 11 => ⟨S33280x1024, .f32⟩
  | 12 => ⟨S32768x1024, .f32⟩
  | 13 => ⟨S8x4096x16x64, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S4096, .f32⟩
  | 29 => ⟨S4096x1, .f32⟩
  | 30 => ⟨S1x8, .f32⟩
  | 31 => ⟨S4096x8, .f32⟩
  | 32 => ⟨S4096x8, .f32⟩
  | 33 => ⟨S4096x8, .f32⟩
  | 34 => ⟨S4096x8, .f32⟩
  | 35 => ⟨S1x4096x1x8, .f32⟩
  | 36 => ⟨S4096x8, .f32⟩
  | 37 => ⟨S1x4096x1x8, .f32⟩
  | 38 => ⟨S8x4096x16x16, .f32⟩
  | 39 => ⟨S8x4096x16x8, .f32⟩
  | 40 => ⟨S8x4096x16x8, .f32⟩
  | 41 => ⟨S8x4096x16x8, .f32⟩
  | 42 => ⟨S8x4096x16x8, .f32⟩
  | 43 => ⟨S8x4096x16x8, .f32⟩
  | 44 => ⟨S8x4096x16x8, .f32⟩
  | 45 => ⟨S8x4096x16x8, .f32⟩
  | 46 => ⟨S8x4096x16x8, .f32⟩
  | 47 => ⟨S8x4096x16x8, .f32⟩
  | 48 => ⟨S8x4096x16x8, .f32⟩
  | 49 => ⟨S8x4096x16x8, .f32⟩
  | 50 => ⟨S8x4096x16x8, .f32⟩
  | 51 => ⟨S8x4096x16x16, .f32⟩
  | 52 => ⟨S8x4096x16x48, .f32⟩
  | 53 => ⟨S8x4096x16x64, .f32⟩
  | 54 => ⟨S128x1024, .f32⟩
  | 55 => ⟨S32x4x16x64, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S4, .f32⟩
  | 71 => ⟨S4x1, .f32⟩
  | 72 => ⟨S1x8, .f32⟩
  | 73 => ⟨S4x8, .f32⟩
  | 74 => ⟨S4x8, .f32⟩
  | 75 => ⟨S4x8, .f32⟩
  | 76 => ⟨S4x8, .f32⟩
  | 77 => ⟨S1x4x1x8, .f32⟩
  | 78 => ⟨S4x8, .f32⟩
  | 79 => ⟨S1x4x1x8, .f32⟩
  | 80 => ⟨S32x4x16x16, .f32⟩
  | 81 => ⟨S32x4x16x8, .f32⟩
  | 82 => ⟨S32x4x16x8, .f32⟩
  | 83 => ⟨S32x4x16x8, .f32⟩
  | 84 => ⟨S32x4x16x8, .f32⟩
  | 85 => ⟨S32x4x16x8, .f32⟩
  | 86 => ⟨S32x4x16x8, .f32⟩
  | 87 => ⟨S32x4x16x8, .f32⟩
  | 88 => ⟨S32x4x16x8, .f32⟩
  | 89 => ⟨S32x4x16x8, .f32⟩
  | 90 => ⟨S32x4x16x8, .f32⟩
  | 91 => ⟨S32x4x16x8, .f32⟩
  | 92 => ⟨S32x4x16x8, .f32⟩
  | 93 => ⟨S32x4x16x16, .f32⟩
  | 94 => ⟨S32x4x16x48, .f32⟩
  | 95 => ⟨S32x4x16x64, .f32⟩
  | 96 => ⟨S384x1024, .f32⟩
  | 97 => ⟨S1x384x16x64, .f32⟩
  | 98 => ⟨S_, .i32⟩
  | 99 => ⟨S384, .i32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S8, .f32⟩
  | 108 => ⟨S_, .f32⟩
  | 109 => ⟨S8, .f32⟩
  | 110 => ⟨S8, .f32⟩
  | 111 => ⟨S_, .f32⟩
  | 112 => ⟨S8, .f32⟩
  | 113 => ⟨S8, .f32⟩
  | 114 => ⟨S384, .f32⟩
  | 115 => ⟨S384x1, .f32⟩
  | 116 => ⟨S1x8, .f32⟩
  | 117 => ⟨S384x8, .f32⟩
  | 118 => ⟨S384x8, .f32⟩
  | 119 => ⟨S384x8, .f32⟩
  | 120 => ⟨S384x8, .f32⟩
  | 121 => ⟨S1x384x1x8, .f32⟩
  | 122 => ⟨S384x8, .f32⟩
  | 123 => ⟨S1x384x1x8, .f32⟩
  | 124 => ⟨S1x384x16x16, .f32⟩
  | 125 => ⟨S1x384x16x8, .f32⟩
  | 126 => ⟨S1x384x16x8, .f32⟩
  | 127 => ⟨S1x384x16x8, .f32⟩
  | _ => ⟨S33280x3072, .f32⟩

abbrev hbmTy0_2 (i : Nat) : BufTy := match i % 128 with
  | 0 => ⟨S1x384x16x8, .f32⟩
  | 1 => ⟨S1x384x16x8, .f32⟩
  | 2 => ⟨S1x384x16x8, .f32⟩
  | 3 => ⟨S1x384x16x8, .f32⟩
  | 4 => ⟨S1x384x16x8, .f32⟩
  | 5 => ⟨S1x384x16x8, .f32⟩
  | 6 => ⟨S1x384x16x8, .f32⟩
  | 7 => ⟨S1x384x16x8, .f32⟩
  | 8 => ⟨S1x384x16x8, .f32⟩
  | 9 => ⟨S1x384x16x16, .f32⟩
  | 10 => ⟨S1x384x16x48, .f32⟩
  | 11 => ⟨S1x384x16x64, .f32⟩
  | 12 => ⟨S32768x1024, .f32⟩
  | 13 => ⟨S128x1024, .f32⟩
  | 14 => ⟨S384x1024, .f32⟩
  | 15 => ⟨S33280x1024, .f32⟩
  | 16 => ⟨S130x256x1024, .f32⟩
  | 17 => ⟨S_, .f32⟩
  | 18 => ⟨S130x1024, .f32⟩
  | 19 => ⟨S130x1x1024, .f32⟩
  | 20 => ⟨S_, .f32⟩
  | 21 => ⟨S130x1x1024, .f32⟩
  | 22 => ⟨S130x1x1024, .f32⟩
  | _ => ⟨S33280x3072, .f32⟩

abbrev hbmTy (i : Nat) : BufTy := match i / 128 with
  | 0 => hbmTy0_0 i
  | 1 => hbmTy0_1 i
  | 2 => hbmTy0_2 i
  | _ => ⟨S33280x3072, .f32⟩

abbrev bufTy : (tb : Table) → Fin (tcTables nBuf tb) → BufTy
  | .hbm, ⟨i, _⟩ => hbmTy i
  | _, _ => ⟨S33280x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_3 : Ref sig .tc := ⟨.hbm, 52, rfl⟩
abbrev main_v46 : Ref sig .tc := ⟨.hbm, 53, rfl⟩
abbrev main_v47 : Ref sig .tc := ⟨.hbm, 54, rfl⟩
abbrev main_cst_4 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_5 : Ref sig .tc := ⟨.hbm, 59, rfl⟩
abbrev main_v51 : Ref sig .tc := ⟨.hbm, 60, rfl⟩
abbrev main_v52 : Ref sig .tc := ⟨.hbm, 61, rfl⟩
abbrev main_cst_6 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_c_7 : Ref sig .tc := ⟨.hbm, 93, rfl⟩
abbrev main_v83 : Ref sig .tc := ⟨.hbm, 94, rfl⟩
abbrev main_v84 : Ref sig .tc := ⟨.hbm, 95, rfl⟩
abbrev main_cst_8 : Ref sig .tc := ⟨.hbm, 96, rfl⟩
abbrev main_v85 : Ref sig .tc := ⟨.hbm, 97, rfl⟩
abbrev main_v86 : Ref sig .tc := ⟨.hbm, 98, rfl⟩
abbrev main_cst_9 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_cst_10 : Ref sig .tc := ⟨.hbm, 103, rfl⟩
abbrev main_v90 : Ref sig .tc := ⟨.hbm, 104, rfl⟩
abbrev main_v91 : Ref sig .tc := ⟨.hbm, 105, rfl⟩
abbrev main_cst_11 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_cst_12 : Ref sig .tc := ⟨.hbm, 143, rfl⟩
abbrev main_v128 : Ref sig .tc := ⟨.hbm, 144, rfl⟩
abbrev main_v129 : Ref sig .tc := ⟨.hbm, 145, rfl⟩
abbrev main_cst_13 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_cst_14 : Ref sig .tc := ⟨.hbm, 150, rfl⟩
abbrev main_v133 : Ref sig .tc := ⟨.hbm, 151, rfl⟩
abbrev main_v134 : Ref sig .tc := ⟨.hbm, 152, rfl⟩
abbrev main_cst_15 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_cst_16 : Ref sig .tc := ⟨.hbm, 185, rfl⟩
abbrev main_v166 : Ref sig .tc := ⟨.hbm, 186, rfl⟩
abbrev main_v167 : Ref sig .tc := ⟨.hbm, 187, rfl⟩
abbrev main_cst_17 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_cst_18 : Ref sig .tc := ⟨.hbm, 192, rfl⟩
abbrev main_v171 : Ref sig .tc := ⟨.hbm, 193, rfl⟩
abbrev main_v172 : Ref sig .tc := ⟨.hbm, 194, rfl⟩
abbrev main_cst_19 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_c_20 : Ref sig .tc := ⟨.hbm, 226, rfl⟩
abbrev main_v203 : Ref sig .tc := ⟨.hbm, 227, rfl⟩
abbrev main_v204 : Ref sig .tc := ⟨.hbm, 228, rfl⟩
abbrev main_cst_21 : Ref sig .tc := ⟨.hbm, 229, rfl⟩
abbrev main_v205 : Ref sig .tc := ⟨.hbm, 230, rfl⟩
abbrev main_v206 : Ref sig .tc := ⟨.hbm, 231, rfl⟩
abbrev main_cst_22 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_cst_23 : Ref sig .tc := ⟨.hbm, 236, rfl⟩
abbrev main_v210 : Ref sig .tc := ⟨.hbm, 237, rfl⟩
abbrev main_v211 : Ref sig .tc := ⟨.hbm, 238, rfl⟩
abbrev main_cst_24 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_cst_25 : Ref sig .tc := ⟨.hbm, 273, rfl⟩
abbrev main_v245 : Ref sig .tc := ⟨.hbm, 274, rfl⟩
abbrev main_v246 : Ref sig .tc := ⟨.hbm, 275, rfl⟩
abbrev main_cst_26 : Ref sig .tc := ⟨.hbm, 276, rfl⟩
abbrev main_v247 : Ref sig .tc := ⟨.hbm, 277, rfl⟩
abbrev main_v248 : Ref sig .tc := ⟨.hbm, 278, rfl⟩

abbrev nD : Nat := 1
abbrev τ : Topo := Topo.v7x

variable {F : FTy → Type} [FloatOps F]
-- ==== KernelSmp.lean ====
abbrev S33280x3072 : Shape := ⟨2, ![33280, 3072]⟩
abbrev S33280x128 : Shape := ⟨2, ![33280, 128]⟩
abbrev S32x8x64x128 : Shape := ⟨4, ![32, 8, 64, 128]⟩
abbrev S32x8x64 : Shape := ⟨3, ![32, 8, 64]⟩
abbrev S32x8 : Shape := ⟨2, ![32, 8]⟩
abbrev S1024 : Shape := ⟨1, ![1024]⟩
abbrev S128x3072 : Shape := ⟨2, ![128, 3072]⟩
abbrev S32x4x3072 : Shape := ⟨3, ![32, 4, 3072]⟩
abbrev S_ : Shape := ⟨0, ![]⟩
abbrev S32x128x3072 : Shape := ⟨3, ![32, 128, 3072]⟩
abbrev S128x128 : Shape := ⟨2, ![128, 128]⟩
abbrev S32x4x128 : Shape := ⟨3, ![32, 4, 128]⟩
abbrev S128 : Shape := ⟨1, ![128]⟩
abbrev S32x124x128 : Shape := ⟨3, ![32, 124, 128]⟩
abbrev S32x128x128 : Shape := ⟨3, ![32, 128, 128]⟩
abbrev S32x128x512 : Shape := ⟨3, ![32, 128, 512]⟩
abbrev S32x512x128 : Shape := ⟨3, ![32, 512, 128]⟩
abbrev S32x128x16 : Shape := ⟨3, ![32, 128, 16]⟩
abbrev S32x16x128 : Shape := ⟨3, ![32, 16, 128]⟩
abbrev S32x8x64x1 : Shape := ⟨4, ![32, 8, 64, 1]⟩
abbrev S32x8x64x127 : Shape := ⟨4, ![32, 8, 64, 127]⟩
abbrev S32x8x64x256 : Shape := ⟨4, ![32, 8, 64, 256]⟩
abbrev S32x8x1 : Shape := ⟨3, ![32, 8, 1]⟩
abbrev S32x8x128 : Shape := ⟨3, ![32, 8, 128]⟩
abbrev S4096x3072 : Shape := ⟨2, ![4096, 3072]⟩
abbrev S4096x128 : Shape := ⟨2, ![4096, 128]⟩
abbrev S1x1024 : Shape := ⟨2, ![1, 1024]⟩
abbrev S4096x1024 : Shape := ⟨2, ![4096, 1024]⟩
abbrev S128x512 : Shape := ⟨2, ![128, 512]⟩
abbrev S1x512x128 : Shape := ⟨3, ![1, 512, 128]⟩
abbrev S128x1024 : Shape := ⟨2, ![128, 1024]⟩
abbrev S1x16x128 : Shape := ⟨3, ![1, 16, 128]⟩
abbrev S1x8x64x256 : Shape := ⟨4, ![1, 8, 64, 256]⟩
abbrev S1x8x128 : Shape := ⟨3, ![1, 8, 128]⟩
abbrev S8x64x256 : Shape := ⟨3, ![8, 64, 256]⟩
abbrev S8x128 : Shape := ⟨2, ![8, 128]⟩
abbrev S16x128 : Shape := ⟨2, ![16, 128]⟩
abbrev S128x1 : Shape := ⟨2, ![128, 1]⟩
abbrev S1x128 : Shape := ⟨2, ![1, 128]⟩
abbrev S1x1 : Shape := ⟨2, ![1, 1]⟩
abbrev S128x64 : Shape := ⟨2, ![128, 64]⟩
abbrev S1x64x128 : Shape := ⟨3, ![1, 64, 128]⟩
abbrev S64x128 : Shape := ⟨2, ![64, 128]⟩
abbrev S128x256 : Shape := ⟨2, ![128, 256]⟩
abbrev S1x64x256 : Shape := ⟨3, ![1, 64, 256]⟩
abbrev S64x256 : Shape := ⟨2, ![64, 256]⟩

abbrev nBuf : Space → Nat
  | .hbm => 41
  | .vmem => 25
  | .smem => 0
  | _ => 0

abbrev bufTy : (tb : Table) → Fin (tcTables nBuf tb) → BufTy
  | .hbm, ⟨0, _⟩ => ⟨S33280x3072, .f32⟩
  | .hbm, ⟨1, _⟩ => ⟨S33280x128, .f32⟩
  | .hbm, ⟨2, _⟩ => ⟨S32x8x64x128, .f32⟩
  | .hbm, ⟨3, _⟩ => ⟨S32x8x64, .f32⟩
  | .hbm, ⟨4, _⟩ => ⟨S32x8, .f32⟩
  | .hbm, ⟨5, _⟩ => ⟨S1024, .f32⟩
  | .hbm, ⟨6, _⟩ => ⟨S128x3072, .f32⟩
  | .hbm, ⟨7, _⟩ => ⟨S32x4x3072, .f32⟩
  | .hbm, ⟨8, _⟩ => ⟨S_, .i32⟩
  | .hbm, ⟨9, _⟩ => ⟨S_, .f32⟩
  | .hbm, ⟨10, _⟩ => ⟨S32x128x3072, .f32⟩
  | .hbm, ⟨11, _⟩ => ⟨S128x128, .f32⟩
  | .hbm, ⟨12, _⟩ => ⟨S32x4x128, .f32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S_, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S32x124x128, .f32⟩
  | .hbm, ⟨24, _⟩ => ⟨S32x128x128, .f32⟩
  | .hbm, ⟨25, _⟩ => ⟨S32x128x512, .f32⟩
  | .hbm, ⟨26, _⟩ => ⟨S32x512x128, .f32⟩
  | .hbm, ⟨27, _⟩ => ⟨S32x128x16, .f32⟩
  | .hbm, ⟨28, _⟩ => ⟨S32x16x128, .f32⟩
  | .hbm, ⟨29, _⟩ => ⟨S32x8x64x1, .f32⟩
  | .hbm, ⟨30, _⟩ => ⟨S_, .f32⟩
  | .hbm, ⟨31, _⟩ => ⟨S32x8x64x127, .f32⟩
  | .hbm, ⟨32, _⟩ => ⟨S32x8x64x256, .f32⟩
  | .hbm, ⟨33, _⟩ => ⟨S32x8x1, .f32⟩
  | .hbm, ⟨34, _⟩ => ⟨S32x8x128, .f32⟩
  | .hbm, ⟨35, _⟩ => ⟨S4096x3072, .f32⟩
  | .hbm, ⟨36, _⟩ => ⟨S4096x128, .f32⟩
  | .hbm, ⟨37, _⟩ => ⟨S1x1024, .f32⟩
  | .hbm, ⟨38, _⟩ => ⟨S4096x1024, .f32⟩
  | .hbm, ⟨39, _⟩ => ⟨S32x8x64x256, .f32⟩
  | .hbm, ⟨40, _⟩ => ⟨S32x8x128, .f32⟩
  | .local _ .vmem, ⟨0, _⟩ => ⟨S128x512, .f32⟩
  | .local _ .vmem, ⟨1, _⟩ => ⟨S128x512, .f32⟩
  | .local _ .vmem, ⟨2, _⟩ => ⟨S1x512x128, .f32⟩
  | .local _ .vmem, ⟨3, _⟩ => ⟨S1x512x128, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S1x16x128, .f32⟩
  | .local _ .vmem, ⟨11, _⟩ => ⟨S1x16x128, .f32⟩
  | .local _ .vmem, ⟨12, _⟩ => ⟨S1x8x64x256, .f32⟩
  | .local _ .vmem, ⟨13, _⟩ => ⟨S1x8x64x256, .f32⟩
  | .local _ .vmem, ⟨14, _⟩ => ⟨S1x8x128, .f32⟩
  | .local _ .vmem, ⟨15, _⟩ => ⟨S1x8x128, .f32⟩
  | .local _ .vmem, ⟨16, _⟩ => ⟨S1x1024, .f32⟩
  | .local _ .vmem, ⟨17, _⟩ => ⟨S128x1024, .f32⟩
  | .local _ .vmem, ⟨18, _⟩ => ⟨S128x1024, .f32⟩
  | .local _ .vmem, ⟨19, _⟩ => ⟨S1x8x64x256, .f32⟩
  | .local _ .vmem, ⟨20, _⟩ => ⟨S1x8x64x256, .f32⟩
  | .local _ .vmem, ⟨21, _⟩ => ⟨S1x8x128, .f32⟩
  | .local _ .vmem, ⟨22, _⟩ => ⟨S1x8x128, .f32⟩
  | .local _ .vmem, ⟨23, _⟩ => ⟨S8x64x256, .f32⟩
  | .local _ .vmem, ⟨24, _⟩ => ⟨S8x128, .f32⟩
  | _, _ => ⟨S33280x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_cst_1 : Ref sig .tc := ⟨.hbm, 18, rfl⟩
abbrev main_call1_v0 : Ref sig .tc := ⟨.hbm, 19, rfl⟩
abbrev main_call1_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_285 : BitVec 32 := 0#32
  let v855 : BitVec 1 := Scalar.cmpi .eq arg1 c0_i32_285
  let v856 : BitVec 32 := Scalar.extui v855
  let c0_i32_286 : BitVec 32 := 0#32
  let v857 : BitVec 1 := Scalar.cmpi .ne v856 c0_i32_286
  v857

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelSmpIdeal.lean ====
variable {F : FTy → Type} [FloatOps F] [Named F]
def κ : String → Option EReal := fun
  | "mask" => some ⊥
  | _ => none
-- ==== ReferenceSmpIdeal.lean ====
abbrev S33280x3072 : Shape := ⟨2, ![33280, 3072]⟩
abbrev S33280x128 : Shape := ⟨2, ![33280, 128]⟩
abbrev S32x8x64x128 : Shape := ⟨4, ![32, 8, 64, 128]⟩
abbrev S32x8x64 : Shape := ⟨3, ![32, 8, 64]⟩
abbrev S32x8 : Shape := ⟨2, ![32, 8]⟩
abbrev S1024 : Shape := ⟨1, ![1024]⟩
abbrev S128x3072 : Shape := ⟨2, ![128, 3072]⟩
abbrev S32x4x3072 : Shape := ⟨3, ![32, 4, 3072]⟩
abbrev S128x128 : Shape := ⟨2, ![128, 128]⟩
abbrev S32x4x128 : Shape := ⟨3, ![32, 4, 128]⟩
abbrev S32x4x8 : Shape := ⟨3, ![32, 4, 8]⟩
abbrev S32x8x4 : Shape := ⟨3, ![32, 8, 4]⟩
abbrev S32x4x512 : Shape := ⟨3, ![32, 4, 512]⟩
abbrev S32x4x8x64 : Shape := ⟨4, ![32, 4, 8, 64]⟩
abbrev S32x8x4x64 : Shape := ⟨4, ![32, 8, 4, 64]⟩
abbrev S_ : Shape := ⟨0, ![]⟩
abbrev S32x4x1024 : Shape := ⟨3, ![32, 4, 1024]⟩
abbrev S32x4x8x128 : Shape := ⟨4, ![32, 4, 8, 128]⟩
abbrev S32x8x4x128 : Shape := ⟨4, ![32, 8, 4, 128]⟩
abbrev S4x4 : Shape := ⟨2, ![4, 4]⟩
abbrev S32x8x4x1 : Shape := ⟨4, ![32, 8, 4, 1]⟩
abbrev S32x8x1x4 : Shape := ⟨4, ![32, 8, 1, 4]⟩
abbrev S32x8x4x4 : Shape := ⟨4, ![32, 8, 4, 4]⟩
abbrev S32x8x1 : Shape := ⟨3, ![32, 8, 1]⟩
abbrev S32x8x1x1 : Shape := ⟨4, ![32, 8, 1, 1]⟩
abbrev S32x4x8x1 : Shape := ⟨4, ![32, 4, 8, 1]⟩
abbrev S1x1x1024 : Shape := ⟨3, ![1, 1, 1024]⟩
abbrev S32x124x1024 : Shape := ⟨3, ![32, 124, 1024]⟩
abbrev S32x128x1024 : Shape := ⟨3, ![32, 128, 1024]⟩
abbrev S32x8x64x1 : Shape := ⟨4, ![32, 8, 64, 1]⟩
abbrev S32x8x64x127 : Shape := ⟨4, ![32, 8, 64, 127]⟩
abbrev S32x8x64x256 : Shape := ⟨4, ![32, 8, 64, 256]⟩
abbrev S4096x1024 : Shape := ⟨2, ![4096, 1024]⟩
abbrev S32x8x128 : Shape := ⟨3, ![32, 8, 128]⟩

abbrev nBuf : Space → Nat
  | .hbm => 152
  | .vmem => 0
  | .smem => 0
  | _ => 0

abbrev hbmTy0_0 (i : Nat) : BufTy := match i % 128 with
  | 0 => ⟨S33280x3072, .f32⟩
  | 1 => ⟨S33280x128, .f32⟩
  | 2 => ⟨S32x8x64x128, .f32⟩
  | 3 => ⟨S32x8x64, .f32⟩
  | 4 => ⟨S32x8, .f32⟩
  | 5 => ⟨S1024, .f32⟩
  | 6 => ⟨S128x3072, .f32⟩
  | 7 => ⟨S32x4x3072, .f32⟩
  | 8 => ⟨S128x128, .f32⟩
  | 9 => ⟨S32x4x128, .f32⟩
  | 10 => ⟨S32x4x8, .f32⟩
  | 11 => ⟨S32x8x4, .f32⟩
  | 12 => ⟨S32x4x8, .f32⟩
  | 13 => ⟨S32x8x4, .f32⟩
  | 14 => ⟨S32x4x512, .f32⟩
  | 15 => ⟨S32x4x8x64, .f32⟩
  | 16 => ⟨S32x8x4x64, .f32⟩
  | 17 => ⟨S_, .f32⟩
  | 18 => ⟨S32x8x4x64, .f32⟩
  | 19 => ⟨S32x8x4x64, .f32⟩
  | 20 => ⟨S32x4x512, .f32⟩
  | 21 => ⟨S32x4x8x64, .f32⟩
  | 22 => ⟨S32x8x4x64, .f32⟩
  | 23 => ⟨S32x4x1024, .f32⟩
  | 24 => ⟨S32x4x8x128, .f32⟩
  | 25 => ⟨S32x8x4x128, .f32⟩
  | 26 => ⟨S_, .f32⟩
  | 27 => ⟨S_, .f32⟩
  | 28 => ⟨S32x8x4, .f32⟩
  | 29 => ⟨S_, .i1⟩
  | 30 => ⟨S4x4, .i1⟩
  | 31 => ⟨S4x4, .i32⟩
  | 32 => ⟨S_, .i32⟩
  | 33 => ⟨S4x4, .i32⟩
  | 34 => ⟨S4x4, .i32⟩
  | 35 => ⟨S4x4, .i32⟩
  | 36 => ⟨S4x4, .i1⟩
  | 37 => ⟨S_, .i1⟩
  | 38 => ⟨S4x4, .i1⟩
  | 39 => ⟨S4x4, .i1⟩
  | 40 => ⟨S32x8x4x1, .f32⟩
  | 41 => ⟨S32x8x1x4, .f32⟩
  | 42 => ⟨S32x8x4x4, .f32⟩
  | 43 => ⟨S32x8x4x4, .f32⟩
  | 44 => ⟨S32x8x4x4, .f32⟩
  | 45 => ⟨S32x8x1x4, .f32⟩
  | 46 => ⟨S32x8x4x4, .f32⟩
  | 47 => ⟨S32x8x4x4, .f32⟩
  | 48 => ⟨S_, .f32⟩
  | 49 => ⟨S_, .f32⟩
  | 50 => ⟨S32x8x4x4, .i1⟩
  | 51 => ⟨S32x8x4x4, .f32⟩
  | 52 => ⟨S32x8x4x4, .f32⟩
  | 53 => ⟨S32x8x1, .f32⟩
  | 54 => ⟨S32x8x4, .f32⟩
  | 55 => ⟨S32x8x4, .f32⟩
  | 56 => ⟨S_, .f32⟩
  | 57 => ⟨S32x8x4, .f32⟩
  | 58 => ⟨S32x8x4, .f32⟩
  | 59 => ⟨S32x8x4x1, .f32⟩
  | 60 => ⟨S32x8x4x4, .f32⟩
  | 61 => ⟨S32x8x4x4, .f32⟩
  | 62 => ⟨S32x8x4x4, .f32⟩
  | 63 => ⟨S32x8x4, .f32⟩
  | 64 => ⟨S32x8x4, .f32⟩
  | 65 => ⟨S32x8x4x4, .f32⟩
  | 66 => ⟨S32x8x4x4, .f32⟩
  | 67 => ⟨S32x8x4x128, .f32⟩
  | 68 => ⟨S32x8x4x1, .f32⟩
  | 69 => ⟨S32x8x4x128, .f32⟩
  | 70 => ⟨S32x8x4x128, .f32⟩
  | 71 => ⟨S32x8x4x128, .f32⟩
  | 72 => ⟨S32x8x4x128, .f32⟩
  | 73 => ⟨S_, .f32⟩
  | 74 => ⟨S32x8x4, .f32⟩
  | 75 => ⟨S32x8x4, .f32⟩
  | 76 => ⟨S32x8x4, .f32⟩
  | 77 => ⟨S32x8x4, .f32⟩
  | 78 => ⟨S32x8x4, .f32⟩
  | 79 => ⟨S32x8x4, .f32⟩
  | 80 => ⟨S32x8x4, .f32⟩
  | 81 => ⟨S32x8x4, .f32⟩
  | 82 => ⟨S32x8x4x1, .f32⟩
  | 83 => ⟨S32x8x4x128, .f32⟩
  | 84 => ⟨S32x8x4x128, .f32⟩
  | 85 => ⟨S32x8x1, .f32⟩
  | 86 => ⟨S32x8, .f32⟩
  | 87 => ⟨S32x8x1, .f32⟩
  | 88 => ⟨S32x8, .f32⟩
  | 89 => ⟨S32x8, .f32⟩
  | 90 => ⟨S32x8, .f32⟩
  | 91 => ⟨S32x8, .f32⟩
  | 92 => ⟨S32x8x1, .f32⟩
  | 93 => ⟨S32x8x4, .f32⟩
  | 94 => ⟨S32x8x4, .f32⟩
  | 95 => ⟨S32x8x4, .f32⟩
  | 96 => ⟨S32x8x1, .f32⟩
  | 97 => ⟨S32x8x4, .f32⟩
  | 98 => ⟨S32x8x4, .f32⟩
  | 99 => ⟨S32x8x4, .f32⟩
  | 100 => ⟨S32x8x4x1, .f32⟩
  | 101 => ⟨S32x8x4x64, .f32⟩
  | 102 => ⟨S32x8x4x64, .f32⟩
  | 103 => ⟨S32x8x1x1, .f32⟩
  | 104 => ⟨S32x8x64x128, .f32⟩
  | 105 => ⟨S32x8x64x128, .f32⟩
  | 106 => ⟨S32x8x64x128, .f32⟩
  | 107 => ⟨S32x8x64x128, .f32⟩
  | 108 => ⟨S32x8x1, .f32⟩
  | 109 => ⟨S32x8x64, .f32⟩
  | 110 => ⟨S32x8x64, .f32⟩
  | 111 => ⟨S_, .f32⟩
  | 112 => ⟨S32x8x64, .f32⟩
  | 113 => ⟨S32x8x64, .f32⟩
  | 114 => ⟨S32x4x8x128, .f32⟩
  | 115 => ⟨S32x4x8x128, .f32⟩
  | 116 => ⟨S_, .f32⟩
  | 117 => ⟨S32x4x8, .f32⟩
  | 118 => ⟨S32x4x8x1, .f32⟩
  | 119 => ⟨S_, .f32⟩
  | 120 => ⟨S32x4x8x1, .f32⟩
  | 121 => ⟨S32x4x8x1, .f32⟩
  | 122 => ⟨S_, .f32⟩
  | 123 => ⟨S32x4x8x1, .f32⟩
  | 124 => ⟨S32x4x8x1, .f32⟩
  | 125 => ⟨S32x4x8x1, .f32⟩
  | 126 => ⟨S32x4x8x128, .f32⟩
  | 127 => ⟨S32x4x8x128, .f32⟩
  | _ => ⟨S33280x3072, .f32⟩

abbrev hbmTy0_1 (i : Nat) : BufTy := match i % 128 with
  | 0 => ⟨S32x4x1024, .f32⟩
  | 1 => ⟨S32x4x1024, .f32⟩
  | 2 => ⟨S1x1x1024, .f32⟩
  | 3 => ⟨S32x4x1024, .f32⟩
  | 4 => ⟨S32x4x1024, .f32⟩
  | 5 => ⟨S32x4x1024, .f32⟩
  | 6 => ⟨S32x4x1024, .f32⟩
  | 7 => ⟨S_, .f32⟩
  | 8 => ⟨S32x4x1024, .f32⟩
  | 9 => ⟨S32x4x1024, .f32⟩
  | 10 => ⟨S_, .f32⟩
  | 11 => ⟨S32x4x1024, .f32⟩
  | 12 => ⟨S32x4x1024, .f32⟩
  | 13 => ⟨S32x4x1024, .f32⟩
  | 14 => ⟨S_, .f32⟩
  | 15 => ⟨S32x124x1024, .f32⟩
  | 16 => ⟨S32x128x1024, .f32⟩
  | 17 => ⟨S32x8x64x1, .f32⟩
  | 18 => ⟨S_, .f32⟩
  | 19 => ⟨S32x8x64x127, .f32⟩
  | 20 => ⟨S32x8x64x256, .f32⟩
  | 21 => ⟨S4096x1024, .f32⟩
  | 22 => ⟨S32x8x1, .f32⟩
  | 23 => ⟨S32x8x128, .f32⟩
  | _ => ⟨S33280x3072, .f32⟩

abbrev hbmTy (i : Nat) : BufTy := match i / 128 with
  | 0 => hbmTy0_0 i
  | 1 => hbmTy0_1 i
  | _ => ⟨S33280x3072, .f32⟩

abbrev bufTy : (tb : Table) → Fin (tcTables nBuf tb) → BufTy
  | .hbm, ⟨i, _⟩ => hbmTy i
  | _, _ => ⟨S33280x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_call0_cst : Ref sig .tc := ⟨.hbm, 26, rfl⟩
abbrev main_call0_call0_v0 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_0 : Ref sig .tc := ⟨.hbm, 37, rfl⟩
abbrev main_call1_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_1 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_2 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_3 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_4 : Ref sig .tc := ⟨.hbm, 116, rfl⟩
abbrev main_v91 : Ref sig .tc := ⟨.hbm, 117, rfl⟩
abbrev main_v92 : Ref sig .tc := ⟨.hbm, 118, rfl⟩
abbrev main_cst_5 : Ref sig .tc := ⟨.hbm, 119, rfl⟩
abbrev main_v93 : Ref sig .tc := ⟨.hbm, 120, rfl⟩
abbrev main_v94 : Ref sig .tc := ⟨.hbm, 121, rfl⟩
abbrev main_cst_6 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_7 : Ref sig .tc := ⟨.hbm, 135, rfl⟩
abbrev main_v107 : Ref sig .tc := ⟨.hbm, 136, rfl⟩
abbrev main_v108 : Ref sig .tc := ⟨.hbm, 137, rfl⟩
abbrev main_cst_8 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_9 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_10 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩

abbrev nD : Nat := 1
abbrev τ : Topo := Topo.v7x

variable {F : FTy → Type} [FloatOps F]
-- ==== Proof.RefRun.lean ====
/- The run of the reference's loop as the iterates of one trip: the generated module's text, with the last field of a
   trip's step closed by the equation itself. -/
module

public import proofs.«01_k».proof.Proof.Gen.ReferenceIdeal.Run
public import proofs.«01_k».proof.Proof.Gen.ReferenceIdeal.Step

@[expose] public section

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v33_6) = s.main_v33_6
  f_7 : V0 (Proc.devRef .tc main_v33_7) = s.main_v33_7
  f_8 : V0 (Proc.devRef .tc main_v33_8) = s.main_v33_8
  f_9 : V0 (Proc.devRef .tc main_v33_9) = s.main_v33_9
  f_0 : V0 (Proc.devRef .tc main_v33_0) = s.main_v33_0
  f_1 : V0 (Proc.devRef .tc main_v33_1) = s.main_v33_1
  f_2 : V0 (Proc.devRef .tc main_v33_2) = s.main_v33_2
  f_3 : V0 (Proc.devRef .tc main_v33_3) = s.main_v33_3
  f_4 : V0 (Proc.devRef .tc main_v33_4) = s.main_v33_4
  n_5 : V0 (Proc.devRef .tc main_v33_5) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call0_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x8x8x64x64 (V0 (Proc.devRef .tc main_v33_0)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x8x64x64_S1x8x8x64x64 : (Proc.devRef .tc main_while0b_call0_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (res_main_while0b_v66 V0 : (Proc.devRef .tc main_while0b_v66 : DevRef τ sig).ty.Contents (Elt F)) = Cert.ReferenceIdeal.Step.b5 j s := by
  unfold res_main_while0b_v66 Cert.ReferenceIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call1_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x8x8x64x64 (V0 (Proc.devRef .tc main_v33_1)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x8x64x64_S1x8x8x64x64 : (Proc.devRef .tc main_while0b_call1_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (res_main_while0b_v67 V0 : (Proc.devRef .tc main_while0b_v67 : DevRef τ sig).ty.Contents (Elt F)) = Cert.ReferenceIdeal.Step.b11 j s := by
  unfold res_main_while0b_v67 Cert.ReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call2_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x8x8x64x128 (V0 (Proc.devRef .tc main_v33_2)) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x8x64x128_S1x8x8x64x128 : (Proc.devRef .tc main_while0b_call2_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (res_main_while0b_v68 V0 : (Proc.devRef .tc main_while0b_v68 : DevRef τ sig).ty.Contents (Elt F)) = Cert.ReferenceIdeal.Step.b17 j s := by
  unfold res_main_while0b_v68 Cert.ReferenceIdeal.Step.b17
  rw [← al_16 h]
  try rfl
set_option maxRecDepth 8192 in
theorem al_18 (h : Holds V0 s j) : (constantI S_ 32 0#32 : (Proc.devRef .tc main_while0b_call3_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call3_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x8x8x64 (V0 (Proc.devRef .tc main_v33_3)) (fun k => (((![V0 (Proc.devRef .tc main_v33_5), constantI S_ 32 0#32, constantI S_ 32 0#32, constantI S_ 32 0#32] : Fin 4 → (⟨S_, .i32⟩ : BufTy).Contents (Elt F))) k (Shape.Idx.first h_S_)).toInt) sliceFits_S64x8x8x64_S1x8x8x64 : (Proc.devRef .tc main_while0b_call3_v0 : DevRef τ sig).ty.Contents (Elt F)) = Cert.ReferenceIdeal.Step.b21 j s := by
  unfold Cert.ReferenceIdeal.Step.b21
  rw [← al_18 h, ← al_19 h, ← al_20 h, h.f_3, h.n_5]
  try rfl
set_option maxRecDepth 8192 in
theorem al_22 (h : Holds V0 s j) : (res_main_while0b_v69 V0 : (Proc.devRef .tc main_while0b_v69 : DevRef τ sig).ty.Contents (Elt F)) = Cert.ReferenceIdeal.Step.b22 j s := by
  unfold res_main_while0b_v69 Cert.ReferenceIdeal.Step.b22
  rw [← al_21 h]
  try rfl
set_option maxRecDepth 8192 in
theorem al_23 (h : Holds V0 s j) : (constantI S_ 32 0#32 : (Proc.devRef .tc main_while0b_call4_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call4_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x8x8x64 (V0 (Proc.devRef .tc main_v33_4)) (fun k => (((![V0 (Proc.devRef .tc main_v33_5), constantI S_ 32 0#32, constantI S_ 32 0#32, constantI S_ 32 0#32] : Fin 4 → (⟨S_, .i32⟩ : BufTy).Contents (Elt F))) k (Shape.Idx.first h_S_)).toInt) sliceFits_S64x8x8x64_S1x8x8x64 : (Proc.devRef .tc main_while0b_call4_v0 : DevRef τ sig).ty.Contents (Elt F)) = Cert.ReferenceIdeal.Step.b26 j s := by
  unfold Cert.ReferenceIdeal.Step.b26
  rw [← al_23 h, ← al_24 h, ← al_25 h, h.f_4, h.n_5]
  try rfl
set_option maxRecDepth 8192 in
theorem al_27 (h : Holds V0 s j) : (shapeCast S8x8x64 (Host.dynamicSlice S1x8x8x64 (V0 (Proc.devRef .tc main_v33_4)) (fun k => (((![V0 (Proc.devRef .tc main_v33_5), constantI S_ 32 0#32, constantI S_ 32 0#32, constantI S_ 32 0#32] : Fin 4 → (⟨S_, .i32⟩ : BufTy).Contents (Elt F))) k (Shape.Idx.first h_S_)).toInt) sliceFits_S64x8x8x64_S1x8x8x64) shapeCasts_S1x8x8x64_S8x8x64 : (Proc.devRef .tc main_while0b_v70 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (constant S_ .f32 0x00000000#32 : (Proc.devRef .tc main_while0b_call5_call0_cst : DevRef τ sig).ty.Contents (Elt F)) = Cert.ReferenceIdeal.Step.b28 j s := by
  unfold Cert.ReferenceIdeal.Step.b28
  rfl
set_option maxRecDepth 8192 in
theorem al_29 (h : Holds V0 s j) : (broadcastInDim S_ ![] bcast_S_S_ (constant S_ .f32 0x00000000#32) : (Proc.devRef .tc main_while0b_call5_call0_v0 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (res_main_while0b_v71 V0 : (Proc.devRef .tc main_while0b_v71 : DevRef τ sig).ty.Contents (Elt F)) = Cert.ReferenceIdeal.Step.b30 j s := by
  unfold res_main_while0b_v71 Cert.ReferenceIdeal.Step.b30
  rw [← al_27 h, ← al_29 h]
  try rfl
set_option maxRecDepth 8192 in
theorem al_31 (h : Holds V0 s j) : (constantI S_ 1 1#1 : (Proc.devRef .tc main_while0b_c_19 : DevRef τ sig).ty.Contents (Elt F)) = Cert.ReferenceIdeal.Step.b31 j s := by
  unfold Cert.ReferenceIdeal.Step.b31
  rfl
set_option maxRecDepth 8192 in
theorem al_32 (h : Holds V0 s j) : (broadcastInDim S64x64 ![] bcast_S_S64x64 (constantI S_ 1 1#1) : (Proc.devRef .tc main_while0b_v72 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (iotaInDim S64x64 32 0 : (Proc.devRef .tc main_while0b_call6_v0 : DevRef τ sig).ty.Contents (Elt F)) = Cert.ReferenceIdeal.Step.b33 j s := by
  unfold Cert.ReferenceIdeal.Step.b33
  rfl
set_option maxRecDepth 8192 in
theorem al_34 (h : Holds V0 s j) : (constantI S_ 32 0#32 : (Proc.devRef .tc main_while0b_call6_c : DevRef τ sig).ty.Contents (Elt F)) = Cert.ReferenceIdeal.Step.b34 j s := by
  unfold Cert.ReferenceIdeal.Step.b34
  rfl
set_option maxRecDepth 8192 in
theorem al_35 (h : Holds V0 s j) : (broadcastInDim S64x64 ![] bcast_S_S64x64 (constantI S_ 32 0#32) : (Proc.devRef .tc main_while0b_call6_v1 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (addi (iotaInDim S64x64 32 0) (broadcastInDim S64x64 ![] bcast_S_S64x64 (constantI S_ 32 0#32)) : (Proc.devRef .tc main_while0b_call6_v2 : DevRef τ sig).ty.Contents (Elt F)) = Cert.ReferenceIdeal.Step.b36 j s := by
  unfold Cert.ReferenceIdeal.Step.b36
  rw [← al_33 h, ← al_35 h]
  try rfl
set_option maxRecDepth 8192 in
theorem al_37 (h : Holds V0 s j) : (iotaInDim S64x64 32 1 : (Proc.devRef .tc main_while0b_call6_v3 : DevRef τ sig).ty.Contents (Elt F)) = Cert.ReferenceIdeal.Step.b37 j s := by
  unfold Cert.ReferenceIdeal.Step.b37
  rfl
set_option maxRecDepth 8192 in
theorem al_38 (h : Holds V0 s j) : (cmpi .sge (addi (iotaInDim S64x64 32 0) (broadcastInDim S64x64 ![] bcast_S_S64x64 (constantI S_ 32 0#32))) (iotaInDim S64x64 32 1) : (Proc.devRef .tc main_while0b_call6_v4 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (constantI S_ 1 0#1 : (Proc.devRef .tc main_while0b_call6_c_0 : DevRef τ sig).ty.Contents (Elt F)) = Cert.ReferenceIdeal.Step.b39 j s := by
  unfold Cert.ReferenceIdeal.Step.b39
  rfl
set_option maxRecDepth 8192 in
theorem al_40 (h : Holds V0 s j) : (broadcastInDim S64x64 ![] bcast_S_S64x64 (constantI S_ 1 0#1) : (Proc.devRef .tc main_while0b_call6_v5 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v73 : DevRef τ sig).ty.Contents (Elt F)) = Cert.ReferenceIdeal.Step.b41 j s := by
  unfold Cert.ReferenceIdeal.Step.b41
  rw [← al_38 h, ← al_32 h, ← al_40 h]
  try rfl
set_option maxRecDepth 8192 in
theorem al_42 (h : Holds V0 s j) : (broadcastInDim S8x8x64x1 ![0, 1, 2] bcast_S8x8x64_S8x8x64x1_0_1_2 (res_main_while0b_v71 V0) : (Proc.devRef .tc main_while0b_v74 : DevRef τ sig).ty.Contents (Elt F)) = Cert.ReferenceIdeal.Step.b42 j s := by
  unfold Cert.ReferenceIdeal.Step.b42
  rw [← al_30 h]
  try rfl
set_option maxRecDepth 8192 in
theorem al_43 (h : Holds V0 s j) : (broadcastInDim S8x8x1x64 ![0, 1, 3] bcast_S8x8x64_S8x8x1x64_0_1_3 (res_main_while0b_v71 V0) : (Proc.devRef .tc main_while0b_v75 : DevRef τ sig).ty.Contents (Elt F)) = Cert.ReferenceIdeal.Step.b43 j s := by
  unfold Cert.ReferenceIdeal.Step.b43
  rw [← al_30 h]
  try rfl
set_option maxRecDepth 8192 in
theorem al_44 (h : Holds V0 s j) : (broadcastInDim S8x8x64x64 ![0, 1, 2, 3] bcast_S8x8x64x1_S8x8x64x64_0_1_2_3 (broadcastInDim S8x8x64x1 ![0, 1, 2] bcast_S8x8x64_S8x8x64x1_0_1_2 (res_main_while0b_v71 V0)) : (Proc.devRef .tc main_while0b_v76 : DevRef τ sig).ty.Contents (Elt F)) = Cert.ReferenceIdeal.Step.b44 j s := by
  unfold Cert.ReferenceIdeal.Step.b44
  rw [← al_42 h]
  try rfl
set_option maxRecDepth 8192 in
theorem al_45 (h : Holds V0 s j) : (broadcastInDim S8x8x64x64 ![0, 1, 2, 3] bcast_S8x8x1x64_S8x8x64x64_0_1_2_3 (broadcastInDim S8x8x1x64 ![0, 1, 3] bcast_S8x8x64_S8x8x1x64_0_1_3 (res_main_while0b_v71 V0)) : (Proc.devRef .tc main_while0b_v77 : DevRef τ sig).ty.Contents (Elt F)) = Cert.ReferenceIdeal.Step.b45 j s := by
  unfold Cert.ReferenceIdeal.Step.b45
  rw [← al_43 h]
  try rfl
set_option maxRecDepth 8192 in
theorem al_46 (h : Holds V0 s j) : (subf (broadcastInDim S8x8x64x64 ![0, 1, 2, 3] bcast_S8x8x64x1_S8x8x64x64_0_1_2_3 (broadcastInDim S8x8x64x1 ![0, 1, 2] bcast_S8x8x64_S8x8x64x1_0_1_2 (res_main_while0b_v71 V0))) (broadcastInDim S8x8x64x64 ![0, 1, 2, 3] bcast_S8x8x1x64_S8x8x64x64_0_1_2_3 (broadcastInDim S8x8x1x64 ![0, 1, 3] bcast_S8x8x64_S8x8x1x64_0_1_3 (res_main_while0b_v71 V0))) : (Proc.devRef .tc main_while0b_v78 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (broadcastInDim S8x8x1x64 ![0, 1, 3] bcast_S8x8x64_S8x8x1x64_0_1_3 (res_main_while0b_v69 V0) : (Proc.devRef .tc main_while0b_v79 : DevRef τ sig).ty.Contents (Elt F)) = Cert.ReferenceIdeal.Step.b47 j s := by
  unfold Cert.ReferenceIdeal.Step.b47
  rw [← al_22 h]
  try rfl
set_option maxRecDepth 8192 in
theorem al_48 (h : Holds V0 s j) : (broadcastInDim S8x8x64x64 ![0, 1, 2, 3] bcast_S8x8x1x64_S8x8x64x64_0_1_2_3 (broadcastInDim S8x8x1x64 ![0, 1, 3] bcast_S8x8x64_S8x8x1x64_0_1_3 (res_main_while0b_v69 V0)) : (Proc.devRef .tc main_while0b_v80 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (addf (subf (broadcastInDim S8x8x64x64 ![0, 1, 2, 3] bcast_S8x8x64x1_S8x8x64x64_0_1_2_3 (broadcastInDim S8x8x64x1 ![0, 1, 2] bcast_S8x8x64_S8x8x64x1_0_1_2 (res_main_while0b_v71 V0))) (broadcastInDim S8x8x64x64 ![0, 1, 2, 3] bcast_S8x8x1x64_S8x8x64x64_0_1_2_3 (broadcastInDim S8x8x1x64 ![0, 1, 3] bcast_S8x8x64_S8x8x1x64_0_1_3 (res_main_while0b_v71 V0)))) (broadcastInDim S8x8x64x64 ![0, 1, 2, 3] bcast_S8x8x1x64_S8x8x64x64_0_1_2_3 (broadcastInDim S8x8x1x64 ![0, 1, 3] bcast_S8x8x64_S8x8x1x64_0_1_3 (res_main_while0b_v69 V0))) : (Proc.devRef .tc main_while0b_v81 : DevRef τ sig).ty.Contents (Elt F)) = Cert.ReferenceIdeal.Step.b49 j s := by
  unfold Cert.ReferenceIdeal.Step.b49
  rw [← al_46 h, ← al_48 h]
  try rfl
set_option maxRecDepth 8192 in
theorem al_50 (h : Holds V0 s j) : (constant S_ .f32 0xFF800000#32 : (Proc.devRef .tc main_while0b_cst_20 : DevRef τ sig).ty.Contents (Elt F)) = Cert.ReferenceIdeal.Step.b50 j s := by
  unfold Cert.ReferenceIdeal.Step.b50
  rfl
set_option maxRecDepth 8192 in
theorem al_51 (h : Holds V0 s j) : (id (constant S_ .f32 0xFF800000#32) : (Proc.devRef .tc main_while0b_call7_v0 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (broadcastInDim S8x8x64x64 ![2, 3] bcast_S64x64_S8x8x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) : (Proc.devRef .tc main_while0b_call7_v1 : DevRef τ sig).ty.Contents (Elt F)) = Cert.ReferenceIdeal.Step.b52 j s := by
  unfold Cert.ReferenceIdeal.Step.b52
  rw [← al_41 h]
  try rfl
set_option maxRecDepth 8192 in
theorem al_53 (h : Holds V0 s j) : (broadcastInDim S8x8x64x64 ![] bcast_S_S8x8x64x64 (id (constant S_ .f32 0xFF800000#32)) : (Proc.devRef .tc main_while0b_call7_v2 : DevRef τ sig).ty.Contents (Elt F)) = Cert.ReferenceIdeal.Step.b53 j s := by
  unfold Cert.ReferenceIdeal.Step.b53
  rw [← al_51 h]
  try rfl
set_option maxRecDepth 8192 in
theorem al_54 (h : Holds V0 s j) : (res_main_while0b_v82 V0 : (Proc.devRef .tc main_while0b_v82 : DevRef τ sig).ty.Contents (Elt F)) = Cert.ReferenceIdeal.Step.b54 j s := by
  unfold res_main_while0b_v82 Cert.ReferenceIdeal.Step.b54
  rw [← al_52 h, ← al_49 h, ← al_53 h]
  try rfl
set_option maxRecDepth 8192 in
theorem al_55 (h : Holds V0 s j) : (broadcastInDim S8x8x1 ![0, 1] bcast_S8x8_S8x8x1_0_1 (V0 (Proc.devRef .tc main_v33_8)) : (Proc.devRef .tc main_while0b_v83 : DevRef τ sig).ty.Contents (Elt F)) = Cert.ReferenceIdeal.Step.b55 j s := by
  unfold Cert.ReferenceIdeal.Step.b55
  rw [h.f_8]
  try rfl
set_option maxRecDepth 8192 in
theorem al_56 (h : Holds V0 s j) : (broadcastInDim S8x8x64 ![0, 1, 2] bcast_S8x8x1_S8x8x64_0_1_2 (broadcastInDim S8x8x1 ![0, 1] bcast_S8x8_S8x8x1_0_1 (V0 (Proc.devRef .tc main_v33_8))) : (Proc.devRef .tc main_while0b_v84 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (res_main_while0b_v85 V0 : (Proc.devRef .tc main_while0b_v85 : DevRef τ sig).ty.Contents (Elt F)) = Cert.ReferenceIdeal.Step.b57 j s := by
  unfold res_main_while0b_v85 Cert.ReferenceIdeal.Step.b57
  rw [← al_30 h, ← al_56 h]
  try rfl
set_option maxRecDepth 8192 in
theorem al_58 (h : Holds V0 s j) : (constant S_ .f32 0xFF800000#32 : (Proc.devRef .tc main_while0b_cst_21 : DevRef τ sig).ty.Contents (Elt F)) = Cert.ReferenceIdeal.Step.b58 j s := by
  unfold Cert.ReferenceIdeal.Step.b58
  rfl
set_option maxRecDepth 8192 in
theorem al_59 (h : Holds V0 s j) : (Host.reduce FloatOps.maximumf (res_main_while0b_v82 V0) (constant S_ .f32 0xFF800000#32) reducesTo_S8x8x64x64_S8x8x64_d3 h_S_ : (Proc.devRef .tc main_while0b_v86 : DevRef τ sig).ty.Contents (Elt F)) = Cert.ReferenceIdeal.Step.b59 j s := by
  unfold Cert.ReferenceIdeal.Step.b59
  rw [← al_54 h, ← al_58 h]
  try rfl
set_option maxRecDepth 8192 in
theorem al_60 (h : Holds V0 s j) : (res_main_while0b_v87 V0 : (Proc.devRef .tc main_while0b_v87 : DevRef τ sig).ty.Contents (Elt F)) = Cert.ReferenceIdeal.Step.b60 j s := by
  unfold res_main_while0b_v87 Cert.ReferenceIdeal.Step.b60
  rw [← al_57 h, ← al_59 h]
  try rfl
set_option maxRecDepth 8192 in
theorem al_61 (h : Holds V0 s j) : (broadcastInDim S8x8x64x1 ![0, 1, 2] bcast_S8x8x64_S8x8x64x1_0_1_2 (res_main_while0b_v87 V0) : (Proc.devRef .tc main_while0b_v88 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (broadcastInDim S8x8x64x64 ![0, 1, 2, 3] bcast_S8x8x64x1_S8x8x64x64_0_1_2_3 (broadcastInDim S8x8x64x1 ![0, 1, 2] bcast_S8x8x64_S8x8x64x1_0_1_2 (res_main_while0b_v87 V0)) : (Proc.devRef .tc main_while0b_v89 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (subf (res_main_while0b_v82 V0) (broadcastInDim S8x8x64x64 ![0, 1, 2, 3] bcast_S8x8x64x1_S8x8x64x64_0_1_2_3 (broadcastInDim S8x8x64x1 ![0, 1, 2] bcast_S8x8x64_S8x8x64x1_0_1_2 (res_main_while0b_v87 V0))) : (Proc.devRef .tc main_while0b_v90 : DevRef τ sig).ty.Contents (Elt F)) = Cert.ReferenceIdeal.Step.b63 j s := by
  unfold Cert.ReferenceIdeal.Step.b63
  rw [← al_54 h, ← al_62 h]
  try rfl
set_option maxRecDepth 8192 in
theorem al_64 (h : Holds V0 s j) : (Host.exp (subf (res_main_while0b_v82 V0) (broadcastInDim S8x8x64x64 ![0, 1, 2, 3] bcast_S8x8x64x1_S8x8x64x64_0_1_2_3 (broadcastInDim S8x8x64x1 ![0, 1, 2] bcast_S8x8x64_S8x8x64x1_0_1_2 (res_main_while0b_v87 V0)))) : (Proc.devRef .tc main_while0b_v91 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (subf (res_main_while0b_v85 V0) (res_main_while0b_v87 V0) : (Proc.devRef .tc main_while0b_v92 : DevRef τ sig).ty.Contents (Elt F)) = Cert.ReferenceIdeal.Step.b65 j s := by
  unfold Cert.ReferenceIdeal.Step.b65
  rw [← al_57 h, ← al_60 h]
  try rfl
set_option maxRecDepth 8192 in
theorem al_66 (h : Holds V0 s j) : (res_main_while0b_v93 V0 : (Proc.devRef .tc main_while0b_v93 : DevRef τ sig).ty.Contents (Elt F)) = Cert.ReferenceIdeal.Step.b66 j s := by
  unfold res_main_while0b_v93 Cert.ReferenceIdeal.Step.b66
  rw [← al_65 h]
  try rfl
set_option maxRecDepth 8192 in
theorem al_67 (h : Holds V0 s j) : (Host.dotGeneral dot_S8x8x64x64_S8x8x64x64_S8x8x64x64_3_3_2_2_01_01 none (res_main_while0b_v66 V0) (res_main_while0b_v67 V0) : (Proc.devRef .tc main_while0b_v94 : DevRef τ sig).ty.Contents (Elt F)) = Cert.ReferenceIdeal.Step.b67 j s := by
  unfold Cert.ReferenceIdeal.Step.b67
  rw [← al_5 h, ← al_11 h]
  try rfl
set_option maxRecDepth 8192 in
theorem al_68 (h : Holds V0 s j) : (res_main_while0b_v95 V0 : (Proc.devRef .tc main_while0b_v95 : DevRef τ sig).ty.Contents (Elt F)) = Cert.ReferenceIdeal.Step.b68 j s := by
  unfold res_main_while0b_v95 Cert.ReferenceIdeal.Step.b68
  rw [← al_67 h, ← al_64 h]
  try rfl
set_option maxRecDepth 8192 in
theorem al_69 (h : Holds V0 s j) : (Host.dotGeneral dot_S8x8x64x64_S8x8x64x128_S8x8x64x128_3_2_2_3_01_01 none (res_main_while0b_v95 V0) (res_main_while0b_v68 V0) : (Proc.devRef .tc main_while0b_v96 : DevRef τ sig).ty.Contents (Elt F)) = Cert.ReferenceIdeal.Step.b69 j s := by
  unfold Cert.ReferenceIdeal.Step.b69
  rw [← al_68 h, ← al_17 h]
  try rfl
set_option maxRecDepth 8192 in
theorem al_70 (h : Holds V0 s j) : (broadcastInDim S8x8x64x1 ![0, 1, 2] bcast_S8x8x64_S8x8x64x1_0_1_2 (res_main_while0b_v93 V0) : (Proc.devRef .tc main_while0b_v97 : DevRef τ sig).ty.Contents (Elt F)) = Cert.ReferenceIdeal.Step.b70 j s := by
  unfold Cert.ReferenceIdeal.Step.b70
  rw [← al_66 h]
  try rfl
set_option maxRecDepth 8192 in
theorem al_71 (h : Holds V0 s j) : (Host.dotGeneral dot_S8x8x64x64_S8x8x64x128_S8x8x64x128_3_2_2_3_01_01 none (res_main_while0b_v66 V0) (V0 (Proc.devRef .tc main_v33_6)) : (Proc.devRef .tc main_while0b_v98 : DevRef τ sig).ty.Contents (Elt F)) = Cert.ReferenceIdeal.Step.b71 j s := by
  unfold Cert.ReferenceIdeal.Step.b71
  rw [← al_5 h, h.f_6]
  try rfl
set_option maxRecDepth 8192 in
theorem al_72 (h : Holds V0 s j) : (broadcastInDim S8x8x64x128 ![0, 1, 2, 3] bcast_S8x8x64x1_S8x8x64x128_0_1_2_3 (broadcastInDim S8x8x64x1 ![0, 1, 2] bcast_S8x8x64_S8x8x64x1_0_1_2 (res_main_while0b_v93 V0)) : (Proc.devRef .tc main_while0b_v99 : DevRef τ sig).ty.Contents (Elt F)) = Cert.ReferenceIdeal.Step.b72 j s := by
  unfold Cert.ReferenceIdeal.Step.b72
  rw [← al_70 h]
  try rfl
set_option maxRecDepth 8192 in
theorem al_73 (h : Holds V0 s j) : (mulf (broadcastInDim S8x8x64x128 ![0, 1, 2, 3] bcast_S8x8x64x1_S8x8x64x128_0_1_2_3 (broadcastInDim S8x8x64x1 ![0, 1, 2] bcast_S8x8x64_S8x8x64x1_0_1_2 (res_main_while0b_v93 V0))) (Host.dotGeneral dot_S8x8x64x64_S8x8x64x128_S8x8x64x128_3_2_2_3_01_01 none (res_main_while0b_v66 V0) (V0 (Proc.devRef .tc main_v33_6))) : (Proc.devRef .tc main_while0b_v100 : DevRef τ sig).ty.Contents (Elt F)) = Cert.ReferenceIdeal.Step.b73 j s := by
  unfold Cert.ReferenceIdeal.Step.b73
  rw [← al_72 h, ← al_71 h]
  try rfl
set_option maxRecDepth 8192 in
theorem al_74 (h : Holds V0 s j) : (addf (Host.dotGeneral dot_S8x8x64x64_S8x8x64x128_S8x8x64x128_3_2_2_3_01_01 none (res_main_while0b_v95 V0) (res_main_while0b_v68 V0)) (mulf (broadcastInDim S8x8x64x128 ![0, 1, 2, 3] bcast_S8x8x64x1_S8x8x64x128_0_1_2_3 (broadcastInDim S8x8x64x1 ![0, 1, 2] bcast_S8x8x64_S8x8x64x1_0_1_2 (res_main_while0b_v93 V0))) (Host.dotGeneral dot_S8x8x64x64_S8x8x64x128_S8x8x64x128_3_2_2_3_01_01 none (res_main_while0b_v66 V0) (V0 (Proc.devRef .tc main_v33_6)))) : (Proc.devRef .tc main_while0b_v101 : DevRef τ sig).ty.Contents (Elt F)) = Cert.ReferenceIdeal.Step.b74 j s := by
  unfold Cert.ReferenceIdeal.Step.b74
  rw [← al_69 h, ← al_73 h]
  try rfl
set_option maxRecDepth 8192 in
theorem al_75 (h : Holds V0 s j) : (constant S_ .f32 0x00000000#32 : (Proc.devRef .tc main_while0b_cst_22 : DevRef τ sig).ty.Contents (Elt F)) = Cert.ReferenceIdeal.Step.b75 j s := by
  unfold Cert.ReferenceIdeal.Step.b75
  rfl
set_option maxRecDepth 8192 in
theorem al_76 (h : Holds V0 s j) : (Host.reduceAdd (res_main_while0b_v95 V0) (constant S_ .f32 0x00000000#32) reducesTo_S8x8x64x64_S8x8x64_d3 h_S_ : (Proc.devRef .tc main_while0b_v102 : DevRef τ sig).ty.Contents (Elt F)) = Cert.ReferenceIdeal.Step.b76 j s := by
  unfold Cert.ReferenceIdeal.Step.b76
  rw [← al_68 h, ← al_75 h]
  try rfl
set_option maxRecDepth 8192 in
theorem al_77 (h : Holds V0 s j) : (Host.dotGeneral dot_S8x8x64x64_S8x8x64_S8x8x64_3_2_2_n_01_01 none (res_main_while0b_v66 V0) (V0 (Proc.devRef .tc main_v33_7)) : (Proc.devRef .tc main_while0b_v103 : DevRef τ sig).ty.Contents (Elt F)) = Cert.ReferenceIdeal.Step.b77 j s := by
  unfold Cert.ReferenceIdeal.Step.b77
  rw [← al_5 h, h.f_7]
  try rfl
set_option maxRecDepth 8192 in
theorem al_78 (h : Holds V0 s j) : (mulf (res_main_while0b_v93 V0) (Host.dotGeneral dot_S8x8x64x64_S8x8x64_S8x8x64_3_2_2_n_01_01 none (res_main_while0b_v66 V0) (V0 (Proc.devRef .tc main_v33_7))) : (Proc.devRef .tc main_while0b_v104 : DevRef τ sig).ty.Contents (Elt F)) = Cert.ReferenceIdeal.Step.b78 j s := by
  unfold Cert.ReferenceIdeal.Step.b78
  rw [← al_66 h, ← al_77 h]
  try rfl
set_option maxRecDepth 8192 in
theorem al_79 (h : Holds V0 s j) : (addf (Host.reduceAdd (res_main_while0b_v95 V0) (constant S_ .f32 0x00000000#32) reducesTo_S8x8x64x64_S8x8x64_d3 h_S_) (mulf (res_main_while0b_v93 V0) (Host.dotGeneral dot_S8x8x64x64_S8x8x64_S8x8x64_3_2_2_n_01_01 none (res_main_while0b_v66 V0) (V0 (Proc.devRef .tc main_v33_7)))) : (Proc.devRef .tc main_while0b_v105 : DevRef τ sig).ty.Contents (Elt F)) = Cert.ReferenceIdeal.Step.b79 j s := by
  unfold Cert.ReferenceIdeal.Step.b79
  rw [← al_76 h, ← al_78 h]
  try rfl
set_option maxRecDepth 8192 in
theorem al_80 (h : Holds V0 s j) : (Host.absf (addf (Host.reduceAdd (res_main_while0b_v95 V0) (constant S_ .f32 0x00000000#32) reducesTo_S8x8x64x64_S8x8x64_d3 h_S_) (mulf (res_main_while0b_v93 V0) (Host.dotGeneral dot_S8x8x64x64_S8x8x64_S8x8x64_3_2_2_n_01_01 none (res_main_while0b_v66 V0) (V0 (Proc.devRef .tc main_v33_7))))) : (Proc.devRef .tc main_while0b_v106 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (Host.negf (res_main_while0b_v87 V0) : (Proc.devRef .tc main_while0b_v107 : DevRef τ sig).ty.Contents (Elt F)) = Cert.ReferenceIdeal.Step.b81 j s := by
  unfold Cert.ReferenceIdeal.Step.b81
  rw [← al_60 h]
  try rfl
set_option maxRecDepth 8192 in
theorem al_82 (h : Holds V0 s j) : (Host.exp (Host.negf (res_main_while0b_v87 V0)) : (Proc.devRef .tc main_while0b_v108 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (maximumf (Host.absf (addf (Host.reduceAdd (res_main_while0b_v95 V0) (constant S_ .f32 0x00000000#32) reducesTo_S8x8x64x64_S8x8x64_d3 h_S_) (mulf (res_main_while0b_v93 V0) (Host.dotGeneral dot_S8x8x64x64_S8x8x64_S8x8x64_3_2_2_n_01_01 none (res_main_while0b_v66 V0) (V0 (Proc.devRef .tc main_v33_7)))))) (Host.exp (Host.negf (res_main_while0b_v87 V0))) : (Proc.devRef .tc main_while0b_v109 : DevRef τ sig).ty.Contents (Elt F)) = Cert.ReferenceIdeal.Step.b83 j s := by
  unfold Cert.ReferenceIdeal.Step.b83
  rw [← al_80 h, ← al_82 h]
  try rfl
set_option maxRecDepth 8192 in
theorem al_84 (h : Holds V0 s j) : (broadcastInDim S8x8x64x1 ![0, 1, 2] bcast_S8x8x64_S8x8x64x1_0_1_2 (maximumf (Host.absf (addf (Host.reduceAdd (res_main_while0b_v95 V0) (constant S_ .f32 0x00000000#32) reducesTo_S8x8x64x64_S8x8x64_d3 h_S_) (mulf (res_main_while0b_v93 V0) (Host.dotGeneral dot_S8x8x64x64_S8x8x64_S8x8x64_3_2_2_n_01_01 none (res_main_while0b_v66 V0) (V0 (Proc.devRef .tc main_v33_7)))))) (Host.exp (Host.negf (res_main_while0b_v87 V0)))) : (Proc.devRef .tc main_while0b_v110 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (broadcastInDim S8x8x64x128 ![0, 1, 2, 3] bcast_S8x8x64x1_S8x8x64x128_0_1_2_3 (broadcastInDim S8x8x64x1 ![0, 1, 2] bcast_S8x8x64_S8x8x64x1_0_1_2 (maximumf (Host.absf (addf (Host.reduceAdd (res_main_while0b_v95 V0) (constant S_ .f32 0x00000000#32) reducesTo_S8x8x64x64_S8x8x64_d3 h_S_) (mulf (res_main_while0b_v93 V0) (Host.dotGeneral dot_S8x8x64x64_S8x8x64_S8x8x64_3_2_2_n_01_01 none (res_main_while0b_v66 V0) (V0 (Proc.devRef .tc main_v33_7)))))) (Host.exp (Host.negf (res_main_while0b_v87 V0))))) : (Proc.devRef .tc main_while0b_v111 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (Host.divf (addf (Host.dotGeneral dot_S8x8x64x64_S8x8x64x128_S8x8x64x128_3_2_2_3_01_01 none (res_main_while0b_v95 V0) (res_main_while0b_v68 V0)) (mulf (broadcastInDim S8x8x64x128 ![0, 1, 2, 3] bcast_S8x8x64x1_S8x8x64x128_0_1_2_3 (broadcastInDim S8x8x64x1 ![0, 1, 2] bcast_S8x8x64_S8x8x64x1_0_1_2 (res_main_while0b_v93 V0))) (Host.dotGeneral dot_S8x8x64x64_S8x8x64x128_S8x8x64x128_3_2_2_3_01_01 none (res_main_while0b_v66 V0) (V0 (Proc.devRef .tc main_v33_6))))) (broadcastInDim S8x8x64x128 ![0, 1, 2, 3] bcast_S8x8x64x1_S8x8x64x128_0_1_2_3 (broadcastInDim S8x8x64x1 ![0, 1, 2] bcast_S8x8x64_S8x8x64x1_0_1_2 (maximumf (Host.absf (addf (Host.reduceAdd (res_main_while0b_v95 V0) (constant S_ .f32 0x00000000#32) reducesTo_S8x8x64x64_S8x8x64_d3 h_S_) (mulf (res_main_while0b_v93 V0) (Host.dotGeneral dot_S8x8x64x64_S8x8x64_S8x8x64_3_2_2_n_01_01 none (res_main_while0b_v66 V0) (V0 (Proc.devRef .tc main_v33_7)))))) (Host.exp (Host.negf (res_main_while0b_v87 V0)))))) : (Proc.devRef .tc main_while0b_v112 : DevRef τ sig).ty.Contents (Elt F)) = Cert.ReferenceIdeal.Step.b86 j s := by
  unfold Cert.ReferenceIdeal.Step.b86
  rw [← al_74 h, ← al_85 h]
  try rfl
set_option maxRecDepth 8192 in
theorem al_87 (h : Holds V0 s j) : (extractStridedSlice S8x8x1 ![0, 0, 63] (res_main_while0b_v87 V0) slices_S8x8x64_S8x8x1_0_0_63 : (Proc.devRef .tc main_while0b_v113 : DevRef τ sig).ty.Contents (Elt F)) = Cert.ReferenceIdeal.Step.b87 j s := by
  unfold Cert.ReferenceIdeal.Step.b87
  rw [← al_60 h]
  try rfl
set_option maxRecDepth 8192 in
theorem al_88 (h : Holds V0 s j) : (res_main_while0b_v114 V0 : (Proc.devRef .tc main_while0b_v114 : DevRef τ sig).ty.Contents (Elt F)) = Cert.ReferenceIdeal.Step.b88 j s := by
  unfold res_main_while0b_v114 Cert.ReferenceIdeal.Step.b88
  rw [← al_87 h]
  try rfl
set_option maxRecDepth 8192 in
theorem al_89 (h : Holds V0 s j) : (extractStridedSlice S8x8x1 ![0, 0, 63] (res_main_while0b_v71 V0) slices_S8x8x64_S8x8x1_0_0_63 : (Proc.devRef .tc main_while0b_v115 : DevRef τ sig).ty.Contents (Elt F)) = Cert.ReferenceIdeal.Step.b89 j s := by
  unfold Cert.ReferenceIdeal.Step.b89
  rw [← al_30 h]
  try rfl
set_option maxRecDepth 8192 in
theorem al_90 (h : Holds V0 s j) : (shapeCast S8x8 (extractStridedSlice S8x8x1 ![0, 0, 63] (res_main_while0b_v71 V0) slices_S8x8x64_S8x8x1_0_0_63) shapeCasts_S8x8x1_S8x8 : (Proc.devRef .tc main_while0b_v116 : DevRef τ sig).ty.Contents (Elt F)) = Cert.ReferenceIdeal.Step.b90 j s := by
  unfold Cert.ReferenceIdeal.Step.b90
  rw [← al_89 h]
  try rfl
set_option maxRecDepth 8192 in
theorem al_91 (h : Holds V0 s j) : (addf (shapeCast S8x8 (extractStridedSlice S8x8x1 ![0, 0, 63] (res_main_while0b_v71 V0) slices_S8x8x64_S8x8x1_0_0_63) shapeCasts_S8x8x1_S8x8) (V0 (Proc.devRef .tc main_v33_8)) : (Proc.devRef .tc main_while0b_v117 : DevRef τ sig).ty.Contents (Elt F)) = Cert.ReferenceIdeal.Step.b91 j s := by
  unfold Cert.ReferenceIdeal.Step.b91
  rw [← al_90 h, h.f_8]
  try rfl
set_option maxRecDepth 8192 in
theorem al_92 (h : Holds V0 s j) : (subf (addf (shapeCast S8x8 (extractStridedSlice S8x8x1 ![0, 0, 63] (res_main_while0b_v71 V0) slices_S8x8x64_S8x8x1_0_0_63) shapeCasts_S8x8x1_S8x8) (V0 (Proc.devRef .tc main_v33_8))) (res_main_while0b_v114 V0) : (Proc.devRef .tc main_while0b_v118 : DevRef τ sig).ty.Contents (Elt F)) = Cert.ReferenceIdeal.Step.b92 j s := by
  unfold Cert.ReferenceIdeal.Step.b92
  rw [← al_91 h, ← al_88 h]
  try rfl
set_option maxRecDepth 8192 in
theorem al_93 (h : Holds V0 s j) : (res_main_while0b_v119 V0 : (Proc.devRef .tc main_while0b_v119 : DevRef τ sig).ty.Contents (Elt F)) = Cert.ReferenceIdeal.Step.b93 j s := by
  unfold res_main_while0b_v119 Cert.ReferenceIdeal.Step.b93
  rw [← al_92 h]
  try rfl
set_option maxRecDepth 8192 in
theorem al_94 (h : Holds V0 s j) : (extractStridedSlice S8x8x1 ![0, 0, 63] (res_main_while0b_v71 V0) slices_S8x8x64_S8x8x1_0_0_63 : (Proc.devRef .tc main_while0b_v120 : DevRef τ sig).ty.Contents (Elt F)) = Cert.ReferenceIdeal.Step.b94 j s := by
  unfold Cert.ReferenceIdeal.Step.b94
  rw [← al_30 h]
  try rfl
set_option maxRecDepth 8192 in
theorem al_95 (h : Holds V0 s j) : (broadcastInDim S8x8x64 ![0, 1, 2] bcast_S8x8x1_S8x8x64_0_1_2 (extractStridedSlice S8x8x1 ![0, 0, 63] (res_main_while0b_v71 V0) slices_S8x8x64_S8x8x1_0_0_63) : (Proc.devRef .tc main_while0b_v121 : DevRef τ sig).ty.Contents (Elt F)) = Cert.ReferenceIdeal.Step.b95 j s := by
  unfold Cert.ReferenceIdeal.Step.b95
  rw [← al_94 h]
  try rfl
set_option maxRecDepth 8192 in
theorem al_96 (h : Holds V0 s j) : (subf (broadcastInDim S8x8x64 ![0, 1, 2] bcast_S8x8x1_S8x8x64_0_1_2 (extractStridedSlice S8x8x1 ![0, 0, 63] (res_main_while0b_v71 V0) slices_S8x8x64_S8x8x1_0_0_63)) (res_main_while0b_v71 V0) : (Proc.devRef .tc main_while0b_v122 : DevRef τ sig).ty.Contents (Elt F)) = Cert.ReferenceIdeal.Step.b96 j s := by
  unfold Cert.ReferenceIdeal.Step.b96
  rw [← al_95 h, ← al_30 h]
  try rfl
set_option maxRecDepth 8192 in
theorem al_97 (h : Holds V0 s j) : (addf (subf (broadcastInDim S8x8x64 ![0, 1, 2] bcast_S8x8x1_S8x8x64_0_1_2 (extractStridedSlice S8x8x1 ![0, 0, 63] (res_main_while0b_v71 V0) slices_S8x8x64_S8x8x1_0_0_63)) (res_main_while0b_v71 V0)) (res_main_while0b_v69 V0) : (Proc.devRef .tc main_while0b_v123 : DevRef τ sig).ty.Contents (Elt F)) = Cert.ReferenceIdeal.Step.b97 j s := by
  unfold Cert.ReferenceIdeal.Step.b97
  rw [← al_96 h, ← al_22 h]
  try rfl
set_option maxRecDepth 8192 in
theorem al_98 (h : Holds V0 s j) : (broadcastInDim S8x8x1 ![0, 1] bcast_S8x8_S8x8x1_0_1 (res_main_while0b_v114 V0) : (Proc.devRef .tc main_while0b_v124 : DevRef τ sig).ty.Contents (Elt F)) = Cert.ReferenceIdeal.Step.b98 j s := by
  unfold Cert.ReferenceIdeal.Step.b98
  rw [← al_88 h]
  try rfl
set_option maxRecDepth 8192 in
theorem al_99 (h : Holds V0 s j) : (broadcastInDim S8x8x64 ![0, 1, 2] bcast_S8x8x1_S8x8x64_0_1_2 (broadcastInDim S8x8x1 ![0, 1] bcast_S8x8_S8x8x1_0_1 (res_main_while0b_v114 V0)) : (Proc.devRef .tc main_while0b_v125 : DevRef τ sig).ty.Contents (Elt F)) = Cert.ReferenceIdeal.Step.b99 j s := by
  unfold Cert.ReferenceIdeal.Step.b99
  rw [← al_98 h]
  try rfl
set_option maxRecDepth 8192 in
theorem al_100 (h : Holds V0 s j) : (subf (addf (subf (broadcastInDim S8x8x64 ![0, 1, 2] bcast_S8x8x1_S8x8x64_0_1_2 (extractStridedSlice S8x8x1 ![0, 0, 63] (res_main_while0b_v71 V0) slices_S8x8x64_S8x8x1_0_0_63)) (res_main_while0b_v71 V0)) (res_main_while0b_v69 V0)) (broadcastInDim S8x8x64 ![0, 1, 2] bcast_S8x8x1_S8x8x64_0_1_2 (broadcastInDim S8x8x1 ![0, 1] bcast_S8x8_S8x8x1_0_1 (res_main_while0b_v114 V0))) : (Proc.devRef .tc main_while0b_v126 : DevRef τ sig).ty.Contents (Elt F)) = Cert.ReferenceIdeal.Step.b100 j s := by
  unfold Cert.ReferenceIdeal.Step.b100
  rw [← al_97 h, ← al_99 h]
  try rfl
set_option maxRecDepth 8192 in
theorem al_101 (h : Holds V0 s j) : (Host.exp (subf (addf (subf (broadcastInDim S8x8x64 ![0, 1, 2] bcast_S8x8x1_S8x8x64_0_1_2 (extractStridedSlice S8x8x1 ![0, 0, 63] (res_main_while0b_v71 V0) slices_S8x8x64_S8x8x1_0_0_63)) (res_main_while0b_v71 V0)) (res_main_while0b_v69 V0)) (broadcastInDim S8x8x64 ![0, 1, 2] bcast_S8x8x1_S8x8x64_0_1_2 (broadcastInDim S8x8x1 ![0, 1] bcast_S8x8_S8x8x1_0_1 (res_main_while0b_v114 V0)))) : (Proc.devRef .tc main_while0b_v127 : DevRef τ sig).ty.Contents (Elt F)) = Cert.ReferenceIdeal.Step.b101 j s := by
  unfold Cert.ReferenceIdeal.Step.b101
  rw [← al_100 h]
  try rfl
set_option maxRecDepth 8192 in
theorem al_102 (h : Holds V0 s j) : (broadcastInDim S8x8x64x1 ![0, 1, 2] bcast_S8x8x64_S8x8x64x1_0_1_2 (Host.exp (subf (addf (subf (broadcastInDim S8x8x64 ![0, 1, 2] bcast_S8x8x1_S8x8x64_0_1_2 (extractStridedSlice S8x8x1 ![0, 0, 63] (res_main_while0b_v71 V0) slices_S8x8x64_S8x8x1_0_0_63)) (res_main_while0b_v71 V0)) (res_main_while0b_v69 V0)) (broadcastInDim S8x8x64 ![0, 1, 2] bcast_S8x8x1_S8x8x64_0_1_2 (broadcastInDim S8x8x1 ![0, 1] bcast_S8x8_S8x8x1_0_1 (res_main_while0b_v114 V0))))) : (Proc.devRef .tc main_while0b_v128 : DevRef τ sig).ty.Contents (Elt F)) = Cert.ReferenceIdeal.Step.b102 j s := by
  unfold Cert.ReferenceIdeal.Step.b102
  rw [← al_101 h]
  try rfl
set_option maxRecDepth 8192 in
theorem al_103 (h : Holds V0 s j) : (broadcastInDim S8x8x64x64 ![0, 1, 2, 3] bcast_S8x8x64x1_S8x8x64x64_0_1_2_3 (broadcastInDim S8x8x64x1 ![0, 1, 2] bcast_S8x8x64_S8x8x64x1_0_1_2 (Host.exp (subf (addf (subf (broadcastInDim S8x8x64 ![0, 1, 2] bcast_S8x8x1_S8x8x64_0_1_2 (extractStridedSlice S8x8x1 ![0, 0, 63] (res_main_while0b_v71 V0) slices_S8x8x64_S8x8x1_0_0_63)) (res_main_while0b_v71 V0)) (res_main_while0b_v69 V0)) (broadcastInDim S8x8x64 ![0, 1, 2] bcast_S8x8x1_S8x8x64_0_1_2 (broadcastInDim S8x8x1 ![0, 1] bcast_S8x8_S8x8x1_0_1 (res_main_while0b_v114 V0)))))) : (Proc.devRef .tc main_while0b_v129 : DevRef τ sig).ty.Contents (Elt F)) = Cert.ReferenceIdeal.Step.b103 j s := by
  unfold Cert.ReferenceIdeal.Step.b103
  rw [← al_102 h]
  try rfl
set_option maxRecDepth 8192 in
theorem al_104 (h : Holds V0 s j) : (res_main_while0b_v130 V0 : (Proc.devRef .tc main_while0b_v130 : DevRef τ sig).ty.Contents (Elt F)) = Cert.ReferenceIdeal.Step.b104 j s := by
  unfold res_main_while0b_v130 Cert.ReferenceIdeal.Step.b104
  rw [← al_103 h, ← al_11 h]
  try rfl
set_option maxRecDepth 8192 in
theorem al_105 (h : Holds V0 s j) : (broadcastInDim S8x8x1x1 ![0, 1] bcast_S8x8_S8x8x1x1_0_1 (res_main_while0b_v119 V0) : (Proc.devRef .tc main_while0b_v131 : DevRef τ sig).ty.Contents (Elt F)) = Cert.ReferenceIdeal.Step.b105 j s := by
  unfold Cert.ReferenceIdeal.Step.b105
  rw [← al_93 h]
  try rfl
set_option maxRecDepth 8192 in
theorem al_106 (h : Holds V0 s j) : (broadcastInDim S8x8x64x128 ![0, 1, 2, 3] bcast_S8x8x1x1_S8x8x64x128_0_1_2_3 (broadcastInDim S8x8x1x1 ![0, 1] bcast_S8x8_S8x8x1x1_0_1 (res_main_while0b_v119 V0)) : (Proc.devRef .tc main_while0b_v132 : DevRef τ sig).ty.Contents (Elt F)) = Cert.ReferenceIdeal.Step.b106 j s := by
  unfold Cert.ReferenceIdeal.Step.b106
  rw [← al_105 h]
  try rfl
set_option maxRecDepth 8192 in
theorem al_107 (h : Holds V0 s j) : (mulf (broadcastInDim S8x8x64x128 ![0, 1, 2, 3] bcast_S8x8x1x1_S8x8x64x128_0_1_2_3 (broadcastInDim S8x8x1x1 ![0, 1] bcast_S8x8_S8x8x1x1_0_1 (res_main_while0b_v119 V0))) (V0 (Proc.devRef .tc main_v33_6)) : (Proc.devRef .tc main_while0b_v133 : DevRef τ sig).ty.Contents (Elt F)) = Cert.ReferenceIdeal.Step.b107 j s := by
  unfold Cert.ReferenceIdeal.Step.b107
  rw [← al_106 h, h.f_6]
  try rfl
set_option maxRecDepth 8192 in
theorem al_108 (h : Holds V0 s j) : (Host.dotGeneral dot_S8x8x64x64_S8x8x64x128_S8x8x64x128_2_2_3_3_01_01 none (res_main_while0b_v130 V0) (res_main_while0b_v68 V0) : (Proc.devRef .tc main_while0b_v134 : DevRef τ sig).ty.Contents (Elt F)) = Cert.ReferenceIdeal.Step.b108 j s := by
  unfold Cert.ReferenceIdeal.Step.b108
  rw [← al_104 h, ← al_17 h]
  try rfl
set_option maxRecDepth 8192 in
theorem al_109 (h : Holds V0 s j) : (addf (mulf (broadcastInDim S8x8x64x128 ![0, 1, 2, 3] bcast_S8x8x1x1_S8x8x64x128_0_1_2_3 (broadcastInDim S8x8x1x1 ![0, 1] bcast_S8x8_S8x8x1x1_0_1 (res_main_while0b_v119 V0))) (V0 (Proc.devRef .tc main_v33_6))) (Host.dotGeneral dot_S8x8x64x64_S8x8x64x128_S8x8x64x128_2_2_3_3_01_01 none (res_main_while0b_v130 V0) (res_main_while0b_v68 V0)) : (Proc.devRef .tc main_while0b_v135 : DevRef τ sig).ty.Contents (Elt F)) = Cert.ReferenceIdeal.Step.b109 j s := by
  unfold Cert.ReferenceIdeal.Step.b109
  rw [← al_107 h, ← al_108 h]
  try rfl
set_option maxRecDepth 8192 in
theorem al_110 (h : Holds V0 s j) : (broadcastInDim S8x8x1 ![0, 1] bcast_S8x8_S8x8x1_0_1 (res_main_while0b_v119 V0) : (Proc.devRef .tc main_while0b_v136 : DevRef τ sig).ty.Contents (Elt F)) = Cert.ReferenceIdeal.Step.b110 j s := by
  unfold Cert.ReferenceIdeal.Step.b110
  rw [← al_93 h]
  try rfl
set_option maxRecDepth 8192 in
theorem al_111 (h : Holds V0 s j) : (broadcastInDim S8x8x64 ![0, 1, 2] bcast_S8x8x1_S8x8x64_0_1_2 (broadcastInDim S8x8x1 ![0, 1] bcast_S8x8_S8x8x1_0_1 (res_main_while0b_v119 V0)) : (Proc.devRef .tc main_while0b_v137 : DevRef τ sig).ty.Contents (Elt F)) = Cert.ReferenceIdeal.Step.b111 j s := by
  unfold Cert.ReferenceIdeal.Step.b111
  rw [← al_110 h]
  try rfl
set_option maxRecDepth 8192 in
theorem al_112 (h : Holds V0 s j) : (mulf (broadcastInDim S8x8x64 ![0, 1, 2] bcast_S8x8x1_S8x8x64_0_1_2 (broadcastInDim S8x8x1 ![0, 1] bcast_S8x8_S8x8x1_0_1 (res_main_while0b_v119 V0))) (V0 (Proc.devRef .tc main_v33_7)) : (Proc.devRef .tc main_while0b_v138 : DevRef τ sig).ty.Contents (Elt F)) = Cert.ReferenceIdeal.Step.b112 j s := by
  unfold Cert.ReferenceIdeal.Step.b112
  rw [← al_111 h, h.f_7]
  try rfl
set_option maxRecDepth 8192 in
theorem al_113 (h : Holds V0 s j) : (constant S_ .f32 0x00000000#32 : (Proc.devRef .tc main_while0b_cst_23 : DevRef τ sig).ty.Contents (Elt F)) = Cert.ReferenceIdeal.Step.b113 j s := by
  unfold Cert.ReferenceIdeal.Step.b113
  rfl
set_option maxRecDepth 8192 in
theorem al_114 (h : Holds V0 s j) : (Host.reduceAdd (res_main_while0b_v130 V0) (constant S_ .f32 0x00000000#32) reducesTo_S8x8x64x64_S8x8x64_d2 h_S_ : (Proc.devRef .tc main_while0b_v139 : DevRef τ sig).ty.Contents (Elt F)) = Cert.ReferenceIdeal.Step.b114 j s := by
  unfold Cert.ReferenceIdeal.Step.b114
  rw [← al_104 h, ← al_113 h]
  try rfl
set_option maxRecDepth 8192 in
theorem al_115 (h : Holds V0 s j) : (addf (mulf (broadcastInDim S8x8x64 ![0, 1, 2] bcast_S8x8x1_S8x8x64_0_1_2 (broadcastInDim S8x8x1 ![0, 1] bcast_S8x8_S8x8x1_0_1 (res_main_while0b_v119 V0))) (V0 (Proc.devRef .tc main_v33_7))) (Host.reduceAdd (res_main_while0b_v130 V0) (constant S_ .f32 0x00000000#32) reducesTo_S8x8x64x64_S8x8x64_d2 h_S_) : (Proc.devRef .tc main_while0b_v140 : DevRef τ sig).ty.Contents (Elt F)) = Cert.ReferenceIdeal.Step.b115 j s := by
  unfold Cert.ReferenceIdeal.Step.b115
  rw [← al_112 h, ← al_114 h]
  try rfl
set_option maxRecDepth 8192 in
theorem al_116 (h : Holds V0 s j) : (broadcastInDim S1x8x8x64x128 ![1, 2, 3, 4] bcast_S8x8x64x128_S1x8x8x64x128_1_2_3_4 (Host.divf (addf (Host.dotGeneral dot_S8x8x64x64_S8x8x64x128_S8x8x64x128_3_2_2_3_01_01 none (res_main_while0b_v95 V0) (res_main_while0b_v68 V0)) (mulf (broadcastInDim S8x8x64x128 ![0, 1, 2, 3] bcast_S8x8x64x1_S8x8x64x128_0_1_2_3 (broadcastInDim S8x8x64x1 ![0, 1, 2] bcast_S8x8x64_S8x8x64x1_0_1_2 (res_main_while0b_v93 V0))) (Host.dotGeneral dot_S8x8x64x64_S8x8x64x128_S8x8x64x128_3_2_2_3_01_01 none (res_main_while0b_v66 V0) (V0 (Proc.devRef .tc main_v33_6))))) (broadcastInDim S8x8x64x128 ![0, 1, 2, 3] bcast_S8x8x64x1_S8x8x64x128_0_1_2_3 (broadcastInDim S8x8x64x1 ![0, 1, 2] bcast_S8x8x64_S8x8x64x1_0_1_2 (maximumf (Host.absf (addf (Host.reduceAdd (res_main_while0b_v95 V0) (constant S_ .f32 0x00000000#32) reducesTo_S8x8x64x64_S8x8x64_d3 h_S_) (mulf (res_main_while0b_v93 V0) (Host.dotGeneral dot_S8x8x64x64_S8x8x64_S8x8x64_3_2_2_n_01_01 none (res_main_while0b_v66 V0) (V0 (Proc.devRef .tc main_v33_7)))))) (Host.exp (Host.negf (res_main_while0b_v87 V0))))))) : (Proc.devRef .tc main_while0b_call8_v0 : DevRef τ sig).ty.Contents (Elt F)) = Cert.ReferenceIdeal.Step.b116 j s := by
  unfold Cert.ReferenceIdeal.Step.b116
  rw [← al_86 h]
  try rfl
set_option maxRecDepth 8192 in
theorem al_117 (h : Holds V0 s j) : (constantI S_ 32 0#32 : (Proc.devRef .tc main_while0b_call8_c : DevRef τ sig).ty.Contents (Elt F)) = Cert.ReferenceIdeal.Step.b117 j s := by
  unfold Cert.ReferenceIdeal.Step.b117
  rfl
set_option maxRecDepth 8192 in
theorem al_118 (h : Holds V0 s j) : (constantI S_ 32 0#32 : (Proc.devRef .tc main_while0b_call8_c_0 : DevRef τ sig).ty.Contents (Elt F)) = Cert.ReferenceIdeal.Step.b118 j s := by
  unfold Cert.ReferenceIdeal.Step.b118
  rfl
set_option maxRecDepth 8192 in
theorem al_119 (h : Holds V0 s j) : (constantI S_ 32 0#32 : (Proc.devRef .tc main_while0b_call8_c_1 : DevRef τ sig).ty.Contents (Elt F)) = Cert.ReferenceIdeal.Step.b119 j s := by
  unfold Cert.ReferenceIdeal.Step.b119
  rfl
set_option maxRecDepth 8192 in
theorem al_120 (h : Holds V0 s j) : (constantI S_ 32 0#32 : (Proc.devRef .tc main_while0b_call8_c_2 : DevRef τ sig).ty.Contents (Elt F)) = Cert.ReferenceIdeal.Step.b120 j s := by
  unfold Cert.ReferenceIdeal.Step.b120
  rfl
set_option maxRecDepth 8192 in
theorem al_121 (h : Holds V0 s j) : (Host.dynamicUpdateSlice (V0 (Proc.devRef .tc main_v33_9)) (broadcastInDim S1x8x8x64x128 ![1, 2, 3, 4] bcast_S8x8x64x128_S1x8x8x64x128_1_2_3_4 (Host.divf (addf (Host.dotGeneral dot_S8x8x64x64_S8x8x64x128_S8x8x64x128_3_2_2_3_01_01 none (res_main_while0b_v95 V0) (res_main_while0b_v68 V0)) (mulf (broadcastInDim S8x8x64x128 ![0, 1, 2, 3] bcast_S8x8x64x1_S8x8x64x128_0_1_2_3 (broadcastInDim S8x8x64x1 ![0, 1, 2] bcast_S8x8x64_S8x8x64x1_0_1_2 (res_main_while0b_v93 V0))) (Host.dotGeneral dot_S8x8x64x64_S8x8x64x128_S8x8x64x128_3_2_2_3_01_01 none (res_main_while0b_v66 V0) (V0 (Proc.devRef .tc main_v33_6))))) (broadcastInDim S8x8x64x128 ![0, 1, 2, 3] bcast_S8x8x64x1_S8x8x64x128_0_1_2_3 (broadcastInDim S8x8x64x1 ![0, 1, 2] bcast_S8x8x64_S8x8x64x1_0_1_2 (maximumf (Host.absf (addf (Host.reduceAdd (res_main_while0b_v95 V0) (constant S_ .f32 0x00000000#32) reducesTo_S8x8x64x64_S8x8x64_d3 h_S_) (mulf (res_main_while0b_v93 V0) (Host.dotGeneral dot_S8x8x64x64_S8x8x64_S8x8x64_3_2_2_n_01_01 none (res_main_while0b_v66 V0) (V0 (Proc.devRef .tc main_v33_7)))))) (Host.exp (Host.negf (res_main_while0b_v87 V0)))))))) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) updateFits_S64x8x8x64x128_S1x8x8x64x128 : (Proc.devRef .tc main_while0b_v141 : DevRef τ sig).ty.Contents (Elt F)) = Cert.ReferenceIdeal.Step.b121 j s := by
  unfold Cert.ReferenceIdeal.Step.b121
  rw [← al_116 h, ← al_117 h, ← al_118 h, ← al_119 h, ← al_120 h, h.f_9, h.n_5]
  try rfl

/-! One trip's step of the carried values is `step`, field by field; a counter steps to the next number. -/

theorem step_6 (h : Holds V0 s j) : step_main_v33_6 V0 = (step j s).main_v33_6 := by
  unfold step_main_v33_6 Cert.ReferenceIdeal.Step.step
  show id (addf (mulf (broadcastInDim S8x8x64x128 ![0, 1, 2, 3] bcast_S8x8x1x1_S8x8x64x128_0_1_2_3 (broadcastInDim S8x8x1x1 ![0, 1] bcast_S8x8_S8x8x1x1_0_1 (res_main_while0b_v119 V0))) (V0 (Proc.devRef .tc main_v33_6))) (Host.dotGeneral dot_S8x8x64x64_S8x8x64x128_S8x8x64x128_2_2_3_3_01_01 none (res_main_while0b_v130 V0) (res_main_while0b_v68 V0))) = _
  rw [al_109 h]
  try rfl
theorem step_7 (h : Holds V0 s j) : step_main_v33_7 V0 = (step j s).main_v33_7 := by
  unfold step_main_v33_7 Cert.ReferenceIdeal.Step.step
  show id (addf (mulf (broadcastInDim S8x8x64 ![0, 1, 2] bcast_S8x8x1_S8x8x64_0_1_2 (broadcastInDim S8x8x1 ![0, 1] bcast_S8x8_S8x8x1_0_1 (res_main_while0b_v119 V0))) (V0 (Proc.devRef .tc main_v33_7))) (Host.reduceAdd (res_main_while0b_v130 V0) (constant S_ .f32 0x00000000#32) reducesTo_S8x8x64x64_S8x8x64_d2 h_S_)) = _
  rw [al_115 h]
  try rfl
theorem step_8 (h : Holds V0 s j) : step_main_v33_8 V0 = (step j s).main_v33_8 := by
  unfold step_main_v33_8 Cert.ReferenceIdeal.Step.step
  show id (res_main_while0b_v114 V0) = _
  rw [al_88 h]
  try rfl
theorem step_9 (h : Holds V0 s j) : step_main_v33_9 V0 = (step j s).main_v33_9 := by
  unfold step_main_v33_9 Cert.ReferenceIdeal.Step.step
  show id (Host.dynamicUpdateSlice (V0 (Proc.devRef .tc main_v33_9)) (broadcastInDim S1x8x8x64x128 ![1, 2, 3, 4] bcast_S8x8x64x128_S1x8x8x64x128_1_2_3_4 (Host.divf (addf (Host.dotGeneral dot_S8x8x64x64_S8x8x64x128_S8x8x64x128_3_2_2_3_01_01 none (res_main_while0b_v95 V0) (res_main_while0b_v68 V0)) (mulf (broadcastInDim S8x8x64x128 ![0, 1, 2, 3] bcast_S8x8x64x1_S8x8x64x128_0_1_2_3 (broadcastInDim S8x8x64x1 ![0, 1, 2] bcast_S8x8x64_S8x8x64x1_0_1_2 (res_main_while0b_v93 V0))) (Host.dotGeneral dot_S8x8x64x64_S8x8x64x128_S8x8x64x128_3_2_2_3_01_01 none (res_main_while0b_v66 V0) (V0 (Proc.devRef .tc main_v33_6))))) (broadcastInDim S8x8x64x128 ![0, 1, 2, 3] bcast_S8x8x64x1_S8x8x64x128_0_1_2_3 (broadcastInDim S8x8x64x1 ![0, 1, 2] bcast_S8x8x64_S8x8x64x1_0_1_2 (maximumf (Host.absf (addf (Host.reduceAdd (res_main_while0b_v95 V0) (constant S_ .f32 0x00000000#32) reducesTo_S8x8x64x64_S8x8x64_d3 h_S_) (mulf (res_main_while0b_v93 V0) (Host.dotGeneral dot_S8x8x64x64_S8x8x64_S8x8x64_3_2_2_n_01_01 none (res_main_while0b_v66 V0) (V0 (Proc.devRef .tc main_v33_7)))))) (Host.exp (Host.negf (res_main_while0b_v87 V0)))))))) (fun k => (((![V0 (Proc.devRef .tc main_v33_5), constantI S_ 32 0#32, constantI S_ 32 0#32, constantI S_ 32 0#32, constantI S_ 32 0#32] : Fin 5 → (⟨S_, .i32⟩ : BufTy).Contents (Elt F))) k (Shape.Idx.first h_S_)).toInt) updateFits_S64x8x8x64x128_S1x8x8x64x128) = _
  exact al_121 h
theorem step_5 (h : Holds V0 s j) : step_main_v33_5 V0 = constantI S_ 32 (BitVec.ofNat 32 (j + 1)) := by
  unfold step_main_v33_5
  rw [h.n_5]
  funext i
  show BitVec.ofNat 32 j + 1#32 = BitVec.ofNat 32 (j + 1)
  simp only [BitVec.ofNat_add]

set_option maxRecDepth 8192 in
theorem out_main_v63_holds (h : Holds V0 s j) {x_main_arg0 : (⟨S33280x3072, .f32⟩ : BufTy).Contents (Elt F)} (h_main_arg0 : V0 (Proc.devRef .tc main_arg0) = x_main_arg0) {x_main_arg2 : (⟨S1024, .f32⟩ : BufTy).Contents (Elt F)} (h_main_arg2 : V0 (Proc.devRef .tc main_arg2) = x_main_arg2) : out_main_v63 V0 = Cert.ReferenceIdeal.Step.R_main_v63 s x_main_arg0 x_main_arg2 := by
  unfold out_main_v63 Cert.ReferenceIdeal.Step.R_main_v63
  rw [h.f_9, h_main_arg0, h_main_arg2]
  try rfl

set_option maxRecDepth 8192 in
theorem out_main_v62_holds (h : Holds V0 s j) : out_main_v62 V0 = Cert.ReferenceIdeal.Step.R_main_v62 s := by
  unfold out_main_v62 Cert.ReferenceIdeal.Step.R_main_v62
  rw [h.f_6, h.f_7]
  try rfl

set_option maxRecDepth 8192 in
theorem out_main_v65_holds (h : Holds V0 s j) : out_main_v65 V0 = Cert.ReferenceIdeal.Step.R_main_v65 s := by
  unfold out_main_v65 Cert.ReferenceIdeal.Step.R_main_v65
  rw [h.f_8]
  try rfl

/-- One trip keeps the valuation holding: `step` of the state, the same set-up values, the next number. -/
theorem holds_step (h : Holds V0 s j) : Holds (STEP V0) (step j s) (j + 1) where
  f_6 := (STEP_main_v33_6 V0).trans (step_6 h)
  f_7 := (STEP_main_v33_7 V0).trans (step_7 h)
  f_8 := (STEP_main_v33_8 V0).trans (step_8 h)
  f_9 := (STEP_main_v33_9 V0).trans (step_9 h)
  n_5 := (STEP_main_v33_5 V0).trans (step_5 h)
  f_0 := (STEP_main_v33_0 V0).trans h.f_0
  f_1 := (STEP_main_v33_1 V0).trans h.f_1
  f_2 := (STEP_main_v33_2 V0).trans h.f_2
  f_3 := (STEP_main_v33_3 V0).trans h.f_3
  f_4 := (STEP_main_v33_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v63) = Cert.ReferenceIdeal.Step.R_main_v63 (it c 64) (m ((c.tc : Thread nD τ).loc main_arg0)) (m ((c.tc : Thread nD τ).loc main_arg2))
      ∧ r.2.mem ((c.tc : Thread nD τ).loc main_v62) = Cert.ReferenceIdeal.Step.R_main_v62 (it c 64)
      ∧ r.2.mem ((c.tc : Thread nD τ).loc main_v65) = Cert.ReferenceIdeal.Step.R_main_v65 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 64
    ⟨(h c).1.trans (out_main_v63_holds hk (iter_main_arg0 m c 64) (iter_main_arg2 m c 64)), (h c).2.1.trans (out_main_v62_holds hk), (h c).2.2.1.trans (out_main_v65_holds hk), (h c).2.2.2.1, (h c).2.2.2.2.1, (h c).2.2.2.2.2⟩) (Value.run m ρ)

end Cert.RefRun

end
-- ==== Proof.Recur.lean ====
/- The stabilised recurrence over the reals, token by token, and what it says of a chunk of tokens starting anywhere:
   the running maximum and the weighted sum after `j` tokens of the chunk, from the cumulative gates inside it. -/
module

public import Mathlib.Analysis.SpecialFunctions.Exp
public import Mathlib.Algebra.BigOperators.Fin
public import Mathlib.Algebra.Order.BigOperators.Group.Finset

@[expose] public section

noncomputable section

namespace Cert.Recur

open scoped BigOperators

/-- The running maximum after `n` tokens, of the forget gates `f` and the input gates `g` (both logarithms). -/
def mx (f g : ℕ → ℝ) : ℕ → ℝ
  | 0 => 0
  | n + 1 => max (f n + mx f g n) (g n)

/-- The stabilised sum after `n` tokens of the contributions `x`. -/
def acc (f g x : ℕ → ℝ) : ℕ → ℝ
  | 0 => 0
  | n + 1 => Real.exp (f n + mx f g n - mx f g (n + 1)) * acc f g x n + Real.exp (g n - mx f g (n + 1)) * x n

/-- The forget gates of the first `j` tokens of the chunk that starts at `T`, added up. -/
def cum (f : ℕ → ℝ) (T j : ℕ) : ℝ := ∑ r ∈ Finset.range j, f (T + r)

variable (f g : ℕ → ℝ)

theorem cum_zero (T : ℕ) : cum f T 0 = 0 := by simp [cum]
theorem cum_succ (T j : ℕ) : cum f T (j + 1) = cum f T j + f (T + j) := by simp [cum, Finset.sum_range_succ]

theorem mx_succ (n : ℕ) : mx f g (n + 1) = max (f n + mx f g n) (g n) := rfl
theorem acc_succ (x : ℕ → ℝ) (n : ℕ) : acc f g x (n + 1)
    = Real.exp (f n + mx f g n - mx f g (n + 1)) * acc f g x n + Real.exp (g n - mx f g (n + 1)) * x n := rfl

theorem carry_le (T j : ℕ) : cum f T j + mx f g T ≤ mx f g (T + j) := by
  induction j with
  | zero => simp [cum_zero]
  | succ j ih =>
    rw [← Nat.add_assoc, mx_succ, cum_succ]
    refine le_max_of_le_left ?_
    linarith

theorem token_le (T j : ℕ) : ∀ s, s < j → cum f T j - cum f T (s + 1) + g (T + s) ≤ mx f g (T + j) := by
  induction j with
  | zero => intro s hs; omega
  | succ j ih =>
    intro s hs
    rw [← Nat.add_assoc, mx_succ, cum_succ]
    by_cases h : s = j
    · subst h
      refine le_max_of_le_right ?_
      rw [cum_succ]; linarith
    · refine le_max_of_le_left ?_
      have := ih s (by omega)
      linarith

theorem attained (T j : ℕ) : mx f g (T + j) = cum f T j + mx f g T
    ∨ ∃ s, s < j ∧ mx f g (T + j) = cum f T j - cum f T (s + 1) + g (T + s) := by
  induction j with
  | zero => left; simp [cum_zero]
  | succ j ih =>
    rw [← Nat.add_assoc, mx_succ]
    rcases le_total (f (T + j) + mx f g (T + j)) (g (T + j)) with h | h
    · right
      refine ⟨j, by omega, ?_⟩
      rw [max_eq_right h]; ring
    · rw [max_eq_left h]
      rcases ih with h1 | ⟨s, hs, h1⟩
      · left; rw [h1, cum_succ]; ring
      · right
        refine ⟨s, by omega, ?_⟩
        rw [h1, cum_succ f T j]; ring

/-- The sum after `j` tokens of a chunk: the carry decayed, and each token of the chunk with its own weight. -/
theorem acc_chunk (x : ℕ → ℝ) (T j : ℕ) : acc f g x (T + j)
    = Real.exp (cum f T j + mx f g T - mx f g (T + j)) * acc f g x T
      + ∑ s ∈ Finset.range j, Real.exp (cum f T j - cum f T (s + 1) + g (T + s) - mx f g (T + j)) * x (T + s) := by
  induction j with
  | zero => simp [cum_zero]
  | succ j ih =>
    rw [← Nat.add_assoc, acc_succ, ih, Finset.sum_range_succ, mul_add, ← mul_assoc, ← Real.exp_add, Finset.mul_sum,
      add_assoc]
    congr 1
    · congr 2
      rw [cum_succ]; ring
    · congr 1
      · refine Finset.sum_congr rfl fun s _ => ?_
        rw [← mul_assoc, ← Real.exp_add]
        congr 2
        rw [cum_succ f T j]; ring
      · congr 2
        ring

/-- The same over the `L` tokens of a chunk, those after token `t` having weight zero. -/
theorem acc_chunk_fin (x : ℕ → ℝ) (T L : ℕ) (t : ℕ) (ht : t < L) : acc f g x (T + (t + 1))
    = Real.exp (cum f T (t + 1) + mx f g T - mx f g (T + (t + 1))) * acc f g x T
      + ∑ s : Fin L, (if s.val ≤ t
          then Real.exp (cum f T (t + 1) - cum f T (s.val + 1) + g (T + s.val) - mx f g (T + (t + 1))) else 0) * x (T + s.val) := by
  rw [acc_chunk]
  congr 1
  rw [Fin.sum_univ_eq_sum_range (fun s => (if s ≤ t
          then Real.exp (cum f T (t + 1) - cum f T (s + 1) + g (T + s) - mx f g (T + (t + 1))) else 0) * x (T + s)) L]
  rw [← Finset.sum_subset (Finset.range_subset_range.2 (show t + 1 ≤ L by omega))]
  · refine Finset.sum_congr rfl fun s hs => ?_
    rw [Finset.mem_range] at hs
    rw [if_pos (by omega)]
  · intro s _ hs
    rw [Finset.mem_range] at hs
    rw [if_neg (by omega), zero_mul]

/-- A query against the state after token `t`, as a chunk computes it: scores inside the chunk against the contributions,
    and the query against the carried state. -/
theorem query_chunk {D : ℕ} (q : Fin D → ℝ) (k : Fin D → ℕ → ℝ) (y : ℕ → ℝ) (T L t : ℕ) (ht : t < L) :
    (∑ s : Fin L, ((∑ d, q d * k d (T + s.val)) * (if s.val ≤ t
          then Real.exp (cum f T (t + 1) - cum f T (s.val + 1) + g (T + s.val) - mx f g (T + (t + 1))) else 0)) * y (T + s.val))
      + Real.exp (cum f T (t + 1) + mx f g T - mx f g (T + (t + 1))) * ∑ d, q d * acc f g (fun n => k d n * y n) T
    = ∑ d, q d * acc f g (fun n => k d n * y n) (T + (t + 1)) := by
  simp_rw [acc_chunk_fin f g _ T L t ht, mul_add, Finset.sum_add_distrib, Finset.mul_sum]
  rw [add_comm]
  congr 1
  · refine Finset.sum_congr rfl fun d _ => ?_
    ring
  · rw [Finset.sum_comm]
    simp_rw [Finset.sum_mul]
    refine Finset.sum_congr rfl fun s _ => Finset.sum_congr rfl fun d _ => ?_
    ring

/-- The state after the whole chunk. -/
theorem state_chunk (k y : ℕ → ℝ) (T L : ℕ) : acc f g (fun n => k n * y n) (T + L)
    = Real.exp (cum f T L + mx f g T - mx f g (T + L)) * acc f g (fun n => k n * y n) T
      + ∑ s : Fin L, (k (T + s.val) * Real.exp (cum f T L - cum f T (s.val + 1) + g (T + s.val) - mx f g (T + L))) * y (T + s.val) := by
  rw [acc_chunk]
  congr 1
  rw [Fin.sum_univ_eq_sum_range (fun s => (k (T + s) * Real.exp (cum f T L - cum f T (s + 1) + g (T + s) - mx f g (T + L))) * y (T + s)) L]
  refine Finset.sum_congr rfl fun s _ => ?_
  ring

end Cert.Recur

end
-- ==== Proof.Chunk.lean ====
/- The chunk's formulas over the extended reals, where the gates, queries, keys and values are real numbers: each is the
   recurrence's real number (Recur). -/
module

public import proofs.«01_k».proof.Proof.Recur
public import Idealize.ShloMosaic.Lib.Pointwise
public import Idealize.ShloMosaic.Lib.IdealHost
public import Idealize.ShloMosaic.Lib.WordCmp

@[expose] public section

noncomputable section

namespace Cert.Chunk

open Idealize.ShloMosaic Cert.Recur
open scoped BigOperators

/-- A finite sum of real numbers is the same sum in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The pattern of one eighth is a real number. -/
theorem eighth : Ideal.ofBits .f32 0x3E000000#32 = (((1 : ℝ) / 8 : ℝ) : EReal) := by
  simp [Ideal.ofBits, Ideal.ieee, -EReal.coe_mul]; norm_num

/-- The pattern of minus infinity. -/
theorem neg_inf : Ideal.ofBits .f32 0xFF800000#32 = ⊥ := by
  simp [Ideal.ofBits, Ideal.ieee]

/-- The pattern of plus infinity. -/
theorem pos_inf : Ideal.ofBits .f32 0x7F800000#32 = ⊤ := by
  simp [Ideal.ofBits, Ideal.ieee]

/-- The causal mask's word: one where the column is not after the row. -/
theorem causal (t u : ℕ) (ht : t < 1024) (hu : u < 1024) :
    IntOp.cmpi .sge (BitVec.ofNat 32 t) (BitVec.ofNat 32 u) = if u ≤ t then 1#1 else 0#1 := by
  simp (disch := omega) only [hlo_ix]
  split
  · next h => simp [h]
  · next h => simp [h]

variable (f g : ℕ → ℝ) (T L : ℕ)

theorem prefix_sum (t : Fin L) (w : Fin L → EReal)
    (hw : ∀ s, w s = if s.val ≤ t.val then ((f (T + s.val) : ℝ) : EReal) else 0) :
    (∑ s : Fin L, w s) = ((cum f T (t.val + 1) : ℝ) : EReal) := by
  have e : ∀ s : Fin L, w s = (((fun n : ℕ => if n ≤ t.val then f (T + n) else 0) s.val : ℝ) : EReal) := by
    intro s; rw [hw s]; dsimp only; split <;> simp
  rw [Finset.sum_congr rfl fun s _ => e s, ← coe_sum, Fin.sum_univ_eq_sum_range (fun n : ℕ => if n ≤ t.val then f (T + n) else 0) L,
    cum, ← Finset.sum_filter]
  congr 1
  refine Finset.sum_congr (Finset.ext fun n => ?_) fun _ _ => rfl
  have := t.isLt
  rw [Finset.mem_filter, Finset.mem_range, Finset.mem_range]
  omega

/-- The logarithm of token `s`'s weight at token `t`, minus infinity for a later token. -/
def dlog (t s : ℕ) : EReal :=
  if s ≤ t then ((cum f T (t + 1) - cum f T (s + 1) + g (T + s) : ℝ) : EReal) else ⊥

/-- Its weight once the maximum is taken off. -/
def wgt (t s : ℕ) : ℝ :=
  if s ≤ t then Real.exp (cum f T (t + 1) - cum f T (s + 1) + g (T + s) - mx f g (T + (t + 1))) else 0

/-- The stabiliser: the larger of the carried one and the largest weight in the chunk. -/
theorem max_chunk (t : Fin L) (w : Fin L → EReal) (hw : ∀ s, w s = dlog f g T t.val s.val) :
    max ((cum f T (t.val + 1) + mx f g T : ℝ) : EReal) (Finset.univ.fold max ⊥ w) = ((mx f g (T + (t.val + 1)) : ℝ) : EReal) := by
  have hsup : Finset.univ.fold max ⊥ w = Finset.univ.sup w := rfl
  rw [hsup]
  apply le_antisymm
  · refine max_le (EReal.coe_le_coe_iff.2 (carry_le f g T _)) (Finset.sup_le fun s _ => ?_)
    rw [hw s, dlog]
    split
    · next h => exact EReal.coe_le_coe_iff.2 (token_le f g T _ s.val (by omega))
    · exact bot_le
  · rcases attained f g T (t.val + 1) with h | ⟨s, hs, h⟩
    · rw [h]; exact le_max_left _ _
    · refine le_max_of_le_right ?_
      have hsL : s < L := by have := t.isLt; omega
      have := Finset.le_sup (f := w) (Finset.mem_univ (⟨s, hsL⟩ : Fin L))
      rw [hw, dlog, if_pos (by show s ≤ t.val; omega)] at this
      rw [h]; exact this

theorem exp_dlog (t s : ℕ) : Ideal.exp (dlog f g T t s - ((mx f g (T + (t + 1)) : ℝ) : EReal)) = ((wgt f g T t s : ℝ) : EReal) := by
  unfold dlog wgt
  split
  · rw [← EReal.coe_sub, Ideal.exp_coe]
  · rw [sub_eq_add_neg, EReal.bot_add, Ideal.exp_bot, EReal.coe_zero]

/-- A query's product with the state after token `t`, as the chunk computes it. -/
theorem query (D : ℕ) (q : Fin D → ℝ) (k : Fin D → ℕ → ℝ) (y : ℕ → ℝ) (t : Fin L) :
    (∑ s : Fin L, ((∑ d, ((q d : ℝ) : EReal) * ((k d (T + s.val) : ℝ) : EReal)) * ((wgt f g T t.val s.val : ℝ) : EReal)) * ((y (T + s.val) : ℝ) : EReal))
      + Ideal.exp (((cum f T (t.val + 1) + mx f g T : ℝ) : EReal) - ((mx f g (T + (t.val + 1)) : ℝ) : EReal))
        * ∑ d, ((q d : ℝ) : EReal) * ((acc f g (fun n => k d n * y n) T : ℝ) : EReal)
    = ((∑ d, q d * acc f g (fun n => k d n * y n) (T + (t.val + 1)) : ℝ) : EReal) := by
  rw [← query_chunk f g q k y T L t.val t.isLt, ← EReal.coe_sub, Ideal.exp_coe]
  simp only [← EReal.coe_mul, ← coe_sum, ← EReal.coe_add]
  rfl

/-- The state after the whole chunk. -/
theorem state (k y : ℕ → ℝ) :
    Ideal.exp (((cum f T L + mx f g T : ℝ) : EReal) - ((mx f g (T + L) : ℝ) : EReal)) * ((acc f g (fun n => k n * y n) T : ℝ) : EReal)
      + (∑ s : Fin L, (((k (T + s.val) : ℝ) : EReal)
          * Ideal.exp ((((cum f T L : ℝ) : EReal) - ((cum f T (s.val + 1) : ℝ) : EReal) + ((g (T + s.val) : ℝ) : EReal)) - ((mx f g (T + L) : ℝ) : EReal)))
          * ((y (T + s.val) : ℝ) : EReal))
    = ((acc f g (fun n => k n * y n) (T + L) : ℝ) : EReal) := by
  rw [state_chunk f g k y T L]
  simp only [← EReal.coe_sub, ← EReal.coe_add, Ideal.exp_coe, ← EReal.coe_mul, ← coe_sum]

end Cert.Chunk

end
-- ==== Proof.Seq.lean ====
/- The real sequences of the recurrence, read off the argument arrays: per batch element and head the queries, keys and
   values by coordinate and the two gates, token by token. -/
module

public import proofs.«01_k».proof.Proof.Chunk

@[expose] public section

noncomputable section

namespace Cert.Seq

open Idealize.ShloMosaic Cert.Recur
open scoped BigOperators

/-- An entry of a matrix as a real number, zero outside the matrix. -/
def rd {R C : ℕ} (X : (⟨2, ![R, C]⟩ : Shape).Idx → EReal) (r c : ℕ) : ℝ :=
  if h : r < R ∧ c < C then (X (ix2 ⟨r, h.1⟩ ⟨c, h.2⟩)).toReal else 0

/-- Where the entry is finite, it is that real number. -/
theorem rd_eq {R C : ℕ} (X : (⟨2, ![R, C]⟩ : Shape).Idx → EReal) (r c : ℕ) (hr : r < R) (hc : c < C)
    (ht : X (ix2 ⟨r, hr⟩ ⟨c, hc⟩) ≠ ⊤) (hb : X (ix2 ⟨r, hr⟩ ⟨c, hc⟩) ≠ ⊥) :
    X (ix2 ⟨r, hr⟩ ⟨c, hc⟩) = ((rd X r c : ℝ) : EReal) := by
  rw [rd, dif_pos ⟨hr, hc⟩, EReal.coe_toReal ht hb]

/-- The projections and the gates are finite where the layer reads them as queries, keys, values and gates. -/
structure Fin' (P : (⟨2, ![33280, 3072]⟩ : Shape).Idx → EReal) (G : (⟨2, ![33280, 128]⟩ : Shape).Idx → EReal) : Prop where
  proj : ∀ (r : ℕ) (c : ℕ) (hr : r < 33280) (hc : c < 3072), r < 32768 → c < 2048 → P (ix2 ⟨r, hr⟩ ⟨c, hc⟩) = ((rd P r c : ℝ) : EReal)
  gate : ∀ (r : ℕ) (c : ℕ) (hr : r < 33280) (hc : c < 128), r < 32768 → c < 16 → G (ix2 ⟨r, hr⟩ ⟨c, hc⟩) = ((rd G r c : ℝ) : EReal)

variable (P : (⟨2, ![33280, 3072]⟩ : Shape).Idx → EReal) (G : (⟨2, ![33280, 128]⟩ : Shape).Idx → EReal)

/-- Query, scaled; key; value; input gate; forget gate: of batch element `b`, head `h`, token `n`. -/
def q (b h d n : ℕ) : ℝ := rd P (b * 4096 + n) (h * 64 + d) * (1 / 8)
def k (b h d n : ℕ) : ℝ := rd P (b * 4096 + n) (512 + (h * 64 + d))
def v (b h e n : ℕ) : ℝ := rd P (b * 4096 + n) (1024 + (h * 128 + e))
def ig (b h n : ℕ) : ℝ := rd G (b * 4096 + n) h
def fg (b h n : ℕ) : ℝ := rd G (b * 4096 + n) (8 + h)

/-- The stabiliser after `n` tokens. -/
def M (b h n : ℕ) : ℝ := mx (fg G b h) (ig G b h) n
/-- The state's row `d` against a contribution `y`, after `n` tokens. -/
def A (b h d : ℕ) (y : ℕ → ℝ) (n : ℕ) : ℝ := acc (fg G b h) (ig G b h) (fun i => k P b h d i * y i) n
/-- Token `n`'s query against the state after it. -/
def Q (b h : ℕ) (y : ℕ → ℝ) (n : ℕ) : ℝ := ∑ d : Fin 64, q P b h d.val n * A P G b h d.val y (n + 1)

/-- The head's output at token `n`, before the normalisation. -/
def H (b h e n : ℕ) : EReal :=
  Ideal.div ((Q P G b h (v P b h e) n : ℝ) : EReal)
    (max (FloatOps.absf (F := Ideal) (φ := .f32) ((Q P G b h (fun _ => 1) n : ℝ) : EReal)) (Ideal.exp (-((M G b h (n + 1) : ℝ) : EReal))))

end Cert.Seq

end
-- ==== Proof.Pre.lean ====
/- The precondition, opened: the projections and the gates are finite where the layer reads them as queries, keys, values
   and gates. -/
module

public import proofs.«01_k».proof.Proof.Seq
public import proofs.«01_k».proof.Pre_finite_rows
public import proofs.«01_k».proof.Proof.Gen.Pre_finite_rows
public import Idealize.ShloMosaic.Lib.Pointwise
public import Idealize.ShloMosaic.Lib.IdealHost
public import Idealize.ShloMosaic.Lib.ReduceAll
public import Idealize.ShloMosaic.Lib.Affine

@[expose] public section

noncomputable section

namespace Cert.Pre

open Idealize.ShloMosaic Cert.Pre_finite_rows

/-- A number whose absolute value is below infinity is neither infinity. -/
theorem finite_of (x : EReal) (h : FloatOps.cmpf (F := Ideal) (φ := .f32) .olt (FloatOps.hostAbsf (F := Ideal) (φ := .f32) x)
    (FloatOps.ofBits (F := Ideal) .f32 0x7F800000#32) = 1#1) : x ≠ ⊤ ∧ x ≠ ⊥ := by
  have h2 : FloatOps.hostAbsf (F := Ideal) (φ := .f32) x < (⊤ : EReal) := by
    by_contra hn
    have e : FloatOps.ofBits (F := Ideal) .f32 0x7F800000#32 = (⊤ : EReal) := Chunk.pos_inf
    rw [e] at h
    change BitVec.ofBool (decide (FloatOps.hostAbsf (F := Ideal) (φ := .f32) x < (⊤ : EReal))) = 1#1 at h
    rw [decide_eq_false hn] at h
    exact absurd h (by decide)
  change max x (-x) < ⊤ at h2
  constructor
  · rintro rfl
    simp at h2
  · rintro rfl
    simp at h2

instance : Subsingleton S_.Idx := ⟨fun a b => funext fun x => x.elim0⟩

theorem fin (P : FVec Ideal S33280x3072 .f32) (G : FVec Ideal S33280x128 .f32) (g : FVec Ideal S1024 .f32)
    (h : fn (F := Ideal) P G g = fun _ => 1#1) : Seq.Fin' P G := by
  have h0 := congrFun h ix0
  unfold fn at h0
  dsimp only at h0
  obtain ⟨hp, hg⟩ := IntOp.andi_eq_one.mp h0
  constructor
  · intro r c hr hc hr' hc'
    have e := Host.reduce_andi_all _ _ _ _ ix0 hp (ix2 ⟨r, hr'⟩ ⟨c, hc'⟩)
    have e' := finite_of (P (ix2 ⟨r, hr⟩ ⟨c, hc⟩)) (by
      refine Eq.trans ?_ e
      have k : extractStridedSlice S32768x2048 ![0, 0] P Facts.slices_S33280x3072_S32768x2048_0_0 (ix2 ⟨r, hr'⟩ ⟨c, hc'⟩) = P (ix2 ⟨r, hr⟩ ⟨c, hc⟩) := by
        pointwise
      rw [← k]
      rfl)
    exact Seq.rd_eq P r c hr hc e'.1 e'.2
  · intro r c hr hc hr' hc'
    have e := Host.reduce_andi_all _ _ _ _ ix0 hg (ix2 ⟨r, hr'⟩ ⟨c, hc'⟩)
    have e' := finite_of (G (ix2 ⟨r, hr⟩ ⟨c, hc⟩)) (by
      refine Eq.trans ?_ e
      have k : extractStridedSlice S32768x16 ![0, 0] G Facts.slices_S33280x128_S32768x16_0_0 (ix2 ⟨r, hr'⟩ ⟨c, hc'⟩) = G (ix2 ⟨r, hr⟩ ⟨c, hc⟩) := by
        pointwise
      rw [← k]
      rfl)
    exact Seq.rd_eq G r c hr hc e'.1 e'.2

end Cert.Pre

end
-- ==== Proof.Head.lean ====
/- One head of the kernel's step at a chunk of 256 tokens: its three stored blocks read at an index, where the gates, queries,
   keys, values and the carried state are the recurrence's real numbers. The eight heads' stored blocks are the same functions of
   their slices. -/
module

public import proofs.«01_k».proof.Proof.Gen.KernelIdeal.Skeleton
public import proofs.«01_k».proof.Proof.Chunk

@[expose] public section

set_option maxRecDepth 16384

noncomputable section

namespace Cert.Head

open Idealize.ShloMosaic Idealize.ShloMosaic.TcCoe Idealize.SL.Sem
open Cert.KernelIdeal Cert.KernelIdeal.Gen Cert.Recur
open scoped BigOperators

/-- The causal mask's word, the column's number first. -/
theorem causal' (t u : ℕ) (ht : t < 1024) (hu : u < 1024) :
    IntOp.cmpi .sle (BitVec.ofNat 32 u) (BitVec.ofNat 32 t) = if u ≤ t then 1#1 else 0#1 := by
  simp (disch := omega) only [hlo_ix]
  split
  · next h => simp [h]
  · next h => simp [h]

/-- The mask's constant is minus infinity. -/
theorem mask_bot : (Named.named Cert.KernelIdeal.κ "mask" 0xF149F2CA#32 : Ideal .f32) = ⊥ := by
  rfl

/-- The running maximum's column. -/
def mt (bc : FVec Ideal S256x1 .f32) (br ig : FVec Ideal S1x256 .f32) (mp : FVec Ideal S1x1 .f32) : FVec Ideal S256x1 .f32 :=
  k0_pay33 k0_pay8 bc br ig mp

/-- The stored maximum. -/
def mNew (bc : FVec Ideal S256x1 .f32) (br ig : FVec Ideal S1x256 .f32) (mp : FVec Ideal S1x1 .f32) : FVec Ideal S1x128 .f32 :=
  k0_pay46 (k0_pay41 (mt bc br ig mp))

/-- The stored state. -/
def cNew (bc : FVec Ideal S256x1 .f32) (br ig : FVec Ideal S1x256 .f32) (mp : FVec Ideal S1x1 .f32) (k : FVec Ideal S1x64x256 .f32)
    (v : FVec Ideal S256x128 .f32) (c : FVec Ideal S1x64x256 .f32) : FVec Ideal S1x64x256 .f32 :=
  k0_pay26 bc br ig mp (mt bc br ig mp) (k0_pay20 k) (k0_pay21 k0_pay11 v) (k0_pay22 c)

/-- The queries' products with the state: 128 numerators, the denominator at 128. -/
def nd (bc : FVec Ideal S256x1 .f32) (br ig : FVec Ideal S1x256 .f32) (mp : FVec Ideal S1x1 .f32) (q : FVec Ideal S256x64 .f32)
    (k : FVec Ideal S1x64x256 .f32) (v : FVec Ideal S256x128 .f32) (c : FVec Ideal S1x64x256 .f32) : FVec Ideal S256x256 .f32 :=
  k0_pay37 k0_pay8 k0_pay11 bc br ig mp q k v c

/-- The stored output. -/
def out (bc : FVec Ideal S256x1 .f32) (br ig : FVec Ideal S1x256 .f32) (mp : FVec Ideal S1x1 .f32) (q : FVec Ideal S256x64 .f32)
    (k : FVec Ideal S1x64x256 .f32) (v : FVec Ideal S256x128 .f32) (c : FVec Ideal S1x64x256 .f32) (o : FVec Ideal S256x128 .f32)
    (gn : FVec Ideal S1x128 .f32) : FVec Ideal S256x128 .f32 :=
  k0_pay40 (mt bc br ig mp) (k0_pay38 k0_pay8 k0_pay11 bc br ig mp q k v c) (k0_pay39 k0_pay8 k0_pay11 bc br ig mp q k v c)
    (FloatOps.ofBits FTy.f32 0#32) o gn

/-- The value row with its column of ones. -/
def vx (v : ℕ → ℕ → ℝ) (l n : ℕ) : ℝ := if l < 128 then v l n else if l - 128 < 1 then 1 else 0

/-- A row of 128 numbers normalised by its root mean square, with the constant added to the mean. -/
def normed (x : Fin 128 → EReal) (e : Fin 128) : EReal :=
  x e * Ideal.rsqrt (Ideal.div (∑ i : Fin 128, x i * x i) (Ideal.ofBits .f32 0x43000000#32) + Ideal.ofBits .f32 0x358637BD#32)

/-- The head's output at token `n`, lane `e`, before the normalisation. -/
def hid (f g : ℕ → ℝ) (qq kk vv : ℕ → ℕ → ℝ) (n e : ℕ) : EReal :=
  Ideal.div ((∑ d : Fin 64, qq d.val n * acc f g (fun i => kk d.val i * vv e i) (n + 1) : ℝ) : EReal)
    (max (FloatOps.absf (F := Ideal) (φ := .f32) ((∑ d : Fin 64, qq d.val n * acc f g (fun i => kk d.val i * 1) (n + 1) : ℝ) : EReal))
      (Ideal.exp (-((mx f g (n + 1) : ℝ) : EReal))))

/-- The head's arrays are the recurrence's real numbers at the chunk that starts at token `T`. -/
structure Ok (f g : ℕ → ℝ) (qq kk vv : ℕ → ℕ → ℝ) (T : ℕ) (bc : FVec Ideal S256x1 .f32) (br ig : FVec Ideal S1x256 .f32)
    (mp : FVec Ideal S1x1 .f32) (q : FVec Ideal S256x64 .f32) (k : FVec Ideal S1x64x256 .f32) (v : FVec Ideal S256x128 .f32)
    (c : FVec Ideal S1x64x256 .f32) : Prop where
  bc : ∀ t : Fin 256, bc (ix2 t 0) = ((cum f T (t.val + 1) : ℝ) : EReal)
  br : ∀ s : Fin 256, br (ix2 0 s) = ((cum f T (s.val + 1) : ℝ) : EReal)
  ig : ∀ s : Fin 256, ig (ix2 0 s) = ((g (T + s.val) : ℝ) : EReal)
  mp : mp (ix2 0 0) = ((mx f g T : ℝ) : EReal)
  q : ∀ (t : Fin 256) (d : Fin 64), q (ix2 t d) * (((1 : ℝ) / 8 : ℝ) : EReal) = ((qq d.val (T + t.val) : ℝ) : EReal)
  k : ∀ (d : Fin 64) (s : Fin 256), k (ix3 0 d s) = ((kk d.val (T + s.val) : ℝ) : EReal)
  v : ∀ (s : Fin 256) (e : Fin 128), v (ix2 s e) = ((vv e.val (T + s.val) : ℝ) : EReal)
  c : ∀ (d : Fin 64) (l : Fin 256), c (ix3 0 d l) = ((acc f g (fun n => kk d.val n * vx vv l.val n) T : ℝ) : EReal)

/-- The kernel's extended value row is the real one. -/
theorem vx_eq (vv : ℕ → ℕ → ℝ) (l n : ℕ) (hl : l < 256) (p : EReal)
    (hp : l < 128 → p = ((vv l n : ℝ) : EReal)) (hp' : ¬ l < 128 → p = FloatOps.sitofp (F := Ideal) .f32
      (BitVec.setWidth 32 (IntOp.cmpi CmpIPredicate.eq (BitVec.ofNat 32 (l - 128)) 0#32))) :
    p = ((vx vv l n : ℝ) : EReal) := by
  unfold vx
  split
  · next h => exact hp h
  · next h =>
    rw [hp' h]
    split
    · next h2 =>
      have : l - 128 = 0 := by omega
      rw [this]
      show (((1 : ℤ) : ℝ) : EReal) = _
      simp
    · next h2 =>
      have : IntOp.cmpi CmpIPredicate.eq (BitVec.ofNat 32 (l - 128)) 0#32 = 0#1 := by
        have hne : BitVec.ofNat 32 (l - 128) ≠ 0#32 := by
          intro h
          have := congrArg BitVec.toNat h
          simp at this
          omega
        show BitVec.ofBool (BitVec.ofNat 32 (l - 128) == 0#32) = 0#1
        rw [beq_eq_false_iff_ne.2 hne]
        rfl
      rw [this]
      show (((0 : ℤ) : ℝ) : EReal) = _
      simp

section
variable {f g : ℕ → ℝ} {qq kk vv : ℕ → ℕ → ℝ} {T : ℕ} {bc : FVec Ideal S256x1 .f32} {br ig : FVec Ideal S1x256 .f32}
    {mp : FVec Ideal S1x1 .f32} {q : FVec Ideal S256x64 .f32} {k : FVec Ideal S1x64x256 .f32} {v : FVec Ideal S256x128 .f32}
    {c : FVec Ideal S1x64x256 .f32} (I : Ok f g qq kk vv T bc br ig mp q k v c)

theorem mask_at (t s : Fin 256) : k0_pay8 (ix2 t s) = if s.val ≤ t.val then 1#1 else 0#1 := by
  pointwise [k0_pay8]
  exact causal' t.val s.val (by omega) (by omega)

include I

theorem dlog_at (t s : Fin 256) : k0_pay31 k0_pay8 bc br ig (ix2 t s) = Chunk.dlog f g T t.val s.val := by
  pointwise [k0_pay31, mask_at, I.bc, I.br, I.ig, mask_bot]
  unfold Chunk.dlog Scalar.select
  by_cases h : s.val ≤ t.val
  · simp [h]
  · simp [h]

theorem mt_at (t : Fin 256) : mt bc br ig mp (ix2 t 0) = ((mx f g (T + (t.val + 1)) : ℝ) : EReal) := by
  pointwise [mt, k0_pay33, k0_pay32, dlog_at I, I.bc, I.mp]
  rw [Chunk.neg_inf, ← EReal.coe_add]
  exact Chunk.max_chunk f g T 256 t _ fun _ => rfl

theorem mNew_at (l : Fin 128) : mNew bc br ig mp (ix2 0 l) = ((mx f g (T + 256) : ℝ) : EReal) := by
  pointwise [mNew, k0_pay46, k0_pay41, mt_at I]

theorem cNew_at (d : Fin 64) (l : Fin 256) : cNew bc br ig mp k v c (ix3 0 d l)
    = ((acc f g (fun n => kk d.val n * vx vv l.val n) (T + 256) : ℝ) : EReal) := by
  pointwise [cNew, k0_pay26, k0_pay25, k0_pay20, k0_pay21, k0_pay11, k0_pay22, mt_at I, I.bc, I.br, I.ig, I.mp, I.k, I.v, I.c]
  refine Eq.trans (congrArg₂ (· + ·) ?_ (Finset.sum_congr rfl fun x _ => congrArg₂ (· * ·) rfl ?_))
    (Chunk.state f g T 256 (kk d.val) (vx vv l.val))
  · rw [EReal.coe_add]
  · exact vx_eq vv l.val _ l.isLt _ (fun h => dif_pos h) (fun h => dif_neg h)

theorem nd_at (t l : Fin 256) : nd bc br ig mp q k v c (ix2 t l)
    = ((∑ d : Fin 64, qq d.val (T + t.val) * acc f g (fun n => kk d.val n * vx vv l.val n) (T + (t.val + 1)) : ℝ) : EReal) := by
  have e : ∀ t, k0_pay33 k0_pay8 bc br ig mp (ix2 t 0) = ((mx f g (T + (t.val + 1)) : ℝ) : EReal) := mt_at I
  pointwise [nd, k0_pay37, k0_pay34, k0_pay35, k0_pay36, k0_pay11, e, dlog_at I, k0_pay32, I.bc, I.mp, I.q, I.k, I.v, I.c, Chunk.eighth]
  refine Eq.trans (congrArg₂ (· + ·) (Finset.sum_congr rfl fun x _ => congrArg₂ (· * ·) (congrArg₂ (· * ·) rfl ?_) ?_) (congrArg₂ (· * ·) ?_ rfl))
    (Chunk.query f g T 256 64 (fun d => qq d.val (T + t.val)) (fun d => kk d.val) (vx vv l.val) t)
  · exact Chunk.exp_dlog f g T t.val x.val
  · exact vx_eq vv l.val _ l.isLt _ (fun h => dif_pos h) (fun h => dif_neg h)
  · rw [EReal.coe_add]

theorem out_at (o : FVec Ideal S256x128 .f32) (gn : FVec Ideal S1x128 .f32) (t : Fin 256) (e : Fin 128) :
    out bc br ig mp q k v c o gn (ix2 t e)
      = normed (fun i => hid f g qq kk vv (T + t.val) i.val) e * gn (ix2 0 e) * Ideal.div 1 (1 + Ideal.exp (-(o (ix2 t e)))) := by
  have h1 : ∀ (t : Fin 256) (e : Fin 128), k0_pay38 k0_pay8 k0_pay11 bc br ig mp q k v c (ix2 t e)
      = ((∑ d : Fin 64, qq d.val (T + t.val) * acc f g (fun n => kk d.val n * vv e.val n) (T + (t.val + 1)) : ℝ) : EReal) := by
    intro t e
    have : k0_pay38 k0_pay8 k0_pay11 bc br ig mp q k v c (ix2 t e) = nd bc br ig mp q k v c (ix2 t ⟨e.val, by omega⟩) := by
      pointwise [k0_pay38, nd]
    rw [this, nd_at I]
    have hv : vx vv e.val = vv e.val := by
      funext n
      exact if_pos e.isLt
    show ((∑ d : Fin 64, qq d.val (T + t.val) * acc f g (fun n => kk d.val n * vx vv e.val n) (T + (t.val + 1)) : ℝ) : EReal) = _
    rw [hv]
  have h2 : ∀ (t : Fin 256), k0_pay39 k0_pay8 k0_pay11 bc br ig mp q k v c (ix2 t 0)
      = FloatOps.absf (F := Ideal) (φ := .f32) ((∑ d : Fin 64, qq d.val (T + t.val) * acc f g (fun n => kk d.val n * 1) (T + (t.val + 1)) : ℝ) : EReal) := by
    intro t
    have : k0_pay39 k0_pay8 k0_pay11 bc br ig mp q k v c (ix2 t 0) = FloatOps.absf (nd bc br ig mp q k v c (ix2 t ⟨128, by omega⟩)) := by
      pointwise [k0_pay39, nd]
    rw [this, nd_at I]
    rfl
  have h3 : ∀ x : EReal, (0 : EReal) - x = -x := fun x => zero_sub x
  pointwise [out, k0_pay40, h1, h2, mt_at I]
  simp only [h3, normed, hid, mul_one]
  rfl

/-- The stored blocks at any index of the stored block. -/
theorem mNew_idx (x : S1x128.Idx) : mNew bc br ig mp x = ((mx f g (T + 256) : ℝ) : EReal) := by
  have e : x = ix2 0 (x 1) := by
    rw [← ix2_eta (n0 := 1) (n1 := 128) x]
    congr 1
    exact Subsingleton.elim (α := Fin 1) _ _
  rw [e]
  exact mNew_at I _

theorem cNew_idx (x : S1x64x256.Idx) : cNew bc br ig mp k v c x
    = ((acc f g (fun n => kk (x 1).val n * vx vv (x 2).val n) (T + 256) : ℝ) : EReal) := by
  have e : x = ix3 0 (x 1) (x 2) := by
    rw [← ix3_eta (n0 := 1) (n1 := 64) (n2 := 256) x]
    congr 1
    exact Subsingleton.elim (α := Fin 1) _ _
  rw [e]
  exact cNew_at I _ _

theorem out_idx (o : FVec Ideal S256x128 .f32) (gn : FVec Ideal S1x128 .f32) (x : S256x128.Idx) :
    out bc br ig mp q k v c o gn x
      = normed (fun i => hid f g qq kk vv (T + (x 0).val) i.val) (x 1) * gn (ix2 0 (x 1)) * Ideal.div 1 (1 + Ideal.exp (-(o x))) := by
  have e : x = ix2 (x 0) (x 1) := (ix2_eta (n0 := 256) (n1 := 128) x).symm
  rw [e]
  exact out_at I o gn _ _

end

end Cert.Head

end
-- ==== Proof.Step.lean ====
/- One grid point of the kernel: from the blocks of the arguments and the scratch before the point, the three arrays stored. -/
module

public import proofs.«01_k».proof.Proof.Head
public import proofs.«01_k».proof.Proof.Seq
public import Idealize.ShloMosaic.Lib.Pipeline.ValueKit

@[expose] public section

set_option maxRecDepth 16384

noncomputable section

namespace Cert.Step

open Idealize.ShloMosaic Idealize.ShloMosaic.TcCoe Idealize.SL.Sem
open Cert.KernelIdeal Cert.KernelIdeal.Gen Cert.Recur Cert.Head
open scoped BigOperators

/-- The blocks of the point of batch element `b` whose chunk starts at token `T`, read off the arguments. -/
structure Blk (P : (⟨2, ![33280, 3072]⟩ : Shape).Idx → EReal) (G : (⟨2, ![33280, 128]⟩ : Shape).Idx → EReal) (b T : ℕ)
    (x0 : FVec Ideal S256x512 .f32) (x1 : FVec Ideal S1x512x256 .f32) (x2 : FVec Ideal S256x1024 .f32)
    (x4 : FVec Ideal S256x128 .f32) (x5 : FVec Ideal S1x16x256 .f32) : Prop where
  x0 : ∀ (t : Fin 256) (c : Fin 512), x0 (ix2 t c) = ((Seq.rd P (b * 4096 + (T + t.val)) c.val : ℝ) : EReal)
  x1 : ∀ (c : Fin 512) (s : Fin 256), x1 (ix3 0 c s) = ((Seq.rd P (b * 4096 + (T + s.val)) (512 + c.val) : ℝ) : EReal)
  x2 : ∀ (s : Fin 256) (c : Fin 1024), x2 (ix2 s c) = ((Seq.rd P (b * 4096 + (T + s.val)) (1024 + c.val) : ℝ) : EReal)
  x4 : ∀ (s : Fin 256) (c : Fin 16), x4 (ix2 s ⟨c.val, by omega⟩) = ((Seq.rd G (b * 4096 + (T + s.val)) c.val : ℝ) : EReal)
  x5 : ∀ (c : Fin 16) (s : Fin 256), x5 (ix3 0 c s) = ((Seq.rd G (b * 4096 + (T + s.val)) c.val : ℝ) : EReal)

/-- The scratch holds the recurrence's state and stabiliser at token `T`. -/
structure Scr (P : (⟨2, ![33280, 3072]⟩ : Shape).Idx → EReal) (G : (⟨2, ![33280, 128]⟩ : Shape).Idx → EReal) (b T : ℕ)
    (xs0 : FVec Ideal S8x64x256 .f32) (xs1 : FVec Ideal S8x128 .f32) : Prop where
  c : ∀ (h : Fin 8) (d : Fin 64) (l : Fin 256), xs0 (ix3 h d l)
      = ((Seq.A P G b h.val d.val (vx (Seq.v P b h.val) l.val) T : ℝ) : EReal)
  m : ∀ (h : Fin 8) (l : Fin 128), xs1 (ix2 h l) = ((Seq.M G b h.val T : ℝ) : EReal)

section
variable {P : (⟨2, ![33280, 3072]⟩ : Shape).Idx → EReal} {G : (⟨2, ![33280, 128]⟩ : Shape).Idx → EReal} {b T : ℕ}
    {x0 : FVec Ideal S256x512 .f32} {x1 : FVec Ideal S1x512x256 .f32} {x2 : FVec Ideal S256x1024 .f32}
    {x4 : FVec Ideal S256x128 .f32} {x5 : FVec Ideal S1x16x256 .f32}
    {xs0 : FVec Ideal S8x64x256 .f32} {xs1 : FVec Ideal S8x128 .f32}
    (B : Blk P G b T x0 x1 x2 x4 x5) (S : Scr P G b T xs0 xs1)

include B in
theorem gate_at (c : Fin 16) (s : Fin 256) : k0_pay7 (F := Ideal) x5 (ix2 c s) = ((Seq.rd G (b * 4096 + (T + s.val)) c.val : ℝ) : EReal) := by
  pointwise [k0_pay7, B.x5]

theorem word_one : FloatOps.sitofp (F := Ideal) .f32 (BitVec.setWidth 32 1#1) = (1 : EReal) := by
  show (((1 : ℤ) : ℝ) : EReal) = _
  simp

theorem word_zero : FloatOps.sitofp (F := Ideal) .f32 (BitVec.setWidth 32 0#1) = (0 : EReal) := by
  show (((0 : ℤ) : ℝ) : EReal) = _
  simp

include B in
theorem col_at (t : Fin 256) (h : Fin 8) : k0_pay9 (F := Ideal) x4 (ix2 t ⟨8 + h.val, by omega⟩)
    = ((cum (Seq.fg G b h.val) T (t.val + 1) : ℝ) : EReal) := by
  pointwise [k0_pay9, mask_at]
  refine Chunk.prefix_sum (Seq.fg G b h.val) T 256 t _ fun s => ?_
  rw [B.x4 s ⟨8 + h.val, by omega⟩]
  split
  · rw [word_one, one_mul]; rfl
  · rw [word_zero, zero_mul]

include B in
theorem row_at (t : Fin 256) (h : Fin 8) : k0_pay10 (F := Ideal) x5 (ix2 ⟨8 + h.val, by omega⟩ t)
    = ((cum (Seq.fg G b h.val) T (t.val + 1) : ℝ) : EReal) := by
  pointwise [k0_pay10, gate_at B]
  refine Chunk.prefix_sum (Seq.fg G b h.val) T 256 t _ fun s => ?_
  rw [causal' t.val s.val (by omega) (by omega)]
  split
  · rw [word_one, mul_one]; rfl
  · rw [word_zero, mul_zero]

include B S in
/-- Slices of the point's blocks at head `h` are the head's arrays. -/
theorem ok (h : Fin 8) {bc : FVec Ideal S256x1 .f32} {br ig : FVec Ideal S1x256 .f32}
    {mp : FVec Ideal S1x1 .f32} {q : FVec Ideal S256x64 .f32} {k : FVec Ideal S1x64x256 .f32} {v : FVec Ideal S256x128 .f32}
    {c : FVec Ideal S1x64x256 .f32}
    (hbc : ∀ t : Fin 256, bc (ix2 t 0) = k0_pay9 x4 (ix2 t ⟨8 + h.val, by omega⟩))
    (hbr : ∀ s : Fin 256, br (ix2 0 s) = k0_pay10 x5 (ix2 ⟨8 + h.val, by omega⟩ s))
    (hig : ∀ s : Fin 256, ig (ix2 0 s) = k0_pay7 x5 (ix2 ⟨h.val, by omega⟩ s))
    (hmp : mp (ix2 0 0) = xs1 (ix2 h 0))
    (hq : ∀ (t : Fin 256) (d : Fin 64), q (ix2 t d) = x0 (ix2 t ⟨h.val * 64 + d.val, by omega⟩))
    (hk : ∀ (d : Fin 64) (s : Fin 256), k (ix3 0 d s) = x1 (ix3 0 ⟨h.val * 64 + d.val, by omega⟩ s))
    (hv : ∀ (s : Fin 256) (e : Fin 128), v (ix2 s e) = x2 (ix2 s ⟨h.val * 128 + e.val, by omega⟩))
    (hc : ∀ (d : Fin 64) (l : Fin 256), c (ix3 0 d l) = xs0 (ix3 h d l)) :
    Ok (Seq.fg G b h.val) (Seq.ig G b h.val) (Seq.q P b h.val) (Seq.k P b h.val) (Seq.v P b h.val) T bc br ig mp q k v c where
  bc t := (hbc t).trans (col_at B t h)
  br s := (hbr s).trans (row_at B s h)
  ig s := (hig s).trans (gate_at B _ s)
  mp := hmp.trans (S.m h 0)
  q t d := by rw [hq, B.x0, ← EReal.coe_mul]; rfl
  k d s := by rw [hk, B.x1]; rfl
  v s e := by rw [hv, B.x2]; rfl
  c d l := by rw [hc, S.c]; rfl

include B S in
theorem ok0 : Ok (Seq.fg G b 0) (Seq.ig G b 0) (Seq.q P b 0) (Seq.k P b 0) (Seq.v P b 0) T (k0_pay12 x4) (k0_pay13 x5) (k0_pay14 x5)
    (View.ld (Val := Elt Ideal) (e' := .f32) xs1 (Rect.unit (s := S8x128) ![0, 0] ![1, 1] inb_S8x128_S1x1_0_0))
    (View.ld (Val := Elt Ideal) (e' := .f32) x0 (Rect.unit (s := S256x512) ![0, 0] ![256, 64] inb_S256x512_S256x64_0_0))
    (View.ld (Val := Elt Ideal) (e' := .f32) x1 (Rect.unit (s := S1x512x256) ![0, 0, 0] ![1, 64, 256] inb_S1x512x256_S1x64x256_0_0_0))
    (View.ld (Val := Elt Ideal) (e' := .f32) x2 (Rect.unit (s := S256x1024) ![0, 0] ![256, 128] inb_S256x1024_S256x128_0_0))
    (View.ld (Val := Elt Ideal) (e' := .f32) xs0 (Rect.unit (s := S8x64x256) ![0, 0, 0] ![1, 64, 256] inb_S8x64x256_S1x64x256_0_0_0)) :=
  ok B S ⟨0, by omega⟩ (fun t => by pointwise [k0_pay12]) (fun s => by pointwise [k0_pay13]) (fun s => by pointwise [k0_pay14])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

include B S in
theorem ok1 : Ok (Seq.fg G b 1) (Seq.ig G b 1) (Seq.q P b 1) (Seq.k P b 1) (Seq.v P b 1) T (k0_pay28 (k0_pay9 x4)) (k0_pay29 (k0_pay10 x5)) (k0_pay30 (k0_pay7 x5))
    (View.ld (Val := Elt Ideal) (e' := .f32) xs1 (Rect.unit (s := S8x128) ![1, 0] ![1, 1] inb_S8x128_S1x1_1_0))
    (View.ld (Val := Elt Ideal) (e' := .f32) x0 (Rect.unit (s := S256x512) ![0, 64] ![256, 64] inb_S256x512_S256x64_0_64))
    (View.ld (Val := Elt Ideal) (e' := .f32) x1 (Rect.unit (s := S1x512x256) ![0, 64, 0] ![1, 64, 256] inb_S1x512x256_S1x64x256_0_64_0))
    (View.ld (Val := Elt Ideal) (e' := .f32) x2 (Rect.unit (s := S256x1024) ![0, 128] ![256, 128] inb_S256x1024_S256x128_0_128))
    (View.ld (Val := Elt Ideal) (e' := .f32) xs0 (Rect.unit (s := S8x64x256) ![1, 0, 0] ![1, 64, 256] inb_S8x64x256_S1x64x256_1_0_0)) :=
  ok B S ⟨1, by omega⟩ (fun t => by pointwise [k0_pay28]) (fun s => by pointwise [k0_pay29]) (fun s => by pointwise [k0_pay30])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

include B S in
theorem ok2 : Ok (Seq.fg G b 2) (Seq.ig G b 2) (Seq.q P b 2) (Seq.k P b 2) (Seq.v P b 2) T (k0_pay47 (k0_pay9 x4)) (k0_pay48 (k0_pay10 x5)) (k0_pay49 (k0_pay7 x5))
    (View.ld (Val := Elt Ideal) (e' := .f32) xs1 (Rect.unit (s := S8x128) ![2, 0] ![1, 1] inb_S8x128_S1x1_2_0))
    (View.ld (Val := Elt Ideal) (e' := .f32) x0 (Rect.unit (s := S256x512) ![0, 128] ![256, 64] inb_S256x512_S256x64_0_128))
    (View.ld (Val := Elt Ideal) (e' := .f32) x1 (Rect.unit (s := S1x512x256) ![0, 128, 0] ![1, 64, 256] inb_S1x512x256_S1x64x256_0_128_0))
    (View.ld (Val := Elt Ideal) (e' := .f32) x2 (Rect.unit (s := S256x1024) ![0, 256] ![256, 128] inb_S256x1024_S256x128_0_256))
    (View.ld (Val := Elt Ideal) (e' := .f32) xs0 (Rect.unit (s := S8x64x256) ![2, 0, 0] ![1, 64, 256] inb_S8x64x256_S1x64x256_2_0_0)) :=
  ok B S ⟨2, by omega⟩ (fun t => by pointwise [k0_pay47]) (fun s => by pointwise [k0_pay48]) (fun s => by pointwise [k0_pay49])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

include B S in
theorem ok3 : Ok (Seq.fg G b 3) (Seq.ig G b 3) (Seq.q P b 3) (Seq.k P b 3) (Seq.v P b 3) T (k0_pay64 (k0_pay9 x4)) (k0_pay65 (k0_pay10 x5)) (k0_pay66 (k0_pay7 x5))
    (View.ld (Val := Elt Ideal) (e' := .f32) xs1 (Rect.unit (s := S8x128) ![3, 0] ![1, 1] inb_S8x128_S1x1_3_0))
    (View.ld (Val := Elt Ideal) (e' := .f32) x0 (Rect.unit (s := S256x512) ![0, 192] ![256, 64] inb_S256x512_S256x64_0_192))
    (View.ld (Val := Elt Ideal) (e' := .f32) x1 (Rect.unit (s := S1x512x256) ![0, 192, 0] ![1, 64, 256] inb_S1x512x256_S1x64x256_0_192_0))
    (View.ld (Val := Elt Ideal) (e' := .f32) x2 (Rect.unit (s := S256x1024) ![0, 384] ![256, 128] inb_S256x1024_S256x128_0_384))
    (View.ld (Val := Elt Ideal) (e' := .f32) xs0 (Rect.unit (s := S8x64x256) ![3, 0, 0] ![1, 64, 256] inb_S8x64x256_S1x64x256_3_0_0)) :=
  ok B S ⟨3, by omega⟩ (fun t => by pointwise [k0_pay64]) (fun s => by pointwise [k0_pay65]) (fun s => by pointwise [k0_pay66])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

include B S in
theorem ok4 : Ok (Seq.fg G b 4) (Seq.ig G b 4) (Seq.q P b 4) (Seq.k P b 4) (Seq.v P b 4) T (k0_pay80 (k0_pay9 x4)) (k0_pay81 (k0_pay10 x5)) (k0_pay82 (k0_pay7 x5))
    (View.ld (Val := Elt Ideal) (e' := .f32) xs1 (Rect.unit (s := S8x128) ![4, 0] ![1, 1] inb_S8x128_S1x1_4_0))
    (View.ld (Val := Elt Ideal) (e' := .f32) x0 (Rect.unit (s := S256x512) ![0, 256] ![256, 64] inb_S256x512_S256x64_0_256))
    (View.ld (Val := Elt Ideal) (e' := .f32) x1 (Rect.unit (s := S1x512x256) ![0, 256, 0] ![1, 64, 256] inb_S1x512x256_S1x64x256_0_256_0))
    (View.ld (Val := Elt Ideal) (e' := .f32) x2 (Rect.unit (s := S256x1024) ![0, 512] ![256, 128] inb_S256x1024_S256x128_0_512))
    (View.ld (Val := Elt Ideal) (e' := .f32) xs0 (Rect.unit (s := S8x64x256) ![4, 0, 0] ![1, 64, 256] inb_S8x64x256_S1x64x256_4_0_0)) :=
  ok B S ⟨4, by omega⟩ (fun t => by pointwise [k0_pay80]) (fun s => by pointwise [k0_pay81]) (fun s => by pointwise [k0_pay82])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

include B S in
theorem ok5 : Ok (Seq.fg G b 5) (Seq.ig G b 5) (Seq.q P b 5) (Seq.k P b 5) (Seq.v P b 5) T (k0_pay98 (k0_pay9 x4)) (k0_pay99 (k0_pay10 x5)) (k0_pay100 (k0_pay7 x5))
    (View.ld (Val := Elt Ideal) (e' := .f32) xs1 (Rect.unit (s := S8x128) ![5, 0] ![1, 1] inb_S8x128_S1x1_5_0))
    (View.ld (Val := Elt Ideal) (e' := .f32) x0 (Rect.unit (s := S256x512) ![0, 320] ![256, 64] inb_S256x512_S256x64_0_320))
    (View.ld (Val := Elt Ideal) (e' := .f32) x1 (Rect.unit (s := S1x512x256) ![0, 320, 0] ![1, 64, 256] inb_S1x512x256_S1x64x256_0_320_0))
    (View.ld (Val := Elt Ideal) (e' := .f32) x2 (Rect.unit (s := S256x1024) ![0, 640] ![256, 128] inb_S256x1024_S256x128_0_640))
    (View.ld (Val := Elt Ideal) (e' := .f32) xs0 (Rect.unit (s := S8x64x256) ![5, 0, 0] ![1, 64, 256] inb_S8x64x256_S1x64x256_5_0_0)) :=
  ok B S ⟨5, by omega⟩ (fun t => by pointwise [k0_pay98]) (fun s => by pointwise [k0_pay99]) (fun s => by pointwise [k0_pay100])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

include B S in
theorem ok6 : Ok (Seq.fg G b 6) (Seq.ig G b 6) (Seq.q P b 6) (Seq.k P b 6) (Seq.v P b 6) T (k0_pay116 (k0_pay9 x4)) (k0_pay117 (k0_pay10 x5)) (k0_pay118 (k0_pay7 x5))
    (View.ld (Val := Elt Ideal) (e' := .f32) xs1 (Rect.unit (s := S8x128) ![6, 0] ![1, 1] inb_S8x128_S1x1_6_0))
    (View.ld (Val := Elt Ideal) (e' := .f32) x0 (Rect.unit (s := S256x512) ![0, 384] ![256, 64] inb_S256x512_S256x64_0_384))
    (View.ld (Val := Elt Ideal) (e' := .f32) x1 (Rect.unit (s := S1x512x256) ![0, 384, 0] ![1, 64, 256] inb_S1x512x256_S1x64x256_0_384_0))
    (View.ld (Val := Elt Ideal) (e' := .f32) x2 (Rect.unit (s := S256x1024) ![0, 768] ![256, 128] inb_S256x1024_S256x128_0_768))
    (View.ld (Val := Elt Ideal) (e' := .f32) xs0 (Rect.unit (s := S8x64x256) ![6, 0, 0] ![1, 64, 256] inb_S8x64x256_S1x64x256_6_0_0)) :=
  ok B S ⟨6, by omega⟩ (fun t => by pointwise [k0_pay116]) (fun s => by pointwise [k0_pay117]) (fun s => by pointwise [k0_pay118])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

include B S in
theorem ok7 : Ok (Seq.fg G b 7) (Seq.ig G b 7) (Seq.q P b 7) (Seq.k P b 7) (Seq.v P b 7) T (k0_pay134 (k0_pay9 x4)) (k0_pay135 (k0_pay10 x5)) (k0_pay136 (k0_pay7 x5))
    (View.ld (Val := Elt Ideal) (e' := .f32) xs1 (Rect.unit (s := S8x128) ![7, 0] ![1, 1] inb_S8x128_S1x1_7_0))
    (View.ld (Val := Elt Ideal) (e' := .f32) x0 (Rect.unit (s := S256x512) ![0, 448] ![256, 64] inb_S256x512_S256x64_0_448))
    (View.ld (Val := Elt Ideal) (e' := .f32) x1 (Rect.unit (s := S1x512x256) ![0, 448, 0] ![1, 64, 256] inb_S1x512x256_S1x64x256_0_448_0))
    (View.ld (Val := Elt Ideal) (e' := .f32) x2 (Rect.unit (s := S256x1024) ![0, 896] ![256, 128] inb_S256x1024_S256x128_0_896))
    (View.ld (Val := Elt Ideal) (e' := .f32) xs0 (Rect.unit (s := S8x64x256) ![7, 0, 0] ![1, 64, 256] inb_S8x64x256_S1x64x256_7_0_0)) :=
  ok B S ⟨7, by omega⟩ (fun t => by pointwise [k0_pay134]) (fun s => by pointwise [k0_pay135]) (fun s => by pointwise [k0_pay136])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

end

end Cert.Step

end
-- ==== Proof.Blocks.lean ====
/- The blocks of a grid point, read off the arguments: the projections and the gates at the point's 256 tokens, the
   transposed keys and gates the host prepares, the zero state and the gain. -/
module

public import proofs.«01_k».proof.Proof.Step
public import proofs.«01_k».proof.Proof.Gen.KernelIdeal.Value

@[expose] public section

set_option maxRecDepth 16384

noncomputable section

namespace Cert.Blocks

open Idealize.ShloMosaic Idealize.ShloMosaic.TcCoe Idealize.SL.Sem
open Cert.KernelIdeal Cert.KernelIdeal.Gen Cert.Recur Cert.Head Cert.Step
open scoped BigOperators

variable (m : (ℓ : Loc nD τ sig) → Buf (Elt Ideal) ℓ) (c : Dev nD)

abbrev P : (⟨2, ![33280, 3072]⟩ : Shape).Idx → EReal := m ((c : Thread nD τ).loc main_arg0)
abbrev G : (⟨2, ![33280, 128]⟩ : Shape).Idx → EReal := m ((c : Thread nD τ).loc main_arg1)
abbrev gain : (⟨1, ![1024]⟩ : Shape).Idx → EReal := m ((c : Thread nD τ).loc main_arg2)

/-- Each window's block index at a point. -/
theorem idx : ∀ t : Fin cfg0.N, win0_0.index t = ![t.val, 0] ∧ win0_1.index t = ![t.val / 16, 0, t.val % 16]
    ∧ win0_2.index t = ![t.val, 1] ∧ win0_3.index t = ![t.val, 2] ∧ win0_4.index t = ![t.val, 0]
    ∧ win0_5.index t = ![t.val / 16, 0, t.val % 16] ∧ win0_6.index t = ![t.val / 16, 0, 0, 0]
    ∧ win0_7.index t = ![t.val / 16, 0, 0] ∧ win0_8.index t = ![0, 0] := by decide +kernel

theorem kt_at (b : Fin 8) (d : Fin 512) (n : Fin 4096) :
    (V m c main_v2 : FVec Ideal S8x512x4096 .f32) (ix3 b d n) = P m c (ix2 ⟨b.val * 4096 + n.val, by omega⟩ ⟨512 + d.val, by omega⟩) := by
  entry_read
  pointwise

theorem gt_at (b : Fin 8) (d : Fin 16) (n : Fin 4096) :
    (V m c main_v5 : FVec Ideal S8x16x4096 .f32) (ix3 b d n) = G m c (ix2 ⟨b.val * 4096 + n.val, by omega⟩ ⟨d.val, by omega⟩) := by
  entry_read
  pointwise

theorem blk0 (t : Fin cfg0.N) (i : Fin 256) (j : Fin 512) : (iblk m c 0 t : FVec Ideal S256x512 .f32) (ix2 i j)
    = P m c (ix2 ⟨t.val * 256 + i.val, by have := lt_of_lt_of_eq t.isLt N_0; omega⟩ ⟨j.val, by omega⟩) := by
  blk_point [iblk, V, idx t]

theorem blk2 (t : Fin cfg0.N) (i : Fin 256) (j : Fin 1024) : (iblk m c 2 t : FVec Ideal S256x1024 .f32) (ix2 i j)
    = P m c (ix2 ⟨t.val * 256 + i.val, by have := lt_of_lt_of_eq t.isLt N_0; omega⟩ ⟨1024 + j.val, by omega⟩) := by
  blk_point [iblk, V, idx t]

theorem blk3 (t : Fin cfg0.N) (i : Fin 256) (j : Fin 1024) : (iblk m c 3 t : FVec Ideal S256x1024 .f32) (ix2 i j)
    = P m c (ix2 ⟨t.val * 256 + i.val, by have := lt_of_lt_of_eq t.isLt N_0; omega⟩ ⟨2048 + j.val, by omega⟩) := by
  blk_point [iblk, V, idx t]

theorem blk4 (t : Fin cfg0.N) (i : Fin 256) (j : Fin 128) : (iblk m c 4 t : FVec Ideal S256x128 .f32) (ix2 i j)
    = G m c (ix2 ⟨t.val * 256 + i.val, by have := lt_of_lt_of_eq t.isLt N_0; omega⟩ ⟨j.val, by omega⟩) := by
  blk_point [iblk, V, idx t]

theorem blk1 (t : Fin cfg0.N) (d : Fin 512) (s : Fin 256) : (iblk m c 1 t : FVec Ideal S1x512x256 .f32) (ix3 0 d s)
    = (V m c main_v2 : FVec Ideal S8x512x4096 .f32) (ix3 ⟨t.val / 16, by have := lt_of_lt_of_eq t.isLt N_0; omega⟩ d
        ⟨t.val % 16 * 256 + s.val, by have := lt_of_lt_of_eq t.isLt N_0; omega⟩) := by
  blk_ext [iblk, idx t]

theorem blk5 (t : Fin cfg0.N) (d : Fin 16) (s : Fin 256) : (iblk m c 5 t : FVec Ideal S1x16x256 .f32) (ix3 0 d s)
    = (V m c main_v5 : FVec Ideal S8x16x4096 .f32) (ix3 ⟨t.val / 16, by have := lt_of_lt_of_eq t.isLt N_0; omega⟩ d
        ⟨t.val % 16 * 256 + s.val, by have := lt_of_lt_of_eq t.isLt N_0; omega⟩) := by
  blk_ext [iblk, idx t]

theorem blk6 (t : Fin cfg0.N) (h : Fin 8) (d : Fin 64) (l : Fin 256) : (iblk m c 6 t : FVec Ideal S1x8x64x256 .f32) (ix4 0 h d l) = (0 : EReal) := by
  have e : (iblk m c 6 t : FVec Ideal S1x8x64x256 .f32) (ix4 0 h d l) = (V m c main_v6 : FVec Ideal S8x8x64x256 .f32)
      (ix4 ⟨t.val / 16, by have := lt_of_lt_of_eq t.isLt N_0; omega⟩ h d l) := by blk_ext [iblk, idx t]
  rw [e]
  entry_read
  pointwise

theorem blk7 (t : Fin cfg0.N) (h : Fin 8) (l : Fin 128) : (iblk m c 7 t : FVec Ideal S1x8x128 .f32) (ix3 0 h l) = (0 : EReal) := by
  have e : (iblk m c 7 t : FVec Ideal S1x8x128 .f32) (ix3 0 h l) = (V m c main_v7 : FVec Ideal S8x8x128 .f32)
      (ix3 ⟨t.val / 16, by have := lt_of_lt_of_eq t.isLt N_0; omega⟩ h l) := by blk_ext [iblk, idx t]
  rw [e]
  entry_read
  pointwise

theorem blk8 (t : Fin cfg0.N) (l : Fin 1024) : (iblk m c 8 t : FVec Ideal S1x1024 .f32) (ix2 0 l) = gain m c (ix1 l) := by
  have e : (iblk m c 8 t : FVec Ideal S1x1024 .f32) (ix2 0 l) = (V m c main_v8 : FVec Ideal S1x1024 .f32) (ix2 0 l) := by blk_ext [iblk, idx t]
  rw [e]
  entry_read
  pointwise

end Cert.Blocks

end
-- ==== Proof.PointB.lean ====
/- A middle point of the sweep: its three stored arrays read at an index. -/
module

public import proofs.«01_k».proof.Proof.Step
public import proofs.«01_k».proof.Proof.Gen.KernelIdeal.Frame

@[expose] public section

set_option maxRecDepth 16384

noncomputable section

namespace Cert.PointB

open Idealize.ShloMosaic Idealize.ShloMosaic.TcCoe Idealize.SL.Sem
open Cert.KernelIdeal Cert.KernelIdeal.Gen Cert.Recur Cert.Head Cert.Step
open scoped BigOperators

variable {P : (⟨2, ![33280, 3072]⟩ : Shape).Idx → EReal} {G : (⟨2, ![33280, 128]⟩ : Shape).Idx → EReal} {b T : ℕ}

theorem m_at (c : Dev nD) (i : grid0.Coords) (arg2 : Memref sig .tc .vmem S256x512 .f32) (harg2 : arg2.IsWhole) (arg3 : Memref sig .tc .vmem S1x512x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x16x256 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : ¬cond0_0 i) (hc1 : ¬cond0_1 i)
    (x0 : Vec Ideal S256x512 .f32) (x1 : Vec Ideal S1x512x256 .f32) (x2 : Vec Ideal S256x1024 .f32) (x3 : Vec Ideal S256x1024 .f32) (x4 : Vec Ideal S256x128 .f32) (x5 : Vec Ideal S1x16x256 .f32) (x6 : Vec Ideal S1x8x64x256 .f32) (x7 : Vec Ideal S1x8x128 .f32) (x8 : Vec Ideal S1x1024 .f32) (xs0 : Vec Ideal S8x64x256 .f32) (xs1 : Vec Ideal S8x128 .f32) (B : Blk P G b T x0 x1 x2 x4 x5) (S : Scr P G b T xs0 xs1) (h : Fin 8) (l : Fin 128) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 (ix2 h l) = ((Seq.M G b h.val (T + 256) : ℝ) : EReal) := by
  frame_out
  canon_tiles x hx
  case piece0 =>
    have e : h.val = 7 := by change h.val = _ at hx0; omega
    rw [e]
    exact mNew_idx (ok7 B S) x
  case piece1 =>
    have e : h.val = 6 := by change h.val = _ at hx0; omega
    rw [e]
    exact mNew_idx (ok6 B S) x
  case piece2 =>
    have e : h.val = 5 := by change h.val = _ at hx0; omega
    rw [e]
    exact mNew_idx (ok5 B S) x
  case piece3 =>
    have e : h.val = 4 := by change h.val = _ at hx0; omega
    rw [e]
    exact mNew_idx (ok4 B S) x
  case piece4 =>
    have e : h.val = 3 := by change h.val = _ at hx0; omega
    rw [e]
    exact mNew_idx (ok3 B S) x
  case piece5 =>
    have e : h.val = 2 := by change h.val = _ at hx0; omega
    rw [e]
    exact mNew_idx (ok2 B S) x
  case piece6 =>
    have e : h.val = 1 := by change h.val = _ at hx0; omega
    rw [e]
    exact mNew_idx (ok1 B S) x
  case piece7 =>
    have e : h.val = 0 := by change h.val = _ at hx0; omega
    rw [e]
    exact mNew_idx (ok0 B S) x

theorem c_at (c : Dev nD) (i : grid0.Coords) (arg2 : Memref sig .tc .vmem S256x512 .f32) (harg2 : arg2.IsWhole) (arg3 : Memref sig .tc .vmem S1x512x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x16x256 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : ¬cond0_0 i) (hc1 : ¬cond0_1 i)
    (x0 : Vec Ideal S256x512 .f32) (x1 : Vec Ideal S1x512x256 .f32) (x2 : Vec Ideal S256x1024 .f32) (x3 : Vec Ideal S256x1024 .f32) (x4 : Vec Ideal S256x128 .f32) (x5 : Vec Ideal S1x16x256 .f32) (x6 : Vec Ideal S1x8x64x256 .f32) (x7 : Vec Ideal S1x8x128 .f32) (x8 : Vec Ideal S1x1024 .f32) (xs0 : Vec Ideal S8x64x256 .f32) (xs1 : Vec Ideal S8x128 .f32) (B : Blk P G b T x0 x1 x2 x4 x5) (S : Scr P G b T xs0 xs1) (h : Fin 8) (d : Fin 64) (l : Fin 256) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 (ix3 h d l) = ((Seq.A P G b h.val d.val (vx (Seq.v P b h.val) l.val) (T + 256) : ℝ) : EReal) := by
  frame_out
  canon_tiles x hx
  case piece0 =>
    have e : h.val = 7 := by change h.val = _ at hx0; omega
    rw [e]
    change d.val = (x 1).val at hx1
    change l.val = (x 2).val at hx2
    rw [hx1, hx2]
    exact cNew_idx (ok7 B S) x
  case piece1 =>
    have e : h.val = 6 := by change h.val = _ at hx0; omega
    rw [e]
    change d.val = (x 1).val at hx1
    change l.val = (x 2).val at hx2
    rw [hx1, hx2]
    exact cNew_idx (ok6 B S) x
  case piece2 =>
    have e : h.val = 5 := by change h.val = _ at hx0; omega
    rw [e]
    change d.val = (x 1).val at hx1
    change l.val = (x 2).val at hx2
    rw [hx1, hx2]
    exact cNew_idx (ok5 B S) x
  case piece3 =>
    have e : h.val = 4 := by change h.val = _ at hx0; omega
    rw [e]
    change d.val = (x 1).val at hx1
    change l.val = (x 2).val at hx2
    rw [hx1, hx2]
    exact cNew_idx (ok4 B S) x
  case piece4 =>
    have e : h.val = 3 := by change h.val = _ at hx0; omega
    rw [e]
    change d.val = (x 1).val at hx1
    change l.val = (x 2).val at hx2
    rw [hx1, hx2]
    exact cNew_idx (ok3 B S) x
  case piece5 =>
    have e : h.val = 2 := by change h.val = _ at hx0; omega
    rw [e]
    change d.val = (x 1).val at hx1
    change l.val = (x 2).val at hx2
    rw [hx1, hx2]
    exact cNew_idx (ok2 B S) x
  case piece6 =>
    have e : h.val = 1 := by change h.val = _ at hx0; omega
    rw [e]
    change d.val = (x 1).val at hx1
    change l.val = (x 2).val at hx2
    rw [hx1, hx2]
    exact cNew_idx (ok1 B S) x
  case piece7 =>
    have e : h.val = 0 := by change h.val = _ at hx0; omega
    rw [e]
    change d.val = (x 1).val at hx1
    change l.val = (x 2).val at hx2
    rw [hx1, hx2]
    exact cNew_idx (ok0 B S) x

theorem y_at (c : Dev nD) (i : grid0.Coords) (arg2 : Memref sig .tc .vmem S256x512 .f32) (harg2 : arg2.IsWhole) (arg3 : Memref sig .tc .vmem S1x512x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x16x256 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : ¬cond0_0 i) (hc1 : ¬cond0_1 i)
    (x0 : Vec Ideal S256x512 .f32) (x1 : Vec Ideal S1x512x256 .f32) (x2 : Vec Ideal S256x1024 .f32) (x3 : Vec Ideal S256x1024 .f32) (x4 : Vec Ideal S256x128 .f32) (x5 : Vec Ideal S1x16x256 .f32) (x6 : Vec Ideal S1x8x64x256 .f32) (x7 : Vec Ideal S1x8x128 .f32) (x8 : Vec Ideal S1x1024 .f32) (xs0 : Vec Ideal S8x64x256 .f32) (xs1 : Vec Ideal S8x128 .f32) (B : Blk P G b T x0 x1 x2 x4 x5) (S : Scr P G b T xs0 xs1) (t : Fin 256) (l : Fin 1024) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 (ix2 t l) = normed (fun i => hid (Seq.fg G b (l.val / 128)) (Seq.ig G b (l.val / 128)) (Seq.q P b (l.val / 128)) (Seq.k P b (l.val / 128)) (Seq.v P b (l.val / 128)) (T + t.val) i.val) ⟨l.val % 128, by omega⟩
      * x8 (ix2 0 l) * Ideal.div 1 (1 + Ideal.exp (-(x3 (ix2 t l)))) := by
  frame_out
  canon_tiles x hx
  case piece0 =>
    change t.val = (x 0).val at hx0
    change l.val = _ at hx1
    refine (out_idx (ok7 B S) _ _ x).trans ?_
    have e : l.val / 128 = 7 := by omega
    have e2 : (⟨l.val % 128, by omega⟩ : Fin 128) = x 1 := Fin.ext (by dsimp only; omega)
    rw [e, e2, hx0]
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece1 =>
    change t.val = (x 0).val at hx0
    change l.val = _ at hx1
    refine (out_idx (ok6 B S) _ _ x).trans ?_
    have e : l.val / 128 = 6 := by omega
    have e2 : (⟨l.val % 128, by omega⟩ : Fin 128) = x 1 := Fin.ext (by dsimp only; omega)
    rw [e, e2, hx0]
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece2 =>
    change t.val = (x 0).val at hx0
    change l.val = _ at hx1
    refine (out_idx (ok5 B S) _ _ x).trans ?_
    have e : l.val / 128 = 5 := by omega
    have e2 : (⟨l.val % 128, by omega⟩ : Fin 128) = x 1 := Fin.ext (by dsimp only; omega)
    rw [e, e2, hx0]
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece3 =>
    change t.val = (x 0).val at hx0
    change l.val = _ at hx1
    refine (out_idx (ok4 B S) _ _ x).trans ?_
    have e : l.val / 128 = 4 := by omega
    have e2 : (⟨l.val % 128, by omega⟩ : Fin 128) = x 1 := Fin.ext (by dsimp only; omega)
    rw [e, e2, hx0]
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece4 =>
    change t.val = (x 0).val at hx0
    change l.val = _ at hx1
    refine (out_idx (ok3 B S) _ _ x).trans ?_
    have e : l.val / 128 = 3 := by omega
    have e2 : (⟨l.val % 128, by omega⟩ : Fin 128) = x 1 := Fin.ext (by dsimp only; omega)
    rw [e, e2, hx0]
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece5 =>
    change t.val = (x 0).val at hx0
    change l.val = _ at hx1
    refine (out_idx (ok2 B S) _ _ x).trans ?_
    have e : l.val / 128 = 2 := by omega
    have e2 : (⟨l.val % 128, by omega⟩ : Fin 128) = x 1 := Fin.ext (by dsimp only; omega)
    rw [e, e2, hx0]
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece6 =>
    change t.val = (x 0).val at hx0
    change l.val = _ at hx1
    refine (out_idx (ok1 B S) _ _ x).trans ?_
    have e : l.val / 128 = 1 := by omega
    have e2 : (⟨l.val % 128, by omega⟩ : Fin 128) = x 1 := Fin.ext (by dsimp only; omega)
    rw [e, e2, hx0]
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece7 =>
    change t.val = (x 0).val at hx0
    change l.val = _ at hx1
    refine (out_idx (ok0 B S) _ _ x).trans ?_
    have e : l.val / 128 = 0 := by omega
    have e2 : (⟨l.val % 128, by omega⟩ : Fin 128) = x 1 := Fin.ext (by dsimp only; omega)
    rw [e, e2, hx0]
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1.trans (Nat.zero_add _).symm
    · intro a
      fin_cases a
      · exact hx0.trans (Nat.zero_add _).symm
      · exact hx1.trans (Nat.zero_add _).symm

end Cert.PointB

end
-- ==== Proof.PointA.lean ====
/- The first point of a batch element's sweep: it fills the scratch from the initial arrays, then does what a middle point does. -/
module

public import proofs.«01_k».proof.Proof.PointB
public import Idealize.ShloMosaic.Lib.Pipeline.ReadBack

@[expose] public section

set_option maxRecDepth 16384

noncomputable section

namespace Cert.PointA

open Idealize.ShloMosaic Idealize.ShloMosaic.TcCoe Idealize.SL.Sem
open Cert.KernelIdeal Cert.KernelIdeal.Gen
open scoped BigOperators

/-- Where the later pieces cover an index, the earlier ones are not read there. -/
theorem canon_append_cover {Val : EltTy → Type} {s : Shape} {e : EltTy} [∀ e, Nonempty (Val e)] (L' : List (View.Piece Val s e)) (y : s.Idx) :
    ∀ (L : List (View.Piece Val s e)) (_ : ∃ p ∈ L, y ∈ p.1.set), View.canon (L ++ L') y = View.canon L y
  | [], hy => by obtain ⟨p, hp, _⟩ := hy; simp at hp
  | p :: L, hy => by
    by_cases hm : y ∈ p.1.set
    · obtain ⟨x, rfl⟩ := p.1.exists_idx_of_mem hm
      rw [List.cons_append]
      exact (View.canon_cons_emb p.1 p.2 _ x).trans (View.canon_cons_emb p.1 p.2 _ x).symm
    · rw [List.cons_append, View.canon_cons_of_not_mem p _ hm, View.canon_cons_of_not_mem p _ hm]
      refine canon_append_cover L' y L ?_
      obtain ⟨q, hq, hqy⟩ := hy
      rcases List.mem_cons.mp hq with rfl | hq
      · exact absurd hqy hm
      · exact ⟨q, hq, hqy⟩

theorem sout0_A_1_eq (c : Dev nD) (i : grid0.Coords) (arg2 : Memref sig .tc .vmem S256x512 .f32) (harg2 : arg2.IsWhole) (arg3 : Memref sig .tc .vmem S1x512x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x16x256 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : cond0_0 i) (hc1 : ¬cond0_1 i)
    (x0 : Vec Ideal S256x512 .f32) (x1 : Vec Ideal S1x512x256 .f32) (x2 : Vec Ideal S256x1024 .f32) (x3 : Vec Ideal S256x1024 .f32) (x4 : Vec Ideal S256x128 .f32) (x5 : Vec Ideal S1x16x256 .f32) (x6 : Vec Ideal S1x8x64x256 .f32) (x7 : Vec Ideal S1x8x128 .f32) (x8 : Vec Ideal S1x1024 .f32) (i' : grid0.Coords) (h0 : ¬cond0_0 i') (h1 : ¬cond0_1 i') (h : Fin 8) (l : Fin 128) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix2 h l) = sout0_B_1 c i' arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 x7 x8 (k0_pay5 x6) (k0_pay6 x7) (ix2 h l) := by
  frame_out
  simp (disch := decide) only [↓View.readCov_skip, ↓View.readCov_fill]
  exact canon_append_cover [_] _ [_, _, _, _, _, _, _, _] (View.cover_of_tiled_head _ _ _ (by rfl) _)

theorem sout0_A_0_eq (c : Dev nD) (i : grid0.Coords) (arg2 : Memref sig .tc .vmem S256x512 .f32) (harg2 : arg2.IsWhole) (arg3 : Memref sig .tc .vmem S1x512x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x16x256 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : cond0_0 i) (hc1 : ¬cond0_1 i)
    (x0 : Vec Ideal S256x512 .f32) (x1 : Vec Ideal S1x512x256 .f32) (x2 : Vec Ideal S256x1024 .f32) (x3 : Vec Ideal S256x1024 .f32) (x4 : Vec Ideal S256x128 .f32) (x5 : Vec Ideal S1x16x256 .f32) (x6 : Vec Ideal S1x8x64x256 .f32) (x7 : Vec Ideal S1x8x128 .f32) (x8 : Vec Ideal S1x1024 .f32) (i' : grid0.Coords) (h0 : ¬cond0_0 i') (h1 : ¬cond0_1 i') (h : Fin 8) (d : Fin 64) (l : Fin 256) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix3 h d l) = sout0_B_0 c i' arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 x7 x8 (k0_pay5 x6) (k0_pay6 x7) (ix3 h d l) := by
  frame_out
  simp (disch := decide) only [↓View.readCov_skip, ↓View.readCov_fill]
  exact canon_append_cover [_] _ [_, _, _, _, _, _, _, _] (View.cover_of_tiled_head _ _ _ (by rfl) _)

theorem out0_A_9_eq (c : Dev nD) (i : grid0.Coords) (arg2 : Memref sig .tc .vmem S256x512 .f32) (harg2 : arg2.IsWhole) (arg3 : Memref sig .tc .vmem S1x512x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x16x256 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : cond0_0 i) (hc1 : ¬cond0_1 i)
    (x0 : Vec Ideal S256x512 .f32) (x1 : Vec Ideal S1x512x256 .f32) (x2 : Vec Ideal S256x1024 .f32) (x3 : Vec Ideal S256x1024 .f32) (x4 : Vec Ideal S256x128 .f32) (x5 : Vec Ideal S1x16x256 .f32) (x6 : Vec Ideal S1x8x64x256 .f32) (x7 : Vec Ideal S1x8x128 .f32) (x8 : Vec Ideal S1x1024 .f32) (i' : grid0.Coords) (h0 : ¬cond0_0 i') (h1 : ¬cond0_1 i') (t : Fin 256) (l : Fin 1024) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix2 t l) = out0_B_9 c i' arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 x7 x8 (k0_pay5 x6) (k0_pay6 x7) (ix2 t l) := by
  frame_out
  simp (disch := decide) only [↓View.readCov_skip, ↓View.readCov_fill]

end Cert.PointA

end
-- ==== Proof.PointC.lean ====
/- The last point of a batch element's sweep: it does what a middle point does, then stores the scratch as the last two results. -/
module

public import proofs.«01_k».proof.Proof.PointB
public import Idealize.ShloMosaic.Lib.Pipeline.ReadBack

@[expose] public section

set_option maxRecDepth 16384

noncomputable section

namespace Cert.PointC

open Idealize.ShloMosaic Idealize.ShloMosaic.TcCoe Idealize.SL.Sem
open Cert.KernelIdeal Cert.KernelIdeal.Gen
open scoped BigOperators

theorem readCov_whole {sp : Space} {s : Shape} {e : EltTy} {Val : EltTy → Type} [∀ e, Nonempty (Val e)] (v : View sig .tc sp s e)
    (L : List (View.Piece Val s e)) (off : Fin s.rank → Nat) (h0 : ∀ a, off a = 0) (inb) :
    v.readCov L (Rect.unit off s.size inb).toLoadRect = View.canon L := by
  rw [View.readCov_eq_canon']
  funext j
  refine congrArg (View.canon L) (funext fun a => Fin.ext ?_)
  refine (Rect.idx_unit_val off s.size inb j a).trans ?_
  rw [h0 a, Nat.zero_add]

theorem sout0_C_1_eq (c : Dev nD) (i : grid0.Coords) (arg2 : Memref sig .tc .vmem S256x512 .f32) (harg2 : arg2.IsWhole) (arg3 : Memref sig .tc .vmem S1x512x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x16x256 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : ¬cond0_0 i) (hc1 : cond0_1 i)
    (x0 : Vec Ideal S256x512 .f32) (x1 : Vec Ideal S1x512x256 .f32) (x2 : Vec Ideal S256x1024 .f32) (x3 : Vec Ideal S256x1024 .f32) (x4 : Vec Ideal S256x128 .f32) (x5 : Vec Ideal S1x16x256 .f32) (x6 : Vec Ideal S1x8x64x256 .f32) (x7 : Vec Ideal S1x8x128 .f32) (x8 : Vec Ideal S1x1024 .f32) (xs0 : Vec Ideal S8x64x256 .f32) (xs1 : Vec Ideal S8x128 .f32) (i' : grid0.Coords) (h0 : ¬cond0_0 i') (h1 : ¬cond0_1 i') :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = sout0_B_1 c i' arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 x7 x8 xs0 xs1 := by
  frame_out

theorem sout0_C_0_eq (c : Dev nD) (i : grid0.Coords) (arg2 : Memref sig .tc .vmem S256x512 .f32) (harg2 : arg2.IsWhole) (arg3 : Memref sig .tc .vmem S1x512x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x16x256 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : ¬cond0_0 i) (hc1 : cond0_1 i)
    (x0 : Vec Ideal S256x512 .f32) (x1 : Vec Ideal S1x512x256 .f32) (x2 : Vec Ideal S256x1024 .f32) (x3 : Vec Ideal S256x1024 .f32) (x4 : Vec Ideal S256x128 .f32) (x5 : Vec Ideal S1x16x256 .f32) (x6 : Vec Ideal S1x8x64x256 .f32) (x7 : Vec Ideal S1x8x128 .f32) (x8 : Vec Ideal S1x1024 .f32) (xs0 : Vec Ideal S8x64x256 .f32) (xs1 : Vec Ideal S8x128 .f32) (i' : grid0.Coords) (h0 : ¬cond0_0 i') (h1 : ¬cond0_1 i') :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = sout0_B_0 c i' arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 x7 x8 xs0 xs1 := by
  frame_out

theorem out0_C_9_eq (c : Dev nD) (i : grid0.Coords) (arg2 : Memref sig .tc .vmem S256x512 .f32) (harg2 : arg2.IsWhole) (arg3 : Memref sig .tc .vmem S1x512x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x16x256 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : ¬cond0_0 i) (hc1 : cond0_1 i)
    (x0 : Vec Ideal S256x512 .f32) (x1 : Vec Ideal S1x512x256 .f32) (x2 : Vec Ideal S256x1024 .f32) (x3 : Vec Ideal S256x1024 .f32) (x4 : Vec Ideal S256x128 .f32) (x5 : Vec Ideal S1x16x256 .f32) (x6 : Vec Ideal S1x8x64x256 .f32) (x7 : Vec Ideal S1x8x128 .f32) (x8 : Vec Ideal S1x1024 .f32) (xs0 : Vec Ideal S8x64x256 .f32) (xs1 : Vec Ideal S8x128 .f32) (i' : grid0.Coords) (h0 : ¬cond0_0 i') (h1 : ¬cond0_1 i') :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = out0_B_9 c i' arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 x7 x8 xs0 xs1 := by
  frame_out

theorem out0_C_10_eq (c : Dev nD) (i : grid0.Coords) (arg2 : Memref sig .tc .vmem S256x512 .f32) (harg2 : arg2.IsWhole) (arg3 : Memref sig .tc .vmem S1x512x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x16x256 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : ¬cond0_0 i) (hc1 : cond0_1 i)
    (x0 : Vec Ideal S256x512 .f32) (x1 : Vec Ideal S1x512x256 .f32) (x2 : Vec Ideal S256x1024 .f32) (x3 : Vec Ideal S256x1024 .f32) (x4 : Vec Ideal S256x128 .f32) (x5 : Vec Ideal S1x16x256 .f32) (x6 : Vec Ideal S1x8x64x256 .f32) (x7 : Vec Ideal S1x8x128 .f32) (x8 : Vec Ideal S1x1024 .f32) (xs0 : Vec Ideal S8x64x256 .f32) (xs1 : Vec Ideal S8x128 .f32) (i' : grid0.Coords) (h0 : ¬cond0_0 i') (h1 : ¬cond0_1 i') :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = k0_pay3 (sout0_B_0 c i' arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 x7 x8 xs0 xs1) := by
  frame_out
  exact congrArg k0_pay3 (readCov_whole _ _ _ (by decide) _)

theorem out0_C_11_eq (c : Dev nD) (i : grid0.Coords) (arg2 : Memref sig .tc .vmem S256x512 .f32) (harg2 : arg2.IsWhole) (arg3 : Memref sig .tc .vmem S1x512x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x16x256 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : ¬cond0_0 i) (hc1 : cond0_1 i)
    (x0 : Vec Ideal S256x512 .f32) (x1 : Vec Ideal S1x512x256 .f32) (x2 : Vec Ideal S256x1024 .f32) (x3 : Vec Ideal S256x1024 .f32) (x4 : Vec Ideal S256x128 .f32) (x5 : Vec Ideal S1x16x256 .f32) (x6 : Vec Ideal S1x8x64x256 .f32) (x7 : Vec Ideal S1x8x128 .f32) (x8 : Vec Ideal S1x1024 .f32) (xs0 : Vec Ideal S8x64x256 .f32) (xs1 : Vec Ideal S8x128 .f32) (i' : grid0.Coords) (h0 : ¬cond0_0 i') (h1 : ¬cond0_1 i') :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = k0_pay4 (sout0_B_1 c i' arg2 harg2 arg3 harg3 arg4 harg4 arg5 harg5 arg6 harg6 arg7 harg7 arg8 harg8 arg9 harg9 arg10 harg10 arg11 harg11 arg12 harg12 arg13 harg13 arg14 harg14 arg15 harg15 h0 h1 x0 x1 x2 x3 x4 x5 x6 x7 x8 xs0 xs1) := by
  frame_out
  exact congrArg k0_pay4 (readCov_whole _ _ _ (by decide) _)

end Cert.PointC

end
-- ==== Proof.Fold.lean ====
/- The sweep over the grid: after each point the scratch holds the recurrence's state at the point's last token, the first
   result's block holds the point's outputs, and at a batch element's last point the other two results hold the scratch. -/
module

public import proofs.«01_k».proof.Proof.Blocks
public import proofs.«01_k».proof.Proof.PointA
public import proofs.«01_k».proof.Proof.PointC

@[expose] public section

set_option maxRecDepth 16384

noncomputable section

namespace Cert.Fold

open Idealize.ShloMosaic Idealize.ShloMosaic.TcCoe Idealize.SL.Sem
open Cert.KernelIdeal Cert.KernelIdeal.Gen Cert.KernelIdeal.Value Cert.Recur Cert.Head Cert.Step Cert.Blocks
open scoped BigOperators

variable (m : (ℓ : Loc nD τ sig) → Buf (Elt Ideal) ℓ) (c : Dev nD)

abbrev Out := Vec Ideal S256x1024 .f32 × Vec Ideal S1x8x64x256 .f32 × Vec Ideal S1x8x128 .f32 × Vec Ideal S8x64x256 .f32 × Vec Ideal S8x128 .f32

theorem lt128 (t : Fin cfg0.N) : t.val < 128 := lt_of_lt_of_eq t.isLt N_0

/-- The output at token `n` of batch element `b`, lane `l`, the gain and the output projection given. -/
def yv (P : (⟨2, ![33280, 3072]⟩ : Shape).Idx → EReal) (G : (⟨2, ![33280, 128]⟩ : Shape).Idx → EReal) (b n : ℕ) (l : Fin 1024) (g o : EReal) : EReal :=
  normed (fun i => hid (Seq.fg G b (l.val / 128)) (Seq.ig G b (l.val / 128)) (Seq.q P b (l.val / 128)) (Seq.k P b (l.val / 128)) (Seq.v P b (l.val / 128)) n i.val) ⟨l.val % 128, by omega⟩
    * g * Ideal.div 1 (1 + Ideal.exp (-o))

/-- What a point leaves. -/
structure Post (t : Fin cfg0.N) (o : Out) : Prop where
  s : Scr (P m c) (G m c) (t.val / 16) (256 * (t.val % 16) + 256) o.2.2.2.1 o.2.2.2.2
  y : ∀ (i : Fin 256) (l : Fin 1024), o.1 (ix2 i l) = yv (P m c) (G m c) (t.val / 16) (256 * (t.val % 16) + i.val) l (gain m c (ix1 l))
    (P m c (ix2 ⟨t.val * 256 + i.val, by have := lt128 t; omega⟩ ⟨2048 + l.val, by omega⟩))
  z : t.val % 16 = 15 → o.2.1 = k0_pay3 (F := Ideal) o.2.2.2.1 ∧ o.2.2.1 = k0_pay4 (F := Ideal) o.2.2.2.2

/-- What a point leaves, from the five arrays one by one. -/
theorem Post.of {t : Fin cfg0.N} {o9 : Vec Ideal S256x1024 .f32} {o10 : Vec Ideal S1x8x64x256 .f32} {o11 : Vec Ideal S1x8x128 .f32}
    {s0 : Vec Ideal S8x64x256 .f32} {s1 : Vec Ideal S8x128 .f32}
    (hc : ∀ (h : Fin 8) (d : Fin 64) (l : Fin 256), s0 (ix3 h d l)
      = ((Seq.A (P m c) (G m c) (t.val / 16) h.val d.val (vx (Seq.v (P m c) (t.val / 16) h.val) l.val) (256 * (t.val % 16) + 256) : ℝ) : EReal))
    (hm : ∀ (h : Fin 8) (l : Fin 128), s1 (ix2 h l) = ((Seq.M (G m c) (t.val / 16) h.val (256 * (t.val % 16) + 256) : ℝ) : EReal))
    (hy : ∀ (i : Fin 256) (l : Fin 1024), o9 (ix2 i l) = yv (P m c) (G m c) (t.val / 16) (256 * (t.val % 16) + i.val) l
      ((iblk m c 8 t : FVec Ideal S1x1024 .f32) (ix2 0 l)) ((iblk m c 3 t : FVec Ideal S256x1024 .f32) (ix2 i l)))
    (hz : t.val % 16 = 15 → o10 = k0_pay3 (F := Ideal) s0 ∧ o11 = k0_pay4 (F := Ideal) s1) :
    Post m c t (o9, o10, o11, s0, s1) where
  s := ⟨hc, hm⟩
  y i l := by
    refine (hy i l).trans ?_
    rw [blk8 m c t l, blk3 m c t i l]
  z := hz

/-- Some grid point is neither the first nor the last of its batch element. -/
theorem mid : ∃ i : grid0.Coords, ¬cond0_0 i ∧ ¬cond0_1 i := by
  have h : 1 < cfg0.N := by rw [show cfg0.N = 128 from N_0]; decide
  exact ⟨grid0.coords ⟨1, h⟩, fun e => absurd ((hcond0_0 ⟨1, h⟩).mp e) (by show ¬1 % 16 = 0; omega), fun e => absurd ((hcond0_1 ⟨1, h⟩).mp e) (by show ¬1 % 16 = 15; omega)⟩

section
variable {m c} (hF : Seq.Fin' (P m c) (G m c))
include hF

theorem blk (t : Fin cfg0.N) : Blk (P m c) (G m c) (t.val / 16) (256 * (t.val % 16))
    (iblk m c 0 t) (iblk m c 1 t) (iblk m c 2 t) (iblk m c 4 t) (iblk m c 5 t) where
  x0 i j := by
    have ht := lt128 t
    refine (blk0 m c t i j).trans ((hF.proj _ _ _ _ (by omega) (by omega)).trans ?_)
    rw [show t.val * 256 + i.val = t.val / 16 * 4096 + (256 * (t.val % 16) + i.val) by omega]
  x1 d s := by
    have ht := lt128 t
    refine (blk1 m c t d s).trans ((kt_at m c _ _ _).trans ((hF.proj _ _ _ _ ?_ (by omega)).trans ?_))
    · show t.val / 16 * 4096 + (t.val % 16 * 256 + s.val) < 32768
      omega
    · show ((Seq.rd (P m c) (t.val / 16 * 4096 + (t.val % 16 * 256 + s.val)) (512 + d.val) : ℝ) : EReal) = _
      rw [show t.val / 16 * 4096 + (t.val % 16 * 256 + s.val) = t.val / 16 * 4096 + (256 * (t.val % 16) + s.val) by omega]
  x2 i j := by
    have ht := lt128 t
    refine (blk2 m c t i j).trans ((hF.proj _ _ _ _ (by omega) (by omega)).trans ?_)
    rw [show t.val * 256 + i.val = t.val / 16 * 4096 + (256 * (t.val % 16) + i.val) by omega]
  x4 i j := by
    have ht := lt128 t
    refine (blk4 m c t i ⟨j.val, by omega⟩).trans ((hF.gate _ _ _ _ (by omega) j.isLt).trans ?_)
    rw [show t.val * 256 + i.val = t.val / 16 * 4096 + (256 * (t.val % 16) + i.val) by omega]
  x5 d s := by
    have ht := lt128 t
    refine (blk5 m c t d s).trans ((gt_at m c _ _ _).trans ((hF.gate _ _ _ _ ?_ d.isLt).trans ?_))
    · show t.val / 16 * 4096 + (t.val % 16 * 256 + s.val) < 32768
      omega
    · show ((Seq.rd (G m c) (t.val / 16 * 4096 + (t.val % 16 * 256 + s.val)) d.val : ℝ) : EReal) = _
      rw [show t.val / 16 * 4096 + (t.val % 16 * 256 + s.val) = t.val / 16 * 4096 + (256 * (t.val % 16) + s.val) by omega]

omit hF in
theorem start (t : Fin cfg0.N) (h : t.val % 16 = 0) : Scr (P m c) (G m c) (t.val / 16) (256 * (t.val % 16))
    (k0_pay5 (F := Ideal) (iblk m c 6 t)) (k0_pay6 (F := Ideal) (iblk m c 7 t)) where
  c hh d l := by
    rw [h]
    have e : ∀ x : FVec Ideal S1x8x64x256 .f32, k0_pay5 (F := Ideal) x (ix3 hh d l) = x (ix4 0 hh d l) := by
      intro x
      pointwise [k0_pay5]
    exact (e _).trans (blk6 m c t hh d l)
  m hh l := by
    rw [h]
    have e : ∀ x : FVec Ideal S1x8x128 .f32, k0_pay6 (F := Ideal) x (ix2 hh l) = x (ix3 0 hh l) := by
      intro x
      pointwise [k0_pay6]
    exact (e _).trans (blk7 m c t hh l)

set_option maxHeartbeats 1600000 in
theorem step (t : Fin cfg0.N) (acc : Out) (hacc : ¬t.val % 16 = 0 → Scr (P m c) (G m c) (t.val / 16) (256 * (t.val % 16)) acc.2.2.2.1 acc.2.2.2.2) :
    Post m c t (stAt0 m c t.val t.isLt acc) := by
  obtain ⟨i', e0, e1⟩ := mid
  have B := blk hF t
  by_cases h0 : t.val % 16 = 0
  · have h1 : ¬t.val % 16 = 15 := by omega
    have S := start (m := m) (c := c) t h0
    rw [stAt0_A m c t acc h0 h1]
    refine Post.of m c (fun h d l => ?_) (fun h l => ?_) (fun i l => ?_) (fun h => absurd h h1)
    · exact (PointA.sout0_A_0_eq _ _ _ _ _ _ _ _ _ _ _ _ _ _ _ _ _ _ _ _ _ _ _ _ _ _ _ _ _ _ _ _ _ _ _ _ _ _ _ _ _ i' e0 e1 h d l).trans (PointB.c_at _ _ _ _ _ _ _ _ _ _ _ _ _ _ _ _ _ _ _ _ _ _ _ _ _ _ _ _ _ _ _ _ _ _ _ _ _ _ _ _ _ _ _ B S h d l)
    · exact (PointA.sout0_A_1_eq _ _ _ _ _ _ _ _ _ _ _ _ _ _ _ _ _ _ _ _ _ _ _ _ _ _ _ _ _ _ _ _ _ _ _ _ _ _ _ _ _ i' e0 e1 h l).trans (PointB.m_at _ _ _ _ _ _ _ _ _ _ _ _ _ _ _ _ _ _ _ _ _ _ _ _ _ _ _ _ _ _ _ _ _ _ _ _ _ _ _ _ _ _ _ B S h l)
    · exact (PointA.out0_A_9_eq _ _ _ _ _ _ _ _ _ _ _ _ _ _ _ _ _ _ _ _ _ _ _ _ _ _ _ _ _ _ _ _ _ _ _ _ _ _ _ _ _ i' e0 e1 i l).trans (PointB.y_at _ _ _ _ _ _ _ _ _ _ _ _ _ _ _ _ _ _ _ _ _ _ _ _ _ _ _ _ _ _ _ _ _ _ _ _ _ _ _ _ _ _ _ B S i l)
  · have S := hacc h0
    by_cases h1 : t.val % 16 = 15
    · rw [stAt0_C m c t acc h0 h1]
      refine Post.of m c (fun h d l => ?_) (fun h l => ?_) (fun i l => ?_) (fun _ => ⟨?_, ?_⟩)
      · exact (congrFun (PointC.sout0_C_0_eq _ _ _ _ _ _ _ _ _ _ _ _ _ _ _ _ _ _ _ _ _ _ _ _ _ _ _ _ _ _ _ _ _ _ _ _ _ _ _ _ _ _ _ i' e0 e1) (ix3 h d l)).trans (PointB.c_at _ _ _ _ _ _ _ _ _ _ _ _ _ _ _ _ _ _ _ _ _ _ _ _ _ _ _ _ _ _ _ _ _ _ _ _ _ _ _ _ _ _ _ B S h d l)
      · exact (congrFun (PointC.sout0_C_1_eq _ _ _ _ _ _ _ _ _ _ _ _ _ _ _ _ _ _ _ _ _ _ _ _ _ _ _ _ _ _ _ _ _ _ _ _ _ _ _ _ _ _ _ i' e0 e1) (ix2 h l)).trans (PointB.m_at _ _ _ _ _ _ _ _ _ _ _ _ _ _ _ _ _ _ _ _ _ _ _ _ _ _ _ _ _ _ _ _ _ _ _ _ _ _ _ _ _ _ _ B S h l)
      · exact (congrFun (PointC.out0_C_9_eq _ _ _ _ _ _ _ _ _ _ _ _ _ _ _ _ _ _ _ _ _ _ _ _ _ _ _ _ _ _ _ _ _ _ _ _ _ _ _ _ _ _ _ i' e0 e1) (ix2 i l)).trans (PointB.y_at _ _ _ _ _ _ _ _ _ _ _ _ _ _ _ _ _ _ _ _ _ _ _ _ _ _ _ _ _ _ _ _ _ _ _ _ _ _ _ _ _ _ _ B S i l)
      · exact (PointC.out0_C_10_eq _ _ _ _ _ _ _ _ _ _ _ _ _ _ _ _ _ _ _ _ _ _ _ _ _ _ _ _ _ _ _ _ _ _ _ _ _ _ _ _ _ _ _ i' e0 e1).trans (congrArg (k0_pay3 (F := Ideal)) (PointC.sout0_C_0_eq _ _ _ _ _ _ _ _ _ _ _ _ _ _ _ _ _ _ _ _ _ _ _ _ _ _ _ _ _ _ _ _ _ _ _ _ _ _ _ _ _ _ _ i' e0 e1).symm)
      · exact (PointC.out0_C_11_eq _ _ _ _ _ _ _ _ _ _ _ _ _ _ _ _ _ _ _ _ _ _ _ _ _ _ _ _ _ _ _ _ _ _ _ _ _ _ _ _ _ _ _ i' e0 e1).trans (congrArg (k0_pay4 (F := Ideal)) (PointC.sout0_C_1_eq _ _ _ _ _ _ _ _ _ _ _ _ _ _ _ _ _ _ _ _ _ _ _ _ _ _ _ _ _ _ _ _ _ _ _ _ _ _ _ _ _ _ _ i' e0 e1).symm)
    · rw [stAt0_B m c t acc h0 h1]
      refine Post.of m c (fun h d l => ?_) (fun h l => ?_) (fun i l => ?_) (fun h => absurd h h1)
      · exact PointB.c_at _ _ _ _ _ _ _ _ _ _ _ _ _ _ _ _ _ _ _ _ _ _ _ _ _ _ _ _ _ _ _ _ _ _ _ _ _ _ _ _ _ _ _ B S h d l
      · exact PointB.m_at _ _ _ _ _ _ _ _ _ _ _ _ _ _ _ _ _ _ _ _ _ _ _ _ _ _ _ _ _ _ _ _ _ _ _ _ _ _ _ _ _ _ _ B S h l
      · exact PointB.y_at _ _ _ _ _ _ _ _ _ _ _ _ _ _ _ _ _ _ _ _ _ _ _ _ _ _ _ _ _ _ _ _ _ _ _ _ _ _ _ _ _ _ _ B S i l

theorem post : ∀ (n : ℕ) (hn : n < cfg0.N), Post m c ⟨n, hn⟩ (outsAt0 m c n hn)
  | 0, hn => by
    rw [outsAt0_zero m c hn]
    exact step hF ⟨0, hn⟩ _ (fun h => absurd (Nat.zero_mod 16) h)
  | n + 1, hn => by
    rw [outsAt0_succ m c n hn]
    refine step hF ⟨n + 1, hn⟩ _ (fun h => ?_)
    have ih := (post n (Nat.lt_of_succ_lt hn)).s
    change ¬(n + 1) % 16 = 0 at h
    show Scr (P m c) (G m c) ((n + 1) / 16) (256 * ((n + 1) % 16)) _ _
    have a : (n + 1) / 16 = n / 16 := by omega
    have b : 256 * ((n + 1) % 16) = 256 * (n % 16) + 256 := by omega
    rw [a, b]
    exact ih

theorem g9_at (r : Fin 32768) (l : Fin 1024) : (G9 m c : FVec Ideal S32768x1024 .f32) (ix2 r l)
    = yv (P m c) (G m c) (r.val / 4096) (r.val % 4096) l (gain m c (ix1 l)) (P m c (ix2 ⟨r.val, by omega⟩ ⟨2048 + l.val, by omega⟩)) := by
  have hp : pt9Of (ix2 r l) = r.val / 256 := by
    show 1 * (r.val / 256 - 0) + 1 * (l.val / 1024 - 0) = _
    omega
  have hN : r.val / 256 < cfg0.N := by rw [show cfg0.N = 128 from N_0]; omega
  have hl : loc9Of (ix2 r l) = ix2 ⟨r.val % 256, by omega⟩ l := by
    blk_ext []
  unfold G9
  rw [dif_pos (by rw [hp]; exact hN), hl, fold0_congr m c _ _ _ (by omega) hp, ← outsAt0_sweep m c _ hN]
  refine ((post hF _ hN).y ⟨r.val % 256, by omega⟩ l).trans ?_
  show yv _ _ (r.val / 256 / 16) (256 * (r.val / 256 % 16) + r.val % 256) l _ (P m c (ix2 ⟨r.val / 256 * 256 + r.val % 256, _⟩ ⟨2048 + l.val, _⟩)) = _
  have e1 : r.val / 256 / 16 = r.val / 4096 := by omega
  have e2 : 256 * (r.val / 256 % 16) + r.val % 256 = r.val % 4096 := by omega
  have e3 : ∀ h, (⟨r.val / 256 * 256 + r.val % 256, h⟩ : Fin 33280) = ⟨r.val, by omega⟩ := fun h => Fin.ext (by show r.val / 256 * 256 + r.val % 256 = r.val; omega)
  rw [e1, e2, e3]

theorem g10_at (b h : Fin 8) (d : Fin 64) (l : Fin 256) : (G10 m c : FVec Ideal S8x8x64x256 .f32) (ix4 b h d l)
    = ((Seq.A (P m c) (G m c) b.val h.val d.val (vx (Seq.v (P m c) b.val h.val) l.val) 4096 : ℝ) : EReal) := by
  have hp : pt10Of (ix4 b h d l) = b.val * 16 + 15 := by
    show 16 * (1 * (b.val / 1 - 0) + 1 * (h.val / 8 - 0) + 1 * (d.val / 64 - 0) + 1 * (l.val / 256 - 0)) + 15 = _
    omega
  have hN : b.val * 16 + 15 < cfg0.N := by rw [show cfg0.N = 128 from N_0]; omega
  have hl : loc10Of (ix4 b h d l) = ix4 0 h d l := by
    blk_ext []
  unfold G10
  rw [dif_pos (by rw [hp]; exact hN), hl, fold0_congr m c _ _ _ (by omega) hp, ← outsAt0_sweep m c _ hN]
  have Q := post hF _ hN
  rw [(Q.z (by show (b.val * 16 + 15) % 16 = 15; omega)).1]
  have e : ∀ x : FVec Ideal S8x64x256 .f32, k0_pay3 (F := Ideal) x (ix4 0 h d l) = x (ix3 h d l) := by
    intro x
    pointwise [k0_pay3]
  refine (e _).trans ((Q.s.c h d l).trans ?_)
  show ((Seq.A (P m c) (G m c) ((b.val * 16 + 15) / 16) h.val d.val (vx (Seq.v (P m c) ((b.val * 16 + 15) / 16) h.val) l.val) (256 * ((b.val * 16 + 15) % 16) + 256) : ℝ) : EReal) = _
  rw [show (b.val * 16 + 15) / 16 = b.val by omega, show 256 * ((b.val * 16 + 15) % 16) + 256 = 4096 by omega]

theorem g11_at (b h : Fin 8) (l : Fin 128) : (G11 m c : FVec Ideal S8x8x128 .f32) (ix3 b h l)
    = ((Seq.M (G m c) b.val h.val 4096 : ℝ) : EReal) := by
  have hp : pt11Of (ix3 b h l) = b.val * 16 + 15 := by
    show 16 * (1 * (b.val / 1 - 0) + 1 * (h.val / 8 - 0) + 1 * (l.val / 128 - 0)) + 15 = _
    omega
  have hN : b.val * 16 + 15 < cfg0.N := by rw [show cfg0.N = 128 from N_0]; omega
  have hl : loc11Of (ix3 b h l) = ix3 0 h l := by
    blk_ext []
  unfold G11
  rw [dif_pos (by rw [hp]; exact hN), hl, fold0_congr m c _ _ _ (by omega) hp, ← outsAt0_sweep m c _ hN]
  have Q := post hF _ hN
  rw [(Q.z (by show (b.val * 16 + 15) % 16 = 15; omega)).2]
  have e : ∀ x : FVec Ideal S8x128 .f32, k0_pay4 (F := Ideal) x (ix3 0 h l) = x (ix2 h l) := by
    intro x
    pointwise [k0_pay4]
  refine (e _).trans ((Q.s.m h l).trans ?_)
  show ((Seq.M (G m c) ((b.val * 16 + 15) / 16) h.val (256 * ((b.val * 16 + 15) % 16) + 256) : ℝ) : EReal) = _
  rw [show (b.val * 16 + 15) / 16 = b.val by omega, show 256 * ((b.val * 16 + 15) % 16) + 256 = 4096 by omega]

end

end Cert.Fold

end
-- ==== Proof.HostReads.lean ====
/- Three host operations read at an index: a slice and an update along the leading axis at a trip's number, and the
   running sum along the last axis. -/
module

public import Idealize.ShloMosaic.Lib.Pointwise
public import Idealize.ShloMosaic.Lib.IdealHost

@[expose] public section

set_option maxRecDepth 16384

noncomputable section

namespace Cert.HostReads

open Idealize.ShloMosaic
open scoped BigOperators

theorem slice5 {n1 n2 n3 n4 : ℕ} (X : (⟨5, ![64, n1, n2, n3, n4]⟩ : Shape).Idx → EReal) (start : Fin 5 → Int)
    (hs : (⟨5, ![64, n1, n2, n3, n4]⟩ : Shape).Slices (fun _ => 0) ⟨5, ![1, n1, n2, n3, n4]⟩) (j : ℕ) (hj : j < 64)
    (h0 : start 0 = j) (h1 : start 1 = 0) (h2 : start 2 = 0) (h3 : start 3 = 0) (h4 : start 4 = 0)
    (a : Fin n1) (b : Fin n2) (c : Fin n3) (d : Fin n4) :
    Host.dynamicSlice (⟨5, ![1, n1, n2, n3, n4]⟩ : Shape) X start hs (ix5 0 a b c d) = X (ix5 ⟨j, hj⟩ a b c d) := by
  rw [Host.dynamicSlice_apply]
  refine congrArg X (funext fun x => Fin.ext ?_)
  match x with
  | ⟨0, _⟩ => exact congrArg (· + 0) (Host.clampedStart_of_le hs.1 start 0 j h0 (by show j + 1 ≤ 64; omega))
  | ⟨1, _⟩ => exact (congrArg (· + a.val) (Host.clampedStart_of_le hs.1 start 1 0 h1 (by show 0 + n1 ≤ n1; omega))).trans (Nat.zero_add _)
  | ⟨2, _⟩ => exact (congrArg (· + b.val) (Host.clampedStart_of_le hs.1 start 2 0 h2 (by show 0 + n2 ≤ n2; omega))).trans (Nat.zero_add _)
  | ⟨3, _⟩ => exact (congrArg (· + c.val) (Host.clampedStart_of_le hs.1 start 3 0 h3 (by show 0 + n3 ≤ n3; omega))).trans (Nat.zero_add _)
  | ⟨4, _⟩ => exact (congrArg (· + d.val) (Host.clampedStart_of_le hs.1 start 4 0 h4 (by show 0 + n4 ≤ n4; omega))).trans (Nat.zero_add _)

theorem slice4 {n1 n2 n3 : ℕ} (X : (⟨4, ![64, n1, n2, n3]⟩ : Shape).Idx → EReal) (start : Fin 4 → Int)
    (hs : (⟨4, ![64, n1, n2, n3]⟩ : Shape).Slices (fun _ => 0) ⟨4, ![1, n1, n2, n3]⟩) (j : ℕ) (hj : j < 64)
    (h0 : start 0 = j) (h1 : start 1 = 0) (h2 : start 2 = 0) (h3 : start 3 = 0)
    (a : Fin n1) (b : Fin n2) (c : Fin n3) :
    Host.dynamicSlice (⟨4, ![1, n1, n2, n3]⟩ : Shape) X start hs (ix4 0 a b c) = X (ix4 ⟨j, hj⟩ a b c) := by
  rw [Host.dynamicSlice_apply]
  refine congrArg X (funext fun x => Fin.ext ?_)
  match x with
  | ⟨0, _⟩ => exact congrArg (· + 0) (Host.clampedStart_of_le hs.1 start 0 j h0 (by show j + 1 ≤ 64; omega))
  | ⟨1, _⟩ => exact (congrArg (· + a.val) (Host.clampedStart_of_le hs.1 start 1 0 h1 (by show 0 + n1 ≤ n1; omega))).trans (Nat.zero_add _)
  | ⟨2, _⟩ => exact (congrArg (· + b.val) (Host.clampedStart_of_le hs.1 start 2 0 h2 (by show 0 + n2 ≤ n2; omega))).trans (Nat.zero_add _)
  | ⟨3, _⟩ => exact (congrArg (· + c.val) (Host.clampedStart_of_le hs.1 start 3 0 h3 (by show 0 + n3 ≤ n3; omega))).trans (Nat.zero_add _)

theorem update5 {n1 n2 n3 n4 : ℕ} (X : (⟨5, ![64, n1, n2, n3, n4]⟩ : Shape).Idx → EReal)
    (U : (⟨5, ![1, n1, n2, n3, n4]⟩ : Shape).Idx → EReal) (start : Fin 5 → Int)
    (hs : (⟨5, ![64, n1, n2, n3, n4]⟩ : Shape).Slices (fun _ => 0) ⟨5, ![1, n1, n2, n3, n4]⟩) (j : ℕ) (hj : j < 64)
    (h0 : start 0 = j) (h1 : start 1 = 0) (h2 : start 2 = 0) (h3 : start 3 = 0) (h4 : start 4 = 0)
    (i : Fin 64) (a : Fin n1) (b : Fin n2) (c : Fin n3) (d : Fin n4) :
    Host.dynamicUpdateSlice X U start hs (ix5 i a b c d) = if i.val = j then U (ix5 0 a b c d) else X (ix5 i a b c d) := by
  rw [Host.dynamicUpdateSlice_apply]
  have c0 := Host.clampedStart_of_le hs.1 start 0 j h0 (by show j + 1 ≤ 64; omega)
  have c1 := Host.clampedStart_of_le hs.1 start 1 0 h1 (by show 0 + n1 ≤ n1; omega)
  have c2 := Host.clampedStart_of_le hs.1 start 2 0 h2 (by show 0 + n2 ≤ n2; omega)
  have c3 := Host.clampedStart_of_le hs.1 start 3 0 h3 (by show 0 + n3 ≤ n3; omega)
  have c4 := Host.clampedStart_of_le hs.1 start 4 0 h4 (by show 0 + n4 ≤ n4; omega)
  by_cases hi : i.val = j
  · rw [if_pos hi, dif_pos]
    · refine congrArg U (funext fun x => Fin.ext ?_)
      match x with
      | ⟨0, _⟩ => exact (congrArg (i.val - ·) c0).trans (by show i.val - j = 0; omega)
      | ⟨1, _⟩ => exact (congrArg (a.val - ·) c1).trans (Nat.sub_zero _)
      | ⟨2, _⟩ => exact (congrArg (b.val - ·) c2).trans (Nat.sub_zero _)
      | ⟨3, _⟩ => exact (congrArg (c.val - ·) c3).trans (Nat.sub_zero _)
      | ⟨4, _⟩ => exact (congrArg (d.val - ·) c4).trans (Nat.sub_zero _)
    · intro x
      match x with
      | ⟨0, _⟩ => exact ⟨by show _ ≤ i.val; exact c0.le.trans hi.ge, by show i.val < _ + 1; exact lt_of_lt_of_eq (by omega) (congrArg (· + 1) c0.symm)⟩
      | ⟨1, _⟩ => exact ⟨by show _ ≤ a.val; exact c1.le.trans (Nat.zero_le _), by show a.val < _ + n1; exact lt_of_lt_of_eq (by omega) (congrArg (· + n1) c1.symm)⟩
      | ⟨2, _⟩ => exact ⟨by show _ ≤ b.val; exact c2.le.trans (Nat.zero_le _), by show b.val < _ + n2; exact lt_of_lt_of_eq (by omega) (congrArg (· + n2) c2.symm)⟩
      | ⟨3, _⟩ => exact ⟨by show _ ≤ c.val; exact c3.le.trans (Nat.zero_le _), by show c.val < _ + n3; exact lt_of_lt_of_eq (by omega) (congrArg (· + n3) c3.symm)⟩
      | ⟨4, _⟩ => exact ⟨by show _ ≤ d.val; exact c4.le.trans (Nat.zero_le _), by show d.val < _ + n4; exact lt_of_lt_of_eq (by omega) (congrArg (· + n4) c4.symm)⟩
  · rw [if_neg hi, dif_neg]
    intro hin
    have h := hin 0
    rw [c0] at h
    have : j ≤ i.val ∧ i.val < j + 1 := h
    omega

theorem toInt_trip (j : ℕ) (hj : j < 64) : (BitVec.ofNat 32 j).toInt = (j : Int) := by
  rw [BitVec.toInt_eq_toNat_cond, BitVec.toNat_ofNat]
  rw [Nat.mod_eq_of_lt (by omega), if_pos (by omega)]

/-- A left fold of additions is the sum. -/
theorem foldl_sum {α : Type} (l : List α) (g : α → EReal) (v : EReal) :
    l.foldl (fun r n => r + g n) v = v + (l.map g).sum := by
  induction l generalizing v with
  | nil => simp
  | cons a l ih => rw [List.foldl_cons, ih, List.map_cons, List.sum_cons, add_assoc]

/-- The rank-three indices of a window of one row along the last axis. -/
def rowEquiv (n : ℕ) : (⟨3, ![1, 1, n]⟩ : Shape).Idx ≃ Fin n where
  toFun w := w 2
  invFun i := ix3 (0 : Fin 1) (0 : Fin 1) i
  left_inv w := by
    refine funext fun x => ?_
    match x with
    | ⟨0, _⟩ => exact Subsingleton.elim (α := Fin 1) _ _
    | ⟨1, _⟩ => exact Subsingleton.elim (α := Fin 1) _ _
    | ⟨2, _⟩ => rfl
  right_inv _ := rfl

/-- The host's running sum along the last axis of an array of 64 entries a row. -/
theorem cumsum {A B : ℕ} (x : FVec Ideal (⟨3, ![A, B, 64]⟩ : Shape) .f32) (init : FVec Ideal (⟨0, ![]⟩ : Shape) .f32)
    (hinit : ∀ i, init i = (0 : EReal))
    (h : (⟨3, ![A, B, 64]⟩ : Shape).ReduceWindows (![1, 1, 64] : Fin 3 → ℕ) ![1, 1, 1] ![0, 0, 63] ![0, 0, 0] ⟨3, ![A, B, 64]⟩)
    (hu : 0 < (⟨0, ![]⟩ : Shape).numel) (a : Fin A) (b : Fin B) (t : Fin 64) :
    Host.reduceWindowAdd (F := Ideal) ![1, 1, 64] ![1, 1, 1] ![0, 0, 63] ![0, 0, 0] x init h hu (ix3 a b t)
      = ∑ s : Fin 64, if s.val ≤ t.val then (x (ix3 a b s) : EReal) else 0 := by
  show Ideal.hostReduceWindowAdd ![1, 1, 64] ![1, 1, 1] ![0, 0, 63] ![0, 0, 0] h x (init (Shape.Idx.first hu)) (ix3 a b t) = _
  rw [hinit]
  unfold Ideal.hostReduceWindowAdd Host.reduceWindow
  dsimp only
  rw [foldl_sum, zero_add, ← Fin.sum_univ_def]
  let G : (⟨3, ![1, 1, 64]⟩ : Shape).Idx → EReal := fun w =>
    if hin : ∀ d : Fin 3, (![0, 0, 63] : Fin 3 → ℕ) d ≤ ((ix3 a b t : (⟨3, ![A, B, 64]⟩ : Shape).Idx) d).val * (![1, 1, 1] : Fin 3 → ℕ) d + (w d).val
        ∧ ((ix3 a b t : (⟨3, ![A, B, 64]⟩ : Shape).Idx) d).val * (![1, 1, 1] : Fin 3 → ℕ) d + (w d).val - (![0, 0, 63] : Fin 3 → ℕ) d < (⟨3, ![A, B, 64]⟩ : Shape).size d
      then x (fun d => ⟨((ix3 a b t : (⟨3, ![A, B, 64]⟩ : Shape).Idx) d).val * (![1, 1, 1] : Fin 3 → ℕ) d + (w d).val - (![0, 0, 63] : Fin 3 → ℕ) d, (hin d).2⟩) else 0
  refine Eq.trans (b := ∑ n, G ((⟨3, ![1, 1, 64]⟩ : Shape).rowMajor.symm n)) (Finset.sum_congr rfl fun n _ => ?_) ?_
  · dsimp only [G]
    refine dite_congr (by rfl) (fun _ => by rfl) (fun _ => by rfl)
  rw [Equiv.sum_comp (⟨3, ![1, 1, 64]⟩ : Shape).rowMajor.symm G]
  rw [← Equiv.sum_comp (rowEquiv 64).symm G]
  have hG : ∀ i : Fin 64, G ((rowEquiv 64).symm i) = if hi : 63 ≤ t.val + i.val then (x (ix3 a b ⟨t.val + i.val - 63, by omega⟩) : EReal) else 0 := by
    intro i
    have ht := t.isLt
    have hi' := i.isLt
    by_cases hi : 63 ≤ t.val + i.val
    · rw [dif_pos hi]
      refine (dif_pos ?_).trans (congrArg x (funext fun d => Fin.ext ?_))
      · intro d
        match d with
        | ⟨0, _⟩ => exact ⟨Nat.zero_le _, by show a.val * 1 + 0 - 0 < A; omega⟩
        | ⟨1, _⟩ => exact ⟨Nat.zero_le _, by show b.val * 1 + 0 - 0 < B; omega⟩
        | ⟨2, _⟩ => exact ⟨by show 63 ≤ t.val * 1 + i.val; omega, by show t.val * 1 + i.val - 63 < 64; omega⟩
      · match d with
        | ⟨0, _⟩ => show a.val * 1 + 0 - 0 = a.val; omega
        | ⟨1, _⟩ => show b.val * 1 + 0 - 0 = b.val; omega
        | ⟨2, _⟩ => show t.val * 1 + i.val - 63 = t.val + i.val - 63; omega
    · rw [dif_neg hi]
      refine dif_neg fun hin => hi ?_
      have h2 : 63 ≤ t.val * 1 + i.val := (hin 2).1
      omega
  rw [Finset.sum_congr rfl fun i _ => hG i]
  have ht := t.isLt
  rw [← Finset.sum_filter]
  have e : ∀ i : Fin 64, (if hi : 63 ≤ t.val + i.val then (x (ix3 a b ⟨t.val + i.val - 63, by omega⟩) : EReal) else 0)
      = if 63 ≤ t.val + i.val then (x (ix3 a b ⟨(t.val + i.val - 63) % 64, Nat.mod_lt _ (by omega)⟩) : EReal) else 0 := by
    intro i
    by_cases hi : 63 ≤ t.val + i.val
    · rw [dif_pos hi, if_pos hi]
      exact congrArg x (congrArg (ix3 a b) (Fin.ext (Nat.mod_eq_of_lt (by have := i.isLt; omega)).symm))
    · rw [dif_neg hi, if_neg hi]
  rw [Finset.sum_congr rfl fun i _ => e i, ← Finset.sum_filter]
  refine Finset.sum_nbij' (fun i => (⟨(t.val + i.val - 63) % 64, Nat.mod_lt _ (by omega)⟩ : Fin 64))
    (fun s => (⟨(s.val + 63 - t.val) % 64, Nat.mod_lt _ (by omega)⟩ : Fin 64)) ?_ ?_ ?_ ?_ ?_
  · intro i hi
    rw [Finset.mem_filter] at hi ⊢
    refine ⟨Finset.mem_univ _, ?_⟩
    have := i.isLt
    show (t.val + i.val - 63) % 64 ≤ t.val
    omega
  · intro s hs
    rw [Finset.mem_filter] at hs ⊢
    refine ⟨Finset.mem_univ _, ?_⟩
    have := s.isLt
    have h2 := hs.2
    show 63 ≤ t.val + (s.val + 63 - t.val) % 64
    omega
  · intro i hi
    rw [Finset.mem_filter] at hi
    have := i.isLt
    have h2 := hi.2
    refine Fin.ext ?_
    show ((t.val + i.val - 63) % 64 + 63 - t.val) % 64 = i.val
    omega
  · intro s hs
    rw [Finset.mem_filter] at hs
    have := s.isLt
    have h2 := hs.2
    refine Fin.ext ?_
    show (t.val + (s.val + 63 - t.val) % 64 - 63) % 64 = s.val
    omega
  · intro i _
    rfl

end Cert.HostReads

end
-- ==== Proof.RefStep.lean ====
/- One trip of the reference's loop, read at an index: from a state that holds the recurrence's numbers at the chunk's
   start, the trip leaves those at its end. -/
module

public import proofs.«01_k».proof.Proof.Seq
public import proofs.«01_k».proof.Proof.HostReads
public import proofs.«01_k».proof.Proof.Gen.ReferenceIdeal.Step

@[expose] public section

set_option maxRecDepth 16384

noncomputable section

namespace Cert.RefStep

open Idealize.ShloMosaic Cert.ReferenceIdeal Cert.ReferenceIdeal.Gen Cert.ReferenceIdeal.Step Cert.Seq Cert.Chunk Cert.HostReads
open scoped BigOperators

/-- A state of the loop before trip `j`: the constants hold the sequences, the carried values the recurrence's numbers
    after `64 j` tokens, and the stacked outputs are filled up to chunk `j`. -/
structure Inv (P : FVec Ideal S33280x3072 .f32) (G : FVec Ideal S33280x128 .f32) (j : ℕ) (s : State Ideal) : Prop where
  q : ∀ (c : Fin 64) (b h : Fin 8) (t d : Fin 64), s.main_v33_0 (ix5 c b h t d) = ((Seq.q P b.val h.val d.val (c.val * 64 + t.val) : ℝ) : EReal)
  k : ∀ (c : Fin 64) (b h : Fin 8) (t d : Fin 64), s.main_v33_1 (ix5 c b h t d) = ((Seq.k P b.val h.val d.val (c.val * 64 + t.val) : ℝ) : EReal)
  v : ∀ (c : Fin 64) (b h : Fin 8) (t : Fin 64) (e : Fin 128), s.main_v33_2 (ix5 c b h t e) = ((Seq.v P b.val h.val e.val (c.val * 64 + t.val) : ℝ) : EReal)
  ig : ∀ (c : Fin 64) (b h : Fin 8) (t : Fin 64), s.main_v33_3 (ix4 c b h t) = ((Seq.ig G b.val h.val (c.val * 64 + t.val) : ℝ) : EReal)
  fg : ∀ (c : Fin 64) (b h : Fin 8) (t : Fin 64), s.main_v33_4 (ix4 c b h t) = ((Seq.fg G b.val h.val (c.val * 64 + t.val) : ℝ) : EReal)
  C : ∀ (b h : Fin 8) (d : Fin 64) (e : Fin 128), s.main_v33_6 (ix4 b h d e) = ((A P G b.val h.val d.val (Seq.v P b.val h.val e.val) (j * 64) : ℝ) : EReal)
  n : ∀ (b h : Fin 8) (d : Fin 64), s.main_v33_7 (ix3 b h d) = ((A P G b.val h.val d.val (fun _ => 1) (j * 64) : ℝ) : EReal)
  m : ∀ (b h : Fin 8), s.main_v33_8 (ix2 b h) = ((M G b.val h.val (j * 64) : ℝ) : EReal)
  H : ∀ (c : Fin 64) (b h : Fin 8) (t : Fin 64) (e : Fin 128), c.val < j → s.main_v33_9 (ix5 c b h t e) = Seq.H P G b.val h.val e.val (c.val * 64 + t.val)

section
variable {P : FVec Ideal S33280x3072 .f32} {G : FVec Ideal S33280x128 .f32} {j : ℕ} {s : State Ideal} (I : Inv P G j s) (hj : j < 64)
include I hj

theorem b5_at (b h : Fin 8) (t d : Fin 64) : b5 j s (ix4 b h t d) = ((Seq.q P b.val h.val d.val (j * 64 + t.val) : ℝ) : EReal) := by
  pointwise [b5]
  exact (slice5 _ _ _ j hj (toInt_trip j hj) rfl rfl rfl rfl b h t d).trans (I.q ⟨j, hj⟩ b h t d)

theorem b11_at (b h : Fin 8) (t d : Fin 64) : b11 j s (ix4 b h t d) = ((Seq.k P b.val h.val d.val (j * 64 + t.val) : ℝ) : EReal) := by
  pointwise [b11]
  exact (slice5 _ _ _ j hj (toInt_trip j hj) rfl rfl rfl rfl b h t d).trans (I.k ⟨j, hj⟩ b h t d)

theorem b17_at (b h : Fin 8) (t : Fin 64) (e : Fin 128) : b17 j s (ix4 b h t e) = ((Seq.v P b.val h.val e.val (j * 64 + t.val) : ℝ) : EReal) := by
  pointwise [b17]
  exact (slice5 _ _ _ j hj (toInt_trip j hj) rfl rfl rfl rfl b h t e).trans (I.v ⟨j, hj⟩ b h t e)

theorem b22_at (b h : Fin 8) (t : Fin 64) : b22 j s (ix3 b h t) = ((Seq.ig G b.val h.val (j * 64 + t.val) : ℝ) : EReal) := by
  pointwise [b22]
  exact (slice4 _ _ _ j hj (toInt_trip j hj) rfl rfl rfl b h t).trans (I.ig ⟨j, hj⟩ b h t)

theorem b27_at (b h : Fin 8) (t : Fin 64) : b27 j s (ix3 b h t) = ((Seq.fg G b.val h.val (j * 64 + t.val) : ℝ) : EReal) := by
  pointwise [b27]
  exact (slice4 _ _ _ j hj (toInt_trip j hj) rfl rfl rfl b h t).trans (I.fg ⟨j, hj⟩ b h t)

theorem b30_at (b h : Fin 8) (t : Fin 64) : b30 j s (ix3 b h t) = ((Recur.cum (Seq.fg G b.val h.val) (j * 64) (t.val + 1) : ℝ) : EReal) := by
  unfold b30
  refine (cumsum (b27 j s) (b29 j s) (fun i => by pointwise [b29, b28]) _ _ b h t).trans ?_
  refine prefix_sum (Seq.fg G b.val h.val) (j * 64) 64 t _ fun u => ?_
  rw [b27_at I hj]

theorem b54_at (b h : Fin 8) (t u : Fin 64) : b54 j s (ix4 b h t u) = dlog (Seq.fg G b.val h.val) (Seq.ig G b.val h.val) (j * 64) t.val u.val := by
  pointwise [b54, b53, b52, b51, b50, b49, b48, b47, b46, b45, b44, b43, b42, b41, b40, b39, b38, b37, b36, b35, b34, b33, b32, b31, b30_at I hj, b22_at I hj, neg_inf]
  rw [show IntOp.addi (BitVec.ofNat 32 t.val) 0#32 = BitVec.ofNat 32 t.val from BitVec.add_zero _, causal t.val u.val (by omega) (by omega)]
  unfold dlog
  by_cases hu : u.val ≤ t.val
  · rw [if_pos hu, if_pos hu, ← EReal.coe_sub, ← EReal.coe_add]; rfl
  · rw [if_neg hu, if_neg hu]; rfl

theorem b57_at (b h : Fin 8) (t : Fin 64) : b57 j s (ix3 b h t)
    = ((Recur.cum (Seq.fg G b.val h.val) (j * 64) (t.val + 1) + M G b.val h.val (j * 64) : ℝ) : EReal) := by
  pointwise [b57, b56, b55, b30_at I hj, I.m]
  rw [EReal.coe_add]

theorem b60_at (b h : Fin 8) (t : Fin 64) : b60 j s (ix3 b h t) = ((M G b.val h.val (j * 64 + (t.val + 1)) : ℝ) : EReal) := by
  pointwise [b60, b59, b58, b57_at I hj, neg_inf]
  exact max_chunk (Seq.fg G b.val h.val) (Seq.ig G b.val h.val) (j * 64) 64 t _ fun u => b54_at I hj b h t u

theorem b64_at (b h : Fin 8) (t u : Fin 64) : b64 j s (ix4 b h t u) = ((wgt (Seq.fg G b.val h.val) (Seq.ig G b.val h.val) (j * 64) t.val u.val : ℝ) : EReal) := by
  pointwise [b64, b63, b62, b61, b54_at I hj, b60_at I hj]
  exact exp_dlog _ _ _ _ _

theorem b66_at (b h : Fin 8) (t : Fin 64) : b66 j s (ix3 b h t)
    = Ideal.exp (((Recur.cum (Seq.fg G b.val h.val) (j * 64) (t.val + 1) + M G b.val h.val (j * 64) : ℝ) : EReal) - ((M G b.val h.val (j * 64 + (t.val + 1)) : ℝ) : EReal)) := by
  pointwise [b66, b65, b57_at I hj, b60_at I hj]

theorem b68_at (b h : Fin 8) (t u : Fin 64) : b68 j s (ix4 b h t u)
    = (∑ d : Fin 64, ((Seq.q P b.val h.val d.val (j * 64 + t.val) : ℝ) : EReal) * ((Seq.k P b.val h.val d.val (j * 64 + u.val) : ℝ) : EReal))
      * ((wgt (Seq.fg G b.val h.val) (Seq.ig G b.val h.val) (j * 64) t.val u.val : ℝ) : EReal) := by
  pointwise [b68, b67, b64_at I hj, b5_at I hj, b11_at I hj]

theorem b74_at (b h : Fin 8) (t : Fin 64) (e : Fin 128) : b74 j s (ix4 b h t e) = ((Q P G b.val h.val (Seq.v P b.val h.val e.val) (j * 64 + t.val) : ℝ) : EReal) := by
  pointwise [b74, b73, b72, b71, b70, b69, b66_at I hj, b68_at I hj, b5_at I hj, b17_at I hj, I.C]
  exact query (Seq.fg G b.val h.val) (Seq.ig G b.val h.val) (j * 64) 64 64 (fun d => Seq.q P b.val h.val d.val (j * 64 + t.val))
    (fun d => Seq.k P b.val h.val d.val) (Seq.v P b.val h.val e.val) t

theorem b79_at (b h : Fin 8) (t : Fin 64) : b79 j s (ix3 b h t) = ((Q P G b.val h.val (fun _ => 1) (j * 64 + t.val) : ℝ) : EReal) := by
  pointwise [b79, b78, b77, b76, b75, b66_at I hj, b68_at I hj, b5_at I hj, I.n]
  refine Eq.trans ?_ (query (Seq.fg G b.val h.val) (Seq.ig G b.val h.val) (j * 64) 64 64 (fun d => Seq.q P b.val h.val d.val (j * 64 + t.val))
    (fun d => Seq.k P b.val h.val d.val) (fun _ => 1) t)
  simp only [EReal.coe_one, mul_one]
  simp only [Seq.A, Seq.M, mul_one]

theorem b86_at (b h : Fin 8) (t : Fin 64) (e : Fin 128) : b86 j s (ix4 b h t e) = Seq.H P G b.val h.val e.val (j * 64 + t.val) := by
  pointwise [b86, b85, b84, b83, b82, b81, b80, b74_at I hj, b79_at I hj, b60_at I hj]
  rfl

theorem b88_at (b h : Fin 8) : b88 j s (ix2 b h) = ((M G b.val h.val ((j + 1) * 64) : ℝ) : EReal) := by
  pointwise [b88, b87, b60_at I hj]
  rw [show (j + 1) * 64 = j * 64 + 64 by ring]

theorem b93_at (b h : Fin 8) : b93 j s (ix2 b h)
    = Ideal.exp (((Recur.cum (Seq.fg G b.val h.val) (j * 64) 64 + M G b.val h.val (j * 64) : ℝ) : EReal) - ((M G b.val h.val (j * 64 + 64) : ℝ) : EReal)) := by
  pointwise [b93, b92, b91, b90, b89, b88_at I hj, b30_at I hj, I.m]
  rw [show (j + 1) * 64 = j * 64 + 64 by ring, EReal.coe_add]

theorem b101_at (b h : Fin 8) (u : Fin 64) : b101 j s (ix3 b h u)
    = Ideal.exp ((((Recur.cum (Seq.fg G b.val h.val) (j * 64) 64 : ℝ) : EReal) - ((Recur.cum (Seq.fg G b.val h.val) (j * 64) (u.val + 1) : ℝ) : EReal)
        + ((Seq.ig G b.val h.val (j * 64 + u.val) : ℝ) : EReal)) - ((M G b.val h.val (j * 64 + 64) : ℝ) : EReal)) := by
  pointwise [b101, b100, b99, b98, b97, b96, b95, b94, b88_at I hj, b30_at I hj, b22_at I hj]
  rw [show (j + 1) * 64 = j * 64 + 64 by ring]

theorem b109_at (b h : Fin 8) (d : Fin 64) (e : Fin 128) : b109 j s (ix4 b h d e) = ((A P G b.val h.val d.val (Seq.v P b.val h.val e.val) ((j + 1) * 64) : ℝ) : EReal) := by
  pointwise [b109, b108, b107, b106, b105, b104, b103, b102, b101_at I hj, b93_at I hj, b11_at I hj, b17_at I hj, I.C]
  rw [show (j + 1) * 64 = j * 64 + 64 by ring]
  refine Eq.trans ?_ (state (Seq.fg G b.val h.val) (Seq.ig G b.val h.val) (j * 64) 64 (Seq.k P b.val h.val d.val) (Seq.v P b.val h.val e.val))
  refine congrArg₂ (· + ·) rfl (Finset.sum_congr rfl fun x _ => congrArg₂ (· * ·) (mul_comm _ _) rfl)

theorem b115_at (b h : Fin 8) (d : Fin 64) : b115 j s (ix3 b h d) = ((A P G b.val h.val d.val (fun _ => 1) ((j + 1) * 64) : ℝ) : EReal) := by
  pointwise [b115, b114, b113, b112, b111, b110, b104, b103, b102, b101_at I hj, b93_at I hj, b11_at I hj, I.n]
  rw [show (j + 1) * 64 = j * 64 + 64 by ring]
  refine Eq.trans ?_ (state (Seq.fg G b.val h.val) (Seq.ig G b.val h.val) (j * 64) 64 (Seq.k P b.val h.val d.val) (fun _ => 1))
  refine congrArg₂ (· + ·) rfl (Finset.sum_congr rfl fun x _ => ?_)
  rw [EReal.coe_one, mul_one]
  exact mul_comm _ _

theorem b121_at (i : Fin 64) (b h : Fin 8) (t : Fin 64) (e : Fin 128) : b121 j s (ix5 i b h t e)
    = if i.val = j then Seq.H P G b.val h.val e.val (j * 64 + t.val) else s.main_v33_9 (ix5 i b h t e) := by
  unfold b121
  refine (update5 _ _ _ _ j hj (toInt_trip j hj) rfl rfl rfl rfl i b h t e).trans ?_
  have e1 : b116 j s (ix5 0 b h t e) = Seq.H P G b.val h.val e.val (j * 64 + t.val) := by
    pointwise [b116, b86_at I hj]
  rw [e1]

end

end Cert.RefStep

end
-- ==== Proof.RefValue.lean ====
/- The reference's results, read at an index: the normalised outputs, the state and the stabiliser of the recurrence
   after all tokens. -/
module

public import proofs.«01_k».proof.Proof.RefStep

@[expose] public section

set_option maxRecDepth 16384

noncomputable section

namespace Cert.RefValue

open Idealize.ShloMosaic Cert.ReferenceIdeal Cert.ReferenceIdeal.Gen Cert.ReferenceIdeal.Step Cert.Seq Cert.Chunk Cert.RefStep
open scoped BigOperators

section
variable {P : FVec Ideal S33280x3072 .f32} {G : FVec Ideal S33280x128 .f32} (hF : Fin' P G)
include hF

/-- The state the first trip is handed. -/
theorem inv_zero : Inv P G 0 (init (F := Ideal) P G) where
  q c b h t d := by
    show A_main_v23 (F := Ideal) P G (ix5 c b h t d) = _
    pointwise [A_main_v23, A_main_v22, A_main_v14, A_main_v12, A_main_v11, A_main_v4, A_main_v1, A_main_v0, K_main_v13, K_main_cst]
    rw [hF.proj _ _ _ _ (by omega) (by omega), eighth, ← EReal.coe_mul]; rfl
  k c b h t d := by
    show A_main_v25 (F := Ideal) P G (ix5 c b h t d) = _
    pointwise [A_main_v25, A_main_v24, A_main_v16, A_main_v15, A_main_v5, A_main_v1, A_main_v0]
    rw [hF.proj _ _ _ _ (by omega) (by omega)]; rfl
  v c b h t e := by
    show A_main_v27 (F := Ideal) P G (ix5 c b h t e) = _
    pointwise [A_main_v27, A_main_v26, A_main_v18, A_main_v17, A_main_v6, A_main_v1, A_main_v0]
    rw [hF.proj _ _ _ _ (by omega) (by omega)]; rfl
  ig c b h t := by
    show A_main_v29 (F := Ideal) P G (ix4 c b h t) = _
    pointwise [A_main_v29, A_main_v28, A_main_v8, A_main_v7, A_main_v3, A_main_v2]
    rw [hF.gate _ _ _ _ (by omega) (by omega)]; rfl
  fg c b h t := by
    show A_main_v31 (F := Ideal) P G (ix4 c b h t) = _
    pointwise [A_main_v31, A_main_v30, A_main_v10, A_main_v9, A_main_v3, A_main_v2]
    rw [hF.gate _ _ _ _ (by omega) (by omega)]; rfl
  C b h d e := by
    show K_main_v19 (F := Ideal) (ix4 b h d e) = _
    pointwise [K_main_v19, K_main_cst_0]
    exact EReal.coe_zero.symm
  n b h d := by
    show K_main_v20 (F := Ideal) (ix3 b h d) = _
    pointwise [K_main_v20, K_main_cst_1]
    exact EReal.coe_zero.symm
  m b h := by
    show K_main_v21 (F := Ideal) (ix2 b h) = _
    pointwise [K_main_v21, K_main_cst_2]
    exact EReal.coe_zero.symm
  H c b h t e hc := absurd hc (Nat.not_lt_zero _)

omit hF in
/-- A trip. -/
theorem inv_succ {j : ℕ} {s : State Ideal} (I : Inv P G j s) (hj : j < 64) : Inv P G (j + 1) (step j s) where
  q := I.q
  k := I.k
  v := I.v
  ig := I.ig
  fg := I.fg
  C b h d e := by rw [step_main_v33_6]; exact b109_at I hj b h d e
  n b h d := by rw [step_main_v33_7]; exact b115_at I hj b h d
  m b h := by rw [step_main_v33_8]; exact b88_at I hj b h
  H c b h t e hc := by
    rw [step_main_v33_9, b121_at I hj]
    by_cases h1 : c.val = j
    · rw [if_pos h1, h1]
    · rw [if_neg h1]; exact I.H c b h t e (by omega)

/-- The state after `j` trips. -/
def iter (P : FVec Ideal S33280x3072 .f32) (G : FVec Ideal S33280x128 .f32) : ℕ → State Ideal
  | 0 => init P G
  | j + 1 => step j (iter P G j)

theorem inv_iter : ∀ j, j ≤ 64 → Inv P G j (iter P G j)
  | 0, _ => inv_zero hF
  | j + 1, hj => inv_succ (inv_iter j (by omega)) (by omega)

end

/-- A row of 128 numbers normalised by its root mean square, with the constant added to the mean. -/
def normed (x : Fin 128 → EReal) (e : Fin 128) : EReal :=
  x e * Ideal.rsqrt (Ideal.div (∑ i : Fin 128, x i * x i) (Ideal.ofBits .f32 0x43000000#32) + Ideal.ofBits .f32 0x358637BD#32)

/-- The stacked outputs token by token. -/
def hT (s : State Ideal) : FVec Ideal S8x4096x8x128 .f32 :=
  transpose S8x4096x8x128 [0, 2, 1, 3] (shapeCast S8x8x4096x128 (transpose S8x8x64x64x128 [1, 2, 0, 3, 4] (s.main_v33_9) transposes_S64x8x8x64x128_S8x8x64x64x128_1_2_0_3_4) shapeCasts_S8x8x64x64x128_S8x8x4096x128) transposes_S8x8x4096x128_S8x4096x8x128_0_2_1_3

theorem hT_at (s : State Ideal) (b : Fin 8) (n : Fin 4096) (h : Fin 8) (e : Fin 128) :
    hT s (ix4 b n h e) = s.main_v33_9 (ix5 ⟨n.val / 64, by omega⟩ b h ⟨n.val % 64, by omega⟩ e) := by
  pointwise [hT]

/-- The normalisation. -/
def nrm (X : FVec Ideal S8x4096x8x128 .f32) : FVec Ideal S8x4096x8x128 .f32 :=
  mulf X (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf X X) (constant S_ .f32 0x00000000#32) reducesTo_S8x4096x8x128_S8x4096x8_d3 h_S_)) (broadcastInDim S8x4096x8x1 ![] bcast_S_S8x4096x8x1 (constant S_ .f32 0x43000000#32))) (broadcastInDim S8x4096x8x1 ![] bcast_S_S8x4096x8x1 (constant S_ .f32 0x358637BD#32)))))

theorem nrm_at (X : FVec Ideal S8x4096x8x128 .f32) (b : Fin 8) (n : Fin 4096) (h : Fin 8) (e : Fin 128) :
    nrm X (ix4 b n h e) = normed (fun i => X (ix4 b n h i)) e := by
  pointwise [nrm, normed]

/-- The rest: the gain and the output gate. -/
def gated (N : FVec Ideal S8x4096x8x128 .f32) (P : FVec Ideal S33280x3072 .f32) (g : FVec Ideal S1024 .f32) : FVec Ideal S8x4096x1024 .f32 :=
  mulf (mulf (shapeCast S8x4096x1024 N shapeCasts_S8x4096x8x128_S8x4096x1024) (broadcastInDim S8x4096x1024 ![0, 1, 2] bcast_S1x1x1024_S8x4096x1024_0_1_2 (broadcastInDim S1x1x1024 ![2] bcast_S1024_S1x1x1024_2 g))) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (shapeCast S8x4096x1024 (extractStridedSlice S32768x1024 ![0, 2048] P slices_S33280x3072_S32768x1024_0_2048) shapeCasts_S32768x1024_S8x4096x1024)))))

theorem gated_at (N : FVec Ideal S8x4096x8x128 .f32) (P : FVec Ideal S33280x3072 .f32) (g : FVec Ideal S1024 .f32)
    (b : Fin 8) (n : Fin 4096) (l : Fin 1024) :
    gated N P g (ix3 b n l) = N (ix4 b n ⟨l.val / 128, by omega⟩ ⟨l.val % 128, by omega⟩) * g (ix1 l)
      * Ideal.div 1 (1 + Ideal.exp (-P (ix2 ⟨b.val * 4096 + n.val, by omega⟩ ⟨2048 + l.val, by omega⟩))) := by
  pointwise [gated]

theorem v63_eq (s : State Ideal) (P : FVec Ideal S33280x3072 .f32) (g : FVec Ideal S1024 .f32) :
    R_main_v63 s P g = shapeCast S32768x1024 (gated (nrm (hT s)) P g) shapeCasts_S8x4096x1024_S32768x1024 := rfl

/-- The first result's entry at token `n` of batch element `b`, lane `l`. -/
def Y (P : FVec Ideal S33280x3072 .f32) (G : FVec Ideal S33280x128 .f32) (g : FVec Ideal S1024 .f32) (b n l : ℕ) (hb : b < 8) (hn : n < 4096) (hl : l < 1024) : EReal :=
  normed (fun i => Seq.H P G b (l / 128) i.val n) ⟨l % 128, by omega⟩ * g (ix1 ⟨l, hl⟩)
    * Ideal.div 1 (1 + Ideal.exp (-P (ix2 ⟨b * 4096 + n, by omega⟩ ⟨2048 + l, by omega⟩)))

section
variable {P : FVec Ideal S33280x3072 .f32} {G : FVec Ideal S33280x128 .f32} (hF : Fin' P G)
include hF

theorem v63_at (g : FVec Ideal S1024 .f32) (r : Fin 32768) (l : Fin 1024) :
    R_main_v63 (iter P G 64) P g (ix2 r l) = Y P G g (r.val / 4096) (r.val % 4096) l.val (by omega) (by omega) l.isLt := by
  rw [v63_eq]
  have e1 : ∀ X : FVec Ideal S8x4096x1024 .f32, shapeCast S32768x1024 X shapeCasts_S8x4096x1024_S32768x1024 (ix2 r l)
      = X (ix3 ⟨r.val / 4096, by omega⟩ ⟨r.val % 4096, by omega⟩ l) := by
    intro X
    pointwise
  rw [e1, gated_at, nrm_at]
  unfold Y
  simp only [hT_at]
  congr 4
  funext i
  refine ((inv_iter hF 64 (Nat.le_refl _)).H _ _ _ _ _ (by show r.val % 4096 / 64 < 64; omega)).trans ?_
  show Seq.H P G (r.val / 4096) (l.val / 128) i.val (r.val % 4096 / 64 * 64 + r.val % 4096 % 64) = _
  rw [Nat.div_add_mod']

theorem v62_at (b h : Fin 8) (d : Fin 64) (l : Fin 256) :
    R_main_v62 (iter P G 64) (ix4 b h d l)
      = if l.val < 128 then ((Seq.A P G b.val h.val d.val (Seq.v P b.val h.val l.val) 4096 : ℝ) : EReal)
        else if l.val - 128 < 1 then ((Seq.A P G b.val h.val d.val (fun _ => 1) 4096 : ℝ) : EReal) else 0 := by
  pointwise [R_main_v62, (inv_iter hF 64 (Nat.le_refl _)).C, (inv_iter hF 64 (Nat.le_refl _)).n]
  rfl

theorem v65_at (b h : Fin 8) (l : Fin 128) :
    R_main_v65 (iter P G 64) (ix3 b h l) = ((Seq.M G b.val h.val 4096 : ℝ) : EReal) := by
  pointwise [R_main_v65]
  exact (inv_iter hF 64 (Nat.le_refl _)).m b h

end

end Cert.RefValue

end
-- ==== Proof.Final.lean ====
/- The kernel's three results are the reference's. -/
module

public import proofs.«01_k».proof.Proof.Fold
public import proofs.«01_k».proof.Proof.RefValue

@[expose] public section

set_option maxRecDepth 16384

noncomputable section

namespace Cert.Final

open Idealize.ShloMosaic Idealize.ShloMosaic.TcCoe Idealize.SL.Sem
open Cert.Recur Cert.Head Cert.Blocks

/-- No contribution, no state. -/
theorem acc_zero (f g k : ℕ → ℝ) : ∀ n, acc f g (fun i => k i * 0) n = 0
  | 0 => rfl
  | n + 1 => by
    show _ * acc f g (fun i => k i * 0) n + _ * (k n * 0) = 0
    rw [acc_zero f g k n, mul_zero, mul_zero, mul_zero, add_zero]

variable {m : (ℓ : Loc Cert.KernelIdeal.nD Cert.KernelIdeal.τ Cert.KernelIdeal.sig) → Buf (Elt Ideal) ℓ} {c : Dev Cert.KernelIdeal.nD}
    (hF : Seq.Fin' (P m c) (G m c))
include hF

theorem eq9 : (Cert.KernelIdeal.Value.G9 m c : FVec Ideal Cert.ReferenceIdeal.S32768x1024 .f32)
    = Cert.ReferenceIdeal.Step.R_main_v63 (F := Ideal) (RefValue.iter (P m c) (G m c) 64) (P m c) (gain m c) := by
  funext i
  have hi : i = ix2 (i 0) (i 1) := by blk_ext []
  rw [hi]
  generalize i 0 = r
  generalize i 1 = l
  change Fin 32768 at r
  change Fin 1024 at l
  refine (Fold.g9_at hF r l).trans ((RefValue.v63_at hF (gain m c) r l).trans ?_).symm
  unfold RefValue.Y Fold.yv
  have e : ∀ h, (⟨r.val / 4096 * 4096 + r.val % 4096, h⟩ : Fin 33280) = ⟨r.val, by omega⟩ := fun h => Fin.ext (by show r.val / 4096 * 4096 + r.val % 4096 = r.val; omega)
  rw [e]
  rfl

theorem eq10 : (Cert.KernelIdeal.Value.G10 m c : FVec Ideal Cert.ReferenceIdeal.S8x8x64x256 .f32)
    = Cert.ReferenceIdeal.Step.R_main_v62 (F := Ideal) (RefValue.iter (P m c) (G m c) 64) := by
  funext i
  have hi : i = ix4 (i 0) (i 1) (i 2) (i 3) := by blk_ext []
  rw [hi]
  generalize i 0 = b
  generalize i 1 = h
  generalize i 2 = d
  generalize i 3 = l
  change Fin 8 at b
  change Fin 8 at h
  change Fin 64 at d
  change Fin 256 at l
  refine (Fold.g10_at hF b h d l).trans ((RefValue.v62_at hF b h d l).trans ?_).symm
  have hv : ∀ (v : ℕ → ℕ → ℝ), vx v l.val = fun n => if l.val < 128 then v l.val n else if l.val - 128 < 1 then 1 else 0 := fun v => rfl
  rw [hv]
  by_cases h1 : l.val < 128
  · rw [if_pos h1]
    simp only [if_pos h1]
  · rw [if_neg h1]
    simp only [if_neg h1]
    by_cases h2 : l.val - 128 < 1
    · rw [if_pos h2]
      simp only [if_pos h2]
    · rw [if_neg h2]
      simp only [if_neg h2]
      unfold Seq.A
      rw [acc_zero]
      rfl

theorem eq11 : (Cert.KernelIdeal.Value.G11 m c : FVec Ideal Cert.ReferenceIdeal.S8x8x128 .f32)
    = Cert.ReferenceIdeal.Step.R_main_v65 (F := Ideal) (RefValue.iter (P m c) (G m c) 64) := by
  funext i
  have hi : i = ix3 (i 0) (i 1) (i 2) := by blk_ext []
  rw [hi]
  generalize i 0 = b
  generalize i 1 = h
  generalize i 2 = l
  change Fin 8 at b
  change Fin 8 at h
  change Fin 128 at l
  exact (Fold.g11_at hF b h l).trans (RefValue.v65_at hF b h l).symm

end Cert.Final

end
-- ==== Proof.Rows.lean ====
/- The token rows in one array: the prompt's rows, the sample's, then the filling rows, read at an index. -/
module

public import Idealize.ShloMosaic.Lib.Pointwise
public import Idealize.ShloMosaic.Lib.IdealHost
public import Idealize.ShloMosaic.Lib.Pipeline.ValueKit

@[expose] public section

set_option maxRecDepth 16384

noncomputable section

namespace Cert.Rows

open Idealize.ShloMosaic

variable {p q z T n : ℕ}
variable (A : (⟨2, ![p, n]⟩ : Shape).Idx → EReal) (B : (⟨2, ![q, n]⟩ : Shape).Idx → EReal)
  (Z : (⟨2, ![z, n]⟩ : Shape).Idx → EReal)
  (h : Shape.Concatenates (([⟨⟨2, ![p, n]⟩, A⟩, ⟨⟨2, ![q, n]⟩, B⟩, ⟨⟨2, ![z, n]⟩, Z⟩] :
    List ((s : Shape) × (s.Idx → EReal))).map (·.1)) ⟨2, ![T, n]⟩ 0)

theorem prompt (r : Fin T) (k : Fin n) (hr : r.val < p) :
    concatenate ⟨2, ![T, n]⟩ 0 [⟨⟨2, ![p, n]⟩, A⟩, ⟨⟨2, ![q, n]⟩, B⟩, ⟨⟨2, ![z, n]⟩, Z⟩] h (ix2 r k)
      = A (ix2 ⟨r.val, hr⟩ k) := by
  rw [concatenate_cons_apply, concatenateAt_cons]
  refine (dif_pos (show r.val < p from hr)).trans (congrArg A (funext fun b => Fin.ext ?_))
  match b with
  | ⟨0, _⟩ => rfl
  | ⟨1, _⟩ => rfl

theorem sample (r : Fin T) (k : Fin n) (hr : ¬ r.val < p) (hs : r.val - p < q) :
    concatenate ⟨2, ![T, n]⟩ 0 [⟨⟨2, ![p, n]⟩, A⟩, ⟨⟨2, ![q, n]⟩, B⟩, ⟨⟨2, ![z, n]⟩, Z⟩] h (ix2 r k)
      = B (ix2 ⟨r.val - p, hs⟩ k) := by
  rw [concatenate_cons_apply, concatenateAt_cons]
  refine (dif_neg (show ¬ r.val < p from hr)).trans ?_
  rw [concatenateAt_cons]
  refine (dif_pos (show r.val - p < q from hs)).trans (congrArg B (funext fun b => Fin.ext ?_))
  match b with
  | ⟨0, _⟩ => rfl
  | ⟨1, _⟩ => rfl

theorem filling (r : Fin T) (k : Fin n) (hr : ¬ r.val < p) (hs : ¬ r.val - p < q) (hz : r.val - p - q < z) :
    concatenate ⟨2, ![T, n]⟩ 0 [⟨⟨2, ![p, n]⟩, A⟩, ⟨⟨2, ![q, n]⟩, B⟩, ⟨⟨2, ![z, n]⟩, Z⟩] h (ix2 r k)
      = Z (ix2 ⟨r.val - p - q, hz⟩ k) := by
  rw [concatenate_cons_apply, concatenateAt_cons]
  refine (dif_neg (show ¬ r.val < p from hr)).trans ?_
  rw [concatenateAt_cons]
  refine (dif_neg (show ¬ r.val - p < q from hs)).trans ?_
  rw [concatenateAt_singleton]
  refine congrArg Z (funext fun b => Fin.ext ?_)
  match b with
  | ⟨0, _⟩ => rfl
  | ⟨1, _⟩ => rfl

/-- The prompt's rows laid end to end. -/
theorem flat_p (X : (⟨3, ![8, 4096, n]⟩ : Shape).Idx → EReal) (hc : (⟨3, ![8, 4096, n]⟩ : Shape).ShapeCasts ⟨2, ![32768, n]⟩)
    (r : Fin 32768) (k : Fin n) : shapeCast (⟨2, ![32768, n]⟩ : Shape) X hc (ix2 r k)
      = X (ix3 ⟨r.val / 4096, by omega⟩ ⟨r.val % 4096, by omega⟩ k) := by
  refine shapeCast_apply _ _ _ _ ?_
  rw [Shape.rowMajor_val_two, Shape.rowMajor_val_three]
  show (r.val / 4096 * 4096 + r.val % 4096) * n + k.val = r.val * n + k.val
  rw [Nat.div_add_mod']

/-- The sample's rows laid end to end. -/
theorem flat_s (X : (⟨3, ![32, 4, n]⟩ : Shape).Idx → EReal) (hc : (⟨3, ![32, 4, n]⟩ : Shape).ShapeCasts ⟨2, ![128, n]⟩)
    (r : Fin 128) (k : Fin n) : shapeCast (⟨2, ![128, n]⟩ : Shape) X hc (ix2 r k)
      = X (ix3 ⟨r.val / 4, by omega⟩ ⟨r.val % 4, by omega⟩ k) := by
  refine shapeCast_apply _ _ _ _ ?_
  rw [Shape.rowMajor_val_two, Shape.rowMajor_val_three]
  show (r.val / 4 * 4 + r.val % 4) * n + k.val = r.val * n + k.val
  rw [Nat.div_add_mod']

/-- Row `r` of the rows laid end to end, read in the two batches; `z` below them. -/
def at3 (X : (⟨3, ![8, 4096, n]⟩ : Shape).Idx → EReal) (Y : (⟨3, ![32, 4, n]⟩ : Shape).Idx → EReal) (z : Fin n → EReal)
    (r : Fin 33280) (k : Fin n) : EReal :=
  if r.val < 32768 then X (ix3 ⟨r.val / 4096 % 8, by omega⟩ ⟨r.val % 4096, by omega⟩ k)
  else if r.val < 32896 then Y (ix3 ⟨(r.val - 32768) / 4 % 32, by omega⟩ ⟨(r.val - 32768) % 4, by omega⟩ k) else z k

theorem flat (X : (⟨3, ![8, 4096, n]⟩ : Shape).Idx → EReal) (Y : (⟨3, ![32, 4, n]⟩ : Shape).Idx → EReal)
    (Z : (⟨2, ![384, n]⟩ : Shape).Idx → EReal) (hX : (⟨3, ![8, 4096, n]⟩ : Shape).ShapeCasts ⟨2, ![32768, n]⟩)
    (hY : (⟨3, ![32, 4, n]⟩ : Shape).ShapeCasts ⟨2, ![128, n]⟩) (z : Fin n → EReal) (hz : ∀ i k, Z (ix2 i k) = z k)
    (h : Shape.Concatenates (([⟨⟨2, ![32768, n]⟩, shapeCast _ X hX⟩, ⟨⟨2, ![128, n]⟩, shapeCast _ Y hY⟩, ⟨⟨2, ![384, n]⟩, Z⟩] :
      List ((s : Shape) × (s.Idx → EReal))).map (·.1)) ⟨2, ![33280, n]⟩ 0) (r : Fin 33280) (k : Fin n) :
    concatenate ⟨2, ![33280, n]⟩ 0 [⟨⟨2, ![32768, n]⟩, shapeCast _ X hX⟩, ⟨⟨2, ![128, n]⟩, shapeCast _ Y hY⟩, ⟨⟨2, ![384, n]⟩, Z⟩] h (ix2 r k)
      = at3 X Y z r k := by
  unfold at3
  by_cases h1 : r.val < 32768
  · rw [if_pos h1]
    refine (prompt _ _ _ h r k h1).trans ((flat_p X hX _ k).trans (congrArg X ?_))
    refine congrArg (fun a => ix3 a _ k) (Fin.ext ?_)
    show r.val / 4096 = r.val / 4096 % 8
    omega
  · rw [if_neg h1]
    by_cases h2 : r.val < 32896
    · rw [if_pos h2]
      refine (sample _ _ _ h r k h1 (by omega)).trans ((flat_s Y hY _ k).trans (congrArg Y ?_))
      refine congrArg (fun a => ix3 a _ k) (Fin.ext ?_)
      show (r.val - 32768) / 4 = (r.val - 32768) / 4 % 32
      omega
    · rw [if_neg h2]
      exact (filling _ _ _ h r k h1 (by omega) (by omega)).trans (hz _ _)

/-- A row's layer norm at column `l`. -/
def ln (z : Fin 1024 → EReal) (g b : EReal) (l : Fin 1024) : EReal :=
  (z l - Ideal.div (∑ x, z x) (Ideal.ofBits FTy.f32 1149239296#32))
    * Ideal.rsqrt (Ideal.div (∑ x, (z x - Ideal.div (∑ x, z x) (Ideal.ofBits FTy.f32 1149239296#32))
        * (z x - Ideal.div (∑ x, z x) (Ideal.ofBits FTy.f32 1149239296#32))) (Ideal.ofBits FTy.f32 1149239296#32)
        + Ideal.ofBits FTy.f32 925353388#32) * g + b

theorem count_ne : Ideal.ofBits FTy.f32 1149239296#32 ≠ 0 := by
  have h : Ideal.ofBits FTy.f32 1149239296#32 = ((1024 : ℝ) : EReal) := by
    simp [Ideal.ofBits, Ideal.ieee, -EReal.coe_mul]; norm_num
  rw [h]
  exact fun h => by
    have := EReal.coe_eq_zero.mp h
    norm_num at this

/-- The layer norm of a row of zeros is the shift. -/
theorem ln_zero (g b : EReal) (l : Fin 1024) : ln (fun _ => 0) g b l = b := by
  unfold ln
  rw [Finset.sum_const_zero, Ideal.zero_div count_ne, sub_zero, zero_mul, zero_mul, zero_add]

end Cert.Rows

end
-- ==== Proof.CallIn.lean ====
/- The first layer's projections: each tile of rows times the whole weight. -/
module

public import proofs.«01_k».proof.Defs
public import proofs.«01_k».proof.Proof.Rows
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import Idealize.ShloMosaic.Lib.Pipeline.ValueKit
public import Idealize.ShloMosaic.Adequacy
public import Idealize.ShloMosaic.Init

@[expose] public section

set_option maxRecDepth 16384

noncomputable section

namespace Cert.CallIn

open Idealize.ShloMosaic Idealize.ShloMosaic.TcCoe Idealize.SL.Sem
open Idealize.ShloMosaic.Pipeline (Dat)
open Cert.KernelInIdeal Cert.KernelInIdeal.Gen

variable (m : (ℓ : Loc nD τ sig) → Buf (Elt Ideal) ℓ) (c : Dev nD)

/-- The weight in its columns. -/
def wt (a2 : (⟨2, ![1024, 3088]⟩ : Shape).Idx → EReal) (k : Fin 1024) (l : Fin 3072) : EReal := a2 (ix2 k ⟨l.val, by omega⟩)

/-- The reference's result over the arguments. -/
abbrev REF (a0 : FVec Ideal Cert.ReferenceInIdeal.S8x4096x1024 .f32) (a1 : FVec Ideal Cert.ReferenceInIdeal.S32x4x1024 .f32) (a2 : FVec Ideal Cert.ReferenceInIdeal.S1024x3088 .f32) : FVec Ideal Cert.ReferenceInIdeal.S33280x3072 .f32 :=
  (concatenate Cert.ReferenceInIdeal.S33280x3072 0 [⟨Cert.ReferenceInIdeal.S32768x3072, ((shapeCast _ (extractStridedSlice Cert.ReferenceInIdeal.S8x4096x3072 ![0, 0, 0] (Host.dotGeneral Cert.ReferenceInIdeal.dot_S8x4096x1024_S1024x3088_S8x4096x3088_2_0_01_1_n_n none a0 a2) Cert.ReferenceInIdeal.Gen.slices_S8x4096x3088_S8x4096x3072_0_0_0) Cert.ReferenceInIdeal.Gen.shapeCasts_S8x4096x3072_S32768x3072) : (⟨Cert.ReferenceInIdeal.S32768x3072, .f32⟩ : BufTy).Contents (Elt Ideal))⟩, ⟨Cert.ReferenceInIdeal.S128x3072, ((shapeCast _ (extractStridedSlice Cert.ReferenceInIdeal.S32x4x3072 ![0, 0, 0] (Host.dotGeneral Cert.ReferenceInIdeal.dot_S32x4x1024_S1024x3088_S32x4x3088_2_0_01_1_n_n none a1 a2) Cert.ReferenceInIdeal.Gen.slices_S32x4x3088_S32x4x3072_0_0_0) Cert.ReferenceInIdeal.Gen.shapeCasts_S32x4x3072_S128x3072) : (⟨Cert.ReferenceInIdeal.S128x3072, .f32⟩ : BufTy).Contents (Elt Ideal))⟩, ⟨Cert.ReferenceInIdeal.S384x3072, ((broadcastInDim Cert.ReferenceInIdeal.S384x3072 ![] Cert.ReferenceInIdeal.Gen.bcast_S_S384x3072 (constant (F := Ideal) Cert.ReferenceInIdeal.S_ .f32 0x00000000#32)) : (⟨Cert.ReferenceInIdeal.S384x3072, .f32⟩ : BufTy).Contents (Elt Ideal))⟩] Cert.ReferenceInIdeal.Gen.concatenates_S32768x3072_S128x3072_S384x3072_S33280x3072_d0 : (⟨Cert.ReferenceInIdeal.S33280x3072, .f32⟩ : BufTy).Contents (Elt Ideal))

theorem idx : ∀ t : Fin cfg0.N, win0_0.index t = ![t.val, 0] ∧ win0_1.index t = ![0, 0] ∧ win0_2.index t = ![t.val, 0] :=
  (by decide +kernel : ∀ t : Fin grid0.N, _)

/-- The token rows, laid end to end. -/
abbrev rowsOf (X : FVec Ideal S8x4096x1024 .f32) (Y : FVec Ideal S32x4x1024 .f32) : FVec Ideal S33280x1024 .f32 :=
  concatenate S33280x1024 0 [⟨S32768x1024, shapeCast S32768x1024 X shapeCasts_S8x4096x1024_S32768x1024⟩,
    ⟨S128x1024, shapeCast S128x1024 Y shapeCasts_S32x4x1024_S128x1024⟩,
    ⟨S384x1024, broadcastInDim S384x1024 ![] bcast_S_S384x1024 (constant (F := Ideal) S_ .f32 0x00000000#32)⟩]
    concatenates_S32768x1024_S128x1024_S384x1024_S33280x1024_d0

theorem rowsOf_at (X : FVec Ideal S8x4096x1024 .f32) (Y : FVec Ideal S32x4x1024 .f32) (r : Fin 33280) (k : Fin 1024) :
    rowsOf X Y (ix2 r k) = Rows.at3 X Y (fun _ => 0) r k :=
  Rows.flat _ _ _ _ _ _ (fun i k => by pointwise) _ r k

theorem rows_at (r : Fin 33280) (k : Fin 1024) : (V m c main_v3 : FVec Ideal S33280x1024 .f32) (ix2 r k)
    = Rows.at3 (m ((c : Thread nD τ).loc main_arg0)) (m ((c : Thread nD τ).loc main_arg1)) (fun _ => 0) r k := by
  have e : (V m c main_v3 : FVec Ideal S33280x1024 .f32) = rowsOf (m ((c : Thread nD τ).loc main_arg0)) (m ((c : Thread nD τ).loc main_arg1)) := by
    rfl
  rw [e]
  exact rowsOf_at _ _ r k

theorem w_at (k : Fin 1024) (l : Fin 3072) : (V m c main_v5 : FVec Ideal S1024x3072 .bf16) (ix2 k l)
    = wt (m ((c : Thread nD τ).loc main_arg2)) k l := by
  entry_read
  unfold wt
  pointwise

theorem blk0 (t : Fin cfg0.N) (i : Fin 512) (k : Fin 1024) : (iblk m c 0 t : FVec Ideal S512x1024 .f32) (ix2 i k)
    = (V m c main_v3 : FVec Ideal S33280x1024 .f32) (ix2 ⟨t.val * 512 + i.val, by have := lt_of_lt_of_eq t.isLt N_0; omega⟩ k) := by
  blk_ext [iblk, idx t]

theorem blk1 (t : Fin cfg0.N) (k : Fin 1024) (l : Fin 3072) : (iblk m c 1 t : FVec Ideal S1024x3072 .bf16) (ix2 k l)
    = (V m c main_v5 : FVec Ideal S1024x3072 .bf16) (ix2 k l) := by
  blk_ext [iblk, idx t]

theorem pay_at (X : FVec Ideal S512x1024 .f32) (W : FVec Ideal S1024x3072 .bf16) (i : Fin 512) (l : Fin 3072) :
    k0_pay1 X W (ix2 i l) = ∑ k : Fin 1024, X (ix2 i k) * W (ix2 k l) := by
  pointwise [k0_pay1]

theorem dot_p (a0 : FVec Ideal Cert.ReferenceInIdeal.S8x4096x1024 .f32) (a1 : FVec Ideal Cert.ReferenceInIdeal.S32x4x1024 .f32) (a2 : FVec Ideal Cert.ReferenceInIdeal.S1024x3088 .f32) (a : Fin 8) (b : Fin 4096) (l : Fin 3072) :
    (extractStridedSlice Cert.ReferenceInIdeal.S8x4096x3072 ![0, 0, 0] (Host.dotGeneral Cert.ReferenceInIdeal.dot_S8x4096x1024_S1024x3088_S8x4096x3088_2_0_01_1_n_n none a0 a2) Cert.ReferenceInIdeal.Gen.slices_S8x4096x3088_S8x4096x3072_0_0_0) (ix3 a b l)
      = (∑ k : Fin 1024, a0 (ix3 a b k) * wt a2 k l : EReal) := by
  unfold wt
  pointwise

theorem dot_s (a0 : FVec Ideal Cert.ReferenceInIdeal.S8x4096x1024 .f32) (a1 : FVec Ideal Cert.ReferenceInIdeal.S32x4x1024 .f32) (a2 : FVec Ideal Cert.ReferenceInIdeal.S1024x3088 .f32) (a : Fin 32) (b : Fin 4) (l : Fin 3072) :
    (extractStridedSlice Cert.ReferenceInIdeal.S32x4x3072 ![0, 0, 0] (Host.dotGeneral Cert.ReferenceInIdeal.dot_S32x4x1024_S1024x3088_S32x4x3088_2_0_01_1_n_n none a1 a2) Cert.ReferenceInIdeal.Gen.slices_S32x4x3088_S32x4x3072_0_0_0) (ix3 a b l)
      = (∑ k : Fin 1024, a1 (ix3 a b k) * wt a2 k l : EReal) := by
  unfold wt
  pointwise

theorem ref_at (a0 : FVec Ideal Cert.ReferenceInIdeal.S8x4096x1024 .f32) (a1 : FVec Ideal Cert.ReferenceInIdeal.S32x4x1024 .f32) (a2 : FVec Ideal Cert.ReferenceInIdeal.S1024x3088 .f32) (r : Fin 33280) (l : Fin 3072) : REF a0 a1 a2 (ix2 r l)
      = ∑ k : Fin 1024, Rows.at3 a0 a1 (fun _ => 0) r k * wt a2 k l := by
  refine (Rows.flat _ _ _ _ _ (fun _ => 0) (fun i k => by pointwise) _ r l).trans ?_
  unfold Rows.at3
  by_cases h1 : r.val < 32768
  · simp only [if_pos h1]
    exact dot_p a0 a1 a2 _ _ _
  · by_cases h2 : r.val < 32896
    · simp only [if_neg h1, if_pos h2]
      exact dot_s a0 a1 a2 _ _ _
    · simp only [if_neg h1, if_neg h2, zero_mul, Finset.sum_const_zero]

theorem point (t : Fin cfg0.N) (y) : k0_pay1 (iblk m c 0 t) (iblk m c 1 t) y
    = REF (m ((c : Thread nD τ).loc main_arg0)) (m ((c : Thread nD τ).loc main_arg1)) (m ((c : Thread nD τ).loc main_arg2))
      (((cfg0.win 2).blk t).view.emb y) := by
  obtain ⟨i, l, rfl⟩ : ∃ (i : Fin 512) (l : Fin 3072), y = ix2 i l := ⟨y 0, y 1, eq_ix2 y⟩
  have e : k0_pay1 (iblk m c 0 t) (iblk m c 1 t) (ix2 i l) = REF (m ((c : Thread nD τ).loc main_arg0)) (m ((c : Thread nD τ).loc main_arg1)) (m ((c : Thread nD τ).loc main_arg2))
      (ix2 ⟨t.val * 512 + i.val, by have := lt_of_lt_of_eq t.isLt N_0; omega⟩ l) := by
    refine (pay_at _ _ i l).trans ((Finset.sum_congr rfl fun k _ => ?_).trans (ref_at _ _ _ _ l).symm)
    exact congrArg₂ (fun a b : EReal => a * b) ((blk0 m c t i k).trans (rows_at m c _ k)) ((blk1 m c t k l).trans (w_at m c k l))
  refine e.trans ?_
  blk_ext [idx t]

theorem final : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

theorem algebraic : algebraic_KernelInIdeal_ReferenceInIdeal (hKernelInIdeal := Cert.KernelInIdeal.Gen.facts)
    (hReferenceInIdeal := Cert.ReferenceInIdeal.Gen.facts) := by
  intro m g m' g' _ heq
  refine ⟨fun c => (dats m 0 c).arrAt 2 (cfgs 0).N, Cert.KernelInIdeal.Value.run_blocks m g, ?_⟩
  refine (θ_run _ _ _).mono (fun r h c => ?_) (Cert.ReferenceInIdeal.Value.run m' g')
  obtain ⟨h1, h2⟩ := h c
  refine ⟨h1.trans ?_, h2⟩
  rw [(heq c).1, (heq c).2.1, (heq c).2.2]
  exact (final m c).symm

/-- The reference ends, its arguments as they were. -/
theorem frame_reference (m : (ℓ : Loc Cert.ReferenceInIdeal.nD Cert.ReferenceInIdeal.τ Cert.ReferenceInIdeal.sig) → Buf (Elt Ideal) ℓ) (g : Dev Cert.ReferenceInIdeal.nD → PrngReg) :
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0) :=
  (θ_run _ _ _).mono (fun r h => ⟨fun c => (h c).2, Idealize.ShloMosaic.sem_eq_zero_of_no_sems (by decide) r.2⟩)
    (Cert.ReferenceInIdeal.Value.run m g)

end Cert.CallIn

end
-- ==== Proof.CallQkv.lean ====
/- The second layer's queries, keys and values: each tile of rows times the weights side by side. -/
module

public import proofs.«01_k».proof.Defs
public import proofs.«01_k».proof.Proof.Rows
public import proofs.«01_k».proof.Proof.Gen.KernelQkv
public import proofs.«01_k».proof.Proof.Gen.KernelQkv.Frame
public import proofs.«01_k».proof.Proof.Gen.KernelQkvIdeal
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Run
public import Idealize.ShloMosaic.Lib.Pipeline.ValueKit
public import Idealize.ShloMosaic.Adequacy
public import Idealize.ShloMosaic.Init

@[expose] public section

set_option maxRecDepth 16384

noncomputable section

namespace Cert.CallQkv

open Idealize.ShloMosaic Idealize.ShloMosaic.TcCoe Idealize.SL.Sem
open Idealize.ShloMosaic.Pipeline (Dat)
open Cert.KernelQkvIdeal Cert.KernelQkvIdeal.Gen

variable (m : (ℓ : Loc nD τ sig) → Buf (Elt Ideal) ℓ) (c : Dev nD)

/-- The weight in its columns. -/
def wt (a2 : (⟨2, ![1024, 1024]⟩ : Shape).Idx → EReal) (a3 : (⟨2, ![1024, 2048]⟩ : Shape).Idx → EReal) (k : Fin 1024) (l : Fin 3072) : EReal := if h : l.val < 1024 then a2 (ix2 k ⟨l.val, h⟩) else a3 (ix2 k ⟨l.val - 1024, by omega⟩)

/-- The reference's result over the arguments. -/
abbrev REF (a0 : FVec Ideal Cert.ReferenceQkvIdeal.S8x4096x1024 .f32) (a1 : FVec Ideal Cert.ReferenceQkvIdeal.S32x4x1024 .f32) (a2 : FVec Ideal Cert.ReferenceQkvIdeal.S1024x1024 .f32) (a3 : FVec Ideal Cert.ReferenceQkvIdeal.S1024x2048 .f32) : FVec Ideal Cert.ReferenceQkvIdeal.S33280x3072 .f32 :=
  (concatenate Cert.ReferenceQkvIdeal.S33280x3072 0 [⟨Cert.ReferenceQkvIdeal.S32768x3072, ((shapeCast _ (concatenate Cert.ReferenceQkvIdeal.S8x4096x3072 2 [⟨Cert.ReferenceQkvIdeal.S8x4096x1024, (Host.dotGeneral Cert.ReferenceQkvIdeal.dot_S8x4096x1024_S1024x1024_S8x4096x1024_2_0_01_1_n_n none a0 a2)⟩, ⟨Cert.ReferenceQkvIdeal.S8x4096x2048, (Host.dotGeneral Cert.ReferenceQkvIdeal.dot_S8x4096x1024_S1024x2048_S8x4096x2048_2_0_01_1_n_n none a0 a3)⟩] Cert.ReferenceQkvIdeal.Gen.concatenates_S8x4096x1024_S8x4096x2048_S8x4096x3072_d2) Cert.ReferenceQkvIdeal.Gen.shapeCasts_S8x4096x3072_S32768x3072) : (⟨Cert.ReferenceQkvIdeal.S32768x3072, .f32⟩ : BufTy).Contents (Elt Ideal))⟩, ⟨Cert.ReferenceQkvIdeal.S128x3072, ((shapeCast _ (concatenate Cert.ReferenceQkvIdeal.S32x4x3072 2 [⟨Cert.ReferenceQkvIdeal.S32x4x1024, (Host.dotGeneral Cert.ReferenceQkvIdeal.dot_S32x4x1024_S1024x1024_S32x4x1024_2_0_01_1_n_n none a1 a2)⟩, ⟨Cert.ReferenceQkvIdeal.S32x4x2048, (Host.dotGeneral Cert.ReferenceQkvIdeal.dot_S32x4x1024_S1024x2048_S32x4x2048_2_0_01_1_n_n none a1 a3)⟩] Cert.ReferenceQkvIdeal.Gen.concatenates_S32x4x1024_S32x4x2048_S32x4x3072_d2) Cert.ReferenceQkvIdeal.Gen.shapeCasts_S32x4x3072_S128x3072) : (⟨Cert.ReferenceQkvIdeal.S128x3072, .f32⟩ : BufTy).Contents (Elt Ideal))⟩, ⟨Cert.ReferenceQkvIdeal.S384x3072, ((broadcastInDim Cert.ReferenceQkvIdeal.S384x3072 ![] Cert.ReferenceQkvIdeal.Gen.bcast_S_S384x3072 (constant (F := Ideal) Cert.ReferenceQkvIdeal.S_ .f32 0x00000000#32)) : (⟨Cert.ReferenceQkvIdeal.S384x3072, .f32⟩ : BufTy).Contents (Elt Ideal))⟩] Cert.ReferenceQkvIdeal.Gen.concatenates_S32768x3072_S128x3072_S384x3072_S33280x3072_d0 : (⟨Cert.ReferenceQkvIdeal.S33280x3072, .f32⟩ : BufTy).Contents (Elt Ideal))

theorem idx : ∀ t : Fin cfg0.N, win0_0.index t = ![t.val, 0] ∧ win0_1.index t = ![0, 0] ∧ win0_2.index t = ![t.val, 0] :=
  (by decide +kernel : ∀ t : Fin grid0.N, _)

/-- The token rows, laid end to end. -/
abbrev rowsOf (X : FVec Ideal S8x4096x1024 .f32) (Y : FVec Ideal S32x4x1024 .f32) : FVec Ideal S33280x1024 .f32 :=
  concatenate S33280x1024 0 [⟨S32768x1024, shapeCast S32768x1024 X shapeCasts_S8x4096x1024_S32768x1024⟩,
    ⟨S128x1024, shapeCast S128x1024 Y shapeCasts_S32x4x1024_S128x1024⟩,
    ⟨S384x1024, broadcastInDim S384x1024 ![] bcast_S_S384x1024 (constant (F := Ideal) S_ .f32 0x00000000#32)⟩]
    concatenates_S32768x1024_S128x1024_S384x1024_S33280x1024_d0

theorem rowsOf_at (X : FVec Ideal S8x4096x1024 .f32) (Y : FVec Ideal S32x4x1024 .f32) (r : Fin 33280) (k : Fin 1024) :
    rowsOf X Y (ix2 r k) = Rows.at3 X Y (fun _ => 0) r k :=
  Rows.flat _ _ _ _ _ _ (fun i k => by pointwise) _ r k

theorem rows_at (r : Fin 33280) (k : Fin 1024) : (V m c main_v3 : FVec Ideal S33280x1024 .f32) (ix2 r k)
    = Rows.at3 (m ((c : Thread nD τ).loc main_arg0)) (m ((c : Thread nD τ).loc main_arg1)) (fun _ => 0) r k := by
  have e : (V m c main_v3 : FVec Ideal S33280x1024 .f32) = rowsOf (m ((c : Thread nD τ).loc main_arg0)) (m ((c : Thread nD τ).loc main_arg1)) := by
    rfl
  rw [e]
  exact rowsOf_at _ _ r k

theorem w_at (k : Fin 1024) (l : Fin 3072) : (V m c main_v5 : FVec Ideal S1024x3072 .bf16) (ix2 k l)
    = wt (m ((c : Thread nD τ).loc main_arg2)) (m ((c : Thread nD τ).loc main_arg3)) k l := by
  entry_read
  unfold wt
  pointwise

theorem blk0 (t : Fin cfg0.N) (i : Fin 512) (k : Fin 1024) : (iblk m c 0 t : FVec Ideal S512x1024 .f32) (ix2 i k)
    = (V m c main_v3 : FVec Ideal S33280x1024 .f32) (ix2 ⟨t.val * 512 + i.val, by have := lt_of_lt_of_eq t.isLt N_0; omega⟩ k) := by
  blk_ext [iblk, idx t]

theorem blk1 (t : Fin cfg0.N) (k : Fin 1024) (l : Fin 3072) : (iblk m c 1 t : FVec Ideal S1024x3072 .bf16) (ix2 k l)
    = (V m c main_v5 : FVec Ideal S1024x3072 .bf16) (ix2 k l) := by
  blk_ext [iblk, idx t]

theorem pay_at (X : FVec Ideal S512x1024 .f32) (W : FVec Ideal S1024x3072 .bf16) (i : Fin 512) (l : Fin 3072) :
    k0_pay1 X W (ix2 i l) = ∑ k : Fin 1024, X (ix2 i k) * W (ix2 k l) := by
  pointwise [k0_pay1]

theorem dot_p (a0 : FVec Ideal Cert.ReferenceQkvIdeal.S8x4096x1024 .f32) (a1 : FVec Ideal Cert.ReferenceQkvIdeal.S32x4x1024 .f32) (a2 : FVec Ideal Cert.ReferenceQkvIdeal.S1024x1024 .f32) (a3 : FVec Ideal Cert.ReferenceQkvIdeal.S1024x2048 .f32) (a : Fin 8) (b : Fin 4096) (l : Fin 3072) :
    (concatenate Cert.ReferenceQkvIdeal.S8x4096x3072 2 [⟨Cert.ReferenceQkvIdeal.S8x4096x1024, (Host.dotGeneral Cert.ReferenceQkvIdeal.dot_S8x4096x1024_S1024x1024_S8x4096x1024_2_0_01_1_n_n none a0 a2)⟩, ⟨Cert.ReferenceQkvIdeal.S8x4096x2048, (Host.dotGeneral Cert.ReferenceQkvIdeal.dot_S8x4096x1024_S1024x2048_S8x4096x2048_2_0_01_1_n_n none a0 a3)⟩] Cert.ReferenceQkvIdeal.Gen.concatenates_S8x4096x1024_S8x4096x2048_S8x4096x3072_d2) (ix3 a b l)
      = (∑ k : Fin 1024, a0 (ix3 a b k) * wt a2 a3 k l : EReal) := by
  unfold wt
  pointwise
  by_cases h : l.val < 1024
  · simp only [dif_pos h]
  · simp only [dif_neg h]

theorem dot_s (a0 : FVec Ideal Cert.ReferenceQkvIdeal.S8x4096x1024 .f32) (a1 : FVec Ideal Cert.ReferenceQkvIdeal.S32x4x1024 .f32) (a2 : FVec Ideal Cert.ReferenceQkvIdeal.S1024x1024 .f32) (a3 : FVec Ideal Cert.ReferenceQkvIdeal.S1024x2048 .f32) (a : Fin 32) (b : Fin 4) (l : Fin 3072) :
    (concatenate Cert.ReferenceQkvIdeal.S32x4x3072 2 [⟨Cert.ReferenceQkvIdeal.S32x4x1024, (Host.dotGeneral Cert.ReferenceQkvIdeal.dot_S32x4x1024_S1024x1024_S32x4x1024_2_0_01_1_n_n none a1 a2)⟩, ⟨Cert.ReferenceQkvIdeal.S32x4x2048, (Host.dotGeneral Cert.ReferenceQkvIdeal.dot_S32x4x1024_S1024x2048_S32x4x2048_2_0_01_1_n_n none a1 a3)⟩] Cert.ReferenceQkvIdeal.Gen.concatenates_S32x4x1024_S32x4x2048_S32x4x3072_d2) (ix3 a b l)
      = (∑ k : Fin 1024, a1 (ix3 a b k) * wt a2 a3 k l : EReal) := by
  unfold wt
  pointwise
  by_cases h : l.val < 1024
  · simp only [dif_pos h]
  · simp only [dif_neg h]

theorem ref_at (a0 : FVec Ideal Cert.ReferenceQkvIdeal.S8x4096x1024 .f32) (a1 : FVec Ideal Cert.ReferenceQkvIdeal.S32x4x1024 .f32) (a2 : FVec Ideal Cert.ReferenceQkvIdeal.S1024x1024 .f32) (a3 : FVec Ideal Cert.ReferenceQkvIdeal.S1024x2048 .f32) (r : Fin 33280) (l : Fin 3072) : REF a0 a1 a2 a3 (ix2 r l)
      = ∑ k : Fin 1024, Rows.at3 a0 a1 (fun _ => 0) r k * wt a2 a3 k l := by
  refine (Rows.flat _ _ _ _ _ (fun _ => 0) (fun i k => by pointwise) _ r l).trans ?_
  unfold Rows.at3
  by_cases h1 : r.val < 32768
  · simp only [if_pos h1]
    exact dot_p a0 a1 a2 a3 _ _ _
  · by_cases h2 : r.val < 32896
    · simp only [if_neg h1, if_pos h2]
      exact dot_s a0 a1 a2 a3 _ _ _
    · simp only [if_neg h1, if_neg h2, zero_mul, Finset.sum_const_zero]

theorem point (t : Fin cfg0.N) (y) : k0_pay1 (iblk m c 0 t) (iblk m c 1 t) y
    = REF (m ((c : Thread nD τ).loc main_arg0)) (m ((c : Thread nD τ).loc main_arg1)) (m ((c : Thread nD τ).loc main_arg2)) (m ((c : Thread nD τ).loc main_arg3))
      (((cfg0.win 2).blk t).view.emb y) := by
  obtain ⟨i, l, rfl⟩ : ∃ (i : Fin 512) (l : Fin 3072), y = ix2 i l := ⟨y 0, y 1, eq_ix2 y⟩
  have e : k0_pay1 (iblk m c 0 t) (iblk m c 1 t) (ix2 i l) = REF (m ((c : Thread nD τ).loc main_arg0)) (m ((c : Thread nD τ).loc main_arg1)) (m ((c : Thread nD τ).loc main_arg2)) (m ((c : Thread nD τ).loc main_arg3))
      (ix2 ⟨t.val * 512 + i.val, by have := lt_of_lt_of_eq t.isLt N_0; omega⟩ l) := by
    refine (pay_at _ _ i l).trans ((Finset.sum_congr rfl fun k _ => ?_).trans (ref_at _ _ _ _ _ l).symm)
    exact congrArg₂ (fun a b : EReal => a * b) ((blk0 m c t i k).trans (rows_at m c _ k)) ((blk1 m c t k l).trans (w_at m c k l))
  refine e.trans ?_
  blk_ext [idx t]

theorem final : (dats m 0 c).arrAt 2 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t _ y => ?_
  blk_simp
  rw [after0_2]; frame_out
  exact point m c t y

theorem algebraic : algebraic_KernelQkvIdeal_ReferenceQkvIdeal (hKernelQkvIdeal := Cert.KernelQkvIdeal.Gen.facts)
    (hReferenceQkvIdeal := Cert.ReferenceQkvIdeal.Gen.facts) := by
  intro m g m' g' _ heq
  refine ⟨fun c => (dats m 0 c).arrAt 2 (cfgs 0).N, Cert.KernelQkvIdeal.Value.run_blocks m g, ?_⟩
  refine (θ_run _ _ _).mono (fun r h c => ?_) (Cert.ReferenceQkvIdeal.Value.run m' g')
  obtain ⟨h1, h2⟩ := h c
  refine ⟨h1.trans ?_, h2⟩
  rw [(heq c).1, (heq c).2.1, (heq c).2.2.1, (heq c).2.2.2]
  exact (final m c).symm

/-- The reference ends, its arguments as they were. -/
theorem frame_reference (m : (ℓ : Loc Cert.ReferenceQkvIdeal.nD Cert.ReferenceQkvIdeal.τ Cert.ReferenceQkvIdeal.sig) → Buf (Elt Ideal) ℓ) (g : Dev Cert.ReferenceQkvIdeal.nD → PrngReg) :
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3))
      ∧ r.2.sem = fun _ => 0) :=
  (θ_run _ _ _).mono (fun r h => ⟨fun c => (h c).2, Idealize.ShloMosaic.sem_eq_zero_of_no_sems (by decide) r.2⟩)
    (Cert.ReferenceQkvIdeal.Value.run m g)

end Cert.CallQkv

end
-- ==== Proof.CallPq.lean ====
/- A retrieval's queries: each tile of rows times the whole weight. -/
module

public import proofs.«01_k».proof.Defs
public import proofs.«01_k».proof.Proof.Rows
public import proofs.«01_k».proof.Proof.Gen.KernelPq
public import proofs.«01_k».proof.Proof.Gen.KernelPq.Frame
public import proofs.«01_k».proof.Proof.Gen.KernelPqIdeal
public import proofs.«01_k».proof.Proof.Gen.KernelPqIdeal.Frame
public import proofs.«01_k».proof.Proof.Gen.KernelPqIdeal.Value
public import proofs.«01_k».proof.Proof.Gen.ReferencePqIdeal
public import proofs.«01_k».proof.Proof.Gen.ReferencePqIdeal.Run
public import Idealize.ShloMosaic.Lib.Pipeline.ValueKit
public import Idealize.ShloMosaic.Adequacy
public import Idealize.ShloMosaic.Init

@[expose] public section

set_option maxRecDepth 16384

noncomputable section

namespace Cert.CallPq

open Idealize.ShloMosaic Idealize.ShloMosaic.TcCoe Idealize.SL.Sem
open Idealize.ShloMosaic.Pipeline (Dat)
open Cert.KernelPqIdeal Cert.KernelPqIdeal.Gen

variable (m : (ℓ : Loc nD τ sig) → Buf (Elt Ideal) ℓ) (c : Dev nD)

/-- The weight in its columns. -/
def wt (a2 : (⟨2, ![1024, 2048]⟩ : Shape).Idx → EReal) (k : Fin 1024) (l : Fin 2048) : EReal := a2 (ix2 k l)

/-- The reference's result over the arguments. -/
abbrev REF (a0 : FVec Ideal Cert.ReferencePqIdeal.S8x4096x1024 .f32) (a1 : FVec Ideal Cert.ReferencePqIdeal.S32x4x1024 .f32) (a2 : FVec Ideal Cert.ReferencePqIdeal.S1024x2048 .f32) : FVec Ideal Cert.ReferencePqIdeal.S33280x2048 .f32 :=
  (concatenate Cert.ReferencePqIdeal.S33280x2048 0 [⟨Cert.ReferencePqIdeal.S32768x2048, ((shapeCast _ (Host.dotGeneral Cert.ReferencePqIdeal.dot_S8x4096x1024_S1024x2048_S8x4096x2048_2_0_01_1_n_n none a0 a2) Cert.ReferencePqIdeal.Gen.shapeCasts_S8x4096x2048_S32768x2048) : (⟨Cert.ReferencePqIdeal.S32768x2048, .f32⟩ : BufTy).Contents (Elt Ideal))⟩, ⟨Cert.ReferencePqIdeal.S128x2048, ((shapeCast _ (Host.dotGeneral Cert.ReferencePqIdeal.dot_S32x4x1024_S1024x2048_S32x4x2048_2_0_01_1_n_n none a1 a2) Cert.ReferencePqIdeal.Gen.shapeCasts_S32x4x2048_S128x2048) : (⟨Cert.ReferencePqIdeal.S128x2048, .f32⟩ : BufTy).Contents (Elt Ideal))⟩, ⟨Cert.ReferencePqIdeal.S384x2048, ((broadcastInDim Cert.ReferencePqIdeal.S384x2048 ![] Cert.ReferencePqIdeal.Gen.bcast_S_S384x2048 (constant (F := Ideal) Cert.ReferencePqIdeal.S_ .f32 0x00000000#32)) : (⟨Cert.ReferencePqIdeal.S384x2048, .f32⟩ : BufTy).Contents (Elt Ideal))⟩] Cert.ReferencePqIdeal.Gen.concatenates_S32768x2048_S128x2048_S384x2048_S33280x2048_d0 : (⟨Cert.ReferencePqIdeal.S33280x2048, .f32⟩ : BufTy).Contents (Elt Ideal))

theorem idx : ∀ t : Fin cfg0.N, win0_0.index t = ![t.val, 0] ∧ win0_1.index t = ![0, 0] ∧ win0_2.index t = ![t.val, 0] :=
  (by decide +kernel : ∀ t : Fin grid0.N, _)

/-- The token rows, laid end to end. -/
abbrev rowsOf (X : FVec Ideal S8x4096x1024 .f32) (Y : FVec Ideal S32x4x1024 .f32) : FVec Ideal S33280x1024 .f32 :=
  concatenate S33280x1024 0 [⟨S32768x1024, shapeCast S32768x1024 X shapeCasts_S8x4096x1024_S32768x1024⟩,
    ⟨S128x1024, shapeCast S128x1024 Y shapeCasts_S32x4x1024_S128x1024⟩,
    ⟨S384x1024, broadcastInDim S384x1024 ![] bcast_S_S384x1024 (constant (F := Ideal) S_ .f32 0x00000000#32)⟩]
    concatenates_S32768x1024_S128x1024_S384x1024_S33280x1024_d0

theorem rowsOf_at (X : FVec Ideal S8x4096x1024 .f32) (Y : FVec Ideal S32x4x1024 .f32) (r : Fin 33280) (k : Fin 1024) :
    rowsOf X Y (ix2 r k) = Rows.at3 X Y (fun _ => 0) r k :=
  Rows.flat _ _ _ _ _ _ (fun i k => by pointwise) _ r k

theorem rows_at (r : Fin 33280) (k : Fin 1024) : (V m c main_v3 : FVec Ideal S33280x1024 .f32) (ix2 r k)
    = Rows.at3 (m ((c : Thread nD τ).loc main_arg0)) (m ((c : Thread nD τ).loc main_arg1)) (fun _ => 0) r k := by
  have e : (V m c main_v3 : FVec Ideal S33280x1024 .f32) = rowsOf (m ((c : Thread nD τ).loc main_arg0)) (m ((c : Thread nD τ).loc main_arg1)) := by
    rfl
  rw [e]
  exact rowsOf_at _ _ r k

theorem w_at (k : Fin 1024) (l : Fin 2048) : (V m c main_v4 : FVec Ideal S1024x2048 .bf16) (ix2 k l)
    = wt (m ((c : Thread nD τ).loc main_arg2)) k l := by
  entry_read
  unfold wt
  pointwise

theorem blk0 (t : Fin cfg0.N) (i : Fin 512) (k : Fin 1024) : (iblk m c 0 t : FVec Ideal S512x1024 .f32) (ix2 i k)
    = (V m c main_v3 : FVec Ideal S33280x1024 .f32) (ix2 ⟨t.val * 512 + i.val, by have := lt_of_lt_of_eq t.isLt N_0; omega⟩ k) := by
  blk_ext [iblk, idx t]

theorem blk1 (t : Fin cfg0.N) (k : Fin 1024) (l : Fin 2048) : (iblk m c 1 t : FVec Ideal S1024x2048 .bf16) (ix2 k l)
    = (V m c main_v4 : FVec Ideal S1024x2048 .bf16) (ix2 k l) := by
  blk_ext [iblk, idx t]

theorem pay_at (X : FVec Ideal S512x1024 .f32) (W : FVec Ideal S1024x2048 .bf16) (i : Fin 512) (l : Fin 2048) :
    k0_pay1 X W (ix2 i l) = ∑ k : Fin 1024, X (ix2 i k) * W (ix2 k l) := by
  pointwise [k0_pay1]

theorem dot_p (a0 : FVec Ideal Cert.ReferencePqIdeal.S8x4096x1024 .f32) (a1 : FVec Ideal Cert.ReferencePqIdeal.S32x4x1024 .f32) (a2 : FVec Ideal Cert.ReferencePqIdeal.S1024x2048 .f32) (a : Fin 8) (b : Fin 4096) (l : Fin 2048) :
    (Host.dotGeneral Cert.ReferencePqIdeal.dot_S8x4096x1024_S1024x2048_S8x4096x2048_2_0_01_1_n_n none a0 a2) (ix3 a b l)
      = (∑ k : Fin 1024, a0 (ix3 a b k) * wt a2 k l : EReal) := by
  unfold wt
  pointwise

theorem dot_s (a0 : FVec Ideal Cert.ReferencePqIdeal.S8x4096x1024 .f32) (a1 : FVec Ideal Cert.ReferencePqIdeal.S32x4x1024 .f32) (a2 : FVec Ideal Cert.ReferencePqIdeal.S1024x2048 .f32) (a : Fin 32) (b : Fin 4) (l : Fin 2048) :
    (Host.dotGeneral Cert.ReferencePqIdeal.dot_S32x4x1024_S1024x2048_S32x4x2048_2_0_01_1_n_n none a1 a2) (ix3 a b l)
      = (∑ k : Fin 1024, a1 (ix3 a b k) * wt a2 k l : EReal) := by
  unfold wt
  pointwise

theorem ref_at (a0 : FVec Ideal Cert.ReferencePqIdeal.S8x4096x1024 .f32) (a1 : FVec Ideal Cert.ReferencePqIdeal.S32x4x1024 .f32) (a2 : FVec Ideal Cert.ReferencePqIdeal.S1024x2048 .f32) (r : Fin 33280) (l : Fin 2048) : REF a0 a1 a2 (ix2 r l)
      = ∑ k : Fin 1024, Rows.at3 a0 a1 (fun _ => 0) r k * wt a2 k l := by
  refine (Rows.flat _ _ _ _ _ (fun _ => 0) (fun i k => by pointwise) _ r l).trans ?_
  unfold Rows.at3
  by_cases h1 : r.val < 32768
  · simp only [if_pos h1]
    exact dot_p a0 a1 a2 _ _ _
  · by_cases h2 : r.val < 32896
    · simp only [if_neg h1, if_pos h2]
      exact dot_s a0 a1 a2 _ _ _
    · simp only [if_neg h1, if_neg h2, zero_mul, Finset.sum_const_zero]

theorem point (t : Fin cfg0.N) (y) : k0_pay1 (iblk m c 0 t) (iblk m c 1 t) y
    = REF (m ((c : Thread nD τ).loc main_arg0)) (m ((c : Thread nD τ).loc main_arg1)) (m ((c : Thread nD τ).loc main_arg2))
      (((cfg0.win 2).blk t).view.emb y) := by
  obtain ⟨i, l, rfl⟩ : ∃ (i : Fin 512) (l : Fin 2048), y = ix2 i l := ⟨y 0, y 1, eq_ix2 y⟩
  have e : k0_pay1 (iblk m c 0 t) (iblk m c 1 t) (ix2 i l) = REF (m ((c : Thread nD τ).loc main_arg0)) (m ((c : Thread nD τ).loc main_arg1)) (m ((c : Thread nD τ).loc main_arg2))
      (ix2 ⟨t.val * 512 + i.val, by have := lt_of_lt_of_eq t.isLt N_0; omega⟩ l) := by
    refine (pay_at _ _ i l).trans ((Finset.sum_congr rfl fun k _ => ?_).trans (ref_at _ _ _ _ l).symm)
    exact congrArg₂ (fun a b : EReal => a * b) ((blk0 m c t i k).trans (rows_at m c _ k)) ((blk1 m c t k l).trans (w_at m c k l))
  refine e.trans ?_
  blk_ext [idx t]

theorem final : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

theorem algebraic : algebraic_KernelPqIdeal_ReferencePqIdeal (hKernelPqIdeal := Cert.KernelPqIdeal.Gen.facts)
    (hReferencePqIdeal := Cert.ReferencePqIdeal.Gen.facts) := by
  intro m g m' g' _ heq
  refine ⟨fun c => (dats m 0 c).arrAt 2 (cfgs 0).N, Cert.KernelPqIdeal.Value.run_blocks m g, ?_⟩
  refine (θ_run _ _ _).mono (fun r h c => ?_) (Cert.ReferencePqIdeal.Value.run m' g')
  obtain ⟨h1, h2⟩ := h c
  refine ⟨h1.trans ?_, h2⟩
  rw [(heq c).1, (heq c).2.1, (heq c).2.2]
  exact (final m c).symm

/-- The reference ends, its arguments as they were. -/
theorem frame_reference (m : (ℓ : Loc Cert.ReferencePqIdeal.nD Cert.ReferencePqIdeal.τ Cert.ReferencePqIdeal.sig) → Buf (Elt Ideal) ℓ) (g : Dev Cert.ReferencePqIdeal.nD → PrngReg) :
    θ_run (Cert.ReferencePqIdeal.defs (F := Ideal)) (onTc (τ := Cert.ReferencePqIdeal.τ) (Cert.ReferencePqIdeal.main (F := Ideal))) ⟨m, fun _ => 0, g⟩ (fun r => (∀ c : Dev Cert.ReferencePqIdeal.nD,
      r.2.mem ((c.tc : Thread Cert.ReferencePqIdeal.nD Cert.ReferencePqIdeal.τ).loc Cert.ReferencePqIdeal.main_arg0) = m ((c.tc : Thread Cert.ReferencePqIdeal.nD Cert.ReferencePqIdeal.τ).loc Cert.ReferencePqIdeal.main_arg0)
      ∧ r.2.mem ((c.tc : Thread Cert.ReferencePqIdeal.nD Cert.ReferencePqIdeal.τ).loc Cert.ReferencePqIdeal.main_arg1) = m ((c.tc : Thread Cert.ReferencePqIdeal.nD Cert.ReferencePqIdeal.τ).loc Cert.ReferencePqIdeal.main_arg1)
      ∧ r.2.mem ((c.tc : Thread Cert.ReferencePqIdeal.nD Cert.ReferencePqIdeal.τ).loc Cert.ReferencePqIdeal.main_arg2) = m ((c.tc : Thread Cert.ReferencePqIdeal.nD Cert.ReferencePqIdeal.τ).loc Cert.ReferencePqIdeal.main_arg2))
      ∧ r.2.sem = fun _ => 0) :=
  (θ_run _ _ _).mono (fun r h => ⟨fun c => (h c).2, Idealize.ShloMosaic.sem_eq_zero_of_no_sems (by decide) r.2⟩)
    (Cert.ReferencePqIdeal.Value.run m g)

end Cert.CallPq

end
-- ==== Proof.CallMix.lean ====
/- A mixer's output projection, the residual and its layer norm. -/
module

public import proofs.«01_k».proof.Defs
public import proofs.«01_k».proof.Proof.Rows
public import proofs.«01_k».proof.Proof.Gen.KernelMix
public import proofs.«01_k».proof.Proof.Gen.KernelMix.Frame
public import proofs.«01_k».proof.Proof.Gen.KernelMixIdeal
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import Idealize.ShloMosaic.Lib.Pipeline.ValueKit
public import Idealize.ShloMosaic.Adequacy
public import Idealize.ShloMosaic.Init

@[expose] public section

set_option maxRecDepth 16384

noncomputable section

namespace Cert.CallMix

open Idealize.ShloMosaic Idealize.ShloMosaic.TcCoe Idealize.SL.Sem
open Idealize.ShloMosaic.Pipeline (Dat)
open Cert.KernelMixIdeal Cert.KernelMixIdeal.Gen

variable (m : (ℓ : Loc nD τ sig) → Buf (Elt Ideal) ℓ) (c : Dev nD)

/-- The row before its norm. -/
def pre (a0 : (⟨3, ![8, 4096, 1024]⟩ : Shape).Idx → EReal) (a1 : (⟨3, ![32, 4, 1024]⟩ : Shape).Idx → EReal) (a2 : (⟨2, ![1024, 1024]⟩ : Shape).Idx → EReal) (a3 : (⟨3, ![8, 4096, 1024]⟩ : Shape).Idx → EReal) (a4 : (⟨3, ![32, 4, 1024]⟩ : Shape).Idx → EReal) (r : Fin 33280) (x : Fin 1024) : EReal := Ideal.ofBits FTy.f32 1068827891#32 * Rows.at3 a3 a4 (fun _ => 0) r x + ∑ k : Fin 1024, Rows.at3 a0 a1 (fun _ => 0) r k * a2 (ix2 k x)

/-- The reference's result over the arguments. -/
abbrev REF (a0 : FVec Ideal Cert.ReferenceMixIdeal.S8x4096x1024 .f32) (a1 : FVec Ideal Cert.ReferenceMixIdeal.S32x4x1024 .f32) (a2 : FVec Ideal Cert.ReferenceMixIdeal.S1024x1024 .f32) (a3 : FVec Ideal Cert.ReferenceMixIdeal.S8x4096x1024 .f32) (a4 : FVec Ideal Cert.ReferenceMixIdeal.S32x4x1024 .f32) (a5 a6 : FVec Ideal Cert.ReferenceMixIdeal.S1024 .f32) : FVec Ideal Cert.ReferenceMixIdeal.S33280x1024 .f32 :=
  (concatenate Cert.ReferenceMixIdeal.S33280x1024 0 [⟨Cert.ReferenceMixIdeal.S32768x1024, ((shapeCast _ (addf (mulf (mulf (subf (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (broadcastInDim Cert.ReferenceMixIdeal.S8x4096x1024 ![0, 1, 2] Cert.ReferenceMixIdeal.Gen.bcast_S8x4096x1_S8x4096x1024_0_1_2 (Host.divf (broadcastInDim Cert.ReferenceMixIdeal.S8x4096x1 ![0, 1] Cert.ReferenceMixIdeal.Gen.bcast_S8x4096_S8x4096x1_0_1 (Host.reduceAdd (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (constant (F := Ideal) Cert.ReferenceMixIdeal.S_ .f32 0x00000000#32) Cert.ReferenceMixIdeal.Gen.reducesTo_S8x4096x1024_S8x4096_d2 Cert.ReferenceMixIdeal.Gen.h_S_)) (broadcastInDim Cert.ReferenceMixIdeal.S8x4096x1 ![] Cert.ReferenceMixIdeal.Gen.bcast_S_S8x4096x1 (constant (F := Ideal) Cert.ReferenceMixIdeal.S_ .f32 0x44800000#32))))) (broadcastInDim Cert.ReferenceMixIdeal.S8x4096x1024 ![0, 1, 2] Cert.ReferenceMixIdeal.Gen.bcast_S8x4096x1_S8x4096x1024_0_1_2 (Host.rsqrt (addf (Host.divf (broadcastInDim Cert.ReferenceMixIdeal.S8x4096x1 ![0, 1] Cert.ReferenceMixIdeal.Gen.bcast_S8x4096_S8x4096x1_0_1 (Host.reduceAdd (mulf (subf (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (broadcastInDim Cert.ReferenceMixIdeal.S8x4096x1024 ![0, 1, 2] Cert.ReferenceMixIdeal.Gen.bcast_S8x4096x1_S8x4096x1024_0_1_2 (Host.divf (broadcastInDim Cert.ReferenceMixIdeal.S8x4096x1 ![0, 1] Cert.ReferenceMixIdeal.Gen.bcast_S8x4096_S8x4096x1_0_1 (Host.reduceAdd (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (constant (F := Ideal) Cert.ReferenceMixIdeal.S_ .f32 0x00000000#32) Cert.ReferenceMixIdeal.Gen.reducesTo_S8x4096x1024_S8x4096_d2 Cert.ReferenceMixIdeal.Gen.h_S_)) (broadcastInDim Cert.ReferenceMixIdeal.S8x4096x1 ![] Cert.ReferenceMixIdeal.Gen.bcast_S_S8x4096x1 (constant (F := Ideal) Cert.ReferenceMixIdeal.S_ .f32 0x44800000#32))))) (subf (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (broadcastInDim Cert.ReferenceMixIdeal.S8x4096x1024 ![0, 1, 2] Cert.ReferenceMixIdeal.Gen.bcast_S8x4096x1_S8x4096x1024_0_1_2 (Host.divf (broadcastInDim Cert.ReferenceMixIdeal.S8x4096x1 ![0, 1] Cert.ReferenceMixIdeal.Gen.bcast_S8x4096_S8x4096x1_0_1 (Host.reduceAdd (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (constant (F := Ideal) Cert.ReferenceMixIdeal.S_ .f32 0x00000000#32) Cert.ReferenceMixIdeal.Gen.reducesTo_S8x4096x1024_S8x4096_d2 Cert.ReferenceMixIdeal.Gen.h_S_)) (broadcastInDim Cert.ReferenceMixIdeal.S8x4096x1 ![] Cert.ReferenceMixIdeal.Gen.bcast_S_S8x4096x1 (constant (F := Ideal) Cert.ReferenceMixIdeal.S_ .f32 0x44800000#32)))))) (constant (F := Ideal) Cert.ReferenceMixIdeal.S_ .f32 0x00000000#32) Cert.ReferenceMixIdeal.Gen.reducesTo_S8x4096x1024_S8x4096_d2 Cert.ReferenceMixIdeal.Gen.h_S_)) (broadcastInDim Cert.ReferenceMixIdeal.S8x4096x1 ![] Cert.ReferenceMixIdeal.Gen.bcast_S_S8x4096x1 (constant (F := Ideal) Cert.ReferenceMixIdeal.S_ .f32 0x44800000#32))) (broadcastInDim Cert.ReferenceMixIdeal.S8x4096x1 ![] Cert.ReferenceMixIdeal.Gen.bcast_S_S8x4096x1 (constant (F := Ideal) Cert.ReferenceMixIdeal.S_ .f32 0x3727C5AC#32)))))) (broadcastInDim Cert.ReferenceMixIdeal.S8x4096x1024 ![0, 1, 2] Cert.ReferenceMixIdeal.Gen.bcast_S1x1x1024_S8x4096x1024_0_1_2 (broadcastInDim Cert.ReferenceMixIdeal.S1x1x1024 ![2] Cert.ReferenceMixIdeal.Gen.bcast_S1024_S1x1x1024_2 a5))) (broadcastInDim Cert.ReferenceMixIdeal.S8x4096x1024 ![0, 1, 2] Cert.ReferenceMixIdeal.Gen.bcast_S1x1x1024_S8x4096x1024_0_1_2 (broadcastInDim Cert.ReferenceMixIdeal.S1x1x1024 ![2] Cert.ReferenceMixIdeal.Gen.bcast_S1024_S1x1x1024_2 a6))) Cert.ReferenceMixIdeal.Gen.shapeCasts_S8x4096x1024_S32768x1024) : (⟨Cert.ReferenceMixIdeal.S32768x1024, .f32⟩ : BufTy).Contents (Elt Ideal))⟩, ⟨Cert.ReferenceMixIdeal.S128x1024, ((shapeCast _ (addf (mulf (mulf (subf (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (broadcastInDim Cert.ReferenceMixIdeal.S32x4x1024 ![0, 1, 2] Cert.ReferenceMixIdeal.Gen.bcast_S32x4x1_S32x4x1024_0_1_2 (Host.divf (broadcastInDim Cert.ReferenceMixIdeal.S32x4x1 ![0, 1] Cert.ReferenceMixIdeal.Gen.bcast_S32x4_S32x4x1_0_1 (Host.reduceAdd (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (constant (F := Ideal) Cert.ReferenceMixIdeal.S_ .f32 0x00000000#32) Cert.ReferenceMixIdeal.Gen.reducesTo_S32x4x1024_S32x4_d2 Cert.ReferenceMixIdeal.Gen.h_S_)) (broadcastInDim Cert.ReferenceMixIdeal.S32x4x1 ![] Cert.ReferenceMixIdeal.Gen.bcast_S_S32x4x1 (constant (F := Ideal) Cert.ReferenceMixIdeal.S_ .f32 0x44800000#32))))) (broadcastInDim Cert.ReferenceMixIdeal.S32x4x1024 ![0, 1, 2] Cert.ReferenceMixIdeal.Gen.bcast_S32x4x1_S32x4x1024_0_1_2 (Host.rsqrt (addf (Host.divf (broadcastInDim Cert.ReferenceMixIdeal.S32x4x1 ![0, 1] Cert.ReferenceMixIdeal.Gen.bcast_S32x4_S32x4x1_0_1 (Host.reduceAdd (mulf (subf (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (broadcastInDim Cert.ReferenceMixIdeal.S32x4x1024 ![0, 1, 2] Cert.ReferenceMixIdeal.Gen.bcast_S32x4x1_S32x4x1024_0_1_2 (Host.divf (broadcastInDim Cert.ReferenceMixIdeal.S32x4x1 ![0, 1] Cert.ReferenceMixIdeal.Gen.bcast_S32x4_S32x4x1_0_1 (Host.reduceAdd (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (constant (F := Ideal) Cert.ReferenceMixIdeal.S_ .f32 0x00000000#32) Cert.ReferenceMixIdeal.Gen.reducesTo_S32x4x1024_S32x4_d2 Cert.ReferenceMixIdeal.Gen.h_S_)) (broadcastInDim Cert.ReferenceMixIdeal.S32x4x1 ![] Cert.ReferenceMixIdeal.Gen.bcast_S_S32x4x1 (constant (F := Ideal) Cert.ReferenceMixIdeal.S_ .f32 0x44800000#32))))) (subf (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (broadcastInDim Cert.ReferenceMixIdeal.S32x4x1024 ![0, 1, 2] Cert.ReferenceMixIdeal.Gen.bcast_S32x4x1_S32x4x1024_0_1_2 (Host.divf (broadcastInDim Cert.ReferenceMixIdeal.S32x4x1 ![0, 1] Cert.ReferenceMixIdeal.Gen.bcast_S32x4_S32x4x1_0_1 (Host.reduceAdd (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (constant (F := Ideal) Cert.ReferenceMixIdeal.S_ .f32 0x00000000#32) Cert.ReferenceMixIdeal.Gen.reducesTo_S32x4x1024_S32x4_d2 Cert.ReferenceMixIdeal.Gen.h_S_)) (broadcastInDim Cert.ReferenceMixIdeal.S32x4x1 ![] Cert.ReferenceMixIdeal.Gen.bcast_S_S32x4x1 (constant (F := Ideal) Cert.ReferenceMixIdeal.S_ .f32 0x44800000#32)))))) (constant (F := Ideal) Cert.ReferenceMixIdeal.S_ .f32 0x00000000#32) Cert.ReferenceMixIdeal.Gen.reducesTo_S32x4x1024_S32x4_d2 Cert.ReferenceMixIdeal.Gen.h_S_)) (broadcastInDim Cert.ReferenceMixIdeal.S32x4x1 ![] Cert.ReferenceMixIdeal.Gen.bcast_S_S32x4x1 (constant (F := Ideal) Cert.ReferenceMixIdeal.S_ .f32 0x44800000#32))) (broadcastInDim Cert.ReferenceMixIdeal.S32x4x1 ![] Cert.ReferenceMixIdeal.Gen.bcast_S_S32x4x1 (constant (F := Ideal) Cert.ReferenceMixIdeal.S_ .f32 0x3727C5AC#32)))))) (broadcastInDim Cert.ReferenceMixIdeal.S32x4x1024 ![0, 1, 2] Cert.ReferenceMixIdeal.Gen.bcast_S1x1x1024_S32x4x1024_0_1_2 (broadcastInDim Cert.ReferenceMixIdeal.S1x1x1024 ![2] Cert.ReferenceMixIdeal.Gen.bcast_S1024_S1x1x1024_2 a5))) (broadcastInDim Cert.ReferenceMixIdeal.S32x4x1024 ![0, 1, 2] Cert.ReferenceMixIdeal.Gen.bcast_S1x1x1024_S32x4x1024_0_1_2 (broadcastInDim Cert.ReferenceMixIdeal.S1x1x1024 ![2] Cert.ReferenceMixIdeal.Gen.bcast_S1024_S1x1x1024_2 a6))) Cert.ReferenceMixIdeal.Gen.shapeCasts_S32x4x1024_S128x1024) : (⟨Cert.ReferenceMixIdeal.S128x1024, .f32⟩ : BufTy).Contents (Elt Ideal))⟩, ⟨Cert.ReferenceMixIdeal.S384x1024, ((broadcastInDim Cert.ReferenceMixIdeal.S384x1024 ![1] Cert.ReferenceMixIdeal.Gen.bcast_S1024_S384x1024_1 a6) : (⟨Cert.ReferenceMixIdeal.S384x1024, .f32⟩ : BufTy).Contents (Elt Ideal))⟩] Cert.ReferenceMixIdeal.Gen.concatenates_S32768x1024_S128x1024_S384x1024_S33280x1024_d0 : (⟨Cert.ReferenceMixIdeal.S33280x1024, .f32⟩ : BufTy).Contents (Elt Ideal))

theorem idx : ∀ t : Fin cfg0.N, win0_0.index t = ![t.val, 0] ∧ win0_1.index t = ![0, 0] ∧ win0_2.index t = ![t.val, 0] ∧ win0_3.index t = ![0, 0] ∧ win0_4.index t = ![0, 0] ∧ win0_5.index t = ![t.val, 0] :=
  (by decide +kernel : ∀ t : Fin grid0.N, _)

/-- The token rows, laid end to end. -/
abbrev rowsOf (X : FVec Ideal S8x4096x1024 .f32) (Y : FVec Ideal S32x4x1024 .f32) : FVec Ideal S33280x1024 .f32 :=
  concatenate S33280x1024 0 [⟨S32768x1024, shapeCast S32768x1024 X shapeCasts_S8x4096x1024_S32768x1024⟩,
    ⟨S128x1024, shapeCast S128x1024 Y shapeCasts_S32x4x1024_S128x1024⟩,
    ⟨S384x1024, broadcastInDim S384x1024 ![] bcast_S_S384x1024 (constant (F := Ideal) S_ .f32 0x00000000#32)⟩]
    concatenates_S32768x1024_S128x1024_S384x1024_S33280x1024_d0

theorem rowsOf_at (X : FVec Ideal S8x4096x1024 .f32) (Y : FVec Ideal S32x4x1024 .f32) (r : Fin 33280) (k : Fin 1024) :
    rowsOf X Y (ix2 r k) = Rows.at3 X Y (fun _ => 0) r k :=
  Rows.flat _ _ _ _ _ _ (fun i k => by pointwise) _ r k

theorem rows_a (r : Fin 33280) (k : Fin 1024) : (V m c main_v3 : FVec Ideal S33280x1024 .f32) (ix2 r k)
    = Rows.at3 (m ((c : Thread nD τ).loc main_arg0)) (m ((c : Thread nD τ).loc main_arg1)) (fun _ => 0) r k := by
  have e : (V m c main_v3 : FVec Ideal S33280x1024 .f32) = rowsOf (m ((c : Thread nD τ).loc main_arg0)) (m ((c : Thread nD τ).loc main_arg1)) := by
    rfl
  rw [e]
  exact rowsOf_at _ _ r k

theorem rows_x (r : Fin 33280) (k : Fin 1024) : (V m c main_v8 : FVec Ideal S33280x1024 .f32) (ix2 r k)
    = Rows.at3 (m ((c : Thread nD τ).loc main_arg3)) (m ((c : Thread nD τ).loc main_arg4)) (fun _ => 0) r k := by
  have e : (V m c main_v8 : FVec Ideal S33280x1024 .f32) = rowsOf (m ((c : Thread nD τ).loc main_arg3)) (m ((c : Thread nD τ).loc main_arg4)) := by
    rfl
  rw [e]
  exact rowsOf_at _ _ r k

theorem w_at (k : Fin 1024) (l : Fin 1024) : (V m c main_v4 : FVec Ideal S1024x1024 .bf16) (ix2 k l)
    = (m ((c : Thread nD τ).loc main_arg2) : FVec Ideal S1024x1024 .f32) (ix2 k l) := by
  entry_read
  pointwise

theorem g_at (l : Fin 1024) : (V m c main_v9 : FVec Ideal S1x1024 .f32) (ix2 0 l)
    = (m ((c : Thread nD τ).loc main_arg5) : FVec Ideal S1024 .f32) (ix1 l) := by
  entry_read
  pointwise

theorem b_at (l : Fin 1024) : (V m c main_v10 : FVec Ideal S1x1024 .f32) (ix2 0 l)
    = (m ((c : Thread nD τ).loc main_arg6) : FVec Ideal S1024 .f32) (ix1 l) := by
  entry_read
  pointwise

theorem blk0 (t : Fin cfg0.N) (i : Fin 512) (k : Fin 1024) : (iblk m c 0 t : FVec Ideal S512x1024 .f32) (ix2 i k)
    = (V m c main_v3 : FVec Ideal S33280x1024 .f32) (ix2 ⟨t.val * 512 + i.val, by have := lt_of_lt_of_eq t.isLt N_0; omega⟩ k) := by
  blk_ext [iblk, idx t]

theorem blk1 (t : Fin cfg0.N) (k l : Fin 1024) : (iblk m c 1 t : FVec Ideal S1024x1024 .bf16) (ix2 k l)
    = (V m c main_v4 : FVec Ideal S1024x1024 .bf16) (ix2 k l) := by
  blk_ext [iblk, idx t]

theorem blk2 (t : Fin cfg0.N) (i : Fin 512) (k : Fin 1024) : (iblk m c 2 t : FVec Ideal S512x1024 .f32) (ix2 i k)
    = (V m c main_v8 : FVec Ideal S33280x1024 .f32) (ix2 ⟨t.val * 512 + i.val, by have := lt_of_lt_of_eq t.isLt N_0; omega⟩ k) := by
  blk_ext [iblk, idx t]

theorem blk3 (t : Fin cfg0.N) (l : Fin 1024) : (iblk m c 3 t : FVec Ideal S1x1024 .f32) (ix2 0 l)
    = (V m c main_v9 : FVec Ideal S1x1024 .f32) (ix2 0 l) := by
  blk_ext [iblk, idx t]

theorem blk4 (t : Fin cfg0.N) (l : Fin 1024) : (iblk m c 4 t : FVec Ideal S1x1024 .f32) (ix2 0 l)
    = (V m c main_v10 : FVec Ideal S1x1024 .f32) (ix2 0 l) := by
  blk_ext [iblk, idx t]

theorem pay_at (X : Vec Ideal S512x1024 .f32) (W : Vec Ideal S1024x1024 .bf16) (Y : Vec Ideal S512x1024 .f32) (g b : Vec Ideal S1x1024 .f32) (i : Fin 512) (l : Fin 1024) :
    k0_pay1 X W Y g b (ix2 i l) = Rows.ln (fun x => Ideal.ofBits FTy.f32 1068827891#32 * Y (ix2 i x) + ∑ k : Fin 1024, X (ix2 i k) * W (ix2 k x)) (g (ix2 0 l)) (b (ix2 0 l)) l := by
  unfold Rows.ln
  pointwise [k0_pay1]

theorem norm_p (a0 : FVec Ideal Cert.ReferenceMixIdeal.S8x4096x1024 .f32) (a1 : FVec Ideal Cert.ReferenceMixIdeal.S32x4x1024 .f32) (a2 : FVec Ideal Cert.ReferenceMixIdeal.S1024x1024 .f32) (a3 : FVec Ideal Cert.ReferenceMixIdeal.S8x4096x1024 .f32) (a4 : FVec Ideal Cert.ReferenceMixIdeal.S32x4x1024 .f32) (a5 a6 : FVec Ideal Cert.ReferenceMixIdeal.S1024 .f32) (a : Fin 8) (b : Fin 4096) (l : Fin 1024) :
    (addf (mulf (mulf (subf (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (broadcastInDim Cert.ReferenceMixIdeal.S8x4096x1024 ![0, 1, 2] Cert.ReferenceMixIdeal.Gen.bcast_S8x4096x1_S8x4096x1024_0_1_2 (Host.divf (broadcastInDim Cert.ReferenceMixIdeal.S8x4096x1 ![0, 1] Cert.ReferenceMixIdeal.Gen.bcast_S8x4096_S8x4096x1_0_1 (Host.reduceAdd (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (constant (F := Ideal) Cert.ReferenceMixIdeal.S_ .f32 0x00000000#32) Cert.ReferenceMixIdeal.Gen.reducesTo_S8x4096x1024_S8x4096_d2 Cert.ReferenceMixIdeal.Gen.h_S_)) (broadcastInDim Cert.ReferenceMixIdeal.S8x4096x1 ![] Cert.ReferenceMixIdeal.Gen.bcast_S_S8x4096x1 (constant (F := Ideal) Cert.ReferenceMixIdeal.S_ .f32 0x44800000#32))))) (broadcastInDim Cert.ReferenceMixIdeal.S8x4096x1024 ![0, 1, 2] Cert.ReferenceMixIdeal.Gen.bcast_S8x4096x1_S8x4096x1024_0_1_2 (Host.rsqrt (addf (Host.divf (broadcastInDim Cert.ReferenceMixIdeal.S8x4096x1 ![0, 1] Cert.ReferenceMixIdeal.Gen.bcast_S8x4096_S8x4096x1_0_1 (Host.reduceAdd (mulf (subf (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (broadcastInDim Cert.ReferenceMixIdeal.S8x4096x1024 ![0, 1, 2] Cert.ReferenceMixIdeal.Gen.bcast_S8x4096x1_S8x4096x1024_0_1_2 (Host.divf (broadcastInDim Cert.ReferenceMixIdeal.S8x4096x1 ![0, 1] Cert.ReferenceMixIdeal.Gen.bcast_S8x4096_S8x4096x1_0_1 (Host.reduceAdd (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (constant (F := Ideal) Cert.ReferenceMixIdeal.S_ .f32 0x00000000#32) Cert.ReferenceMixIdeal.Gen.reducesTo_S8x4096x1024_S8x4096_d2 Cert.ReferenceMixIdeal.Gen.h_S_)) (broadcastInDim Cert.ReferenceMixIdeal.S8x4096x1 ![] Cert.ReferenceMixIdeal.Gen.bcast_S_S8x4096x1 (constant (F := Ideal) Cert.ReferenceMixIdeal.S_ .f32 0x44800000#32))))) (subf (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (broadcastInDim Cert.ReferenceMixIdeal.S8x4096x1024 ![0, 1, 2] Cert.ReferenceMixIdeal.Gen.bcast_S8x4096x1_S8x4096x1024_0_1_2 (Host.divf (broadcastInDim Cert.ReferenceMixIdeal.S8x4096x1 ![0, 1] Cert.ReferenceMixIdeal.Gen.bcast_S8x4096_S8x4096x1_0_1 (Host.reduceAdd (addf (mulf (broadcastInDim Cert.ReferenceMixIdeal.S8x4096x1024 ![] Cert.ReferenceMixIdeal.Gen.bcast_S_S8x4096x1024 (constant (F := Ideal) Cert.ReferenceMixIdeal.S_ .f32 0x3FB504F3#32)) a3) (Host.dotGeneral Cert.ReferenceMixIdeal.dot_S8x4096x1024_S1024x1024_S8x4096x1024_2_0_01_1_n_n none a0 a2)) (constant (F := Ideal) Cert.ReferenceMixIdeal.S_ .f32 0x00000000#32) Cert.ReferenceMixIdeal.Gen.reducesTo_S8x4096x1024_S8x4096_d2 Cert.ReferenceMixIdeal.Gen.h_S_)) (broadcastInDim Cert.ReferenceMixIdeal.S8x4096x1 ![] Cert.ReferenceMixIdeal.Gen.bcast_S_S8x4096x1 (constant (F := Ideal) Cert.ReferenceMixIdeal.S_ .f32 0x44800000#32)))))) (constant (F := Ideal) Cert.ReferenceMixIdeal.S_ .f32 0x00000000#32) Cert.ReferenceMixIdeal.Gen.reducesTo_S8x4096x1024_S8x4096_d2 Cert.ReferenceMixIdeal.Gen.h_S_)) (broadcastInDim Cert.ReferenceMixIdeal.S8x4096x1 ![] Cert.ReferenceMixIdeal.Gen.bcast_S_S8x4096x1 (constant (F := Ideal) Cert.ReferenceMixIdeal.S_ .f32 0x44800000#32))) (broadcastInDim Cert.ReferenceMixIdeal.S8x4096x1 ![] Cert.ReferenceMixIdeal.Gen.bcast_S_S8x4096x1 (constant (F := Ideal) Cert.ReferenceMixIdeal.S_ .f32 0x3727C5AC#32)))))) (broadcastInDim Cert.ReferenceMixIdeal.S8x4096x1024 ![0, 1, 2] Cert.ReferenceMixIdeal.Gen.bcast_S1x1x1024_S8x4096x1024_0_1_2 (broadcastInDim Cert.ReferenceMixIdeal.S1x1x1024 ![2] Cert.ReferenceMixIdeal.Gen.bcast_S1024_S1x1x1024_2 a5))) (broadcastInDim Cert.ReferenceMixIdeal.S8x4096x1024 ![0, 1, 2] Cert.ReferenceMixIdeal.Gen.bcast_S1x1x1024_S8x4096x1024_0_1_2 (broadcastInDim Cert.ReferenceMixIdeal.S1x1x1024 ![2] Cert.ReferenceMixIdeal.Gen.bcast_S1024_S1x1x1024_2 a6))) (ix3 a b l)
      = Rows.ln (fun x => Ideal.ofBits FTy.f32 1068827891#32 * a3 (ix3 a b x) + ∑ k : Fin 1024, a0 (ix3 a b k) * a2 (ix2 k x)) (a5 (ix1 l)) (a6 (ix1 l)) l := by
  unfold Rows.ln
  pointwise

theorem norm_s (a0 : FVec Ideal Cert.ReferenceMixIdeal.S8x4096x1024 .f32) (a1 : FVec Ideal Cert.ReferenceMixIdeal.S32x4x1024 .f32) (a2 : FVec Ideal Cert.ReferenceMixIdeal.S1024x1024 .f32) (a3 : FVec Ideal Cert.ReferenceMixIdeal.S8x4096x1024 .f32) (a4 : FVec Ideal Cert.ReferenceMixIdeal.S32x4x1024 .f32) (a5 a6 : FVec Ideal Cert.ReferenceMixIdeal.S1024 .f32) (a : Fin 32) (b : Fin 4) (l : Fin 1024) :
    (addf (mulf (mulf (subf (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (broadcastInDim Cert.ReferenceMixIdeal.S32x4x1024 ![0, 1, 2] Cert.ReferenceMixIdeal.Gen.bcast_S32x4x1_S32x4x1024_0_1_2 (Host.divf (broadcastInDim Cert.ReferenceMixIdeal.S32x4x1 ![0, 1] Cert.ReferenceMixIdeal.Gen.bcast_S32x4_S32x4x1_0_1 (Host.reduceAdd (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (constant (F := Ideal) Cert.ReferenceMixIdeal.S_ .f32 0x00000000#32) Cert.ReferenceMixIdeal.Gen.reducesTo_S32x4x1024_S32x4_d2 Cert.ReferenceMixIdeal.Gen.h_S_)) (broadcastInDim Cert.ReferenceMixIdeal.S32x4x1 ![] Cert.ReferenceMixIdeal.Gen.bcast_S_S32x4x1 (constant (F := Ideal) Cert.ReferenceMixIdeal.S_ .f32 0x44800000#32))))) (broadcastInDim Cert.ReferenceMixIdeal.S32x4x1024 ![0, 1, 2] Cert.ReferenceMixIdeal.Gen.bcast_S32x4x1_S32x4x1024_0_1_2 (Host.rsqrt (addf (Host.divf (broadcastInDim Cert.ReferenceMixIdeal.S32x4x1 ![0, 1] Cert.ReferenceMixIdeal.Gen.bcast_S32x4_S32x4x1_0_1 (Host.reduceAdd (mulf (subf (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (broadcastInDim Cert.ReferenceMixIdeal.S32x4x1024 ![0, 1, 2] Cert.ReferenceMixIdeal.Gen.bcast_S32x4x1_S32x4x1024_0_1_2 (Host.divf (broadcastInDim Cert.ReferenceMixIdeal.S32x4x1 ![0, 1] Cert.ReferenceMixIdeal.Gen.bcast_S32x4_S32x4x1_0_1 (Host.reduceAdd (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (constant (F := Ideal) Cert.ReferenceMixIdeal.S_ .f32 0x00000000#32) Cert.ReferenceMixIdeal.Gen.reducesTo_S32x4x1024_S32x4_d2 Cert.ReferenceMixIdeal.Gen.h_S_)) (broadcastInDim Cert.ReferenceMixIdeal.S32x4x1 ![] Cert.ReferenceMixIdeal.Gen.bcast_S_S32x4x1 (constant (F := Ideal) Cert.ReferenceMixIdeal.S_ .f32 0x44800000#32))))) (subf (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (broadcastInDim Cert.ReferenceMixIdeal.S32x4x1024 ![0, 1, 2] Cert.ReferenceMixIdeal.Gen.bcast_S32x4x1_S32x4x1024_0_1_2 (Host.divf (broadcastInDim Cert.ReferenceMixIdeal.S32x4x1 ![0, 1] Cert.ReferenceMixIdeal.Gen.bcast_S32x4_S32x4x1_0_1 (Host.reduceAdd (addf (mulf (broadcastInDim Cert.ReferenceMixIdeal.S32x4x1024 ![] Cert.ReferenceMixIdeal.Gen.bcast_S_S32x4x1024 (constant (F := Ideal) Cert.ReferenceMixIdeal.S_ .f32 0x3FB504F3#32)) a4) (Host.dotGeneral Cert.ReferenceMixIdeal.dot_S32x4x1024_S1024x1024_S32x4x1024_2_0_01_1_n_n none a1 a2)) (constant (F := Ideal) Cert.ReferenceMixIdeal.S_ .f32 0x00000000#32) Cert.ReferenceMixIdeal.Gen.reducesTo_S32x4x1024_S32x4_d2 Cert.ReferenceMixIdeal.Gen.h_S_)) (broadcastInDim Cert.ReferenceMixIdeal.S32x4x1 ![] Cert.ReferenceMixIdeal.Gen.bcast_S_S32x4x1 (constant (F := Ideal) Cert.ReferenceMixIdeal.S_ .f32 0x44800000#32)))))) (constant (F := Ideal) Cert.ReferenceMixIdeal.S_ .f32 0x00000000#32) Cert.ReferenceMixIdeal.Gen.reducesTo_S32x4x1024_S32x4_d2 Cert.ReferenceMixIdeal.Gen.h_S_)) (broadcastInDim Cert.ReferenceMixIdeal.S32x4x1 ![] Cert.ReferenceMixIdeal.Gen.bcast_S_S32x4x1 (constant (F := Ideal) Cert.ReferenceMixIdeal.S_ .f32 0x44800000#32))) (broadcastInDim Cert.ReferenceMixIdeal.S32x4x1 ![] Cert.ReferenceMixIdeal.Gen.bcast_S_S32x4x1 (constant (F := Ideal) Cert.ReferenceMixIdeal.S_ .f32 0x3727C5AC#32)))))) (broadcastInDim Cert.ReferenceMixIdeal.S32x4x1024 ![0, 1, 2] Cert.ReferenceMixIdeal.Gen.bcast_S1x1x1024_S32x4x1024_0_1_2 (broadcastInDim Cert.ReferenceMixIdeal.S1x1x1024 ![2] Cert.ReferenceMixIdeal.Gen.bcast_S1024_S1x1x1024_2 a5))) (broadcastInDim Cert.ReferenceMixIdeal.S32x4x1024 ![0, 1, 2] Cert.ReferenceMixIdeal.Gen.bcast_S1x1x1024_S32x4x1024_0_1_2 (broadcastInDim Cert.ReferenceMixIdeal.S1x1x1024 ![2] Cert.ReferenceMixIdeal.Gen.bcast_S1024_S1x1x1024_2 a6))) (ix3 a b l)
      = Rows.ln (fun x => Ideal.ofBits FTy.f32 1068827891#32 * a4 (ix3 a b x) + ∑ k : Fin 1024, a1 (ix3 a b k) * a2 (ix2 k x)) (a5 (ix1 l)) (a6 (ix1 l)) l := by
  unfold Rows.ln
  pointwise

theorem ref_at (a0 : FVec Ideal Cert.ReferenceMixIdeal.S8x4096x1024 .f32) (a1 : FVec Ideal Cert.ReferenceMixIdeal.S32x4x1024 .f32) (a2 : FVec Ideal Cert.ReferenceMixIdeal.S1024x1024 .f32) (a3 : FVec Ideal Cert.ReferenceMixIdeal.S8x4096x1024 .f32) (a4 : FVec Ideal Cert.ReferenceMixIdeal.S32x4x1024 .f32) (a5 a6 : FVec Ideal Cert.ReferenceMixIdeal.S1024 .f32) (r : Fin 33280) (l : Fin 1024) : REF a0 a1 a2 a3 a4 a5 a6 (ix2 r l)
      = Rows.ln (pre a0 a1 a2 a3 a4 r) (a5 (ix1 l)) (a6 (ix1 l)) l := by
  refine (Rows.flat _ _ _ _ _ (fun k => a6 (ix1 k)) (fun i k => by pointwise) _ r l).trans ?_
  by_cases h1 : r.val < 32768
  · unfold Rows.at3
    rw [if_pos h1]
    refine (norm_p a0 a1 a2 a3 a4 a5 a6 _ _ l).trans (congrArg (fun z => Rows.ln z _ _ l) (funext fun x => ?_))
    simp only [pre, Rows.at3, if_pos h1]
  · by_cases h2 : r.val < 32896
    · unfold Rows.at3
      rw [if_neg h1, if_pos h2]
      refine (norm_s a0 a1 a2 a3 a4 a5 a6 _ _ l).trans (congrArg (fun z => Rows.ln z _ _ l) (funext fun x => ?_))
      simp only [pre, Rows.at3, if_neg h1, if_pos h2]
    · unfold Rows.at3
      rw [if_neg h1, if_neg h2]
      refine ((Rows.ln_zero (a5 (ix1 l)) (a6 (ix1 l)) l).symm).trans (congrArg (fun z => Rows.ln z _ _ l) (funext fun x => ?_))
      simp only [pre, Rows.at3, if_neg h1, if_neg h2, mul_zero, zero_mul, Finset.sum_const_zero, add_zero]

theorem point (t : Fin cfg0.N) (y) : k0_pay1 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (((cfg0.win 5).blk t).view.emb y) := by
  obtain ⟨i, l, rfl⟩ : ∃ (i : Fin 512) (l : Fin 1024), y = ix2 i l := ⟨y 0, y 1, eq_ix2 y⟩
  have e : k0_pay1 (iblk m c 0 t) (iblk m c 1 t) (iblk m c 2 t) (iblk m c 3 t) (iblk m c 4 t) (ix2 i l) = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (ix2 ⟨t.val * 512 + i.val, by have := lt_of_lt_of_eq t.isLt N_0; omega⟩ l) := by
    refine ((pay_at _ _ _ _ _ i l).trans ?_).trans (ref_at _ _ _ _ _ _ _ _ l).symm
    refine (congrArg₂ (fun p q => Rows.ln _ p q l) ((blk3 m c t l).trans (g_at m c l)) ((blk4 m c t l).trans (b_at m c l))).trans ?_
    refine congrArg (fun z => Rows.ln z _ _ l) (funext fun x => ?_)
    exact congrArg₂ (fun a b : EReal => Ideal.ofBits FTy.f32 1068827891#32 * a + b) ((blk2 m c t i x).trans (rows_x m c _ x))
        (Finset.sum_congr rfl fun k _ => congrArg₂ (fun a b : EReal => a * b) ((blk0 m c t i k).trans (rows_a m c _ k)) ((blk1 m c t k x).trans (w_at m c k x)))
  refine e.trans ?_
  blk_ext [idx t]

theorem final : (dats m 0 c).arrAt 5 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 5 _ (by decide +kernel) fun t _ y => ?_
  blk_simp
  rw [after0_5]; frame_out
  exact point m c t y

theorem algebraic : algebraic_KernelMixIdeal_ReferenceMixIdeal (hKernelMixIdeal := Cert.KernelMixIdeal.Gen.facts)
    (hReferenceMixIdeal := Cert.ReferenceMixIdeal.Gen.facts) := by
  intro m g m' g' _ heq
  refine ⟨fun c => (dats m 0 c).arrAt 5 (cfgs 0).N, Cert.KernelMixIdeal.Value.run_blocks m g, ?_⟩
  refine (θ_run _ _ _).mono (fun r h c => ?_) (Cert.ReferenceMixIdeal.Value.run m' g')
  obtain ⟨h1, h2⟩ := h c
  refine ⟨(h1.trans (show _ = REF (m' ((c.tc : Thread Cert.ReferenceMixIdeal.nD Cert.ReferenceMixIdeal.τ).loc Cert.ReferenceMixIdeal.main_arg0)) (m' ((c.tc : Thread Cert.ReferenceMixIdeal.nD Cert.ReferenceMixIdeal.τ).loc Cert.ReferenceMixIdeal.main_arg1)) (m' ((c.tc : Thread Cert.ReferenceMixIdeal.nD Cert.ReferenceMixIdeal.τ).loc Cert.ReferenceMixIdeal.main_arg2)) (m' ((c.tc : Thread Cert.ReferenceMixIdeal.nD Cert.ReferenceMixIdeal.τ).loc Cert.ReferenceMixIdeal.main_arg3)) (m' ((c.tc : Thread Cert.ReferenceMixIdeal.nD Cert.ReferenceMixIdeal.τ).loc Cert.ReferenceMixIdeal.main_arg4)) (m' ((c.tc : Thread Cert.ReferenceMixIdeal.nD Cert.ReferenceMixIdeal.τ).loc Cert.ReferenceMixIdeal.main_arg5)) (m' ((c.tc : Thread Cert.ReferenceMixIdeal.nD Cert.ReferenceMixIdeal.τ).loc Cert.ReferenceMixIdeal.main_arg6)) from rfl)).trans ?_, h2⟩
  rw [(heq c).1, (heq c).2.1, (heq c).2.2.1, (heq c).2.2.2.1, (heq c).2.2.2.2.1, (heq c).2.2.2.2.2.1, (heq c).2.2.2.2.2.2]
  exact (final m c).symm

/-- The reference ends, its arguments as they were. -/
theorem frame_reference (m : (ℓ : Loc Cert.ReferenceMixIdeal.nD Cert.ReferenceMixIdeal.τ Cert.ReferenceMixIdeal.sig) → Buf (Elt Ideal) ℓ) (g : Dev Cert.ReferenceMixIdeal.nD → PrngReg) :
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0) :=
  (θ_run _ _ _).mono (fun r h => ⟨fun c => (h c).2, Idealize.ShloMosaic.sem_eq_zero_of_no_sems (by decide) r.2⟩)
    (Cert.ReferenceMixIdeal.Value.run m g)

end Cert.CallMix

end
-- ==== Proof.CallFfn.lean ====
/- The residual around a retrieval and its layer norm. -/
module

public import proofs.«01_k».proof.Defs
public import proofs.«01_k».proof.Proof.Rows
public import proofs.«01_k».proof.Proof.Gen.KernelFfn
public import proofs.«01_k».proof.Proof.Gen.KernelFfn.Frame
public import proofs.«01_k».proof.Proof.Gen.KernelFfnIdeal
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import Idealize.ShloMosaic.Lib.Pipeline.ValueKit
public import Idealize.ShloMosaic.Adequacy
public import Idealize.ShloMosaic.Init

@[expose] public section

set_option maxRecDepth 16384

noncomputable section

namespace Cert.CallFfn

open Idealize.ShloMosaic Idealize.ShloMosaic.TcCoe Idealize.SL.Sem
open Idealize.ShloMosaic.Pipeline (Dat)
open Cert.KernelFfnIdeal Cert.KernelFfnIdeal.Gen

variable (m : (ℓ : Loc nD τ sig) → Buf (Elt Ideal) ℓ) (c : Dev nD)

/-- The row before its norm. -/
def pre (a0 : (⟨3, ![8, 4096, 1024]⟩ : Shape).Idx → EReal) (a1 : (⟨3, ![32, 4, 1024]⟩ : Shape).Idx → EReal) (a2 : (⟨3, ![8, 4096, 1024]⟩ : Shape).Idx → EReal) (a3 : (⟨3, ![32, 4, 1024]⟩ : Shape).Idx → EReal) (r : Fin 33280) (x : Fin 1024) : EReal := Ideal.ofBits FTy.f32 1068827891#32 * Rows.at3 a0 a1 (fun _ => 0) r x + Rows.at3 a2 a3 (fun _ => 0) r x

/-- The reference's result over the arguments. -/
abbrev REF (a0 : FVec Ideal Cert.ReferenceFfnIdeal.S8x4096x1024 .f32) (a1 : FVec Ideal Cert.ReferenceFfnIdeal.S32x4x1024 .f32) (a2 : FVec Ideal Cert.ReferenceFfnIdeal.S8x4096x1024 .f32) (a3 : FVec Ideal Cert.ReferenceFfnIdeal.S32x4x1024 .f32) (a4 a5 : FVec Ideal Cert.ReferenceFfnIdeal.S1024 .f32) : FVec Ideal Cert.ReferenceFfnIdeal.S33280x1024 .f32 :=
  (concatenate Cert.ReferenceFfnIdeal.S33280x1024 0 [⟨Cert.ReferenceFfnIdeal.S32768x1024, ((shapeCast _ (addf (mulf (mulf (subf (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (broadcastInDim Cert.ReferenceFfnIdeal.S8x4096x1024 ![0, 1, 2] Cert.ReferenceFfnIdeal.Gen.bcast_S8x4096x1_S8x4096x1024_0_1_2 (Host.divf (broadcastInDim Cert.ReferenceFfnIdeal.S8x4096x1 ![0, 1] Cert.ReferenceFfnIdeal.Gen.bcast_S8x4096_S8x4096x1_0_1 (Host.reduceAdd (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (constant (F := Ideal) Cert.ReferenceFfnIdeal.S_ .f32 0x00000000#32) Cert.ReferenceFfnIdeal.Gen.reducesTo_S8x4096x1024_S8x4096_d2 Cert.ReferenceFfnIdeal.Gen.h_S_)) (broadcastInDim Cert.ReferenceFfnIdeal.S8x4096x1 ![] Cert.ReferenceFfnIdeal.Gen.bcast_S_S8x4096x1 (constant (F := Ideal) Cert.ReferenceFfnIdeal.S_ .f32 0x44800000#32))))) (broadcastInDim Cert.ReferenceFfnIdeal.S8x4096x1024 ![0, 1, 2] Cert.ReferenceFfnIdeal.Gen.bcast_S8x4096x1_S8x4096x1024_0_1_2 (Host.rsqrt (addf (Host.divf (broadcastInDim Cert.ReferenceFfnIdeal.S8x4096x1 ![0, 1] Cert.ReferenceFfnIdeal.Gen.bcast_S8x4096_S8x4096x1_0_1 (Host.reduceAdd (mulf (subf (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (broadcastInDim Cert.ReferenceFfnIdeal.S8x4096x1024 ![0, 1, 2] Cert.ReferenceFfnIdeal.Gen.bcast_S8x4096x1_S8x4096x1024_0_1_2 (Host.divf (broadcastInDim Cert.ReferenceFfnIdeal.S8x4096x1 ![0, 1] Cert.ReferenceFfnIdeal.Gen.bcast_S8x4096_S8x4096x1_0_1 (Host.reduceAdd (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (constant (F := Ideal) Cert.ReferenceFfnIdeal.S_ .f32 0x00000000#32) Cert.ReferenceFfnIdeal.Gen.reducesTo_S8x4096x1024_S8x4096_d2 Cert.ReferenceFfnIdeal.Gen.h_S_)) (broadcastInDim Cert.ReferenceFfnIdeal.S8x4096x1 ![] Cert.ReferenceFfnIdeal.Gen.bcast_S_S8x4096x1 (constant (F := Ideal) Cert.ReferenceFfnIdeal.S_ .f32 0x44800000#32))))) (subf (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (broadcastInDim Cert.ReferenceFfnIdeal.S8x4096x1024 ![0, 1, 2] Cert.ReferenceFfnIdeal.Gen.bcast_S8x4096x1_S8x4096x1024_0_1_2 (Host.divf (broadcastInDim Cert.ReferenceFfnIdeal.S8x4096x1 ![0, 1] Cert.ReferenceFfnIdeal.Gen.bcast_S8x4096_S8x4096x1_0_1 (Host.reduceAdd (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (constant (F := Ideal) Cert.ReferenceFfnIdeal.S_ .f32 0x00000000#32) Cert.ReferenceFfnIdeal.Gen.reducesTo_S8x4096x1024_S8x4096_d2 Cert.ReferenceFfnIdeal.Gen.h_S_)) (broadcastInDim Cert.ReferenceFfnIdeal.S8x4096x1 ![] Cert.ReferenceFfnIdeal.Gen.bcast_S_S8x4096x1 (constant (F := Ideal) Cert.ReferenceFfnIdeal.S_ .f32 0x44800000#32)))))) (constant (F := Ideal) Cert.ReferenceFfnIdeal.S_ .f32 0x00000000#32) Cert.ReferenceFfnIdeal.Gen.reducesTo_S8x4096x1024_S8x4096_d2 Cert.ReferenceFfnIdeal.Gen.h_S_)) (broadcastInDim Cert.ReferenceFfnIdeal.S8x4096x1 ![] Cert.ReferenceFfnIdeal.Gen.bcast_S_S8x4096x1 (constant (F := Ideal) Cert.ReferenceFfnIdeal.S_ .f32 0x44800000#32))) (broadcastInDim Cert.ReferenceFfnIdeal.S8x4096x1 ![] Cert.ReferenceFfnIdeal.Gen.bcast_S_S8x4096x1 (constant (F := Ideal) Cert.ReferenceFfnIdeal.S_ .f32 0x3727C5AC#32)))))) (broadcastInDim Cert.ReferenceFfnIdeal.S8x4096x1024 ![0, 1, 2] Cert.ReferenceFfnIdeal.Gen.bcast_S1x1x1024_S8x4096x1024_0_1_2 (broadcastInDim Cert.ReferenceFfnIdeal.S1x1x1024 ![2] Cert.ReferenceFfnIdeal.Gen.bcast_S1024_S1x1x1024_2 a4))) (broadcastInDim Cert.ReferenceFfnIdeal.S8x4096x1024 ![0, 1, 2] Cert.ReferenceFfnIdeal.Gen.bcast_S1x1x1024_S8x4096x1024_0_1_2 (broadcastInDim Cert.ReferenceFfnIdeal.S1x1x1024 ![2] Cert.ReferenceFfnIdeal.Gen.bcast_S1024_S1x1x1024_2 a5))) Cert.ReferenceFfnIdeal.Gen.shapeCasts_S8x4096x1024_S32768x1024) : (⟨Cert.ReferenceFfnIdeal.S32768x1024, .f32⟩ : BufTy).Contents (Elt Ideal))⟩, ⟨Cert.ReferenceFfnIdeal.S128x1024, ((shapeCast _ (addf (mulf (mulf (subf (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (broadcastInDim Cert.ReferenceFfnIdeal.S32x4x1024 ![0, 1, 2] Cert.ReferenceFfnIdeal.Gen.bcast_S32x4x1_S32x4x1024_0_1_2 (Host.divf (broadcastInDim Cert.ReferenceFfnIdeal.S32x4x1 ![0, 1] Cert.ReferenceFfnIdeal.Gen.bcast_S32x4_S32x4x1_0_1 (Host.reduceAdd (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (constant (F := Ideal) Cert.ReferenceFfnIdeal.S_ .f32 0x00000000#32) Cert.ReferenceFfnIdeal.Gen.reducesTo_S32x4x1024_S32x4_d2 Cert.ReferenceFfnIdeal.Gen.h_S_)) (broadcastInDim Cert.ReferenceFfnIdeal.S32x4x1 ![] Cert.ReferenceFfnIdeal.Gen.bcast_S_S32x4x1 (constant (F := Ideal) Cert.ReferenceFfnIdeal.S_ .f32 0x44800000#32))))) (broadcastInDim Cert.ReferenceFfnIdeal.S32x4x1024 ![0, 1, 2] Cert.ReferenceFfnIdeal.Gen.bcast_S32x4x1_S32x4x1024_0_1_2 (Host.rsqrt (addf (Host.divf (broadcastInDim Cert.ReferenceFfnIdeal.S32x4x1 ![0, 1] Cert.ReferenceFfnIdeal.Gen.bcast_S32x4_S32x4x1_0_1 (Host.reduceAdd (mulf (subf (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (broadcastInDim Cert.ReferenceFfnIdeal.S32x4x1024 ![0, 1, 2] Cert.ReferenceFfnIdeal.Gen.bcast_S32x4x1_S32x4x1024_0_1_2 (Host.divf (broadcastInDim Cert.ReferenceFfnIdeal.S32x4x1 ![0, 1] Cert.ReferenceFfnIdeal.Gen.bcast_S32x4_S32x4x1_0_1 (Host.reduceAdd (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (constant (F := Ideal) Cert.ReferenceFfnIdeal.S_ .f32 0x00000000#32) Cert.ReferenceFfnIdeal.Gen.reducesTo_S32x4x1024_S32x4_d2 Cert.ReferenceFfnIdeal.Gen.h_S_)) (broadcastInDim Cert.ReferenceFfnIdeal.S32x4x1 ![] Cert.ReferenceFfnIdeal.Gen.bcast_S_S32x4x1 (constant (F := Ideal) Cert.ReferenceFfnIdeal.S_ .f32 0x44800000#32))))) (subf (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (broadcastInDim Cert.ReferenceFfnIdeal.S32x4x1024 ![0, 1, 2] Cert.ReferenceFfnIdeal.Gen.bcast_S32x4x1_S32x4x1024_0_1_2 (Host.divf (broadcastInDim Cert.ReferenceFfnIdeal.S32x4x1 ![0, 1] Cert.ReferenceFfnIdeal.Gen.bcast_S32x4_S32x4x1_0_1 (Host.reduceAdd (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (constant (F := Ideal) Cert.ReferenceFfnIdeal.S_ .f32 0x00000000#32) Cert.ReferenceFfnIdeal.Gen.reducesTo_S32x4x1024_S32x4_d2 Cert.ReferenceFfnIdeal.Gen.h_S_)) (broadcastInDim Cert.ReferenceFfnIdeal.S32x4x1 ![] Cert.ReferenceFfnIdeal.Gen.bcast_S_S32x4x1 (constant (F := Ideal) Cert.ReferenceFfnIdeal.S_ .f32 0x44800000#32)))))) (constant (F := Ideal) Cert.ReferenceFfnIdeal.S_ .f32 0x00000000#32) Cert.ReferenceFfnIdeal.Gen.reducesTo_S32x4x1024_S32x4_d2 Cert.ReferenceFfnIdeal.Gen.h_S_)) (broadcastInDim Cert.ReferenceFfnIdeal.S32x4x1 ![] Cert.ReferenceFfnIdeal.Gen.bcast_S_S32x4x1 (constant (F := Ideal) Cert.ReferenceFfnIdeal.S_ .f32 0x44800000#32))) (broadcastInDim Cert.ReferenceFfnIdeal.S32x4x1 ![] Cert.ReferenceFfnIdeal.Gen.bcast_S_S32x4x1 (constant (F := Ideal) Cert.ReferenceFfnIdeal.S_ .f32 0x3727C5AC#32)))))) (broadcastInDim Cert.ReferenceFfnIdeal.S32x4x1024 ![0, 1, 2] Cert.ReferenceFfnIdeal.Gen.bcast_S1x1x1024_S32x4x1024_0_1_2 (broadcastInDim Cert.ReferenceFfnIdeal.S1x1x1024 ![2] Cert.ReferenceFfnIdeal.Gen.bcast_S1024_S1x1x1024_2 a4))) (broadcastInDim Cert.ReferenceFfnIdeal.S32x4x1024 ![0, 1, 2] Cert.ReferenceFfnIdeal.Gen.bcast_S1x1x1024_S32x4x1024_0_1_2 (broadcastInDim Cert.ReferenceFfnIdeal.S1x1x1024 ![2] Cert.ReferenceFfnIdeal.Gen.bcast_S1024_S1x1x1024_2 a5))) Cert.ReferenceFfnIdeal.Gen.shapeCasts_S32x4x1024_S128x1024) : (⟨Cert.ReferenceFfnIdeal.S128x1024, .f32⟩ : BufTy).Contents (Elt Ideal))⟩, ⟨Cert.ReferenceFfnIdeal.S384x1024, ((broadcastInDim Cert.ReferenceFfnIdeal.S384x1024 ![1] Cert.ReferenceFfnIdeal.Gen.bcast_S1024_S384x1024_1 a5) : (⟨Cert.ReferenceFfnIdeal.S384x1024, .f32⟩ : BufTy).Contents (Elt Ideal))⟩] Cert.ReferenceFfnIdeal.Gen.concatenates_S32768x1024_S128x1024_S384x1024_S33280x1024_d0 : (⟨Cert.ReferenceFfnIdeal.S33280x1024, .f32⟩ : BufTy).Contents (Elt Ideal))

theorem idx : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

/-- The token rows, laid end to end. -/
abbrev rowsOf (X : FVec Ideal S8x4096x1024 .f32) (Y : FVec Ideal S32x4x1024 .f32) : FVec Ideal S33280x1024 .f32 :=
  concatenate S33280x1024 0 [⟨S32768x1024, shapeCast S32768x1024 X shapeCasts_S8x4096x1024_S32768x1024⟩,
    ⟨S128x1024, shapeCast S128x1024 Y shapeCasts_S32x4x1024_S128x1024⟩,
    ⟨S384x1024, broadcastInDim S384x1024 ![] bcast_S_S384x1024 (constant (F := Ideal) S_ .f32 0x00000000#32)⟩]
    concatenates_S32768x1024_S128x1024_S384x1024_S33280x1024_d0

theorem rowsOf_at (X : FVec Ideal S8x4096x1024 .f32) (Y : FVec Ideal S32x4x1024 .f32) (r : Fin 33280) (k : Fin 1024) :
    rowsOf X Y (ix2 r k) = Rows.at3 X Y (fun _ => 0) r k :=
  Rows.flat _ _ _ _ _ _ (fun i k => by pointwise) _ r k

theorem rows_x (r : Fin 33280) (k : Fin 1024) : (V m c main_v3 : FVec Ideal S33280x1024 .f32) (ix2 r k)
    = Rows.at3 (m ((c : Thread nD τ).loc main_arg0)) (m ((c : Thread nD τ).loc main_arg1)) (fun _ => 0) r k := by
  have e : (V m c main_v3 : FVec Ideal S33280x1024 .f32) = rowsOf (m ((c : Thread nD τ).loc main_arg0)) (m ((c : Thread nD τ).loc main_arg1)) := by
    rfl
  rw [e]
  exact rowsOf_at _ _ r k

theorem rows_y (r : Fin 33280) (k : Fin 1024) : (V m c main_v7 : FVec Ideal S33280x1024 .f32) (ix2 r k)
    = Rows.at3 (m ((c : Thread nD τ).loc main_arg2)) (m ((c : Thread nD τ).loc main_arg3)) (fun _ => 0) r k := by
  have e : (V m c main_v7 : FVec Ideal S33280x1024 .f32) = rowsOf (m ((c : Thread nD τ).loc main_arg2)) (m ((c : Thread nD τ).loc main_arg3)) := by
    rfl
  rw [e]
  exact rowsOf_at _ _ r k

theorem g_at (l : Fin 1024) : (V m c main_v8 : FVec Ideal S1x1024 .f32) (ix2 0 l)
    = (m ((c : Thread nD τ).loc main_arg4) : FVec Ideal S1024 .f32) (ix1 l) := by
  entry_read
  pointwise

theorem b_at (l : Fin 1024) : (V m c main_v9 : FVec Ideal S1x1024 .f32) (ix2 0 l)
    = (m ((c : Thread nD τ).loc main_arg5) : FVec Ideal S1024 .f32) (ix1 l) := by
  entry_read
  pointwise

theorem blk0 (t : Fin cfg0.N) (i : Fin 512) (k : Fin 1024) : (iblk m c 0 t : FVec Ideal S512x1024 .f32) (ix2 i k)
    = (V m c main_v3 : FVec Ideal S33280x1024 .f32) (ix2 ⟨t.val * 512 + i.val, by have := lt_of_lt_of_eq t.isLt N_0; omega⟩ k) := by
  blk_ext [iblk, idx t]

theorem blk1 (t : Fin cfg0.N) (i : Fin 512) (k : Fin 1024) : (iblk m c 1 t : FVec Ideal S512x1024 .f32) (ix2 i k)
    = (V m c main_v7 : FVec Ideal S33280x1024 .f32) (ix2 ⟨t.val * 512 + i.val, by have := lt_of_lt_of_eq t.isLt N_0; omega⟩ k) := by
  blk_ext [iblk, idx t]

theorem blk2 (t : Fin cfg0.N) (l : Fin 1024) : (iblk m c 2 t : FVec Ideal S1x1024 .f32) (ix2 0 l)
    = (V m c main_v8 : FVec Ideal S1x1024 .f32) (ix2 0 l) := by
  blk_ext [iblk, idx t]

theorem blk3 (t : Fin cfg0.N) (l : Fin 1024) : (iblk m c 3 t : FVec Ideal S1x1024 .f32) (ix2 0 l)
    = (V m c main_v9 : FVec Ideal S1x1024 .f32) (ix2 0 l) := by
  blk_ext [iblk, idx t]

theorem pay_at (X Y : Vec Ideal S512x1024 .f32) (g b : Vec Ideal S1x1024 .f32) (i : Fin 512) (l : Fin 1024) :
    k0_pay1 X Y g b (ix2 i l) = Rows.ln (fun x => Ideal.ofBits FTy.f32 1068827891#32 * X (ix2 i x) + Y (ix2 i x)) (g (ix2 0 l)) (b (ix2 0 l)) l := by
  unfold Rows.ln
  pointwise [k0_pay1]

theorem norm_p (a0 : FVec Ideal Cert.ReferenceFfnIdeal.S8x4096x1024 .f32) (a1 : FVec Ideal Cert.ReferenceFfnIdeal.S32x4x1024 .f32) (a2 : FVec Ideal Cert.ReferenceFfnIdeal.S8x4096x1024 .f32) (a3 : FVec Ideal Cert.ReferenceFfnIdeal.S32x4x1024 .f32) (a4 a5 : FVec Ideal Cert.ReferenceFfnIdeal.S1024 .f32) (a : Fin 8) (b : Fin 4096) (l : Fin 1024) :
    (addf (mulf (mulf (subf (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (broadcastInDim Cert.ReferenceFfnIdeal.S8x4096x1024 ![0, 1, 2] Cert.ReferenceFfnIdeal.Gen.bcast_S8x4096x1_S8x4096x1024_0_1_2 (Host.divf (broadcastInDim Cert.ReferenceFfnIdeal.S8x4096x1 ![0, 1] Cert.ReferenceFfnIdeal.Gen.bcast_S8x4096_S8x4096x1_0_1 (Host.reduceAdd (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (constant (F := Ideal) Cert.ReferenceFfnIdeal.S_ .f32 0x00000000#32) Cert.ReferenceFfnIdeal.Gen.reducesTo_S8x4096x1024_S8x4096_d2 Cert.ReferenceFfnIdeal.Gen.h_S_)) (broadcastInDim Cert.ReferenceFfnIdeal.S8x4096x1 ![] Cert.ReferenceFfnIdeal.Gen.bcast_S_S8x4096x1 (constant (F := Ideal) Cert.ReferenceFfnIdeal.S_ .f32 0x44800000#32))))) (broadcastInDim Cert.ReferenceFfnIdeal.S8x4096x1024 ![0, 1, 2] Cert.ReferenceFfnIdeal.Gen.bcast_S8x4096x1_S8x4096x1024_0_1_2 (Host.rsqrt (addf (Host.divf (broadcastInDim Cert.ReferenceFfnIdeal.S8x4096x1 ![0, 1] Cert.ReferenceFfnIdeal.Gen.bcast_S8x4096_S8x4096x1_0_1 (Host.reduceAdd (mulf (subf (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (broadcastInDim Cert.ReferenceFfnIdeal.S8x4096x1024 ![0, 1, 2] Cert.ReferenceFfnIdeal.Gen.bcast_S8x4096x1_S8x4096x1024_0_1_2 (Host.divf (broadcastInDim Cert.ReferenceFfnIdeal.S8x4096x1 ![0, 1] Cert.ReferenceFfnIdeal.Gen.bcast_S8x4096_S8x4096x1_0_1 (Host.reduceAdd (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (constant (F := Ideal) Cert.ReferenceFfnIdeal.S_ .f32 0x00000000#32) Cert.ReferenceFfnIdeal.Gen.reducesTo_S8x4096x1024_S8x4096_d2 Cert.ReferenceFfnIdeal.Gen.h_S_)) (broadcastInDim Cert.ReferenceFfnIdeal.S8x4096x1 ![] Cert.ReferenceFfnIdeal.Gen.bcast_S_S8x4096x1 (constant (F := Ideal) Cert.ReferenceFfnIdeal.S_ .f32 0x44800000#32))))) (subf (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (broadcastInDim Cert.ReferenceFfnIdeal.S8x4096x1024 ![0, 1, 2] Cert.ReferenceFfnIdeal.Gen.bcast_S8x4096x1_S8x4096x1024_0_1_2 (Host.divf (broadcastInDim Cert.ReferenceFfnIdeal.S8x4096x1 ![0, 1] Cert.ReferenceFfnIdeal.Gen.bcast_S8x4096_S8x4096x1_0_1 (Host.reduceAdd (addf (mulf (broadcastInDim Cert.ReferenceFfnIdeal.S8x4096x1024 ![] Cert.ReferenceFfnIdeal.Gen.bcast_S_S8x4096x1024 (constant (F := Ideal) Cert.ReferenceFfnIdeal.S_ .f32 0x3FB504F3#32)) a0) a2) (constant (F := Ideal) Cert.ReferenceFfnIdeal.S_ .f32 0x00000000#32) Cert.ReferenceFfnIdeal.Gen.reducesTo_S8x4096x1024_S8x4096_d2 Cert.ReferenceFfnIdeal.Gen.h_S_)) (broadcastInDim Cert.ReferenceFfnIdeal.S8x4096x1 ![] Cert.ReferenceFfnIdeal.Gen.bcast_S_S8x4096x1 (constant (F := Ideal) Cert.ReferenceFfnIdeal.S_ .f32 0x44800000#32)))))) (constant (F := Ideal) Cert.ReferenceFfnIdeal.S_ .f32 0x00000000#32) Cert.ReferenceFfnIdeal.Gen.reducesTo_S8x4096x1024_S8x4096_d2 Cert.ReferenceFfnIdeal.Gen.h_S_)) (broadcastInDim Cert.ReferenceFfnIdeal.S8x4096x1 ![] Cert.ReferenceFfnIdeal.Gen.bcast_S_S8x4096x1 (constant (F := Ideal) Cert.ReferenceFfnIdeal.S_ .f32 0x44800000#32))) (broadcastInDim Cert.ReferenceFfnIdeal.S8x4096x1 ![] Cert.ReferenceFfnIdeal.Gen.bcast_S_S8x4096x1 (constant (F := Ideal) Cert.ReferenceFfnIdeal.S_ .f32 0x3727C5AC#32)))))) (broadcastInDim Cert.ReferenceFfnIdeal.S8x4096x1024 ![0, 1, 2] Cert.ReferenceFfnIdeal.Gen.bcast_S1x1x1024_S8x4096x1024_0_1_2 (broadcastInDim Cert.ReferenceFfnIdeal.S1x1x1024 ![2] Cert.ReferenceFfnIdeal.Gen.bcast_S1024_S1x1x1024_2 a4))) (broadcastInDim Cert.ReferenceFfnIdeal.S8x4096x1024 ![0, 1, 2] Cert.ReferenceFfnIdeal.Gen.bcast_S1x1x1024_S8x4096x1024_0_1_2 (broadcastInDim Cert.ReferenceFfnIdeal.S1x1x1024 ![2] Cert.ReferenceFfnIdeal.Gen.bcast_S1024_S1x1x1024_2 a5))) (ix3 a b l)
      = Rows.ln (fun x => Ideal.ofBits FTy.f32 1068827891#32 * a0 (ix3 a b x) + a2 (ix3 a b x)) (a4 (ix1 l)) (a5 (ix1 l)) l := by
  unfold Rows.ln
  pointwise

theorem norm_s (a0 : FVec Ideal Cert.ReferenceFfnIdeal.S8x4096x1024 .f32) (a1 : FVec Ideal Cert.ReferenceFfnIdeal.S32x4x1024 .f32) (a2 : FVec Ideal Cert.ReferenceFfnIdeal.S8x4096x1024 .f32) (a3 : FVec Ideal Cert.ReferenceFfnIdeal.S32x4x1024 .f32) (a4 a5 : FVec Ideal Cert.ReferenceFfnIdeal.S1024 .f32) (a : Fin 32) (b : Fin 4) (l : Fin 1024) :
    (addf (mulf (mulf (subf (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (broadcastInDim Cert.ReferenceFfnIdeal.S32x4x1024 ![0, 1, 2] Cert.ReferenceFfnIdeal.Gen.bcast_S32x4x1_S32x4x1024_0_1_2 (Host.divf (broadcastInDim Cert.ReferenceFfnIdeal.S32x4x1 ![0, 1] Cert.ReferenceFfnIdeal.Gen.bcast_S32x4_S32x4x1_0_1 (Host.reduceAdd (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (constant (F := Ideal) Cert.ReferenceFfnIdeal.S_ .f32 0x00000000#32) Cert.ReferenceFfnIdeal.Gen.reducesTo_S32x4x1024_S32x4_d2 Cert.ReferenceFfnIdeal.Gen.h_S_)) (broadcastInDim Cert.ReferenceFfnIdeal.S32x4x1 ![] Cert.ReferenceFfnIdeal.Gen.bcast_S_S32x4x1 (constant (F := Ideal) Cert.ReferenceFfnIdeal.S_ .f32 0x44800000#32))))) (broadcastInDim Cert.ReferenceFfnIdeal.S32x4x1024 ![0, 1, 2] Cert.ReferenceFfnIdeal.Gen.bcast_S32x4x1_S32x4x1024_0_1_2 (Host.rsqrt (addf (Host.divf (broadcastInDim Cert.ReferenceFfnIdeal.S32x4x1 ![0, 1] Cert.ReferenceFfnIdeal.Gen.bcast_S32x4_S32x4x1_0_1 (Host.reduceAdd (mulf (subf (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (broadcastInDim Cert.ReferenceFfnIdeal.S32x4x1024 ![0, 1, 2] Cert.ReferenceFfnIdeal.Gen.bcast_S32x4x1_S32x4x1024_0_1_2 (Host.divf (broadcastInDim Cert.ReferenceFfnIdeal.S32x4x1 ![0, 1] Cert.ReferenceFfnIdeal.Gen.bcast_S32x4_S32x4x1_0_1 (Host.reduceAdd (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (constant (F := Ideal) Cert.ReferenceFfnIdeal.S_ .f32 0x00000000#32) Cert.ReferenceFfnIdeal.Gen.reducesTo_S32x4x1024_S32x4_d2 Cert.ReferenceFfnIdeal.Gen.h_S_)) (broadcastInDim Cert.ReferenceFfnIdeal.S32x4x1 ![] Cert.ReferenceFfnIdeal.Gen.bcast_S_S32x4x1 (constant (F := Ideal) Cert.ReferenceFfnIdeal.S_ .f32 0x44800000#32))))) (subf (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (broadcastInDim Cert.ReferenceFfnIdeal.S32x4x1024 ![0, 1, 2] Cert.ReferenceFfnIdeal.Gen.bcast_S32x4x1_S32x4x1024_0_1_2 (Host.divf (broadcastInDim Cert.ReferenceFfnIdeal.S32x4x1 ![0, 1] Cert.ReferenceFfnIdeal.Gen.bcast_S32x4_S32x4x1_0_1 (Host.reduceAdd (addf (mulf (broadcastInDim Cert.ReferenceFfnIdeal.S32x4x1024 ![] Cert.ReferenceFfnIdeal.Gen.bcast_S_S32x4x1024 (constant (F := Ideal) Cert.ReferenceFfnIdeal.S_ .f32 0x3FB504F3#32)) a1) a3) (constant (F := Ideal) Cert.ReferenceFfnIdeal.S_ .f32 0x00000000#32) Cert.ReferenceFfnIdeal.Gen.reducesTo_S32x4x1024_S32x4_d2 Cert.ReferenceFfnIdeal.Gen.h_S_)) (broadcastInDim Cert.ReferenceFfnIdeal.S32x4x1 ![] Cert.ReferenceFfnIdeal.Gen.bcast_S_S32x4x1 (constant (F := Ideal) Cert.ReferenceFfnIdeal.S_ .f32 0x44800000#32)))))) (constant (F := Ideal) Cert.ReferenceFfnIdeal.S_ .f32 0x00000000#32) Cert.ReferenceFfnIdeal.Gen.reducesTo_S32x4x1024_S32x4_d2 Cert.ReferenceFfnIdeal.Gen.h_S_)) (broadcastInDim Cert.ReferenceFfnIdeal.S32x4x1 ![] Cert.ReferenceFfnIdeal.Gen.bcast_S_S32x4x1 (constant (F := Ideal) Cert.ReferenceFfnIdeal.S_ .f32 0x44800000#32))) (broadcastInDim Cert.ReferenceFfnIdeal.S32x4x1 ![] Cert.ReferenceFfnIdeal.Gen.bcast_S_S32x4x1 (constant (F := Ideal) Cert.ReferenceFfnIdeal.S_ .f32 0x3727C5AC#32)))))) (broadcastInDim Cert.ReferenceFfnIdeal.S32x4x1024 ![0, 1, 2] Cert.ReferenceFfnIdeal.Gen.bcast_S1x1x1024_S32x4x1024_0_1_2 (broadcastInDim Cert.ReferenceFfnIdeal.S1x1x1024 ![2] Cert.ReferenceFfnIdeal.Gen.bcast_S1024_S1x1x1024_2 a4))) (broadcastInDim Cert.ReferenceFfnIdeal.S32x4x1024 ![0, 1, 2] Cert.ReferenceFfnIdeal.Gen.bcast_S1x1x1024_S32x4x1024_0_1_2 (broadcastInDim Cert.ReferenceFfnIdeal.S1x1x1024 ![2] Cert.ReferenceFfnIdeal.Gen.bcast_S1024_S1x1x1024_2 a5))) (ix3 a b l)
      = Rows.ln (fun x => Ideal.ofBits FTy.f32 1068827891#32 * a1 (ix3 a b x) + a3 (ix3 a b x)) (a4 (ix1 l)) (a5 (ix1 l)) l := by
  unfold Rows.ln
  pointwise

theorem ref_at (a0 : FVec Ideal Cert.ReferenceFfnIdeal.S8x4096x1024 .f32) (a1 : FVec Ideal Cert.ReferenceFfnIdeal.S32x4x1024 .f32) (a2 : FVec Ideal Cert.ReferenceFfnIdeal.S8x4096x1024 .f32) (a3 : FVec Ideal Cert.ReferenceFfnIdeal.S32x4x1024 .f32) (a4 a5 : FVec Ideal Cert.ReferenceFfnIdeal.S1024 .f32) (r : Fin 33280) (l : Fin 1024) : REF a0 a1 a2 a3 a4 a5 (ix2 r l)
      = Rows.ln (pre a0 a1 a2 a3 r) (a4 (ix1 l)) (a5 (ix1 l)) l := by
  refine (Rows.flat _ _ _ _ _ (fun k => a5 (ix1 k)) (fun i k => by pointwise) _ r l).trans ?_
  by_cases h1 : r.val < 32768
  · unfold Rows.at3
    rw [if_pos h1]
    refine (norm_p a0 a1 a2 a3 a4 a5 _ _ l).trans (congrArg (fun z => Rows.ln z _ _ l) (funext fun x => ?_))
    simp only [pre, Rows.at3, if_pos h1]
  · by_cases h2 : r.val < 32896
    · unfold Rows.at3
      rw [if_neg h1, if_pos h2]
      refine (norm_s a0 a1 a2 a3 a4 a5 _ _ l).trans (congrArg (fun z => Rows.ln z _ _ l) (funext fun x => ?_))
      simp only [pre, Rows.at3, if_neg h1, if_pos h2]
    · unfold Rows.at3
      rw [if_neg h1, if_neg h2]
      refine ((Rows.ln_zero (a4 (ix1 l)) (a5 (ix1 l)) l).symm).trans (congrArg (fun z => Rows.ln z _ _ l) (funext fun x => ?_))
      simp only [pre, Rows.at3, if_neg h1, if_neg h2, mul_zero, zero_mul, Finset.sum_const_zero, add_zero]

theorem point (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (((cfg0.win 4).blk t).view.emb y) := by
  obtain ⟨i, l, rfl⟩ : ∃ (i : Fin 512) (l : Fin 1024), y = ix2 i l := ⟨y 0, y 1, eq_ix2 y⟩
  have e : k0_pay1 (iblk m c 0 t) (iblk m c 1 t) (iblk m c 2 t) (iblk m c 3 t) (ix2 i l) = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (ix2 ⟨t.val * 512 + i.val, by have := lt_of_lt_of_eq t.isLt N_0; omega⟩ l) := by
    refine ((pay_at _ _ _ _ i l).trans ?_).trans (ref_at _ _ _ _ _ _ _ l).symm
    refine (congrArg₂ (fun p q => Rows.ln _ p q l) ((blk2 m c t l).trans (g_at m c l)) ((blk3 m c t l).trans (b_at m c l))).trans ?_
    refine congrArg (fun z => Rows.ln z _ _ l) (funext fun x => ?_)
    exact congrArg₂ (fun a b : EReal => Ideal.ofBits FTy.f32 1068827891#32 * a + b) ((blk0 m c t i x).trans (rows_x m c _ x))
        ((blk1 m c t i x).trans (rows_y m c _ x))
  refine e.trans ?_
  blk_ext [idx t]

theorem final : (dats m 0 c).arrAt 4 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 4 _ (by decide +kernel) fun t _ y => ?_
  blk_simp
  rw [after0_4]; frame_out
  exact point m c t y

theorem algebraic : algebraic_KernelFfnIdeal_ReferenceFfnIdeal (hKernelFfnIdeal := Cert.KernelFfnIdeal.Gen.facts)
    (hReferenceFfnIdeal := Cert.ReferenceFfnIdeal.Gen.facts) := by
  intro m g m' g' _ heq
  refine ⟨fun c => (dats m 0 c).arrAt 4 (cfgs 0).N, Cert.KernelFfnIdeal.Value.run_blocks m g, ?_⟩
  refine (θ_run _ _ _).mono (fun r h c => ?_) (Cert.ReferenceFfnIdeal.Value.run m' g')
  obtain ⟨h1, h2⟩ := h c
  refine ⟨(h1.trans (show _ = REF (m' ((c.tc : Thread Cert.ReferenceFfnIdeal.nD Cert.ReferenceFfnIdeal.τ).loc Cert.ReferenceFfnIdeal.main_arg0)) (m' ((c.tc : Thread Cert.ReferenceFfnIdeal.nD Cert.ReferenceFfnIdeal.τ).loc Cert.ReferenceFfnIdeal.main_arg1)) (m' ((c.tc : Thread Cert.ReferenceFfnIdeal.nD Cert.ReferenceFfnIdeal.τ).loc Cert.ReferenceFfnIdeal.main_arg2)) (m' ((c.tc : Thread Cert.ReferenceFfnIdeal.nD Cert.ReferenceFfnIdeal.τ).loc Cert.ReferenceFfnIdeal.main_arg3)) (m' ((c.tc : Thread Cert.ReferenceFfnIdeal.nD Cert.ReferenceFfnIdeal.τ).loc Cert.ReferenceFfnIdeal.main_arg4)) (m' ((c.tc : Thread Cert.ReferenceFfnIdeal.nD Cert.ReferenceFfnIdeal.τ).loc Cert.ReferenceFfnIdeal.main_arg5)) from rfl)).trans ?_, h2⟩
  rw [(heq c).1, (heq c).2.1, (heq c).2.2.1, (heq c).2.2.2.1, (heq c).2.2.2.2.1, (heq c).2.2.2.2.2]
  exact (final m c).symm

/-- The reference ends, its arguments as they were. -/
theorem frame_reference (m : (ℓ : Loc Cert.ReferenceFfnIdeal.nD Cert.ReferenceFfnIdeal.τ Cert.ReferenceFfnIdeal.sig) → Buf (Elt Ideal) ℓ) (g : Dev Cert.ReferenceFfnIdeal.nD → PrngReg) :
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0) :=
  (θ_run _ _ _).mono (fun r h => ⟨fun c => (h c).2, Idealize.ShloMosaic.sem_eq_zero_of_no_sems (by decide) r.2⟩)
    (Cert.ReferenceFfnIdeal.Value.run m g)

end Cert.CallFfn

end
-- ==== Proof.RotTables.lean ====
/- The tables of the rotary embedding: the host line of the kernel read at an index. -/
module

public import proofs.«01_k».proof.Defs
public import proofs.«01_k».proof.Proof.Rows
public import proofs.«01_k».proof.Proof.Gen.KernelRot
public import proofs.«01_k».proof.Proof.Gen.KernelRot.Frame
public import proofs.«01_k».proof.Proof.Gen.KernelRotIdeal
public import proofs.«01_k».proof.Proof.Gen.KernelRotIdeal.Frame
public import proofs.«01_k».proof.Proof.Gen.KernelRotIdeal.Value
public import proofs.«01_k».proof.Proof.Gen.ReferenceRotIdeal
public import proofs.«01_k».proof.Proof.Gen.ReferenceRotIdeal.Run
public import Idealize.ShloMosaic.Lib.Pipeline.ValueKit
public import Idealize.ShloMosaic.Lib.Pipeline.ReadBack
public import Idealize.ShloMosaic.Lib.ValueIdxCore
public import Idealize.ShloMosaic.Adequacy
public import Idealize.ShloMosaic.Init

@[expose] public section

set_option maxRecDepth 16384

noncomputable section

namespace Cert.CallRot

open Idealize.ShloMosaic Idealize.ShloMosaic.TcCoe Idealize.SL.Sem
open Idealize.ShloMosaic.Pipeline (Dat)
open Cert.KernelRotIdeal Cert.KernelRotIdeal.Gen
open scoped BigOperators

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0, 0] :=
  (by decide +kernel : ∀ t : Fin grid0.N, _)

/-- The remainder of each word by one word, of the divisor's sign. -/
def rem (x : IVec S128 32) (n : IVec S_ 32) : IVec S128 32 :=
  select (andi (cmpi .ne (cmpi .slt (Host.remsi x (broadcastInDim S128 ![] bcast_S_S128 (select (cmpi .eq n (constantI S_ 32 0#32)) (constantI S_ 32 1#32) n))) (broadcastInDim S128 ![] bcast_S_S128 (constantI S_ 32 0#32)))
      (broadcastInDim S128 ![] bcast_S_S128 (cmpi .slt (select (cmpi .eq n (constantI S_ 32 0#32)) (constantI S_ 32 1#32) n) (constantI S_ 32 0#32))))
    (cmpi .ne (Host.remsi x (broadcastInDim S128 ![] bcast_S_S128 (select (cmpi .eq n (constantI S_ 32 0#32)) (constantI S_ 32 1#32) n))) (broadcastInDim S128 ![] bcast_S_S128 (constantI S_ 32 0#32))))
    (addi (Host.remsi x (broadcastInDim S128 ![] bcast_S_S128 (select (cmpi .eq n (constantI S_ 32 0#32)) (constantI S_ 32 1#32) n))) (broadcastInDim S128 ![] bcast_S_S128 (select (cmpi .eq n (constantI S_ 32 0#32)) (constantI S_ 32 1#32) n)))
    (Host.remsi x (broadcastInDim S128 ![] bcast_S_S128 (select (cmpi .eq n (constantI S_ 32 0#32)) (constantI S_ 32 1#32) n)))

/-- A lane's place in its head. -/
def lane : IVec S128 32 := rem (iotaInDim S128 32 0) (constantI S_ 32 64#32)

/-- A lane's frequency. -/
def freq : IVec S128 32 := rem lane (constantI S_ 32 8#32)

/-- The lanes of the first half of the turned lanes. -/
def lo (lane : IVec S128 32) : IVec S128 1 := cmpi .slt lane (broadcastInDim S128 ![] bcast_S_S128 (constantI S_ 32 8#32))

/-- The lanes of the second half of the turned lanes. -/
def hi (lane : IVec S128 32) : IVec S128 1 := andi (cmpi .sge lane (broadcastInDim S128 ![] bcast_S_S128 (constantI S_ 32 8#32)))
  (cmpi .slt lane (broadcastInDim S128 ![] bcast_S_S128 (constantI S_ 32 16#32)))

/-- The frequencies as column numbers. -/
def cols (freq : IVec S128 32) : IVec S128x1 32 := broadcastInDim S128x1 ![0] bcast_S128_S128x1_0
  (select (cmpi .slt freq (broadcastInDim S128 ![] bcast_S_S128 (constantI S_ 32 0#32)))
    (addi freq (broadcastInDim S128 ![] bcast_S_S128 (constantI S_ 32 8#32))) freq)

/-- The inverse frequencies. -/
def inv : FVec Ideal S8 .f32 :=
  Host.powf (broadcastInDim S8 ![] bcast_S_S8 (constant (F := Ideal) S_ .f32 0x48F42400#32))
    (Host.divf (Host.negf (addf (broadcastInDim S8 ![] bcast_S_S8 (constant (F := Ideal) S_ .f32 0x00000000#32))
      (mulf (broadcastInDim S8 ![] bcast_S_S8 (constant (F := Ideal) S_ .f32 0x40000000#32)) (sitofp .f32 (iotaInDim S8 32 0)))))
      (broadcastInDim S8 ![] bcast_S_S8 (constant (F := Ideal) S_ .f32 0x41800000#32)))

/-- The rows' positions. -/
def poss : IVec S33280 32 :=
  concatenate S33280 0 [⟨S32768, shapeCast S32768 (broadcastInDim S8x4096 ![0, 1] bcast_S1x4096_S8x4096_0_1 (shapeCast S1x4096 (iotaInDim S4096 32 0) shapeCasts_S4096_S1x4096)) shapeCasts_S8x4096_S32768⟩,
    ⟨S128, addi (broadcastInDim S128 ![] bcast_S_S128 (constantI S_ 32 16384#32))
      (shapeCast S128 (broadcastInDim S32x4 ![0, 1] bcast_S1x4_S32x4_0_1 (shapeCast S1x4 (iotaInDim S4 32 0) shapeCasts_S4_S1x4)) shapeCasts_S32x4_S128)⟩,
    ⟨S384, broadcastInDim S384 ![] bcast_S_S384 (constantI S_ 32 0#32)⟩] concatenates_S32768_S128_S384_S33280_d0

/-- The rows' angles. -/
def ang : FVec Ideal S33280x8 .f32 :=
  mulf (broadcastInDim S33280x8 ![0, 1] bcast_S33280x1_S33280x8_0_1 (broadcastInDim S33280x1 ![0] bcast_S33280_S33280x1_0 (sitofp .f32 poss)))
    (broadcastInDim S33280x8 ![0, 1] bcast_S1x8_S33280x8_0_1 (broadcastInDim S1x8 ![1] bcast_S8_S1x8_1 inv))

/-- A table: columns of one array in the lanes of a mask, a constant in the others. -/
def table (k : IVec S1x128 1) (x : FVec Ideal S33280x128 .f32) (z : FVec Ideal S_ .f32) : FVec Ideal S33280x128 .f32 :=
  select (broadcastInDim S33280x128 ![0, 1] bcast_S1x128_S33280x128_0_1 k) x
    (broadcastInDim S33280x128 ![] bcast_S_S33280x128 z)

/-- The turned lanes. -/
def both (lane : IVec S128 32) : IVec S128 1 := ori (lo lane) (hi lane)

/-- The lanes in one row. -/
def row (k : IVec S128 1) : IVec S1x128 1 := broadcastInDim S1x128 ![1] bcast_S128_S1x128_1 k

theorem after_app (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

section Chunks
variable (σ : Valuation τ sig (Elt Ideal))

theorem ops0_v28 : (StableHlo.after (hostOps0 (F := Ideal)) σ (Proc.devRef .tc main_v28) : FVec Ideal S33280x8 .f32) = (Host.cos ang : FVec Ideal S33280x8 .f32) := by
  after_results
  try rfl

theorem ops0_v29 : (StableHlo.after (hostOps0 (F := Ideal)) σ (Proc.devRef .tc main_v29) : FVec Ideal S33280x8 .f32) = (Host.sin ang : FVec Ideal S33280x8 .f32) := by
  after_results
  try rfl

theorem ops0_v30 : (StableHlo.after (hostOps0 (F := Ideal)) σ (Proc.devRef .tc main_v30) : IVec S128 32) = (iotaInDim S128 32 0 : IVec S128 32) := by
  after_results
  try rfl

theorem ops0_c_4 : (StableHlo.after (hostOps0 (F := Ideal)) σ (Proc.devRef .tc main_c_4) : IVec S_ 32) = (constantI S_ 32 64#32 : IVec S_ 32) := by
  after_results
  try rfl

theorem ops1_v31 : (StableHlo.after (hostOps0_1 (F := Ideal)) σ (Proc.devRef .tc main_v31) : IVec S128 32) = (rem (σ (Proc.devRef .tc main_v30) : IVec S128 32) (σ (Proc.devRef .tc main_c_4) : IVec S_ 32) : IVec S128 32) := by
  unfold rem; after_results
  simp -implicitDefEqProofs only [StableHlo.TRef.toBuf, StableHlo.TRef.ofBuf, cast_cast, cast_eq, id_eq]

theorem ops1_v28 : (StableHlo.after (hostOps0_1 (F := Ideal)) σ (Proc.devRef .tc main_v28) : FVec Ideal S33280x8 .f32) = σ (Proc.devRef .tc main_v28) := by
  after_results
  try rfl

theorem ops1_v29 : (StableHlo.after (hostOps0_1 (F := Ideal)) σ (Proc.devRef .tc main_v29) : FVec Ideal S33280x8 .f32) = σ (Proc.devRef .tc main_v29) := by
  after_results
  try rfl

theorem ops2_c_5 : (StableHlo.after (hostOps0_2 (F := Ideal)) σ (Proc.devRef .tc main_c_5) : IVec S_ 32) = (constantI S_ 32 8#32 : IVec S_ 32) := by
  after_results
  try rfl

theorem ops2_v28 : (StableHlo.after (hostOps0_2 (F := Ideal)) σ (Proc.devRef .tc main_v28) : FVec Ideal S33280x8 .f32) = σ (Proc.devRef .tc main_v28) := by
  after_results
  try rfl

theorem ops2_v29 : (StableHlo.after (hostOps0_2 (F := Ideal)) σ (Proc.devRef .tc main_v29) : FVec Ideal S33280x8 .f32) = σ (Proc.devRef .tc main_v29) := by
  after_results
  try rfl

theorem ops2_v31 : (StableHlo.after (hostOps0_2 (F := Ideal)) σ (Proc.devRef .tc main_v31) : IVec S128 32) = σ (Proc.devRef .tc main_v31) := by
  after_results
  try rfl

theorem ops3_v32 : (StableHlo.after (hostOps0_3 (F := Ideal)) σ (Proc.devRef .tc main_v32) : IVec S128 32) = (rem (σ (Proc.devRef .tc main_v31) : IVec S128 32) (σ (Proc.devRef .tc main_c_5) : IVec S_ 32) : IVec S128 32) := by
  unfold rem; after_results
  simp -implicitDefEqProofs only [StableHlo.TRef.toBuf, StableHlo.TRef.ofBuf, cast_cast, cast_eq, id_eq]

theorem ops3_v28 : (StableHlo.after (hostOps0_3 (F := Ideal)) σ (Proc.devRef .tc main_v28) : FVec Ideal S33280x8 .f32) = σ (Proc.devRef .tc main_v28) := by
  after_results
  try rfl

theorem ops3_v29 : (StableHlo.after (hostOps0_3 (F := Ideal)) σ (Proc.devRef .tc main_v29) : FVec Ideal S33280x8 .f32) = σ (Proc.devRef .tc main_v29) := by
  after_results
  try rfl

theorem ops3_v31 : (StableHlo.after (hostOps0_3 (F := Ideal)) σ (Proc.devRef .tc main_v31) : IVec S128 32) = σ (Proc.devRef .tc main_v31) := by
  after_results
  try rfl

theorem ops4_v34 : (StableHlo.after (hostOps0_4 (F := Ideal)) σ (Proc.devRef .tc main_v34) : IVec S128 1) = (lo (σ (Proc.devRef .tc main_v31) : IVec S128 32) : IVec S128 1) := by
  after_results
  try rfl

theorem ops4_v39 : (StableHlo.after (hostOps0_4 (F := Ideal)) σ (Proc.devRef .tc main_v39) : IVec S128 1) = (hi (σ (Proc.devRef .tc main_v31) : IVec S128 32) : IVec S128 1) := by
  after_results
  try rfl

theorem ops4_v41 : (StableHlo.after (hostOps0_4 (F := Ideal)) σ (Proc.devRef .tc main_v41) : IVec S1x128 1) = (row (both (σ (Proc.devRef .tc main_v31) : IVec S128 32)) : IVec S1x128 1) := by
  after_results
  try rfl

theorem ops4_v48 : (StableHlo.after (hostOps0_4 (F := Ideal)) σ (Proc.devRef .tc main_v48) : FVec Ideal S33280x128 .f32) = (Host.gather gather_S33280x8_S128x1_S33280x128_0_1_n_n_1_1_332801 (σ (Proc.devRef .tc main_v28) : FVec Ideal S33280x8 .f32) (cols (σ (Proc.devRef .tc main_v32) : IVec S128 32)) : FVec Ideal S33280x128 .f32) := by
  after_results
  try rfl

theorem ops4_cst_11 : (StableHlo.after (hostOps0_4 (F := Ideal)) σ (Proc.devRef .tc main_cst_11) : FVec Ideal S_ .f32) = (constant (F := Ideal) S_ .f32 0x3F800000#32 : FVec Ideal S_ .f32) := by
  after_results
  try rfl

theorem ops4_v29 : (StableHlo.after (hostOps0_4 (F := Ideal)) σ (Proc.devRef .tc main_v29) : FVec Ideal S33280x8 .f32) = σ (Proc.devRef .tc main_v29) := by
  after_results
  try rfl

theorem ops4_v32 : (StableHlo.after (hostOps0_4 (F := Ideal)) σ (Proc.devRef .tc main_v32) : IVec S128 32) = σ (Proc.devRef .tc main_v32) := by
  after_results
  try rfl

theorem ops5_v49 : (StableHlo.after (hostOps0_5 (F := Ideal)) σ (Proc.devRef .tc main_v49) : FVec Ideal S33280x128 .f32) = (table (σ (Proc.devRef .tc main_v41) : IVec S1x128 1) (σ (Proc.devRef .tc main_v48) : FVec Ideal S33280x128 .f32) (σ (Proc.devRef .tc main_cst_11) : FVec Ideal S_ .f32) : FVec Ideal S33280x128 .f32) := by
  after_results
  try rfl

theorem ops5_v29 : (StableHlo.after (hostOps0_5 (F := Ideal)) σ (Proc.devRef .tc main_v29) : FVec Ideal S33280x8 .f32) = σ (Proc.devRef .tc main_v29) := by
  after_results
  try rfl

theorem ops5_v32 : (StableHlo.after (hostOps0_5 (F := Ideal)) σ (Proc.devRef .tc main_v32) : IVec S128 32) = σ (Proc.devRef .tc main_v32) := by
  after_results
  try rfl

theorem ops5_v34 : (StableHlo.after (hostOps0_5 (F := Ideal)) σ (Proc.devRef .tc main_v34) : IVec S128 1) = σ (Proc.devRef .tc main_v34) := by
  after_results
  try rfl

theorem ops5_v39 : (StableHlo.after (hostOps0_5 (F := Ideal)) σ (Proc.devRef .tc main_v39) : IVec S128 1) = σ (Proc.devRef .tc main_v39) := by
  after_results
  try rfl

theorem ops6_v50 : (StableHlo.after (hostOps0_6 (F := Ideal)) σ (Proc.devRef .tc main_v50) : IVec S1x128 1) = (row (σ (Proc.devRef .tc main_v34) : IVec S128 1) : IVec S1x128 1) := by
  after_results
  try rfl

theorem ops6_v58 : (StableHlo.after (hostOps0_6 (F := Ideal)) σ (Proc.devRef .tc main_v58) : FVec Ideal S33280x128 .f32) = (Host.negf (Host.gather gather_S33280x8_S128x1_S33280x128_0_1_n_n_1_1_332801 (σ (Proc.devRef .tc main_v29) : FVec Ideal S33280x8 .f32) (cols (σ (Proc.devRef .tc main_v32) : IVec S128 32))) : FVec Ideal S33280x128 .f32) := by
  after_results
  try rfl

theorem ops6_cst_14 : (StableHlo.after (hostOps0_6 (F := Ideal)) σ (Proc.devRef .tc main_cst_14) : FVec Ideal S_ .f32) = (constant (F := Ideal) S_ .f32 0x00000000#32 : FVec Ideal S_ .f32) := by
  after_results
  try rfl

theorem ops6_v29 : (StableHlo.after (hostOps0_6 (F := Ideal)) σ (Proc.devRef .tc main_v29) : FVec Ideal S33280x8 .f32) = σ (Proc.devRef .tc main_v29) := by
  after_results
  try rfl

theorem ops6_v32 : (StableHlo.after (hostOps0_6 (F := Ideal)) σ (Proc.devRef .tc main_v32) : IVec S128 32) = σ (Proc.devRef .tc main_v32) := by
  after_results
  try rfl

theorem ops6_v39 : (StableHlo.after (hostOps0_6 (F := Ideal)) σ (Proc.devRef .tc main_v39) : IVec S128 1) = σ (Proc.devRef .tc main_v39) := by
  after_results
  try rfl

theorem ops6_v49 : (StableHlo.after (hostOps0_6 (F := Ideal)) σ (Proc.devRef .tc main_v49) : FVec Ideal S33280x128 .f32) = σ (Proc.devRef .tc main_v49) := by
  after_results
  try rfl

theorem ops7_v59 : (StableHlo.after (hostOps0_7 (F := Ideal)) σ (Proc.devRef .tc main_v59) : FVec Ideal S33280x128 .f32) = (table (σ (Proc.devRef .tc main_v50) : IVec S1x128 1) (σ (Proc.devRef .tc main_v58) : FVec Ideal S33280x128 .f32) (σ (Proc.devRef .tc main_cst_14) : FVec Ideal S_ .f32) : FVec Ideal S33280x128 .f32) := by
  after_results
  try rfl

theorem ops7_v29 : (StableHlo.after (hostOps0_7 (F := Ideal)) σ (Proc.devRef .tc main_v29) : FVec Ideal S33280x8 .f32) = σ (Proc.devRef .tc main_v29) := by
  after_results
  try rfl

theorem ops7_v32 : (StableHlo.after (hostOps0_7 (F := Ideal)) σ (Proc.devRef .tc main_v32) : IVec S128 32) = σ (Proc.devRef .tc main_v32) := by
  after_results
  try rfl

theorem ops7_v39 : (StableHlo.after (hostOps0_7 (F := Ideal)) σ (Proc.devRef .tc main_v39) : IVec S128 1) = σ (Proc.devRef .tc main_v39) := by
  after_results
  try rfl

theorem ops7_v49 : (StableHlo.after (hostOps0_7 (F := Ideal)) σ (Proc.devRef .tc main_v49) : FVec Ideal S33280x128 .f32) = σ (Proc.devRef .tc main_v49) := by
  after_results
  try rfl

theorem ops8_v60 : (StableHlo.after (hostOps0_8 (F := Ideal)) σ (Proc.devRef .tc main_v60) : IVec S1x128 1) = (row (σ (Proc.devRef .tc main_v39) : IVec S128 1) : IVec S1x128 1) := by
  after_results
  try rfl

theorem ops8_v67 : (StableHlo.after (hostOps0_8 (F := Ideal)) σ (Proc.devRef .tc main_v67) : FVec Ideal S33280x128 .f32) = (Host.gather gather_S33280x8_S128x1_S33280x128_0_1_n_n_1_1_332801 (σ (Proc.devRef .tc main_v29) : FVec Ideal S33280x8 .f32) (cols (σ (Proc.devRef .tc main_v32) : IVec S128 32)) : FVec Ideal S33280x128 .f32) := by
  after_results
  try rfl

theorem ops8_cst_17 : (StableHlo.after (hostOps0_8 (F := Ideal)) σ (Proc.devRef .tc main_cst_17) : FVec Ideal S_ .f32) = (constant (F := Ideal) S_ .f32 0x00000000#32 : FVec Ideal S_ .f32) := by
  after_results
  try rfl

theorem ops8_v49 : (StableHlo.after (hostOps0_8 (F := Ideal)) σ (Proc.devRef .tc main_v49) : FVec Ideal S33280x128 .f32) = σ (Proc.devRef .tc main_v49) := by
  after_results
  try rfl

theorem ops8_v59 : (StableHlo.after (hostOps0_8 (F := Ideal)) σ (Proc.devRef .tc main_v59) : FVec Ideal S33280x128 .f32) = σ (Proc.devRef .tc main_v59) := by
  after_results
  try rfl

theorem ops9_v68 : (StableHlo.after (hostOps0_9 (F := Ideal)) σ (Proc.devRef .tc main_v68) : FVec Ideal S33280x128 .f32) = (table (σ (Proc.devRef .tc main_v60) : IVec S1x128 1) (σ (Proc.devRef .tc main_v67) : FVec Ideal S33280x128 .f32) (σ (Proc.devRef .tc main_cst_17) : FVec Ideal S_ .f32) : FVec Ideal S33280x128 .f32) := by
  after_results
  try rfl

theorem ops9_v49 : (StableHlo.after (hostOps0_9 (F := Ideal)) σ (Proc.devRef .tc main_v49) : FVec Ideal S33280x128 .f32) = σ (Proc.devRef .tc main_v49) := by
  after_results
  try rfl

theorem ops9_v59 : (StableHlo.after (hostOps0_9 (F := Ideal)) σ (Proc.devRef .tc main_v59) : FVec Ideal S33280x128 .f32) = σ (Proc.devRef .tc main_v59) := by
  after_results
  try rfl

end Chunks

/-- The host's values after its part 1. -/
def s1 : Valuation τ sig (Elt Ideal) := StableHlo.after (hostOps0 (F := Ideal)) (fun b => m (c, b))

theorem s1_v28 : (s1 m c (Proc.devRef .tc main_v28) : FVec Ideal S33280x8 .f32) = Host.cos ang :=
  ops0_v28 _

theorem s1_v29 : (s1 m c (Proc.devRef .tc main_v29) : FVec Ideal S33280x8 .f32) = Host.sin ang :=
  ops0_v29 _

theorem s1_v30 : (s1 m c (Proc.devRef .tc main_v30) : IVec S128 32) = iotaInDim S128 32 0 :=
  ops0_v30 _

theorem s1_c_4 : (s1 m c (Proc.devRef .tc main_c_4) : IVec S_ 32) = constantI S_ 32 64#32 :=
  ops0_c_4 _

/-- The host's values after its part 2. -/
def s2 : Valuation τ sig (Elt Ideal) := StableHlo.after (hostOps0_1 (F := Ideal)) (s1 m c)

theorem s2_v31 : (s2 m c (Proc.devRef .tc main_v31) : IVec S128 32) = lane :=
  (ops1_v31 _).trans (congrArg₂ (fun (x_v30 : IVec S128 32) (x_c_4 : IVec S_ 32) => rem (x_v30) (x_c_4)) (s1_v30 m c) (s1_c_4 m c))

theorem s2_v28 : (s2 m c (Proc.devRef .tc main_v28) : FVec Ideal S33280x8 .f32) = Host.cos ang :=
  (ops1_v28 _).trans (s1_v28 m c)

theorem s2_v29 : (s2 m c (Proc.devRef .tc main_v29) : FVec Ideal S33280x8 .f32) = Host.sin ang :=
  (ops1_v29 _).trans (s1_v29 m c)

/-- The host's values after its part 3. -/
def s3 : Valuation τ sig (Elt Ideal) := StableHlo.after (hostOps0_2 (F := Ideal)) (s2 m c)

theorem s3_c_5 : (s3 m c (Proc.devRef .tc main_c_5) : IVec S_ 32) = constantI S_ 32 8#32 :=
  ops2_c_5 _

theorem s3_v28 : (s3 m c (Proc.devRef .tc main_v28) : FVec Ideal S33280x8 .f32) = Host.cos ang :=
  (ops2_v28 _).trans (s2_v28 m c)

theorem s3_v29 : (s3 m c (Proc.devRef .tc main_v29) : FVec Ideal S33280x8 .f32) = Host.sin ang :=
  (ops2_v29 _).trans (s2_v29 m c)

theorem s3_v31 : (s3 m c (Proc.devRef .tc main_v31) : IVec S128 32) = lane :=
  (ops2_v31 _).trans (s2_v31 m c)

/-- The host's values after its part 4. -/
def s4 : Valuation τ sig (Elt Ideal) := StableHlo.after (hostOps0_3 (F := Ideal)) (s3 m c)

theorem s4_v32 : (s4 m c (Proc.devRef .tc main_v32) : IVec S128 32) = freq :=
  (ops3_v32 _).trans (congrArg₂ (fun (x_v31 : IVec S128 32) (x_c_5 : IVec S_ 32) => rem (x_v31) (x_c_5)) (s3_v31 m c) (s3_c_5 m c))

theorem s4_v28 : (s4 m c (Proc.devRef .tc main_v28) : FVec Ideal S33280x8 .f32) = Host.cos ang :=
  (ops3_v28 _).trans (s3_v28 m c)

theorem s4_v29 : (s4 m c (Proc.devRef .tc main_v29) : FVec Ideal S33280x8 .f32) = Host.sin ang :=
  (ops3_v29 _).trans (s3_v29 m c)

theorem s4_v31 : (s4 m c (Proc.devRef .tc main_v31) : IVec S128 32) = lane :=
  (ops3_v31 _).trans (s3_v31 m c)

/-- The host's values after its part 5. -/
def s5 : Valuation τ sig (Elt Ideal) := StableHlo.after (hostOps0_4 (F := Ideal)) (s4 m c)

theorem s5_v34 : (s5 m c (Proc.devRef .tc main_v34) : IVec S128 1) = lo (lane) :=
  (ops4_v34 _).trans (congrArg (fun (x_v31 : IVec S128 32) => lo (x_v31)) (s4_v31 m c))

theorem s5_v39 : (s5 m c (Proc.devRef .tc main_v39) : IVec S128 1) = hi (lane) :=
  (ops4_v39 _).trans (congrArg (fun (x_v31 : IVec S128 32) => hi (x_v31)) (s4_v31 m c))

theorem s5_v41 : (s5 m c (Proc.devRef .tc main_v41) : IVec S1x128 1) = row (both (lane)) :=
  (ops4_v41 _).trans (congrArg (fun (x_v31 : IVec S128 32) => row (both (x_v31))) (s4_v31 m c))

theorem s5_v48 : (s5 m c (Proc.devRef .tc main_v48) : FVec Ideal S33280x128 .f32) = Host.gather gather_S33280x8_S128x1_S33280x128_0_1_n_n_1_1_332801 (Host.cos ang) (cols (freq)) :=
  (ops4_v48 _).trans (congrArg₂ (fun (x_v28 : FVec Ideal S33280x8 .f32) (x_v32 : IVec S128 32) => Host.gather gather_S33280x8_S128x1_S33280x128_0_1_n_n_1_1_332801 (x_v28) (cols (x_v32))) (s4_v28 m c) (s4_v32 m c))

theorem s5_cst_11 : (s5 m c (Proc.devRef .tc main_cst_11) : FVec Ideal S_ .f32) = constant (F := Ideal) S_ .f32 0x3F800000#32 :=
  ops4_cst_11 _

theorem s5_v29 : (s5 m c (Proc.devRef .tc main_v29) : FVec Ideal S33280x8 .f32) = Host.sin ang :=
  (ops4_v29 _).trans (s4_v29 m c)

theorem s5_v32 : (s5 m c (Proc.devRef .tc main_v32) : IVec S128 32) = freq :=
  (ops4_v32 _).trans (s4_v32 m c)

/-- The host's values after its part 6. -/
def s6 : Valuation τ sig (Elt Ideal) := StableHlo.after (hostOps0_5 (F := Ideal)) (s5 m c)

theorem s6_v49 : (s6 m c (Proc.devRef .tc main_v49) : FVec Ideal S33280x128 .f32) = table (row (both (lane))) (Host.gather gather_S33280x8_S128x1_S33280x128_0_1_n_n_1_1_332801 (Host.cos ang) (cols (freq))) (constant (F := Ideal) S_ .f32 0x3F800000#32) :=
  (ops5_v49 _).trans (congr (congrArg₂ (fun (x_v41 : IVec S1x128 1) (x_v48 : FVec Ideal S33280x128 .f32) (x_cst_11 : FVec Ideal S_ .f32) => table (x_v41) (x_v48) (x_cst_11)) (s5_v41 m c) (s5_v48 m c)) (s5_cst_11 m c))

theorem s6_v29 : (s6 m c (Proc.devRef .tc main_v29) : FVec Ideal S33280x8 .f32) = Host.sin ang :=
  (ops5_v29 _).trans (s5_v29 m c)

theorem s6_v32 : (s6 m c (Proc.devRef .tc main_v32) : IVec S128 32) = freq :=
  (ops5_v32 _).trans (s5_v32 m c)

theorem s6_v34 : (s6 m c (Proc.devRef .tc main_v34) : IVec S128 1) = lo (lane) :=
  (ops5_v34 _).trans (s5_v34 m c)

theorem s6_v39 : (s6 m c (Proc.devRef .tc main_v39) : IVec S128 1) = hi (lane) :=
  (ops5_v39 _).trans (s5_v39 m c)

/-- The host's values after its part 7. -/
def s7 : Valuation τ sig (Elt Ideal) := StableHlo.after (hostOps0_6 (F := Ideal)) (s6 m c)

theorem s7_v50 : (s7 m c (Proc.devRef .tc main_v50) : IVec S1x128 1) = row (lo (lane)) :=
  (ops6_v50 _).trans (congrArg (fun (x_v34 : IVec S128 1) => row (x_v34)) (s6_v34 m c))

theorem s7_v58 : (s7 m c (Proc.devRef .tc main_v58) : FVec Ideal S33280x128 .f32) = Host.negf (Host.gather gather_S33280x8_S128x1_S33280x128_0_1_n_n_1_1_332801 (Host.sin ang) (cols (freq))) :=
  (ops6_v58 _).trans (congrArg₂ (fun (x_v29 : FVec Ideal S33280x8 .f32) (x_v32 : IVec S128 32) => Host.negf (Host.gather gather_S33280x8_S128x1_S33280x128_0_1_n_n_1_1_332801 (x_v29) (cols (x_v32)))) (s6_v29 m c) (s6_v32 m c))

theorem s7_cst_14 : (s7 m c (Proc.devRef .tc main_cst_14) : FVec Ideal S_ .f32) = constant (F := Ideal) S_ .f32 0x00000000#32 :=
  ops6_cst_14 _

theorem s7_v29 : (s7 m c (Proc.devRef .tc main_v29) : FVec Ideal S33280x8 .f32) = Host.sin ang :=
  (ops6_v29 _).trans (s6_v29 m c)

theorem s7_v32 : (s7 m c (Proc.devRef .tc main_v32) : IVec S128 32) = freq :=
  (ops6_v32 _).trans (s6_v32 m c)

theorem s7_v39 : (s7 m c (Proc.devRef .tc main_v39) : IVec S128 1) = hi (lane) :=
  (ops6_v39 _).trans (s6_v39 m c)

theorem s7_v49 : (s7 m c (Proc.devRef .tc main_v49) : FVec Ideal S33280x128 .f32) = table (row (both (lane))) (Host.gather gather_S33280x8_S128x1_S33280x128_0_1_n_n_1_1_332801 (Host.cos ang) (cols (freq))) (constant (F := Ideal) S_ .f32 0x3F800000#32) :=
  (ops6_v49 _).trans (s6_v49 m c)

/-- The host's values after its part 8. -/
def s8 : Valuation τ sig (Elt Ideal) := StableHlo.after (hostOps0_7 (F := Ideal)) (s7 m c)

theorem s8_v59 : (s8 m c (Proc.devRef .tc main_v59) : FVec Ideal S33280x128 .f32) = table (row (lo (lane))) (Host.negf (Host.gather gather_S33280x8_S128x1_S33280x128_0_1_n_n_1_1_332801 (Host.sin ang) (cols (freq)))) (constant (F := Ideal) S_ .f32 0x00000000#32) :=
  (ops7_v59 _).trans (congr (congrArg₂ (fun (x_v50 : IVec S1x128 1) (x_v58 : FVec Ideal S33280x128 .f32) (x_cst_14 : FVec Ideal S_ .f32) => table (x_v50) (x_v58) (x_cst_14)) (s7_v50 m c) (s7_v58 m c)) (s7_cst_14 m c))

theorem s8_v29 : (s8 m c (Proc.devRef .tc main_v29) : FVec Ideal S33280x8 .f32) = Host.sin ang :=
  (ops7_v29 _).trans (s7_v29 m c)

theorem s8_v32 : (s8 m c (Proc.devRef .tc main_v32) : IVec S128 32) = freq :=
  (ops7_v32 _).trans (s7_v32 m c)

theorem s8_v39 : (s8 m c (Proc.devRef .tc main_v39) : IVec S128 1) = hi (lane) :=
  (ops7_v39 _).trans (s7_v39 m c)

theorem s8_v49 : (s8 m c (Proc.devRef .tc main_v49) : FVec Ideal S33280x128 .f32) = table (row (both (lane))) (Host.gather gather_S33280x8_S128x1_S33280x128_0_1_n_n_1_1_332801 (Host.cos ang) (cols (freq))) (constant (F := Ideal) S_ .f32 0x3F800000#32) :=
  (ops7_v49 _).trans (s7_v49 m c)

/-- The host's values after its part 9. -/
def s9 : Valuation τ sig (Elt Ideal) := StableHlo.after (hostOps0_8 (F := Ideal)) (s8 m c)

theorem s9_v60 : (s9 m c (Proc.devRef .tc main_v60) : IVec S1x128 1) = row (hi (lane)) :=
  (ops8_v60 _).trans (congrArg (fun (x_v39 : IVec S128 1) => row (x_v39)) (s8_v39 m c))

theorem s9_v67 : (s9 m c (Proc.devRef .tc main_v67) : FVec Ideal S33280x128 .f32) = Host.gather gather_S33280x8_S128x1_S33280x128_0_1_n_n_1_1_332801 (Host.sin ang) (cols (freq)) :=
  (ops8_v67 _).trans (congrArg₂ (fun (x_v29 : FVec Ideal S33280x8 .f32) (x_v32 : IVec S128 32) => Host.gather gather_S33280x8_S128x1_S33280x128_0_1_n_n_1_1_332801 (x_v29) (cols (x_v32))) (s8_v29 m c) (s8_v32 m c))

theorem s9_cst_17 : (s9 m c (Proc.devRef .tc main_cst_17) : FVec Ideal S_ .f32) = constant (F := Ideal) S_ .f32 0x00000000#32 :=
  ops8_cst_17 _

theorem s9_v49 : (s9 m c (Proc.devRef .tc main_v49) : FVec Ideal S33280x128 .f32) = table (row (both (lane))) (Host.gather gather_S33280x8_S128x1_S33280x128_0_1_n_n_1_1_332801 (Host.cos ang) (cols (freq))) (constant (F := Ideal) S_ .f32 0x3F800000#32) :=
  (ops8_v49 _).trans (s8_v49 m c)

theorem s9_v59 : (s9 m c (Proc.devRef .tc main_v59) : FVec Ideal S33280x128 .f32) = table (row (lo (lane))) (Host.negf (Host.gather gather_S33280x8_S128x1_S33280x128_0_1_n_n_1_1_332801 (Host.sin ang) (cols (freq)))) (constant (F := Ideal) S_ .f32 0x00000000#32) :=
  (ops8_v59 _).trans (s8_v59 m c)

/-- The host's values after its part 10. -/
def s10 : Valuation τ sig (Elt Ideal) := StableHlo.after (hostOps0_9 (F := Ideal)) (s9 m c)

theorem s10_v68 : (s10 m c (Proc.devRef .tc main_v68) : FVec Ideal S33280x128 .f32) = table (row (hi (lane))) (Host.gather gather_S33280x8_S128x1_S33280x128_0_1_n_n_1_1_332801 (Host.sin ang) (cols (freq))) (constant (F := Ideal) S_ .f32 0x00000000#32) :=
  (ops9_v68 _).trans (congr (congrArg₂ (fun (x_v60 : IVec S1x128 1) (x_v67 : FVec Ideal S33280x128 .f32) (x_cst_17 : FVec Ideal S_ .f32) => table (x_v60) (x_v67) (x_cst_17)) (s9_v60 m c) (s9_v67 m c)) (s9_cst_17 m c))

theorem s10_v49 : (s10 m c (Proc.devRef .tc main_v49) : FVec Ideal S33280x128 .f32) = table (row (both (lane))) (Host.gather gather_S33280x8_S128x1_S33280x128_0_1_n_n_1_1_332801 (Host.cos ang) (cols (freq))) (constant (F := Ideal) S_ .f32 0x3F800000#32) :=
  (ops9_v49 _).trans (s9_v49 m c)

theorem s10_v59 : (s10 m c (Proc.devRef .tc main_v59) : FVec Ideal S33280x128 .f32) = table (row (lo (lane))) (Host.negf (Host.gather gather_S33280x8_S128x1_S33280x128_0_1_n_n_1_1_332801 (Host.sin ang) (cols (freq)))) (constant (F := Ideal) S_ .f32 0x00000000#32) :=
  (ops9_v59 _).trans (s9_v59 m c)

theorem v49_eq : (V m c main_v49 : FVec Ideal S33280x128 .f32) = table (row (both (lane))) (Host.gather gather_S33280x8_S128x1_S33280x128_0_1_n_n_1_1_332801 (Host.cos ang) (cols (freq))) (constant (F := Ideal) S_ .f32 0x3F800000#32) := by
  refine Eq.trans ?_ (s10_v49 m c)
  unfold V
  simp only [List.flatten_cons, List.flatten_nil, List.append_nil, after_app]
  rfl

theorem v59_eq : (V m c main_v59 : FVec Ideal S33280x128 .f32) = table (row (lo (lane))) (Host.negf (Host.gather gather_S33280x8_S128x1_S33280x128_0_1_n_n_1_1_332801 (Host.sin ang) (cols (freq)))) (constant (F := Ideal) S_ .f32 0x00000000#32) := by
  refine Eq.trans ?_ (s10_v59 m c)
  unfold V
  simp only [List.flatten_cons, List.flatten_nil, List.append_nil, after_app]
  rfl

theorem v68_eq : (V m c main_v68 : FVec Ideal S33280x128 .f32) = table (row (hi (lane))) (Host.gather gather_S33280x8_S128x1_S33280x128_0_1_n_n_1_1_332801 (Host.sin ang) (cols (freq))) (constant (F := Ideal) S_ .f32 0x00000000#32) := by
  refine Eq.trans ?_ (s10_v68 m c)
  unfold V
  simp only [List.flatten_cons, List.flatten_nil, List.append_nil, after_app]
  rfl

theorem lo_at : ∀ e : Fin 128, lo lane (ix1 e) = if e.val % 64 < 8 then 1#1 else 0#1 := by
  decide +kernel

theorem hi_at : ∀ e : Fin 128, hi lane (ix1 e) = if 8 ≤ e.val % 64 ∧ e.val % 64 < 16 then 1#1 else 0#1 := by
  decide +kernel

theorem cols_at : ∀ e : Fin 128, (cols freq (ix2 e 0)).toInt.toNat = e.val % 8 := by
  decide +kernel

/-- A row's position. -/
def pos (r : Nat) : BitVec 32 :=
  if r < 32768 then BitVec.ofNat 32 (r % 4096) else if r < 32896 then 16384#32 + BitVec.ofNat 32 ((r - 32768) % 4) else 0#32

theorem pos_p (r : Fin 32768) : shapeCast S32768 (broadcastInDim S8x4096 ![0, 1] bcast_S1x4096_S8x4096_0_1 (shapeCast S1x4096 (iotaInDim S4096 32 0) shapeCasts_S4096_S1x4096)) shapeCasts_S8x4096_S32768 (ix1 r)
    = BitVec.ofNat 32 (r.val % 4096) := by
  refine (shapeCast_apply _ _ _ (ix2 ⟨r.val / 4096, by omega⟩ ⟨r.val % 4096, by omega⟩) ?_).trans ?_
  · rw [Shape.rowMajor_val_one, Shape.rowMajor_val_two]
    exact Nat.div_add_mod' _ _
  · pointwise

theorem pos_s (r : Fin 128) : addi (broadcastInDim S128 ![] bcast_S_S128 (constantI S_ 32 16384#32))
      (shapeCast S128 (broadcastInDim S32x4 ![0, 1] bcast_S1x4_S32x4_0_1 (shapeCast S1x4 (iotaInDim S4 32 0) shapeCasts_S4_S1x4)) shapeCasts_S32x4_S128) (ix1 r)
    = 16384#32 + BitVec.ofNat 32 (r.val % 4) := by
  refine congrArg (fun z : BitVec 32 => 16384#32 + z) ?_
  refine (shapeCast_apply _ _ _ (ix2 ⟨r.val / 4, by omega⟩ ⟨r.val % 4, by omega⟩) ?_).trans ?_
  · rw [Shape.rowMajor_val_one, Shape.rowMajor_val_two]
    exact Nat.div_add_mod' _ _
  · pointwise

theorem poss_at (r : Fin 33280) : poss (ix1 r) = pos r.val := by
  unfold poss pos
  have hr := r.isLt
  rw [concatenate_cons_apply, concatenateAt_cons]
  by_cases h1 : r.val < 32768
  · rw [if_pos h1]
    refine (dif_pos (show r.val < 32768 from h1)).trans (Eq.trans (congrArg _ (funext fun b => Fin.ext ?_)) (pos_p ⟨r.val, h1⟩))
    match b with
    | ⟨0, _⟩ => rfl
  · rw [if_neg h1]
    refine (dif_neg (show ¬ r.val < 32768 from h1)).trans ?_
    rw [concatenateAt_cons]
    by_cases h2 : r.val < 32896
    · rw [if_pos h2]
      refine (dif_pos (show r.val - 32768 < 128 by omega)).trans (Eq.trans (congrArg _ (funext fun b => Fin.ext ?_)) (pos_s ⟨r.val - 32768, by omega⟩))
      match b with
      | ⟨0, _⟩ => rfl
    · rw [if_neg h2]
      refine (dif_neg (show ¬ r.val - 32768 < 128 by omega)).trans ?_
      rw [concatenateAt_singleton]
      rfl

/-- The cosine and the sine of a row's angle at a frequency. -/
def cs (r : Nat) (f : Fin 8) : EReal := Ideal.cos (FloatOps.sitofp (F := Ideal) .f32 (pos r) * inv (ix1 f))

def sn (r : Nat) (f : Fin 8) : EReal := Ideal.sin (FloatOps.sitofp (F := Ideal) .f32 (pos r) * inv (ix1 f))

theorem ang_at (r : Fin 33280) (f : Fin 8) : ang (ix2 r f) = (FloatOps.sitofp (F := Ideal) .f32 (pos r.val) * inv (ix1 f) : EReal) := by
  rw [← poss_at]
  unfold ang
  pointwise

theorem gather_at (x : FVec Ideal S33280x8 .f32) (idx : IVec S128x1 32) (r : Fin 33280) (e : Fin 128) (f : Fin 8)
    (h : (idx (ix2 e 0)).toInt.toNat = f.val) :
    Host.gather gather_S33280x8_S128x1_S33280x128_0_1_n_n_1_1_332801 x idx (ix2 r e) = x (ix2 r f) := by
  unfold Host.gather
  congr 1
  funext a
  refine Fin.ext ?_
  show GatherDims.start _ (ix2 r e) idx a + GatherDims.batchCoord _ (ix2 r e) a + GatherDims.offCoord _ (ix2 r e) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (by decide)]
    unfold GatherDims.offCoord
    rw [dif_pos (by decide)]
    exact Nat.zero_add r.val
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (by decide)]
    have hsi : gather_S33280x8_S128x1_S33280x128_0_1_n_n_1_1_332801.siIdx (ix2 r e) ⟨List.idxOf (1 : Fin 2) gather_S33280x8_S128x1_S33280x128_0_1_n_n_1_1_332801.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, h]
    exact Nat.min_eq_left (by show f.val ≤ 7; omega)

theorem table_at (k : IVec S128 1) (x : FVec Ideal S33280x128 .f32) (z : FVec Ideal S_ .f32) (r : Fin 33280) (e : Fin 128) :
    table (row k) x z (ix2 r e) = Scalar.select (k (ix1 e)) (x (ix2 r e)) (z ix0) := by
  unfold table row
  pointwise

end Cert.CallRot

end
-- ==== Proof.RotBlocks.lean ====
/- A step of the rotary embedding: the eight tiles of 128 lanes of the queries and of the keys, and the mean of the keys. -/
module

public import proofs.«01_k».proof.Defs
public import proofs.«01_k».proof.Proof.RotTables
public import proofs.«01_k».proof.Proof.Gen.KernelRot
public import proofs.«01_k».proof.Proof.Gen.KernelRot.Frame
public import proofs.«01_k».proof.Proof.Gen.KernelRotIdeal
public import proofs.«01_k».proof.Proof.Gen.KernelRotIdeal.Frame
public import proofs.«01_k».proof.Proof.Gen.KernelRotIdeal.Value
public import proofs.«01_k».proof.Proof.Gen.ReferenceRotIdeal
public import proofs.«01_k».proof.Proof.Gen.ReferenceRotIdeal.Run
public import Idealize.ShloMosaic.Lib.Pipeline.ValueKit
public import Idealize.ShloMosaic.Lib.Pipeline.ReadBack
public import Idealize.ShloMosaic.Lib.ValueIdxCore
public import Idealize.ShloMosaic.Adequacy
public import Idealize.ShloMosaic.Init

@[expose] public section

set_option maxRecDepth 16384

noncomputable section

namespace Cert.CallRot

open Idealize.ShloMosaic Idealize.ShloMosaic.TcCoe Idealize.SL.Sem
open Idealize.ShloMosaic.Pipeline (Dat)
open Cert.KernelRotIdeal Cert.KernelRotIdeal.Gen
open scoped BigOperators

variable (m : (ℓ : Loc nD τ sig) → Buf (Elt Ideal) ℓ) (c : Dev nD)

theorem readCov_whole {sp : Space} {s : Shape} {e : EltTy} {Val : EltTy → Type} [∀ e, Nonempty (Val e)] (v : View sig .tc sp s e)
    (L : List (View.Piece Val s e)) (off : Fin s.rank → Nat) (h0 : ∀ a, off a = 0) (inb) :
    v.readCov L (Rect.unit off s.size inb).toLoadRect = View.canon L := by
  rw [View.readCov_eq_canon']
  funext j
  refine congrArg (View.canon L) (funext fun a => Fin.ext ?_)
  refine (Rect.idx_unit_val off s.size inb j a).trans ?_
  rw [h0 a, Nat.zero_add]

/-- A tile of rows turned: a lane, and the lanes eight to the right and to the left of it in its group of 128, each times its table. -/
def turned (x : FVec Ideal S256x1024 .f32) (ca cb cc : FVec Ideal S256x128 .f32) (i : Fin 256) (l : Fin 1024) : EReal :=
  x (ix2 i l) * ca (ix2 i ⟨l.val % 128, by omega⟩)
    + x (ix2 i ⟨l.val / 128 * 128 + (l.val % 128 + 8) % 128, by omega⟩) * cb (ix2 i ⟨l.val % 128, by omega⟩)
    + x (ix2 i ⟨l.val / 128 * 128 + (l.val % 128 + 120) % 128, by omega⟩) * cc (ix2 i ⟨l.val % 128, by omega⟩)

theorem cast4 (v : Vec Ideal S256x128 .f32) : k0_pay4 v = v := shapeCast_id v _

theorem cast5 (v : Vec Ideal S256x128 .f32) : k0_pay5 v = v := shapeCast_id v _

theorem cast6 (v : Vec Ideal S256x128 .f32) : k0_pay6 v = v := shapeCast_id v _

theorem pay2_eq (a b d : FVec Ideal S256x128 .f32) (x : Vec Ideal S256x128 .f32) : k0_pay2 a b d x = k0_pay1 a b d x := rfl

theorem pay10_eq (a b d : FVec Ideal S256x128 .f32) (x : Vec Ideal S256x128 .f32) : k0_pay10 a b d x = k0_pay1 a b d x := rfl

theorem pay11_eq (a b d : FVec Ideal S256x128 .f32) (x : Vec Ideal S256x128 .f32) : k0_pay11 a b d x = k0_pay1 a b d x := rfl

theorem pay12_eq (a b d : FVec Ideal S256x128 .f32) (x : Vec Ideal S256x128 .f32) : k0_pay12 a b d x = k0_pay1 a b d x := rfl

theorem pay16_eq (a b d : FVec Ideal S256x128 .f32) (x : Vec Ideal S256x128 .f32) : k0_pay16 a b d x = k0_pay1 a b d x := rfl

theorem pay17_eq (a b d : FVec Ideal S256x128 .f32) (x : Vec Ideal S256x128 .f32) : k0_pay17 a b d x = k0_pay1 a b d x := rfl

theorem pay18_eq (a b d : FVec Ideal S256x128 .f32) (x : Vec Ideal S256x128 .f32) : k0_pay18 a b d x = k0_pay1 a b d x := rfl

theorem pay22_eq (a b d : FVec Ideal S256x128 .f32) (x : Vec Ideal S256x128 .f32) : k0_pay22 a b d x = k0_pay1 a b d x := rfl

theorem pay23_eq (a b d : FVec Ideal S256x128 .f32) (x : Vec Ideal S256x128 .f32) : k0_pay23 a b d x = k0_pay1 a b d x := rfl

theorem pay24_eq (a b d : FVec Ideal S256x128 .f32) (x : Vec Ideal S256x128 .f32) : k0_pay24 a b d x = k0_pay1 a b d x := rfl

theorem pay7_eq (a b d x : Vec Ideal S256x128 .f32) : k0_pay7 a b d x = k0_pay1 (k0_pay4 a) (k0_pay5 b) (k0_pay6 d) x := rfl

theorem pay8_eq (a b d x : Vec Ideal S256x128 .f32) : k0_pay8 a b d x = k0_pay1 (k0_pay4 a) (k0_pay5 b) (k0_pay6 d) x := rfl

theorem pay9_eq (a b d x : Vec Ideal S256x128 .f32) : k0_pay9 a b d x = k0_pay1 (k0_pay4 a) (k0_pay5 b) (k0_pay6 d) x := rfl

theorem pay15_eq (a b d : FVec Ideal S256x128 .f32) (x : Vec Ideal S256x128 .f32) : k0_pay15 (k0_pay13 a b x) (k0_pay14 d x) = k0_pay1 a b d x := rfl

theorem pay21_eq (a b d : FVec Ideal S256x128 .f32) (x : Vec Ideal S256x128 .f32) : k0_pay21 d x (k0_pay19 a x) (k0_pay20 b x) = k0_pay1 a b d x := rfl

theorem tile_at (X : Vec Ideal S256x128 .f32) (ca cb cc : FVec Ideal S256x128 .f32) (i : Fin 256) (e : Fin 128) :
    k0_pay1 ca cb cc X (ix2 i e) = (X (ix2 i e) * ca (ix2 i e) + X (ix2 i ⟨(e.val + 8) % 128, by omega⟩) * cb (ix2 i e)
      + X (ix2 i ⟨(e.val + 120) % 128, by omega⟩) * cc (ix2 i e) : EReal) := by
  pointwise [k0_pay1]
  rw [show (⟨(e.val + 8) % 128, by omega⟩ : Fin 128) = ⟨(e.val + 128 - 120) % 128, by omega⟩ from Fin.ext (by dsimp only; omega),
    show (⟨(e.val + 120) % 128, by omega⟩ : Fin 128) = ⟨(e.val + 128 - 8) % 128, by omega⟩ from Fin.ext (by dsimp only; omega)]

theorem ld_at (A : Vec Ideal S256x1024 .f32) (o : Nat) (inb) (i : Fin 256) (e : Fin 128) (l : Fin 1024) (h : l.val = o + e.val) :
    View.ld A (Rect.unit (s := S256x1024) ![0, o] ![256, 128] inb) (ix2 i e) = A (ix2 i l) := by
  refine View.ld_unit_apply_of _ _ _ _ _ _ ?_
  intro a
  fin_cases a
  · exact (Nat.zero_add _).symm
  · exact h

theorem tile_ld (A : Vec Ideal S256x1024 .f32) (ca cb cc : FVec Ideal S256x128 .f32) (o : Nat) (inb) (ho : o % 128 = 0) (y : S256x1024.Idx)
    (x : S256x128.Idx) (h0 : (y 0).val = (x 0).val) (h1 : (y 1).val = o + (x 1).val) :
    k0_pay1 ca cb cc (View.ld A (Rect.unit (s := S256x1024) ![0, o] ![256, 128] inb)) x = turned A ca cb cc (y 0) (y 1) := by
  obtain ⟨i, e, rfl⟩ : ∃ (i : Fin 256) (e : Fin 128), x = ix2 i e := ⟨x 0, x 1, eq_ix2 x⟩
  obtain ⟨j, l, rfl⟩ : ∃ (j : Fin 256) (l : Fin 1024), y = ix2 j l := ⟨y 0, y 1, eq_ix2 y⟩
  change j.val = i.val at h0
  change l.val = o + e.val at h1
  obtain rfl : j = i := Fin.ext h0
  have hl := l.isLt
  have he := e.isLt
  have e1 : (⟨l.val % 128, by omega⟩ : Fin 128) = e := Fin.ext (by dsimp only; omega)
  refine (tile_at _ ca cb cc j e).trans ?_
  change _ = turned A ca cb cc j l
  unfold turned
  rw [e1, ld_at A o inb j e l h1, ld_at A o inb j _ ⟨l.val / 128 * 128 + (l.val % 128 + 8) % 128, by omega⟩ (by dsimp only; omega),
    ld_at A o inb j _ ⟨l.val / 128 * 128 + (l.val % 128 + 120) % 128, by omega⟩ (by dsimp only; omega)]

theorem after5_eq (t : Fin cfg0.N) : ((dats m 0 c).after 5 t : FVec Ideal S256x1024 .f32)
    = fun y => turned (iblk m c 0 t) (iblk m c 2 t) (iblk m c 3 t) (iblk m c 4 t) (y 0) (y 1) := by
  rw [after0_5]; frame_out
  funext y
  canon_tiles x hx
  case piece0 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 0 t) (iblk m c 2 t) (iblk m c 3 t) (iblk m c 4 t) 896 inb_S256x1024_S256x128_0_896 (by decide) y x hx0 hx1
  case piece1 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 0 t) (iblk m c 2 t) (iblk m c 3 t) (iblk m c 4 t) 768 inb_S256x1024_S256x128_0_768 (by decide) y x hx0 hx1
  case piece2 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 0 t) (iblk m c 2 t) (iblk m c 3 t) (iblk m c 4 t) 640 inb_S256x1024_S256x128_0_640 (by decide) y x hx0 hx1
  case piece3 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 0 t) (iblk m c 2 t) (iblk m c 3 t) (iblk m c 4 t) 512 inb_S256x1024_S256x128_0_512 (by decide) y x hx0 hx1
  case piece4 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 0 t) (iblk m c 2 t) (iblk m c 3 t) (iblk m c 4 t) 384 inb_S256x1024_S256x128_0_384 (by decide) y x hx0 hx1
  case piece5 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 0 t) (iblk m c 2 t) (iblk m c 3 t) (iblk m c 4 t) 256 inb_S256x1024_S256x128_0_256 (by decide) y x hx0 hx1
  case piece6 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 0 t) (iblk m c 2 t) (iblk m c 3 t) (iblk m c 4 t) 128 inb_S256x1024_S256x128_0_128 (by decide) y x hx0 hx1
  case piece7 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 0 t) (iblk m c 2 t) (iblk m c 3 t) (iblk m c 4 t) 0 inb_S256x1024_S256x128_0_0 (by decide) y x hx0 (hx1.trans (Nat.zero_add _).symm)

theorem after6_eq (t : Fin cfg0.N) : ((dats m 0 c).after 6 t : FVec Ideal S256x1024 .f32)
    = fun y => turned (iblk m c 1 t) (iblk m c 2 t) (iblk m c 3 t) (iblk m c 4 t) (y 0) (y 1) := by
  rw [after0_6]; frame_out
  funext y
  canon_tiles x hx
  case piece0 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 1 t) (iblk m c 2 t) (iblk m c 3 t) (iblk m c 4 t) 896 inb_S256x1024_S256x128_0_896 (by decide) y x hx0 hx1
  case piece1 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 1 t) (iblk m c 2 t) (iblk m c 3 t) (iblk m c 4 t) 768 inb_S256x1024_S256x128_0_768 (by decide) y x hx0 hx1
  case piece2 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 1 t) (iblk m c 2 t) (iblk m c 3 t) (iblk m c 4 t) 640 inb_S256x1024_S256x128_0_640 (by decide) y x hx0 hx1
  case piece3 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 1 t) (iblk m c 2 t) (iblk m c 3 t) (iblk m c 4 t) 512 inb_S256x1024_S256x128_0_512 (by decide) y x hx0 hx1
  case piece4 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 1 t) (iblk m c 2 t) (iblk m c 3 t) (iblk m c 4 t) 384 inb_S256x1024_S256x128_0_384 (by decide) y x hx0 hx1
  case piece5 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 1 t) (iblk m c 2 t) (iblk m c 3 t) (iblk m c 4 t) 256 inb_S256x1024_S256x128_0_256 (by decide) y x hx0 hx1
  case piece6 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 1 t) (iblk m c 2 t) (iblk m c 3 t) (iblk m c 4 t) 128 inb_S256x1024_S256x128_0_128 (by decide) y x hx0 hx1
  case piece7 =>
    simp only [pay2_eq, pay10_eq, pay11_eq, pay12_eq, pay16_eq, pay17_eq, pay18_eq, pay22_eq, pay23_eq, pay24_eq, pay7_eq, pay8_eq, pay9_eq, pay15_eq, pay21_eq, cast4, cast5, cast6]
    exact tile_ld (iblk m c 1 t) (iblk m c 2 t) (iblk m c 3 t) (iblk m c 4 t) 0 inb_S256x1024_S256x128_0_0 (by decide) y x hx0 (hx1.trans (Nat.zero_add _).symm)

theorem after7_eq (t : Fin cfg0.N) : ((dats m 0 c).after 7 t : FVec Ideal S1x1x1024 .f32)
    = k0_pay3 (F := Ideal) ((dats m 0 c).after 6 t) := by
  rw [after0_7, after0_6]; frame_out
  exact congrArg k0_pay3 (readCov_whole _ _ _ (by decide) _)

end Cert.CallRot

end
-- ==== Proof.RotRef.lean ====
/- The reference's rotary embedding: heads of 64 lanes, the first sixteen of each turned, read at a row and a lane. -/
module

public import proofs.«01_k».proof.Proof.RotTables

@[expose] public section

set_option maxRecDepth 16384

noncomputable section

namespace Cert.CallRot

open Idealize.ShloMosaic Idealize.ShloMosaic.TcCoe

/-- A row turned: in each head of 64 lanes, the first eight lanes and the next eight are the two parts of eight planes. -/
def rope (x : Fin 1024 → EReal) (c s : Fin 8 → EReal) (l : Fin 1024) : EReal :=
  if l.val % 64 < 8 then x l * c ⟨l.val % 8, by omega⟩ - x ⟨(l.val + 8) % 1024, by omega⟩ * s ⟨l.val % 8, by omega⟩
  else if l.val % 64 < 16 then x l * c ⟨l.val % 8, by omega⟩ + x ⟨l.val - 8, by omega⟩ * s ⟨l.val % 8, by omega⟩
  else x l

section generic

variable {A B T : ℕ}

theorem cat_left {p q n : ℕ} (X : (⟨4, ![A, B, 16, p]⟩ : Shape).Idx → EReal) (Y : (⟨4, ![A, B, 16, q]⟩ : Shape).Idx → EReal)
    (h : Shape.Concatenates (([⟨⟨4, ![A, B, 16, p]⟩, X⟩, ⟨⟨4, ![A, B, 16, q]⟩, Y⟩] : List ((s : Shape) × (s.Idx → EReal))).map (·.1)) ⟨4, ![A, B, 16, n]⟩ 3)
    (a : Fin A) (b : Fin B) (k : Fin 16) (d : Fin n) (hd : d.val < p) :
    concatenate ⟨4, ![A, B, 16, n]⟩ 3 [⟨⟨4, ![A, B, 16, p]⟩, X⟩, ⟨⟨4, ![A, B, 16, q]⟩, Y⟩] h (ix4 a b k d) = X (ix4 a b k ⟨d.val, hd⟩) := by
  rw [concatenate_cons_apply, concatenateAt_cons]
  refine (dif_pos (show d.val < p from hd)).trans (congrArg X (funext fun b => Fin.ext ?_))
  match b with
  | ⟨0, _⟩ => rfl
  | ⟨1, _⟩ => rfl
  | ⟨2, _⟩ => rfl
  | ⟨3, _⟩ => rfl

theorem cat_right {p q n : ℕ} (X : (⟨4, ![A, B, 16, p]⟩ : Shape).Idx → EReal) (Y : (⟨4, ![A, B, 16, q]⟩ : Shape).Idx → EReal)
    (h : Shape.Concatenates (([⟨⟨4, ![A, B, 16, p]⟩, X⟩, ⟨⟨4, ![A, B, 16, q]⟩, Y⟩] : List ((s : Shape) × (s.Idx → EReal))).map (·.1)) ⟨4, ![A, B, 16, n]⟩ 3)
    (a : Fin A) (b : Fin B) (k : Fin 16) (d : Fin n) (hd : ¬ d.val < p) (hq : d.val - p < q) :
    concatenate ⟨4, ![A, B, 16, n]⟩ 3 [⟨⟨4, ![A, B, 16, p]⟩, X⟩, ⟨⟨4, ![A, B, 16, q]⟩, Y⟩] h (ix4 a b k d) = Y (ix4 a b k ⟨d.val - p, hq⟩) := by
  rw [concatenate_cons_apply, concatenateAt_cons]
  refine (dif_neg (show ¬ d.val < p from hd)).trans ?_
  rw [concatenateAt_singleton]
  refine congrArg Y (funext fun b => Fin.ext ?_)
  match b with
  | ⟨0, _⟩ => rfl
  | ⟨1, _⟩ => rfl
  | ⟨2, _⟩ => rfl
  | ⟨3, _⟩ => rfl

theorem slice_at {n p o : ℕ} (X : (⟨4, ![A, B, 16, n]⟩ : Shape).Idx → EReal) (h : (⟨4, ![A, B, 16, n]⟩ : Shape).Slices ![0, 0, 0, o] ⟨4, ![A, B, 16, p]⟩)
    (a : Fin A) (b : Fin B) (k : Fin 16) (d : Fin p) (e : Fin n) (he : e.val = o + d.val) :
    extractStridedSlice (⟨4, ![A, B, 16, p]⟩ : Shape) ![0, 0, 0, o] X h (ix4 a b k d) = X (ix4 a b k e) := by
  unfold extractStridedSlice
  refine congrArg X (funext fun x => Fin.ext ?_)
  match x with
  | ⟨0, _⟩ => exact Nat.zero_add _
  | ⟨1, _⟩ => exact Nat.zero_add _
  | ⟨2, _⟩ => exact Nat.zero_add _
  | ⟨3, _⟩ => exact he.symm

theorem spread_at (C : (⟨4, ![1, B, 1, 8]⟩ : Shape).Idx → EReal) (h : (⟨4, ![1, B, 1, 8]⟩ : Shape).BroadcastsInDim ⟨4, ![A, B, 16, 8]⟩ ![0, 1, 2, 3])
    (a : Fin A) (b : Fin B) (k : Fin 16) (d : Fin 8) :
    broadcastInDim (⟨4, ![A, B, 16, 8]⟩ : Shape) ![0, 1, 2, 3] h C (ix4 a b k d) = C (ix4 0 b 0 d) := by
  refine broadcastInDim_apply _ h C _ _ fun x => ?_
  match x with
  | ⟨0, _⟩ => rfl
  | ⟨1, _⟩ =>
    show b.val = if B = 1 then 0 else b.val
    have hb := b.isLt
    split_ifs <;> omega
  | ⟨2, _⟩ => rfl
  | ⟨3, _⟩ => rfl

theorem rows_at (X : (⟨4, ![A, B, 16, 64]⟩ : Shape).Idx → EReal) (hc : (⟨4, ![A, B, 16, 64]⟩ : Shape).ShapeCasts ⟨2, ![T, 1024]⟩)
    (r : Fin T) (l : Fin 1024) (a : Fin A) (b : Fin B) (h : r.val = a.val * B + b.val) :
    shapeCast (⟨2, ![T, 1024]⟩ : Shape) X hc (ix2 r l) = X (ix4 a b ⟨l.val / 64, by omega⟩ ⟨l.val % 64, by omega⟩) := by
  refine shapeCast_apply _ _ _ _ ?_
  rw [Shape.rowMajor_val_two, Shape.rowMajor_val_four]
  show ((a.val * B + b.val) * 16 + l.val / 64) * 64 + l.val % 64 = r.val * 1024 + l.val
  rw [← h]
  omega

theorem heads_at (Y : (⟨2, ![T, 1024]⟩ : Shape).Idx → EReal) (hc : (⟨2, ![T, 1024]⟩ : Shape).ShapeCasts ⟨4, ![A, B, 16, 64]⟩)
    (r : Fin T) (l : Fin 1024) (a : Fin A) (b : Fin B) (k : Fin 16) (d : Fin 64) (h : r.val = a.val * B + b.val) (hl : l.val = k.val * 64 + d.val) :
    shapeCast (⟨4, ![A, B, 16, 64]⟩ : Shape) Y hc (ix4 a b k d) = Y (ix2 r l) := by
  refine shapeCast_apply _ _ _ _ ?_
  rw [Shape.rowMajor_val_two, Shape.rowMajor_val_four]
  show r.val * 1024 + l.val = ((a.val * B + b.val) * 16 + k.val) * 64 + d.val
  rw [← h]
  omega

/-- The reference's turn of one batch, at row `r` and lane `l`. -/
theorem batch_at (Y : (⟨2, ![T, 1024]⟩ : Shape).Idx → EReal) (X : (⟨4, ![A, B, 16, 64]⟩ : Shape).Idx → EReal)
    (C S : (⟨4, ![1, B, 1, 8]⟩ : Shape).Idx → EReal) {hy hc hb h16 h0 h8 ht hp hw}
    (hX : X = shapeCast (⟨4, ![A, B, 16, 64]⟩ : Shape) Y hy)
    (r : Fin T) (l : Fin 1024) (a : Fin A) (b : Fin B) (h : r.val = a.val * B + b.val) :
    shapeCast (⟨2, ![T, 1024]⟩ : Shape) (concatenate (⟨4, ![A, B, 16, 64]⟩ : Shape) 3
      [⟨(⟨4, ![A, B, 16, 16]⟩ : Shape), concatenate (⟨4, ![A, B, 16, 16]⟩ : Shape) 3
        [⟨(⟨4, ![A, B, 16, 8]⟩ : Shape), (subf
          (mulf (extractStridedSlice (⟨4, ![A, B, 16, 8]⟩ : Shape) ![0, 0, 0, 0] (extractStridedSlice (⟨4, ![A, B, 16, 16]⟩ : Shape) ![0, 0, 0, 0] X h16) h0 : FVec Ideal _ .f32)
            (broadcastInDim (⟨4, ![A, B, 16, 8]⟩ : Shape) ![0, 1, 2, 3] hb C))
          (mulf (extractStridedSlice (⟨4, ![A, B, 16, 8]⟩ : Shape) ![0, 0, 0, 8] (extractStridedSlice (⟨4, ![A, B, 16, 16]⟩ : Shape) ![0, 0, 0, 0] X h16) h8)
            (broadcastInDim (⟨4, ![A, B, 16, 8]⟩ : Shape) ![0, 1, 2, 3] hb S)) : FVec Ideal (⟨4, ![A, B, 16, 8]⟩ : Shape) .f32)⟩,
         ⟨(⟨4, ![A, B, 16, 8]⟩ : Shape), (addf
          (mulf (extractStridedSlice (⟨4, ![A, B, 16, 8]⟩ : Shape) ![0, 0, 0, 8] (extractStridedSlice (⟨4, ![A, B, 16, 16]⟩ : Shape) ![0, 0, 0, 0] X h16) h8 : FVec Ideal _ .f32)
            (broadcastInDim (⟨4, ![A, B, 16, 8]⟩ : Shape) ![0, 1, 2, 3] hb C))
          (mulf (extractStridedSlice (⟨4, ![A, B, 16, 8]⟩ : Shape) ![0, 0, 0, 0] (extractStridedSlice (⟨4, ![A, B, 16, 16]⟩ : Shape) ![0, 0, 0, 0] X h16) h0)
            (broadcastInDim (⟨4, ![A, B, 16, 8]⟩ : Shape) ![0, 1, 2, 3] hb S)) : FVec Ideal (⟨4, ![A, B, 16, 8]⟩ : Shape) .f32)⟩] hp⟩,
       ⟨(⟨4, ![A, B, 16, 48]⟩ : Shape), extractStridedSlice (⟨4, ![A, B, 16, 48]⟩ : Shape) ![0, 0, 0, 16] X ht⟩] hw) hc (ix2 r l)
      = rope (fun k => Y (ix2 r k)) (fun f => C (ix4 0 b 0 f)) (fun f => S (ix4 0 b 0 f)) l := by
  have hX' : ∀ (k : Fin 16) (d : Fin 64) (n : Fin 1024), n.val = k.val * 64 + d.val → X (ix4 a b k d) = Y (ix2 r n) := by
    intro k d n hn
    rw [hX]
    exact heads_at Y hy r n a b k d h hn
  have hl := l.isLt
  refine (rows_at _ hc r l a b h).trans ?_
  unfold rope
  by_cases h1 : l.val % 64 < 8
  · rw [if_pos h1]
    have g16 : l.val % 64 < 16 := by omega
    refine (cat_left _ _ hw a b ⟨l.val / 64, by omega⟩ ⟨l.val % 64, by omega⟩ g16).trans ?_
    refine (cat_left _ _ hp a b ⟨l.val / 64, by omega⟩ ⟨l.val % 64, g16⟩ h1).trans ?_
    refine congrArg₂ (fun x y : EReal => x - y) (congrArg₂ (fun x y : EReal => x * y) ?_ ?_) (congrArg₂ (fun x y : EReal => x * y) ?_ ?_)
    · refine (slice_at _ h0 a b _ _ ⟨l.val % 64, by omega⟩ (Nat.zero_add _).symm).trans ?_
      refine (slice_at _ h16 a b _ _ ⟨l.val % 64, by omega⟩ (Nat.zero_add _).symm).trans ?_
      exact hX' _ _ l (by dsimp only; omega)
    · refine (spread_at C hb a b _ _).trans (congrArg (fun f => C (ix4 0 b 0 f)) (Fin.ext ?_))
      show l.val % 64 = l.val % 8
      omega
    · refine (slice_at _ h8 a b _ _ ⟨8 + l.val % 64, by omega⟩ rfl).trans ?_
      refine (slice_at _ h16 a b _ _ ⟨8 + l.val % 64, by omega⟩ (Nat.zero_add _).symm).trans ?_
      exact hX' _ _ _ (by dsimp only; omega)
    · refine (spread_at S hb a b _ _).trans (congrArg (fun f => S (ix4 0 b 0 f)) (Fin.ext ?_))
      show l.val % 64 = l.val % 8
      omega
  · rw [if_neg h1]
    by_cases h2 : l.val % 64 < 16
    · rw [if_pos h2]
      have g8 : l.val % 64 - 8 < 8 := by omega
      refine (cat_left _ _ hw a b ⟨l.val / 64, by omega⟩ ⟨l.val % 64, by omega⟩ h2).trans ?_
      refine (cat_right _ _ hp a b ⟨l.val / 64, by omega⟩ ⟨l.val % 64, h2⟩ h1 g8).trans ?_
      refine congrArg₂ (fun x y : EReal => x + y) (congrArg₂ (fun x y : EReal => x * y) ?_ ?_) (congrArg₂ (fun x y : EReal => x * y) ?_ ?_)
      · refine (slice_at _ h8 a b _ _ ⟨l.val % 64, by omega⟩ (by dsimp only; omega)).trans ?_
        refine (slice_at _ h16 a b _ _ ⟨l.val % 64, by omega⟩ (Nat.zero_add _).symm).trans ?_
        exact hX' _ _ l (by dsimp only; omega)
      · refine (spread_at C hb a b _ _).trans (congrArg (fun f => C (ix4 0 b 0 f)) (Fin.ext ?_))
        show l.val % 64 - 8 = l.val % 8
        omega
      · refine (slice_at _ h0 a b _ _ ⟨l.val % 64 - 8, by omega⟩ (Nat.zero_add _).symm).trans ?_
        refine (slice_at _ h16 a b _ _ ⟨l.val % 64 - 8, by omega⟩ (Nat.zero_add _).symm).trans ?_
        exact hX' _ _ _ (by dsimp only; omega)
      · refine (spread_at S hb a b _ _).trans (congrArg (fun f => S (ix4 0 b 0 f)) (Fin.ext ?_))
        show l.val % 64 - 8 = l.val % 8
        omega
    · rw [if_neg h2]
      have g48 : l.val % 64 - 16 < 48 := by omega
      refine (cat_right _ _ hw a b ⟨l.val / 64, by omega⟩ ⟨l.val % 64, by omega⟩ h2 g48).trans ?_
      refine (slice_at _ ht a b _ _ ⟨l.val % 64, by omega⟩ (by dsimp only; omega)).trans ?_
      exact hX' _ _ l (by dsimp only; omega)

end generic

open Cert.ReferenceRotIdeal Cert.ReferenceRotIdeal.Gen Cert.ReferenceRotIdeal.Value
open Idealize.ShloMosaic.StableHlo

variable (V0 : Valuation τ sig (Elt Ideal))

/-- The turned queries, the keys, and the means of the keys' blocks, as the reference leaves them. -/
def refQ : FVec Ideal S33280x1024 .f32 := (concatenate S33280x1024 0 [⟨S32768x1024, ((shapeCast _ (concatenate S8x4096x16x64 3 [⟨S8x4096x16x16, (concatenate S8x4096x16x16 3 [⟨S8x4096x16x8, (subf (mulf (res_main_v28 V0) (broadcastInDim S8x4096x16x8 ![0, 1, 2, 3] bcast_S1x4096x1x8_S8x4096x16x8_0_1_2_3 (res_main_v24 V0))) (mulf (res_main_v29 V0) (broadcastInDim S8x4096x16x8 ![0, 1, 2, 3] bcast_S1x4096x1x8_S8x4096x16x8_0_1_2_3 (res_main_v26 V0))))⟩, ⟨S8x4096x16x8, (addf (mulf (res_main_v29 V0) (broadcastInDim S8x4096x16x8 ![0, 1, 2, 3] bcast_S1x4096x1x8_S8x4096x16x8_0_1_2_3 (res_main_v24 V0))) (mulf (res_main_v28 V0) (broadcastInDim S8x4096x16x8 ![0, 1, 2, 3] bcast_S1x4096x1x8_S8x4096x16x8_0_1_2_3 (res_main_v26 V0))))⟩] concatenates_S8x4096x16x8_S8x4096x16x8_S8x4096x16x16_d3)⟩, ⟨S8x4096x16x48, (extractStridedSlice S8x4096x16x48 ![0, 0, 0, 16] (res_main_v6 V0) slices_S8x4096x16x64_S8x4096x16x48_0_0_0_16)⟩] concatenates_S8x4096x16x16_S8x4096x16x48_S8x4096x16x64_d3) shapeCasts_S8x4096x16x64_S32768x1024) : (⟨S32768x1024, .f32⟩ : BufTy).Contents (Elt Ideal))⟩, ⟨S128x1024, ((shapeCast _ (concatenate S32x4x16x64 3 [⟨S32x4x16x16, (concatenate S32x4x16x16 3 [⟨S32x4x16x8, (subf (mulf (res_main_v66 V0) (broadcastInDim S32x4x16x8 ![0, 1, 2, 3] bcast_S1x4x1x8_S32x4x16x8_0_1_2_3 (res_main_v62 V0))) (mulf (res_main_v67 V0) (broadcastInDim S32x4x16x8 ![0, 1, 2, 3] bcast_S1x4x1x8_S32x4x16x8_0_1_2_3 (res_main_v64 V0))))⟩, ⟨S32x4x16x8, (addf (mulf (res_main_v67 V0) (broadcastInDim S32x4x16x8 ![0, 1, 2, 3] bcast_S1x4x1x8_S32x4x16x8_0_1_2_3 (res_main_v62 V0))) (mulf (res_main_v66 V0) (broadcastInDim S32x4x16x8 ![0, 1, 2, 3] bcast_S1x4x1x8_S32x4x16x8_0_1_2_3 (res_main_v64 V0))))⟩] concatenates_S32x4x16x8_S32x4x16x8_S32x4x16x16_d3)⟩, ⟨S32x4x16x48, (extractStridedSlice S32x4x16x48 ![0, 0, 0, 16] (res_main_v44 V0) slices_S32x4x16x64_S32x4x16x48_0_0_0_16)⟩] concatenates_S32x4x16x16_S32x4x16x48_S32x4x16x64_d3) shapeCasts_S32x4x16x64_S128x1024) : (⟨S128x1024, .f32⟩ : BufTy).Contents (Elt Ideal))⟩, ⟨S384x1024, ((shapeCast _ (concatenate S1x384x16x64 3 [⟨S1x384x16x16, (concatenate S1x384x16x16 3 [⟨S1x384x16x8, (subf (mulf (res_main_v105 V0) (broadcastInDim S1x384x16x8 ![0, 1, 2, 3] bcast_S1x384x1x8_S1x384x16x8_0_1_2_3 (res_main_v101 V0))) (mulf (res_main_v106 V0) (broadcastInDim S1x384x16x8 ![0, 1, 2, 3] bcast_S1x384x1x8_S1x384x16x8_0_1_2_3 (res_main_v103 V0))))⟩, ⟨S1x384x16x8, (addf (mulf (res_main_v106 V0) (broadcastInDim S1x384x16x8 ![0, 1, 2, 3] bcast_S1x384x1x8_S1x384x16x8_0_1_2_3 (res_main_v101 V0))) (mulf (res_main_v105 V0) (broadcastInDim S1x384x16x8 ![0, 1, 2, 3] bcast_S1x384x1x8_S1x384x16x8_0_1_2_3 (res_main_v103 V0))))⟩] concatenates_S1x384x16x8_S1x384x16x8_S1x384x16x16_d3)⟩, ⟨S1x384x16x48, (extractStridedSlice S1x384x16x48 ![0, 0, 0, 16] (res_main_v82 V0) slices_S1x384x16x64_S1x384x16x48_0_0_0_16)⟩] concatenates_S1x384x16x16_S1x384x16x48_S1x384x16x64_d3) shapeCasts_S1x384x16x64_S384x1024) : (⟨S384x1024, .f32⟩ : BufTy).Contents (Elt Ideal))⟩] concatenates_S32768x1024_S128x1024_S384x1024_S33280x1024_d0 : (⟨S33280x1024, .f32⟩ : BufTy).Contents (Elt Ideal))

/-- The turned keys. -/
def refK : FVec Ideal S33280x1024 .f32 := (concatenate S33280x1024 0 [⟨S32768x1024, ((shapeCast _ (concatenate S8x4096x16x64 3 [⟨S8x4096x16x16, (concatenate S8x4096x16x16 3 [⟨S8x4096x16x8, (subf (mulf (res_main_v148 V0) (broadcastInDim S8x4096x16x8 ![0, 1, 2, 3] bcast_S1x4096x1x8_S8x4096x16x8_0_1_2_3 (res_main_v144 V0))) (mulf (res_main_v149 V0) (broadcastInDim S8x4096x16x8 ![0, 1, 2, 3] bcast_S1x4096x1x8_S8x4096x16x8_0_1_2_3 (res_main_v146 V0))))⟩, ⟨S8x4096x16x8, (addf (mulf (res_main_v149 V0) (broadcastInDim S8x4096x16x8 ![0, 1, 2, 3] bcast_S1x4096x1x8_S8x4096x16x8_0_1_2_3 (res_main_v144 V0))) (mulf (res_main_v148 V0) (broadcastInDim S8x4096x16x8 ![0, 1, 2, 3] bcast_S1x4096x1x8_S8x4096x16x8_0_1_2_3 (res_main_v146 V0))))⟩] concatenates_S8x4096x16x8_S8x4096x16x8_S8x4096x16x16_d3)⟩, ⟨S8x4096x16x48, (extractStridedSlice S8x4096x16x48 ![0, 0, 0, 16] (res_main_v126 V0) slices_S8x4096x16x64_S8x4096x16x48_0_0_0_16)⟩] concatenates_S8x4096x16x16_S8x4096x16x48_S8x4096x16x64_d3) shapeCasts_S8x4096x16x64_S32768x1024) : (⟨S32768x1024, .f32⟩ : BufTy).Contents (Elt Ideal))⟩, ⟨S128x1024, ((shapeCast _ (concatenate S32x4x16x64 3 [⟨S32x4x16x16, (concatenate S32x4x16x16 3 [⟨S32x4x16x8, (subf (mulf (res_main_v186 V0) (broadcastInDim S32x4x16x8 ![0, 1, 2, 3] bcast_S1x4x1x8_S32x4x16x8_0_1_2_3 (res_main_v182 V0))) (mulf (res_main_v187 V0) (broadcastInDim S32x4x16x8 ![0, 1, 2, 3] bcast_S1x4x1x8_S32x4x16x8_0_1_2_3 (res_main_v184 V0))))⟩, ⟨S32x4x16x8, (addf (mulf (res_main_v187 V0) (broadcastInDim S32x4x16x8 ![0, 1, 2, 3] bcast_S1x4x1x8_S32x4x16x8_0_1_2_3 (res_main_v182 V0))) (mulf (res_main_v186 V0) (broadcastInDim S32x4x16x8 ![0, 1, 2, 3] bcast_S1x4x1x8_S32x4x16x8_0_1_2_3 (res_main_v184 V0))))⟩] concatenates_S32x4x16x8_S32x4x16x8_S32x4x16x16_d3)⟩, ⟨S32x4x16x48, (extractStridedSlice S32x4x16x48 ![0, 0, 0, 16] (res_main_v164 V0) slices_S32x4x16x64_S32x4x16x48_0_0_0_16)⟩] concatenates_S32x4x16x16_S32x4x16x48_S32x4x16x64_d3) shapeCasts_S32x4x16x64_S128x1024) : (⟨S128x1024, .f32⟩ : BufTy).Contents (Elt Ideal))⟩, ⟨S384x1024, ((shapeCast _ (concatenate S1x384x16x64 3 [⟨S1x384x16x16, (concatenate S1x384x16x16 3 [⟨S1x384x16x8, (subf (mulf (res_main_v225 V0) (broadcastInDim S1x384x16x8 ![0, 1, 2, 3] bcast_S1x384x1x8_S1x384x16x8_0_1_2_3 (res_main_v221 V0))) (mulf (res_main_v226 V0) (broadcastInDim S1x384x16x8 ![0, 1, 2, 3] bcast_S1x384x1x8_S1x384x16x8_0_1_2_3 (res_main_v223 V0))))⟩, ⟨S1x384x16x8, (addf (mulf (res_main_v226 V0) (broadcastInDim S1x384x16x8 ![0, 1, 2, 3] bcast_S1x384x1x8_S1x384x16x8_0_1_2_3 (res_main_v221 V0))) (mulf (res_main_v225 V0) (broadcastInDim S1x384x16x8 ![0, 1, 2, 3] bcast_S1x384x1x8_S1x384x16x8_0_1_2_3 (res_main_v223 V0))))⟩] concatenates_S1x384x16x8_S1x384x16x8_S1x384x16x16_d3)⟩, ⟨S1x384x16x48, (extractStridedSlice S1x384x16x48 ![0, 0, 0, 16] (res_main_v202 V0) slices_S1x384x16x64_S1x384x16x48_0_0_0_16)⟩] concatenates_S1x384x16x16_S1x384x16x48_S1x384x16x64_d3) shapeCasts_S1x384x16x64_S384x1024) : (⟨S384x1024, .f32⟩ : BufTy).Contents (Elt Ideal))⟩] concatenates_S32768x1024_S128x1024_S384x1024_S33280x1024_d0 : (⟨S33280x1024, .f32⟩ : BufTy).Contents (Elt Ideal))

/-- The means of blocks of 256 rows. -/
def refM (K : FVec Ideal S33280x1024 .f32) : FVec Ideal S130x1x1024 .f32 := Host.divf (broadcastInDim S130x1x1024 ![0, 2] bcast_S130x1024_S130x1x1024_0_2 (Host.reduceAdd (shapeCast _ (K) shapeCasts_S33280x1024_S130x256x1024) (constant (F := Ideal) S_ .f32 0x00000000#32) reducesTo_S130x256x1024_S130x1024_d1 h_S_)) (broadcastInDim S130x1x1024 ![] bcast_S_S130x1x1024 (constant (F := Ideal) S_ .f32 0x43800000#32))

def angP (p : IVec S4096 32) : FVec Ideal S4096x8 .f32 :=
  mulf (broadcastInDim S4096x8 ![0, 1] bcast_S4096x1_S4096x8_0_1 (broadcastInDim S4096x1 ![0] bcast_S4096_S4096x1_0 (sitofp .f32 p)))
    (broadcastInDim S4096x8 ![0, 1] bcast_S1x8_S4096x8_0_1 (broadcastInDim S1x8 ![1] bcast_S8_S1x8_1 inv))

theorem angP_at (p : IVec S4096 32) (b : Fin 4096) (f : Fin 8) : angP p (ix2 b f) = (FloatOps.sitofp (F := Ideal) .f32 (p (ix1 b)) * inv (ix1 f) : EReal) := by
  unfold angP
  pointwise

theorem liftP (x : FVec Ideal S4096x8 .f32) (b : Fin 4096) (f : Fin 8) :
    broadcastInDim S1x4096x1x8 ![1, 3] bcast_S4096x8_S1x4096x1x8_1_3 x (ix4 0 b 0 f) = x (ix2 b f) := by
  pointwise

theorem cosP (p : IVec S4096 32) (r : Nat) (b : Fin 4096) (h : p (ix1 b) = pos r) (f : Fin 8) :
    broadcastInDim S1x4096x1x8 ![1, 3] bcast_S4096x8_S1x4096x1x8_1_3 (Host.cos (angP p)) (ix4 0 b 0 f) = cs r f := by
  refine (liftP _ b f).trans ?_
  refine (show Host.cos (angP p) (ix2 b f) = Ideal.cos (angP p (ix2 b f)) from rfl).trans ?_
  rw [angP_at, h]
  rfl

theorem sinP (p : IVec S4096 32) (r : Nat) (b : Fin 4096) (h : p (ix1 b) = pos r) (f : Fin 8) :
    broadcastInDim S1x4096x1x8 ![1, 3] bcast_S4096x8_S1x4096x1x8_1_3 (Host.sin (angP p)) (ix4 0 b 0 f) = sn r f := by
  refine (liftP _ b f).trans ?_
  refine (show Host.sin (angP p) (ix2 b f) = Ideal.sin (angP p (ix2 b f)) from rfl).trans ?_
  rw [angP_at, h]
  rfl

def angS (p : IVec S4 32) : FVec Ideal S4x8 .f32 :=
  mulf (broadcastInDim S4x8 ![0, 1] bcast_S4x1_S4x8_0_1 (broadcastInDim S4x1 ![0] bcast_S4_S4x1_0 (sitofp .f32 p)))
    (broadcastInDim S4x8 ![0, 1] bcast_S1x8_S4x8_0_1 (broadcastInDim S1x8 ![1] bcast_S8_S1x8_1 inv))

theorem angS_at (p : IVec S4 32) (b : Fin 4) (f : Fin 8) : angS p (ix2 b f) = (FloatOps.sitofp (F := Ideal) .f32 (p (ix1 b)) * inv (ix1 f) : EReal) := by
  unfold angS
  pointwise

theorem liftS (x : FVec Ideal S4x8 .f32) (b : Fin 4) (f : Fin 8) :
    broadcastInDim S1x4x1x8 ![1, 3] bcast_S4x8_S1x4x1x8_1_3 x (ix4 0 b 0 f) = x (ix2 b f) := by
  pointwise

theorem cosS (p : IVec S4 32) (r : Nat) (b : Fin 4) (h : p (ix1 b) = pos r) (f : Fin 8) :
    broadcastInDim S1x4x1x8 ![1, 3] bcast_S4x8_S1x4x1x8_1_3 (Host.cos (angS p)) (ix4 0 b 0 f) = cs r f := by
  refine (liftS _ b f).trans ?_
  refine (show Host.cos (angS p) (ix2 b f) = Ideal.cos (angS p (ix2 b f)) from rfl).trans ?_
  rw [angS_at, h]
  rfl

theorem sinS (p : IVec S4 32) (r : Nat) (b : Fin 4) (h : p (ix1 b) = pos r) (f : Fin 8) :
    broadcastInDim S1x4x1x8 ![1, 3] bcast_S4x8_S1x4x1x8_1_3 (Host.sin (angS p)) (ix4 0 b 0 f) = sn r f := by
  refine (liftS _ b f).trans ?_
  refine (show Host.sin (angS p) (ix2 b f) = Ideal.sin (angS p (ix2 b f)) from rfl).trans ?_
  rw [angS_at, h]
  rfl

def angZ (p : IVec S384 32) : FVec Ideal S384x8 .f32 :=
  mulf (broadcastInDim S384x8 ![0, 1] bcast_S384x1_S384x8_0_1 (broadcastInDim S384x1 ![0] bcast_S384_S384x1_0 (sitofp .f32 p)))
    (broadcastInDim S384x8 ![0, 1] bcast_S1x8_S384x8_0_1 (broadcastInDim S1x8 ![1] bcast_S8_S1x8_1 inv))

theorem angZ_at (p : IVec S384 32) (b : Fin 384) (f : Fin 8) : angZ p (ix2 b f) = (FloatOps.sitofp (F := Ideal) .f32 (p (ix1 b)) * inv (ix1 f) : EReal) := by
  unfold angZ
  pointwise

theorem liftZ (x : FVec Ideal S384x8 .f32) (b : Fin 384) (f : Fin 8) :
    broadcastInDim S1x384x1x8 ![1, 3] bcast_S384x8_S1x384x1x8_1_3 x (ix4 0 b 0 f) = x (ix2 b f) := by
  pointwise

theorem cosZ (p : IVec S384 32) (r : Nat) (b : Fin 384) (h : p (ix1 b) = pos r) (f : Fin 8) :
    broadcastInDim S1x384x1x8 ![1, 3] bcast_S384x8_S1x384x1x8_1_3 (Host.cos (angZ p)) (ix4 0 b 0 f) = cs r f := by
  refine (liftZ _ b f).trans ?_
  refine (show Host.cos (angZ p) (ix2 b f) = Ideal.cos (angZ p (ix2 b f)) from rfl).trans ?_
  rw [angZ_at, h]
  rfl

theorem sinZ (p : IVec S384 32) (r : Nat) (b : Fin 384) (h : p (ix1 b) = pos r) (f : Fin 8) :
    broadcastInDim S1x384x1x8 ![1, 3] bcast_S384x8_S1x384x1x8_1_3 (Host.sin (angZ p)) (ix4 0 b 0 f) = sn r f := by
  refine (liftZ _ b f).trans ?_
  refine (show Host.sin (angZ p) (ix2 b f) = Ideal.sin (angZ p (ix2 b f)) from rfl).trans ?_
  rw [angZ_at, h]
  rfl

theorem posP (r : Nat) (hr : r < 32768) : res_main_v0 V0 (ix1 ⟨r % 4096, by omega⟩) = pos r := by
  unfold pos
  rw [if_pos hr]
  rfl

theorem posS (r : Nat) (h1 : ¬ r < 32768) (h2 : r < 32896) : res_main_v3 V0 (ix1 ⟨(r - 32768) % 4, by omega⟩) = pos r := by
  unfold pos
  rw [if_neg h1, if_pos h2]
  rfl

theorem posZ (r : Nat) (h1 : ¬ r < 32768) (h2 : ¬ r < 32896) (b : Fin 384) :
    broadcastInDim S384 ![] bcast_S_S384 (constantI S_ 32 0#32) (ix1 b) = pos r := by
  unfold pos
  rw [if_neg h1, if_neg h2]
  rfl

theorem rope_congr {x x' : Fin 1024 → EReal} {c c' s s' : Fin 8 → EReal} (hx : ∀ k, x k = x' k) (hc : ∀ f, c f = c' f) (hs : ∀ f, s f = s' f)
    (l : Fin 1024) : rope x c s l = rope x' c' s' l := by
  rw [funext hx, funext hc, funext hs]

theorem srcQ (r : Fin 33280) (k : Fin 1024) : res_main_v4 V0 (ix2 r k)
    = (V0 (Proc.devRef .tc main_arg0) : FVec Ideal S33280x3072 .f32) (ix2 r ⟨0 + k.val, by omega⟩) := by
  unfold res_main_v4
  pointwise
  try rfl

/-- The reference's queries at a row and a lane. -/
theorem refQ_at (r : Fin 33280) (l : Fin 1024) : refQ V0 (ix2 r l)
    = rope (fun k => (V0 (Proc.devRef .tc main_arg0) : FVec Ideal S33280x3072 .f32) (ix2 r ⟨0 + k.val, by omega⟩)) (cs r.val) (sn r.val) l := by
  have hr := r.isLt
  by_cases h1 : r.val < 32768
  · refine (Rows.prompt _ _ _ _ r l h1).trans ?_
    refine (batch_at (extractStridedSlice S32768x1024 ![0, 0] (res_main_v4 V0) slices_S33280x1024_S32768x1024_0_0) (res_main_v6 V0) (res_main_v24 V0) (res_main_v26 V0) rfl
      ⟨r.val, h1⟩ l ⟨r.val / 4096, by omega⟩ ⟨r.val % 4096, by omega⟩ (by dsimp only; omega)).trans ?_
    refine rope_congr (fun k => ?_) (fun f => cosP (res_main_v0 V0) r.val _ (posP V0 r.val h1) f) (fun f => sinP (res_main_v0 V0) r.val _ (posP V0 r.val h1) f) l
    refine Eq.trans ?_ (srcQ V0 r k)
    pointwise
  · by_cases h2 : r.val < 32896
    · refine (Rows.sample _ _ _ _ r l h1 (by omega)).trans ?_
      refine (batch_at (extractStridedSlice S128x1024 ![32768, 0] (res_main_v4 V0) slices_S33280x1024_S128x1024_32768_0) (res_main_v44 V0) (res_main_v62 V0) (res_main_v64 V0) rfl
        ⟨r.val - 32768, by omega⟩ l ⟨(r.val - 32768) / 4, by omega⟩ ⟨(r.val - 32768) % 4, by omega⟩ (by dsimp only; omega)).trans ?_
      refine rope_congr (fun k => ?_) (fun f => cosS (res_main_v3 V0) r.val _ (posS V0 r.val h1 h2) f) (fun f => sinS (res_main_v3 V0) r.val _ (posS V0 r.val h1 h2) f) l
      refine Eq.trans ?_ (srcQ V0 r k)
      pointwise
      exact congrArg (fun x => res_main_v4 V0 (ix2 x k)) (Fin.ext (by dsimp only; omega))
    · refine (Rows.filling _ _ _ _ r l h1 (by omega) (by omega)).trans ?_
      refine (batch_at (extractStridedSlice S384x1024 ![32896, 0] (res_main_v4 V0) slices_S33280x1024_S384x1024_32896_0) (res_main_v82 V0) (res_main_v101 V0) (res_main_v103 V0) rfl
        ⟨r.val - 32768 - 128, by omega⟩ l ⟨0, by omega⟩ ⟨r.val - 32768 - 128, by omega⟩ (by dsimp only; omega)).trans ?_
      refine rope_congr (fun k => ?_) (fun f => cosZ (broadcastInDim S384 ![] bcast_S_S384 (constantI S_ 32 0#32)) r.val _ (posZ r.val h1 h2 ⟨r.val - 32768 - 128, by omega⟩) f)
        (fun f => sinZ (broadcastInDim S384 ![] bcast_S_S384 (constantI S_ 32 0#32)) r.val _ (posZ r.val h1 h2 ⟨r.val - 32768 - 128, by omega⟩) f) l
      refine Eq.trans ?_ (srcQ V0 r k)
      pointwise
      exact congrArg (fun x => res_main_v4 V0 (ix2 x k)) (Fin.ext (by dsimp only; omega))

theorem srcK (r : Fin 33280) (k : Fin 1024) : res_main_v124 V0 (ix2 r k)
    = (V0 (Proc.devRef .tc main_arg0) : FVec Ideal S33280x3072 .f32) (ix2 r ⟨1024 + k.val, by omega⟩) := by
  unfold res_main_v124
  pointwise
  try rfl

/-- The reference's keys at a row and a lane. -/
theorem refK_at (r : Fin 33280) (l : Fin 1024) : refK V0 (ix2 r l)
    = rope (fun k => (V0 (Proc.devRef .tc main_arg0) : FVec Ideal S33280x3072 .f32) (ix2 r ⟨1024 + k.val, by omega⟩)) (cs r.val) (sn r.val) l := by
  have hr := r.isLt
  by_cases h1 : r.val < 32768
  · refine (Rows.prompt _ _ _ _ r l h1).trans ?_
    refine (batch_at (extractStridedSlice S32768x1024 ![0, 0] (res_main_v124 V0) slices_S33280x1024_S32768x1024_0_0) (res_main_v126 V0) (res_main_v144 V0) (res_main_v146 V0) rfl
      ⟨r.val, h1⟩ l ⟨r.val / 4096, by omega⟩ ⟨r.val % 4096, by omega⟩ (by dsimp only; omega)).trans ?_
    refine rope_congr (fun k => ?_) (fun f => cosP (res_main_v0 V0) r.val _ (posP V0 r.val h1) f) (fun f => sinP (res_main_v0 V0) r.val _ (posP V0 r.val h1) f) l
    refine Eq.trans ?_ (srcK V0 r k)
    pointwise
  · by_cases h2 : r.val < 32896
    · refine (Rows.sample _ _ _ _ r l h1 (by omega)).trans ?_
      refine (batch_at (extractStridedSlice S128x1024 ![32768, 0] (res_main_v124 V0) slices_S33280x1024_S128x1024_32768_0) (res_main_v164 V0) (res_main_v182 V0) (res_main_v184 V0) rfl
        ⟨r.val - 32768, by omega⟩ l ⟨(r.val - 32768) / 4, by omega⟩ ⟨(r.val - 32768) % 4, by omega⟩ (by dsimp only; omega)).trans ?_
      refine rope_congr (fun k => ?_) (fun f => cosS (res_main_v3 V0) r.val _ (posS V0 r.val h1 h2) f) (fun f => sinS (res_main_v3 V0) r.val _ (posS V0 r.val h1 h2) f) l
      refine Eq.trans ?_ (srcK V0 r k)
      pointwise
      exact congrArg (fun x => res_main_v124 V0 (ix2 x k)) (Fin.ext (by dsimp only; omega))
    · refine (Rows.filling _ _ _ _ r l h1 (by omega) (by omega)).trans ?_
      refine (batch_at (extractStridedSlice S384x1024 ![32896, 0] (res_main_v124 V0) slices_S33280x1024_S384x1024_32896_0) (res_main_v202 V0) (res_main_v221 V0) (res_main_v223 V0) rfl
        ⟨r.val - 32768 - 128, by omega⟩ l ⟨0, by omega⟩ ⟨r.val - 32768 - 128, by omega⟩ (by dsimp only; omega)).trans ?_
      refine rope_congr (fun k => ?_) (fun f => cosZ (broadcastInDim S384 ![] bcast_S_S384 (constantI S_ 32 0#32)) r.val _ (posZ r.val h1 h2 ⟨r.val - 32768 - 128, by omega⟩) f)
        (fun f => sinZ (broadcastInDim S384 ![] bcast_S_S384 (constantI S_ 32 0#32)) r.val _ (posZ r.val h1 h2 ⟨r.val - 32768 - 128, by omega⟩) f) l
      refine Eq.trans ?_ (srcK V0 r k)
      pointwise
      exact congrArg (fun x => res_main_v124 V0 (ix2 x k)) (Fin.ext (by dsimp only; omega))

/-- A block's mean at a lane. -/
theorem refM_at (K : FVec Ideal S33280x1024 .f32) (t : Fin 130) (l : Fin 1024) : refM K (ix3 t 0 l)
    = Ideal.div (∑ i : Fin 256, K (ix2 ⟨t.val * 256 + i.val, by omega⟩ l)) (Ideal.ofBits FTy.f32 1132462080#32) := by
  unfold refM
  pointwise

end Cert.CallRot

end
-- ==== Proof.CallRot.lean ====
/- The rotary embedding of the second layer's queries and keys, and the means of the key blocks: the kernel's call against the reference. -/
module

public import proofs.«01_k».proof.Defs
public import proofs.«01_k».proof.Proof.RotTables
public import proofs.«01_k».proof.Proof.RotBlocks
public import proofs.«01_k».proof.Proof.RotRef
public import proofs.«01_k».proof.Proof.Gen.KernelRot
public import proofs.«01_k».proof.Proof.Gen.KernelRot.Frame
public import proofs.«01_k».proof.Proof.Gen.KernelRotIdeal
public import proofs.«01_k».proof.Proof.Gen.KernelRotIdeal.Frame
public import proofs.«01_k».proof.Proof.Gen.KernelRotIdeal.Value
public import proofs.«01_k».proof.Proof.Gen.ReferenceRotIdeal
public import proofs.«01_k».proof.Proof.Gen.ReferenceRotIdeal.Run
public import Idealize.ShloMosaic.Lib.Pipeline.ValueKit
public import Idealize.ShloMosaic.Lib.Pipeline.ReadBack
public import Idealize.ShloMosaic.Lib.ValueIdxCore
public import Idealize.ShloMosaic.Adequacy
public import Idealize.ShloMosaic.Init

@[expose] public section

set_option maxRecDepth 16384

noncomputable section

namespace Cert.CallRot

open Idealize.ShloMosaic Idealize.ShloMosaic.TcCoe Idealize.SL.Sem
open Idealize.ShloMosaic.Pipeline (Dat)
open Cert.KernelRotIdeal Cert.KernelRotIdeal.Gen
open scoped BigOperators

variable (m : (ℓ : Loc nD τ sig) → Buf (Elt Ideal) ℓ) (c : Dev nD)

theorem both_at : ∀ e : Fin 128, both lane (ix1 e) = if e.val % 64 < 16 then 1#1 else 0#1 := by
  decide +kernel

theorem one_bits : Ideal.ofBits FTy.f32 0x3F800000#32 = (1 : EReal) := by
  have h : Ideal.ofBits FTy.f32 0x3F800000#32 = ((1 : ℝ) : EReal) := by
    simp [Ideal.ofBits, Ideal.ieee, -EReal.coe_mul]
    try norm_num
  exact h.trans EReal.coe_one

theorem zero_bits : Ideal.ofBits FTy.f32 0x00000000#32 = (0 : EReal) := by
  have h : Ideal.ofBits FTy.f32 0x00000000#32 = ((0 : ℝ) : EReal) := by
    simp [Ideal.ofBits, Ideal.ieee, -EReal.coe_mul]
    try norm_num
  exact h.trans EReal.coe_zero

theorem cosg_at (r : Fin 33280) (e : Fin 128) :
    Host.gather gather_S33280x8_S128x1_S33280x128_0_1_n_n_1_1_332801 (Host.cos ang) (cols freq) (ix2 r e) = cs r.val ⟨e.val % 8, by omega⟩ := by
  refine (gather_at _ _ r e ⟨e.val % 8, by omega⟩ (cols_at e)).trans ?_
  refine (show Host.cos ang (ix2 r ⟨e.val % 8, _⟩) = Ideal.cos (ang (ix2 r ⟨e.val % 8, by omega⟩)) from rfl).trans ?_
  rw [ang_at]
  rfl

theorem sing_at (r : Fin 33280) (e : Fin 128) :
    Host.gather gather_S33280x8_S128x1_S33280x128_0_1_n_n_1_1_332801 (Host.sin ang) (cols freq) (ix2 r e) = sn r.val ⟨e.val % 8, by omega⟩ := by
  refine (gather_at _ _ r e ⟨e.val % 8, by omega⟩ (cols_at e)).trans ?_
  refine (show Host.sin ang (ix2 r ⟨e.val % 8, _⟩) = Ideal.sin (ang (ix2 r ⟨e.val % 8, by omega⟩)) from rfl).trans ?_
  rw [ang_at]
  rfl

theorem ca_at (r : Fin 33280) (e : Fin 128) : (V m c main_v49 : FVec Ideal S33280x128 .f32) (ix2 r e)
    = if e.val % 64 < 16 then cs r.val ⟨e.val % 8, by omega⟩ else (1 : EReal) := by
  rw [v49_eq, table_at, both_at, cosg_at]
  refine (show _ = Scalar.select _ _ (Ideal.ofBits FTy.f32 0x3F800000#32) from rfl).trans ?_
  rw [one_bits]
  split_ifs <;> rfl

theorem cb_at (r : Fin 33280) (e : Fin 128) : (V m c main_v59 : FVec Ideal S33280x128 .f32) (ix2 r e)
    = if e.val % 64 < 8 then - sn r.val ⟨e.val % 8, by omega⟩ else (0 : EReal) := by
  rw [v59_eq, table_at, lo_at]
  refine (show _ = Scalar.select _ (- (Host.gather gather_S33280x8_S128x1_S33280x128_0_1_n_n_1_1_332801 (Host.sin ang) (cols freq) (ix2 r e)) : EReal)
    (Ideal.ofBits FTy.f32 0x00000000#32) from rfl).trans ?_
  rw [zero_bits, sing_at]
  split_ifs <;> rfl

theorem cc_at (r : Fin 33280) (e : Fin 128) : (V m c main_v68 : FVec Ideal S33280x128 .f32) (ix2 r e)
    = if 8 ≤ e.val % 64 ∧ e.val % 64 < 16 then sn r.val ⟨e.val % 8, by omega⟩ else (0 : EReal) := by
  rw [v68_eq, table_at, hi_at, sing_at]
  refine (show _ = Scalar.select _ _ (Ideal.ofBits FTy.f32 0x00000000#32) from rfl).trans ?_
  rw [zero_bits]
  split_ifs <;> rfl

theorem tables_rope (x : Fin 1024 → EReal) (ca cb cc : Fin 128 → EReal) (r : Nat) (l : Fin 1024)
    (ha : ∀ e : Fin 128, ca e = if e.val % 64 < 16 then cs r ⟨e.val % 8, by omega⟩ else (1 : EReal))
    (hb : ∀ e : Fin 128, cb e = if e.val % 64 < 8 then - sn r ⟨e.val % 8, by omega⟩ else (0 : EReal))
    (hc : ∀ e : Fin 128, cc e = if 8 ≤ e.val % 64 ∧ e.val % 64 < 16 then sn r ⟨e.val % 8, by omega⟩ else (0 : EReal)) :
    x l * ca ⟨l.val % 128, by omega⟩ + x ⟨l.val / 128 * 128 + (l.val % 128 + 8) % 128, by omega⟩ * cb ⟨l.val % 128, by omega⟩
      + x ⟨l.val / 128 * 128 + (l.val % 128 + 120) % 128, by omega⟩ * cc ⟨l.val % 128, by omega⟩ = rope x (cs r) (sn r) l := by
  have hl := l.isLt
  have e8 : (⟨l.val % 128 % 8, by omega⟩ : Fin 8) = ⟨l.val % 8, by omega⟩ := Fin.ext (by dsimp only; omega)
  rw [ha, hb, hc]
  dsimp only
  rw [e8]
  unfold rope
  by_cases h1 : l.val % 64 < 8
  · rw [if_pos (show l.val % 128 % 64 < 16 by omega), if_pos (show l.val % 128 % 64 < 8 by omega),
      if_neg (show ¬ (8 ≤ l.val % 128 % 64 ∧ l.val % 128 % 64 < 16) by omega), if_pos h1, mul_zero, add_zero, mul_neg, ← sub_eq_add_neg,
      show (⟨l.val / 128 * 128 + (l.val % 128 + 8) % 128, by omega⟩ : Fin 1024) = ⟨(l.val + 8) % 1024, by omega⟩ from Fin.ext (by dsimp only; omega)]
  · by_cases h2 : l.val % 64 < 16
    · rw [if_pos (show l.val % 128 % 64 < 16 by omega), if_neg (show ¬ l.val % 128 % 64 < 8 by omega),
        if_pos (show 8 ≤ l.val % 128 % 64 ∧ l.val % 128 % 64 < 16 by omega), if_neg h1, if_pos h2, mul_zero, add_zero,
        show (⟨l.val / 128 * 128 + (l.val % 128 + 120) % 128, by omega⟩ : Fin 1024) = ⟨l.val - 8, by omega⟩ from Fin.ext (by dsimp only; omega)]
    · rw [if_neg (show ¬ l.val % 128 % 64 < 16 by omega), if_neg (show ¬ l.val % 128 % 64 < 8 by omega),
        if_neg (show ¬ (8 ≤ l.val % 128 % 64 ∧ l.val % 128 % 64 < 16) by omega), if_neg h1, if_neg h2, mul_zero, mul_zero, add_zero, add_zero, mul_one]

/-- The turned rows of the columns from `o` on. -/
def out (o : Nat) (ho : o + 1024 ≤ 3072) (a : FVec Ideal S33280x3072 .f32) : FVec Ideal S33280x1024 .f32 :=
  fun y => rope (fun k => a (ix2 (n0 := 33280) (n1 := 3072) (y 0) ⟨o + k.val, by omega⟩)) (cs (y 0).val) (sn (y 0).val) (y 1)

theorem v0_eq : (V m c main_arg0 : FVec Ideal S33280x3072 .f32) = m ((c : Thread nD τ).loc main_arg0) :=
  V_main_arg0 m c

theorem blk0 (t : Fin cfg0.N) (i : Fin 256) (k : Fin 1024) : (iblk m c 0 t : FVec Ideal S256x1024 .f32) (ix2 i k)
    = (V m c main_arg0 : FVec Ideal S33280x3072 .f32) (ix2 ⟨t.val * 256 + i.val, by have := lt_of_lt_of_eq t.isLt N_0; omega⟩ ⟨0 + k.val, by omega⟩) := by
  blk_ext [iblk, idx t]

theorem blk1 (t : Fin cfg0.N) (i : Fin 256) (k : Fin 1024) : (iblk m c 1 t : FVec Ideal S256x1024 .f32) (ix2 i k)
    = (V m c main_arg0 : FVec Ideal S33280x3072 .f32) (ix2 ⟨t.val * 256 + i.val, by have := lt_of_lt_of_eq t.isLt N_0; omega⟩ ⟨1024 + k.val, by omega⟩) := by
  blk_ext [iblk, idx t]

theorem blk2 (t : Fin cfg0.N) (i : Fin 256) (e : Fin 128) : (iblk m c 2 t : FVec Ideal S256x128 .f32) (ix2 i e)
    = (V m c main_v49 : FVec Ideal S33280x128 .f32) (ix2 ⟨t.val * 256 + i.val, by have := lt_of_lt_of_eq t.isLt N_0; omega⟩ e) := by
  blk_ext [iblk, idx t]

theorem blk3 (t : Fin cfg0.N) (i : Fin 256) (e : Fin 128) : (iblk m c 3 t : FVec Ideal S256x128 .f32) (ix2 i e)
    = (V m c main_v59 : FVec Ideal S33280x128 .f32) (ix2 ⟨t.val * 256 + i.val, by have := lt_of_lt_of_eq t.isLt N_0; omega⟩ e) := by
  blk_ext [iblk, idx t]

theorem blk4 (t : Fin cfg0.N) (i : Fin 256) (e : Fin 128) : (iblk m c 4 t : FVec Ideal S256x128 .f32) (ix2 i e)
    = (V m c main_v68 : FVec Ideal S33280x128 .f32) (ix2 ⟨t.val * 256 + i.val, by have := lt_of_lt_of_eq t.isLt N_0; omega⟩ e) := by
  blk_ext [iblk, idx t]

theorem turned_at (t : Fin cfg0.N) (X : FVec Ideal S256x1024 .f32) (i : Fin 256) (l : Fin 1024) :
    turned X (iblk m c 2 t) (iblk m c 3 t) (iblk m c 4 t) i l = rope (fun k => X (ix2 i k)) (cs (t.val * 256 + i.val)) (sn (t.val * 256 + i.val)) l :=
  tables_rope (fun k => X (ix2 i k)) (fun e => (iblk m c 2 t : FVec Ideal S256x128 .f32) (ix2 i e)) (fun e => (iblk m c 3 t : FVec Ideal S256x128 .f32) (ix2 i e))
    (fun e => (iblk m c 4 t : FVec Ideal S256x128 .f32) (ix2 i e)) (t.val * 256 + i.val) l
    (fun e => (blk2 m c t i e).trans (ca_at m c _ e)) (fun e => (blk3 m c t i e).trans (cb_at m c _ e)) (fun e => (blk4 m c t i e).trans (cc_at m c _ e))

theorem after5_at (t : Fin cfg0.N) (i : Fin 256) (l : Fin 1024) : ((dats m 0 c).after 5 t : FVec Ideal S256x1024 .f32) (ix2 i l)
    = out 0 (by decide) (m ((c : Thread nD τ).loc main_arg0)) (ix2 ⟨t.val * 256 + i.val, by have := lt_of_lt_of_eq t.isLt N_0; omega⟩ l) := by
  refine (congrFun (after5_eq m c t) (ix2 i l)).trans ((turned_at m c t _ i l).trans ?_)
  refine rope_congr (fun k => ?_) (fun _ => rfl) (fun _ => rfl) l
  refine (blk0 m c t i k).trans ?_
  rw [v0_eq]
  rfl

theorem after6_at (t : Fin cfg0.N) (i : Fin 256) (l : Fin 1024) : ((dats m 0 c).after 6 t : FVec Ideal S256x1024 .f32) (ix2 i l)
    = out 1024 (by decide) (m ((c : Thread nD τ).loc main_arg0)) (ix2 ⟨t.val * 256 + i.val, by have := lt_of_lt_of_eq t.isLt N_0; omega⟩ l) := by
  refine (congrFun (after6_eq m c t) (ix2 i l)).trans ((turned_at m c t _ i l).trans ?_)
  refine rope_congr (fun k => ?_) (fun _ => rfl) (fun _ => rfl) l
  refine (blk1 m c t i k).trans ?_
  rw [v0_eq]
  rfl

theorem mean_at (X : FVec Ideal S256x1024 .f32) (l : Fin 1024) : k0_pay3 (F := Ideal) X (ix3 0 0 l)
    = Ideal.div (∑ i : Fin 256, X (ix2 i l)) (Ideal.ofBits FTy.f32 1132462080#32) := by
  pointwise [k0_pay3]

theorem after7_at (t : Fin cfg0.N) (l : Fin 1024) : ((dats m 0 c).after 7 t : FVec Ideal S1x1x1024 .f32) (ix3 0 0 l)
    = refM (out 1024 (by decide) (m ((c : Thread nD τ).loc main_arg0))) (ix3 ⟨t.val, lt_of_lt_of_eq t.isLt N_0⟩ 0 l) := by
  refine (congrFun (after7_eq m c t) (ix3 0 0 l)).trans ((mean_at _ l).trans ?_)
  refine Eq.trans ?_ (refM_at _ ⟨t.val, lt_of_lt_of_eq t.isLt N_0⟩ l).symm
  exact congrArg (fun x => Ideal.div x _) (Finset.sum_congr rfl fun i _ => after6_at m c t i l)

theorem final5 : (dats m 0 c).arrAt 5 (cfgs 0).N = out 0 (by decide) (m ((c : Thread nD τ).loc main_arg0)) := by
  refine (dats m 0 c).arrAt_eq_of_covers 5 _ (by decide +kernel) fun t _ y => ?_
  obtain ⟨i, l, rfl⟩ : ∃ (i : Fin 256) (l : Fin 1024), y = ix2 i l := ⟨y 0, y 1, eq_ix2 y⟩
  refine (after5_at m c t i l).trans ?_
  blk_ext [idx t]

theorem final6 : (dats m 0 c).arrAt 6 (cfgs 0).N = out 1024 (by decide) (m ((c : Thread nD τ).loc main_arg0)) := by
  refine (dats m 0 c).arrAt_eq_of_covers 6 _ (by decide +kernel) fun t _ y => ?_
  obtain ⟨i, l, rfl⟩ : ∃ (i : Fin 256) (l : Fin 1024), y = ix2 i l := ⟨y 0, y 1, eq_ix2 y⟩
  refine (after6_at m c t i l).trans ?_
  blk_ext [idx t]

theorem final7 : (dats m 0 c).arrAt 7 (cfgs 0).N = refM (out 1024 (by decide) (m ((c : Thread nD τ).loc main_arg0))) := by
  refine (dats m 0 c).arrAt_eq_of_covers 7 _ (by decide +kernel) fun t _ y => ?_
  obtain ⟨i, j, l, rfl⟩ : ∃ (i : Fin 1) (j : Fin 1) (l : Fin 1024), y = ix3 i j l := ⟨y 0, y 1, y 2, eq_ix3 y⟩
  obtain rfl : i = 0 := Subsingleton.elim _ _
  obtain rfl : j = 0 := Subsingleton.elim _ _
  refine (after7_at m c t l).trans ?_
  blk_ext [idx t]

theorem refQ_eq (V0 : Valuation Cert.ReferenceRotIdeal.τ Cert.ReferenceRotIdeal.sig (Elt Ideal)) :
    refQ V0 = out 0 (by decide) (V0 (Proc.devRef .tc Cert.ReferenceRotIdeal.main_arg0)) := by
  funext y
  obtain ⟨i, l, rfl⟩ : ∃ (i : Fin 33280) (l : Fin 1024), y = ix2 i l := ⟨y 0, y 1, eq_ix2 y⟩
  exact refQ_at V0 i l

theorem refK_eq (V0 : Valuation Cert.ReferenceRotIdeal.τ Cert.ReferenceRotIdeal.sig (Elt Ideal)) :
    refK V0 = out 1024 (by decide) (V0 (Proc.devRef .tc Cert.ReferenceRotIdeal.main_arg0)) := by
  funext y
  obtain ⟨i, l, rfl⟩ : ∃ (i : Fin 33280) (l : Fin 1024), y = ix2 i l := ⟨y 0, y 1, eq_ix2 y⟩
  exact refK_at V0 i l

theorem run_ref (m : (ℓ : Loc Cert.ReferenceRotIdeal.nD Cert.ReferenceRotIdeal.τ Cert.ReferenceRotIdeal.sig) → Buf (Elt Ideal) ℓ) (g : Dev Cert.ReferenceRotIdeal.nD → PrngReg) :
    θ_run (Cert.ReferenceRotIdeal.defs (F := Ideal)) (onTc (τ := Cert.ReferenceRotIdeal.τ) (Cert.ReferenceRotIdeal.main (F := Ideal))) ⟨m, fun _ => 0, g⟩ (fun r => ∀ c : Dev Cert.ReferenceRotIdeal.nD,
      r.2.mem ((c.tc : Thread Cert.ReferenceRotIdeal.nD Cert.ReferenceRotIdeal.τ).loc Cert.ReferenceRotIdeal.main_v123) = refQ (StableHlo.launchContents m c)
      ∧ r.2.mem ((c.tc : Thread Cert.ReferenceRotIdeal.nD Cert.ReferenceRotIdeal.τ).loc Cert.ReferenceRotIdeal.main_v243) = refK (StableHlo.launchContents m c)
      ∧ r.2.mem ((c.tc : Thread Cert.ReferenceRotIdeal.nD Cert.ReferenceRotIdeal.τ).loc Cert.ReferenceRotIdeal.main_v248) = refM (refK (StableHlo.launchContents m c))
      ∧ r.2.mem ((c.tc : Thread Cert.ReferenceRotIdeal.nD Cert.ReferenceRotIdeal.τ).loc Cert.ReferenceRotIdeal.main_arg0) = m ((c.tc : Thread Cert.ReferenceRotIdeal.nD Cert.ReferenceRotIdeal.τ).loc Cert.ReferenceRotIdeal.main_arg0)) :=
  (θ_run _ _ _).mono (fun r h c => by
    obtain ⟨h1, h2, h3, h4⟩ := h c
    refine ⟨?_, ?_, ?_, h4⟩
    · delta refQ; exact h1
    · delta refK; exact h2
    · delta refM refK; exact h3) (Cert.ReferenceRotIdeal.Value.run m g)

theorem algebraic : algebraic_KernelRotIdeal_ReferenceRotIdeal (hKernelRotIdeal := Cert.KernelRotIdeal.Gen.facts)
    (hReferenceRotIdeal := Cert.ReferenceRotIdeal.Gen.facts) := by
  intro m g m' g' _ heq
  refine ⟨fun c => (dats m 0 c).arrAt 5 (cfgs 0).N, fun c => (dats m 0 c).arrAt 6 (cfgs 0).N, fun c => (dats m 0 c).arrAt 7 (cfgs 0).N,
    Cert.KernelRotIdeal.Value.run_blocks m g, ?_⟩
  refine (θ_run _ _ _).mono (fun r h c => ?_) (run_ref m' g')
  obtain ⟨h1, h2, h3, h4⟩ := h c
  have hq : refQ (StableHlo.launchContents m' c) = out 0 (by decide) (m ((c : Thread nD τ).loc main_arg0)) :=
    (refQ_eq (StableHlo.launchContents m' c)).trans (congrArg (out 0 (by decide)) (heq c))
  have hk : refK (StableHlo.launchContents m' c) = out 1024 (by decide) (m ((c : Thread nD τ).loc main_arg0)) :=
    (refK_eq (StableHlo.launchContents m' c)).trans (congrArg (out 1024 (by decide)) (heq c))
  refine ⟨h1.trans (hq.trans (final5 m c).symm), h2.trans (hk.trans (final6 m c).symm), h3.trans ((congrArg refM hk).trans (final7 m c).symm), h4⟩

/-- The reference ends, its argument as it was. -/
theorem frame_reference (m : (ℓ : Loc Cert.ReferenceRotIdeal.nD Cert.ReferenceRotIdeal.τ Cert.ReferenceRotIdeal.sig) → Buf (Elt Ideal) ℓ) (g : Dev Cert.ReferenceRotIdeal.nD → PrngReg) :
    θ_run (Cert.ReferenceRotIdeal.defs (F := Ideal)) (onTc (τ := Cert.ReferenceRotIdeal.τ) (Cert.ReferenceRotIdeal.main (F := Ideal))) ⟨m, fun _ => 0, g⟩ (fun r => (∀ c : Dev Cert.ReferenceRotIdeal.nD,
      r.2.mem ((c.tc : Thread Cert.ReferenceRotIdeal.nD Cert.ReferenceRotIdeal.τ).loc Cert.ReferenceRotIdeal.main_arg0) = m ((c.tc : Thread Cert.ReferenceRotIdeal.nD Cert.ReferenceRotIdeal.τ).loc Cert.ReferenceRotIdeal.main_arg0))
      ∧ r.2.sem = fun _ => 0) :=
  (θ_run _ _ _).mono (fun r h => ⟨fun c => (h c).2.2.2, Idealize.ShloMosaic.sem_eq_zero_of_no_sems (by decide) r.2⟩)
    (Cert.ReferenceRotIdeal.Value.run m g)

end Cert.CallRot

end
-- ==== Proof.SmpMath.lean ====
/- The recurrence over four tokens from a state, over the extended reals: the formulas of one head, and what the rows past
   the fourth token add when a chunk of four tokens is padded with zeros and with a very negative input gate. -/
module

public import proofs.«01_k».proof.Proof.Chunk

@[expose] public section

noncomputable section

namespace Cert.SmpMath

open Idealize.ShloMosaic
open scoped BigOperators

/-- The padding's input gate. -/
def pad : EReal := Ideal.ofBits .f32 0xF149F2CA#32

/-- Row `s` of batch element `b` of the sample, read with plain numbers. -/
def row {w : ℕ} (X : (⟨2, ![33280, w]⟩ : Shape).Idx → EReal) (b s c : ℕ) : EReal :=
  if h : 32768 + (b * 4 + s) < 33280 ∧ c < w then X (ix2 ⟨32768 + (b * 4 + s), h.1⟩ ⟨c, h.2⟩) else 0

theorem row_eq {w : ℕ} (X : (⟨2, ![33280, w]⟩ : Shape).Idx → EReal) (b s c : ℕ) (h : 32768 + (b * 4 + s) < 33280) (hc : c < w) :
    row X b s c = X (ix2 ⟨32768 + (b * 4 + s), h⟩ ⟨c, hc⟩) := dif_pos ⟨h, hc⟩

/-- The kept state with its column of the normaliser, read with plain numbers. -/
def st (C : (⟨4, ![32, 8, 64, 128]⟩ : Shape).Idx → EReal) (N : (⟨3, ![32, 8, 64]⟩ : Shape).Idx → EReal) (b h d l : ℕ) : EReal :=
  if hb : b < 32 ∧ h < 8 ∧ d < 64 then
    if hl : l < 128 then C (ix4 ⟨b, hb.1⟩ ⟨h, hb.2.1⟩ ⟨d, hb.2.2⟩ ⟨l, hl⟩) else if l = 128 then N (ix3 ⟨b, hb.1⟩ ⟨h, hb.2.1⟩ ⟨d, hb.2.2⟩) else 0
  else 0

theorem st_eq (C : (⟨4, ![32, 8, 64, 128]⟩ : Shape).Idx → EReal) (N : (⟨3, ![32, 8, 64]⟩ : Shape).Idx → EReal)
    (b : Fin 32) (h : Fin 8) (d : Fin 64) (l : ℕ) : st C N b.val h.val d.val l
      = if hl : l < 128 then C (ix4 b h d ⟨l, hl⟩) else if l = 128 then N (ix3 b h d) else 0 := dif_pos ⟨b.isLt, h.isLt, d.isLt⟩

/-- The kept maximum, read with plain numbers. -/
def km (M : (⟨2, ![32, 8]⟩ : Shape).Idx → EReal) (b h : ℕ) : EReal :=
  if hb : b < 32 ∧ h < 8 then M (ix2 ⟨b, hb.1⟩ ⟨h, hb.2⟩) else 0

theorem km_eq (M : (⟨2, ![32, 8]⟩ : Shape).Idx → EReal) (b : Fin 32) (h : Fin 8) : km M b.val h.val = M (ix2 b h) := dif_pos ⟨b.isLt, h.isLt⟩

/-- The sum of the forget gates up to token `t`. -/
def bb (f : ℕ → EReal) (t : ℕ) : EReal := ∑ s : Fin 4, if s.val ≤ t then f s.val else 0

/-- The logarithm of token `s`'s weight at token `t`, minus infinity for a later token. -/
def dl (f g : ℕ → EReal) (t s : ℕ) : EReal := if s ≤ t then bb f t - bb f s + g s else ⊥

/-- The stabiliser at token `t`. -/
def mt (f g : ℕ → EReal) (mp : EReal) (t : ℕ) : EReal := max (bb f t + mp) (Finset.univ.sup fun s : Fin 4 => dl f g t s.val)

/-- The query's product at token `t` with the weighted sum of `k y` and with the carried state's column `cc`. -/
def nd (f g : ℕ → EReal) (mp : EReal) (qq kk : ℕ → ℕ → EReal) (y cc : ℕ → EReal) (t : ℕ) : EReal :=
  (∑ s : Fin 4, ((∑ d : Fin 64, qq d.val t * kk d.val s.val) * Ideal.exp (dl f g t s.val - mt f g mp t)) * y s.val)
    + Ideal.exp (bb f t + mp - mt f g mp t) * ∑ d : Fin 64, qq d.val t * cc d.val

/-- An entry of the state after the four tokens. -/
def cn (f g : ℕ → EReal) (mp : EReal) (k y : ℕ → EReal) (c : EReal) : EReal :=
  Ideal.exp (bb f 3 + mp - mt f g mp 3) * c
    + ∑ s : Fin 4, (k s.val * Ideal.exp (bb f 3 - bb f s.val + g s.val - mt f g mp 3)) * y s.val

/-- The head's output at token `t`, lane `e`, before the normalisation. -/
def hid (f g : ℕ → EReal) (mp : EReal) (qq kk vv : ℕ → ℕ → EReal) (cv : ℕ → ℕ → EReal) (cn : ℕ → EReal) (t e : ℕ) : EReal :=
  Ideal.div (nd f g mp qq kk (vv e) (fun d => cv d e) t)
    (max (FloatOps.absf (F := Ideal) (φ := .f32) (nd f g mp qq kk (fun _ => 1) cn t)) (Ideal.exp (-(mt f g mp t))))

/-- What the padded chunk needs of the gates: the padding's gate never wins the maximum. -/
structure Small (f g : ℕ → EReal) (mp : EReal) : Prop where
  low : bb f 3 - bb f 3 + pad ≤ mt f g mp 3

theorem bb_last (f : ℕ → EReal) (t : ℕ) (ht : 3 ≤ t) : bb f t = bb f 3 := by
  refine Finset.sum_congr rfl fun s _ => ?_
  rw [if_pos (by omega), if_pos (by omega)]

theorem bb_min (f : ℕ → EReal) (t : ℕ) : bb f t = bb f (min t 3) := by
  by_cases h : t ≤ 3
  · rw [min_eq_left h]
  · rw [min_eq_right (by omega), bb_last f t (by omega)]

/-- A sum of 128 terms that vanish from the fourth on. -/
theorem sum_four (F : Fin 128 → EReal) (h : ∀ s : Fin 128, ¬ s.val < 4 → F s = 0) :
    ∑ s : Fin 128, F s = ∑ s : Fin 4, F ⟨s.val, by omega⟩ := by
  refine (Fin.sum_univ_add (a := 4) (b := 124) F).trans ?_
  rw [Finset.sum_eq_zero (s := (Finset.univ : Finset (Fin 124))) fun i _ => h (Fin.natAdd 4 i) (by simp), add_zero]
  rfl

/-- The sum of the padded forget gates. -/
theorem prefix_pad (f : ℕ → EReal) (t : ℕ) (w : Fin 128 → EReal)
    (hw : ∀ s : Fin 128, w s = if s.val ≤ t then (if s.val < 4 then f s.val else 0) else 0) : ∑ s : Fin 128, w s = bb f t := by
  refine (sum_four w fun s hs => ?_).trans (Finset.sum_congr rfl fun s _ => ?_)
  · rw [hw, if_neg hs, ite_self]
  · rw [hw]
    dsimp only
    rw [if_pos s.isLt]

section
variable {f g : ℕ → EReal} {mp : EReal} (H : Small f g mp)
include H

/-- The padded chunk's stabiliser at row `t` is the four tokens' at the last of them that is not after it. -/
theorem max_pad (t : ℕ) (w : Fin 128 → EReal)
    (hw : ∀ s : Fin 128, w s = if s.val ≤ t then bb f t - bb f s.val + (if s.val < 4 then g s.val else pad) else ⊥) :
    max (bb f t + mp) (Finset.univ.fold max ⊥ w) = mt f g mp (min t 3) := by
  have hsup : Finset.univ.fold max ⊥ w = Finset.univ.sup w := rfl
  rw [hsup, bb_min f t]
  apply le_antisymm
  · refine max_le (le_max_left _ _) (Finset.sup_le fun s _ => ?_)
    rw [hw s]
    split
    · next h =>
      by_cases h4 : s.val < 4
      · rw [if_pos h4]
        refine le_max_of_le_right ?_
        refine le_trans (le_of_eq ?_) (Finset.le_sup (f := fun s : Fin 4 => dl f g (min t 3) s.val) (Finset.mem_univ (⟨s.val, h4⟩ : Fin 4)))
        dsimp only [dl]
        rw [if_pos (by omega), bb_min f t]
      · rw [if_neg h4]
        have e : min t 3 = 3 := by omega
        rw [e, bb_last f t (by omega), bb_last f s.val (by omega)]
        exact H.low
    · exact bot_le
  · refine max_le (le_max_left _ _) (Finset.sup_le fun s _ => ?_)
    unfold dl
    split
    · next h =>
      refine le_max_of_le_right ?_
      refine le_trans (le_of_eq ?_) (Finset.le_sup (f := w) (Finset.mem_univ (⟨s.val, by omega⟩ : Fin 128)))
      rw [hw]
      dsimp only
      rw [if_pos (by omega), if_pos s.isLt, ← bb_min f t]
    · exact bot_le

end

/-- A query row of zeros gives zero, or zero over zero where the stabiliser is plus infinity. -/
theorem div_zero_row (m : EReal) :
    Ideal.div 0 (max (FloatOps.absf (F := Ideal) (φ := .f32) (0 : EReal)) (Ideal.exp (-m))) = 0
      ∨ Ideal.div 0 (max (FloatOps.absf (F := Ideal) (φ := .f32) (0 : EReal)) (Ideal.exp (-m))) = ⊥ := by
  unfold Ideal.div
  split
  · exact Or.inr (if_neg (lt_irrefl _))
  · exact Or.inl (zero_mul _)

end Cert.SmpMath

end
-- ==== Proof.SmpHead.lean ====
/- One head of the kernel's step on a sample's padded chunk: its three stored blocks read at an index, from the slices of the
   gates, queries, keys, values and the carried state. The eight heads' stored blocks are the same functions of their slices. -/
module

public import proofs.«01_k».proof.Proof.Gen.KernelSmpIdeal.Skeleton
public import proofs.«01_k».proof.Proof.SmpMath

@[expose] public section

set_option maxRecDepth 16384

noncomputable section

namespace Cert.SmpHead

open Idealize.ShloMosaic Idealize.ShloMosaic.TcCoe Idealize.SL.Sem
open Cert.KernelSmpIdeal Cert.KernelSmpIdeal.Gen Cert.SmpMath
open scoped BigOperators

/-- The causal mask's word, the column's number first. -/
theorem causal' (t u : ℕ) (ht : t < 1024) (hu : u < 1024) :
    IntOp.cmpi .sle (BitVec.ofNat 32 u) (BitVec.ofNat 32 t) = if u ≤ t then 1#1 else 0#1 := by
  simp (disch := omega) only [hlo_ix]
  split
  · next h => simp [h]
  · next h => simp [h]

/-- The mask's constant is minus infinity. -/
theorem mask_bot : (Named.named Cert.KernelSmpIdeal.κ "mask" 0xF149F2CA#32 : Ideal .f32) = ⊥ := by
  rfl

/-- The logarithms of the weights. -/
def dlog (bc : FVec Ideal S128x1 .f32) (br ig : FVec Ideal S1x128 .f32) : FVec Ideal S128x128 .f32 :=
  select k0_pay7
    (addf (subf (broadcastTo S128x128 bc broadcasts_S128x1_S128x128) (broadcastTo S128x128 br broadcasts_S1x128_S128x128))
      (broadcastTo S128x128 ig broadcasts_S1x128_S128x128))
    (broadcast S128x128 (Named.named κ "mask" 0xF149F2CA#32))

/-- The carried state's logarithm. -/
def inter (bc : FVec Ideal S128x1 .f32) (mp : FVec Ideal S1x1 .f32) : FVec Ideal S128x1 .f32 :=
  addf bc (broadcastTo S128x1 mp broadcasts_S1x1_S128x1)

/-- The running maximum's column. -/
def mx (bc : FVec Ideal S128x1 .f32) (br ig : FVec Ideal S1x128 .f32) (mp : FVec Ideal S1x1 .f32) : FVec Ideal S128x1 .f32 :=
  maximumf (inter bc mp)
    (shapeCast S128x1 (multiReduction .maximumf [1] S128 (dlog bc br ig) 0xFF800000#32 reduces_S128x128_S128 (.inl rfl) rfl) shapeCasts_S128_S128x1)

/-- The weights. -/
def wts (bc : FVec Ideal S128x1 .f32) (br ig : FVec Ideal S1x128 .f32) (mp : FVec Ideal S1x1 .f32) : FVec Ideal S128x128 .f32 :=
  exp (subf (dlog bc br ig) (broadcastTo S128x128 (mx bc br ig mp) broadcasts_S128x1_S128x128))

/-- The stored maximum. -/
def mNew (bc : FVec Ideal S128x1 .f32) (br ig : FVec Ideal S1x128 .f32) (mp : FVec Ideal S1x1 .f32) : FVec Ideal S1x128 .f32 :=
  k0_pay27 (mx bc br ig mp)

/-- The stored state. -/
def cNew (bc : FVec Ideal S128x1 .f32) (br ig : FVec Ideal S1x128 .f32) (mp : FVec Ideal S1x1 .f32) (k : FVec Ideal S1x64x128 .f32)
    (v : FVec Ideal S128x128 .f32) (c : FVec Ideal S1x64x256 .f32) : FVec Ideal S1x64x256 .f32 :=
  k0_pay26 bc br ig mp (mx bc br ig mp) (k0_pay19 k) (k0_pay20 k0_pay10 v) (k0_pay21 c)

/-- The output before the normalisation. -/
def hh (bc : FVec Ideal S128x1 .f32) (br ig : FVec Ideal S1x128 .f32) (mp : FVec Ideal S1x1 .f32) (q : FVec Ideal S128x64 .f32)
    (k : FVec Ideal S1x64x128 .f32) (v : FVec Ideal S128x128 .f32) (c : FVec Ideal S1x64x256 .f32) : FVec Ideal S128x128 .f32 :=
  k0_pay22 k0_pay10 (mx bc br ig mp) (wts bc br ig mp) (subf (inter bc mp) (mx bc br ig mp)) q k v c

/-- The stored output. -/
def out (bc : FVec Ideal S128x1 .f32) (br ig : FVec Ideal S1x128 .f32) (mp : FVec Ideal S1x1 .f32) (q : FVec Ideal S128x64 .f32)
    (k : FVec Ideal S1x64x128 .f32) (v : FVec Ideal S128x128 .f32) (c : FVec Ideal S1x64x256 .f32) (o : FVec Ideal S128x128 .f32)
    (gn : FVec Ideal S1x128 .f32) : FVec Ideal S128x128 .f32 :=
  k0_pay24 (hh bc br ig mp q k v c)
    (k0_pay23 k0_pay10 (mx bc br ig mp) (wts bc br ig mp) (subf (inter bc mp) (mx bc br ig mp)) q k v c) o gn

/-- The value row with its column of ones. -/
def vx (v : ℕ → ℕ → EReal) (l n : ℕ) : EReal := if l < 128 then v l n else if l = 128 then 1 else 0

/-- A row of 128 numbers normalised by its root mean square, with the constant added to the mean. -/
def normed (x : Fin 128 → EReal) (e : Fin 128) : EReal :=
  x e * Ideal.rsqrt (Ideal.div (∑ i : Fin 128, x i * x i) (Ideal.ofBits .f32 0x43000000#32) + Ideal.ofBits .f32 0x358637BD#32)

/-- A row of zeros, or one whose mean square is plus infinity, is normalised to zero. -/
theorem normed_const (w : EReal) (hw : w = 0 ∨ w = ⊥) (e : Fin 128) : normed (fun _ => w) e = 0 := by
  unfold normed
  rcases hw with rfl | rfl
  · exact zero_mul _
  · have h1 : (∑ _i : Fin 128, (⊥ : EReal) * ⊥) = ⊤ := by
      refine top_le_iff.mp ?_
      refine le_trans (le_of_eq EReal.bot_mul_bot.symm) ?_
      exact Finset.single_le_sum (f := fun _ : Fin 128 => (⊥ : EReal) * ⊥) (fun _ _ => by rw [EReal.bot_mul_bot]; exact le_top) (Finset.mem_univ e)
    have h2 : Ideal.ofBits FTy.f32 0x43000000#32 = ((128 : ℝ) : EReal) := by
      simp [Ideal.ofBits, Ideal.ieee, -EReal.coe_mul]
      norm_num
    have h3 : ∃ r : ℝ, Ideal.ofBits FTy.f32 0x358637BD#32 = (r : EReal) := by
      simp [Ideal.ofBits, Ideal.ieee, -EReal.coe_mul]
    obtain ⟨r, h3⟩ := h3
    rw [h1, h2, h3]
    unfold Ideal.div
    rw [if_neg (by norm_num), ← EReal.coe_inv, EReal.top_mul_coe_of_pos (by norm_num), EReal.top_add_coe, Ideal.rsqrt_top, mul_zero]

/-- The head's arrays are the padded four tokens and the state. -/
structure Ok (f g : ℕ → EReal) (mp0 : EReal) (qq kk vv cc : ℕ → ℕ → EReal) (bc : FVec Ideal S128x1 .f32) (br ig : FVec Ideal S1x128 .f32)
    (mp : FVec Ideal S1x1 .f32) (q : FVec Ideal S128x64 .f32) (k : FVec Ideal S1x64x128 .f32) (v : FVec Ideal S128x128 .f32)
    (c : FVec Ideal S1x64x256 .f32) : Prop where
  small : Small f g mp0
  bc : ∀ t : Fin 128, bc (ix2 t 0) = bb f t.val
  br : ∀ s : Fin 128, br (ix2 0 s) = bb f s.val
  ig : ∀ s : Fin 128, ig (ix2 0 s) = if s.val < 4 then g s.val else pad
  mp : mp (ix2 0 0) = mp0
  q : ∀ (t : Fin 128) (d : Fin 64), q (ix2 t d) * Ideal.ofBits .f32 0x3E000000#32 = if t.val < 4 then qq d.val t.val else 0
  k : ∀ (d : Fin 64) (s : Fin 128), k (ix3 0 d s) = if s.val < 4 then kk d.val s.val else 0
  v : ∀ (s : Fin 128) (e : Fin 128), s.val < 4 → v (ix2 s e) = vv e.val s.val
  c : ∀ (d : Fin 64) (l : Fin 256), c (ix3 0 d l) = cc d.val l.val

/-- The kernel's extended value row. -/
theorem vx_eq (vv : ℕ → ℕ → EReal) (l n : ℕ) (hl : l < 256) (p : EReal)
    (hp : l < 128 → p = vv l n) (hp' : ¬ l < 128 → p = FloatOps.sitofp (F := Ideal) .f32
      (BitVec.setWidth 32 (IntOp.cmpi CmpIPredicate.eq (BitVec.ofNat 32 (l - 128)) 0#32))) :
    p = vx vv l n := by
  unfold vx
  split
  · next h => exact hp h
  · next h =>
    rw [hp' h]
    split
    · next h2 =>
      have : l - 128 = 0 := by omega
      rw [this]
      show (((1 : ℤ) : ℝ) : EReal) = _
      simp
    · next h2 =>
      have : IntOp.cmpi CmpIPredicate.eq (BitVec.ofNat 32 (l - 128)) 0#32 = 0#1 := by
        have hne : BitVec.ofNat 32 (l - 128) ≠ 0#32 := by
          intro h
          have := congrArg BitVec.toNat h
          simp at this
          omega
        show BitVec.ofBool (BitVec.ofNat 32 (l - 128) == 0#32) = 0#1
        rw [beq_eq_false_iff_ne.2 hne]
        rfl
      rw [this]
      show (((0 : ℤ) : ℝ) : EReal) = _
      simp

theorem word_one : FloatOps.sitofp (F := Ideal) .f32 (BitVec.setWidth 32 1#1) = (1 : EReal) := by
  show (((1 : ℤ) : ℝ) : EReal) = _
  simp

theorem mask_at (t s : Fin 128) : k0_pay7 (ix2 t s) = if s.val ≤ t.val then 1#1 else 0#1 := by
  pointwise [k0_pay7]
  exact causal' t.val s.val (by omega) (by omega)

section
variable {f g : ℕ → EReal} {mp0 : EReal} {qq kk vv cc : ℕ → ℕ → EReal} {bc : FVec Ideal S128x1 .f32} {br ig : FVec Ideal S1x128 .f32}
    {mp : FVec Ideal S1x1 .f32} {q : FVec Ideal S128x64 .f32} {k : FVec Ideal S1x64x128 .f32} {v : FVec Ideal S128x128 .f32}
    {c : FVec Ideal S1x64x256 .f32} (I : Ok f g mp0 qq kk vv cc bc br ig mp q k v c)

include I

theorem dlog_at (t s : Fin 128) : dlog bc br ig (ix2 t s)
    = if s.val ≤ t.val then bb f t.val - bb f s.val + (if s.val < 4 then g s.val else pad) else ⊥ := by
  pointwise [dlog, mask_at, I.bc, I.br, I.ig, mask_bot]
  unfold Scalar.select
  by_cases h : s.val ≤ t.val
  · simp [h]
  · simp [h]

theorem inter_at (t : Fin 128) : inter bc mp (ix2 t 0) = bb f t.val + mp0 := by
  pointwise [inter, I.bc, I.mp]

theorem mx_at (t : Fin 128) : mx bc br ig mp (ix2 t 0) = mt f g mp0 (min t.val 3) := by
  pointwise [mx, dlog_at I, inter_at I]
  rw [Chunk.neg_inf]
  exact max_pad I.small t.val _ fun _ => rfl

theorem mNew_at (l : Fin 128) : mNew bc br ig mp (ix2 0 l) = mt f g mp0 3 := by
  pointwise [mNew, k0_pay27, k0_pay25, mx_at I]
  rfl

theorem wts_at (t s : Fin 128) (ht : t.val < 4) (hs : s.val < 4) : wts bc br ig mp (ix2 t s)
    = Ideal.exp (dl f g t.val s.val - mt f g mp0 t.val) := by
  pointwise [wts, dlog_at I, mx_at I]
  rw [if_pos hs, min_eq_left (by omega)]
  rfl

theorem cNew_at (d : Fin 64) (l : Fin 256) : cNew bc br ig mp k v c (ix3 0 d l)
    = cn f g mp0 (kk d.val) (vx vv l.val) (cc d.val l.val) := by
  pointwise [cNew, k0_pay26, k0_pay25, k0_pay19, k0_pay20, k0_pay10, k0_pay21, mx_at I, I.bc, I.br, I.ig, I.mp, I.k, I.c]
  unfold cn
  refine congrArg₂ (· + ·) ?_ ((congrArg₂ (· + ·) (Finset.sum_congr rfl fun s _ => ?_)
    (Finset.sum_eq_zero fun s _ => by rw [zero_mul, zero_mul])).trans (add_zero _))
  · rw [bb_last f 127 (by omega)]
    rfl
  · rw [bb_last f 127 (by omega)]
    refine congrArg₂ (· * ·) rfl ?_
    exact vx_eq vv l.val _ l.isLt _ (fun h => (dif_pos h).trans (I.v ⟨s.val, by omega⟩ ⟨l.val, h⟩ s.isLt)) (fun h => dif_neg h)

/-- The numerators' and the denominator's sum at row `t`, for any column that holds `y` at the four tokens. -/
theorem num_at (t : Fin 128) (l : Fin 256) (y : ℕ → EReal) (V : Fin 128 → EReal) (hV : ∀ s : Fin 128, s.val < 4 → V s = y s.val) :
    (∑ s : Fin 128, ((∑ d : Fin 64, (q (ix2 t d) * Ideal.ofBits .f32 0x3E000000#32) * k (ix3 0 d s)) * wts bc br ig mp (ix2 t s)) * V s)
        + Ideal.exp (bb f t.val + mp0 - mt f g mp0 (min t.val 3)) * (∑ d : Fin 64, (q (ix2 t d) * Ideal.ofBits .f32 0x3E000000#32) * c (ix3 0 d l))
      = if t.val < 4 then nd f g mp0 qq kk y (fun d => cc d l.val) t.val else 0 := by
  by_cases ht : t.val < 4
  · rw [if_pos ht, min_eq_left (by omega)]
    unfold nd
    refine congrArg₂ (· + ·) ((sum_four _ fun s hs => ?_).trans (Finset.sum_congr rfl fun s _ => ?_)) (congrArg₂ (· * ·) rfl ?_)
    · rw [Finset.sum_eq_zero fun d _ => by rw [I.k, if_neg hs, mul_zero], zero_mul, zero_mul]
    · rw [wts_at I t ⟨s.val, by omega⟩ ht s.isLt, hV _ s.isLt]
      refine congrArg₂ (· * ·) (congrArg₂ (· * ·) (Finset.sum_congr rfl fun d _ => ?_) rfl) rfl
      rw [I.q, if_pos ht, I.k]
      dsimp only
      rw [if_pos s.isLt]
    · refine Finset.sum_congr rfl fun d _ => ?_
      rw [I.q, if_pos ht, I.c]
  · rw [if_neg ht]
    rw [Finset.sum_eq_zero fun s _ => by
      rw [Finset.sum_eq_zero fun d _ => by rw [I.q, if_neg ht, zero_mul], zero_mul, zero_mul]]
    rw [Finset.sum_eq_zero fun d _ => by rw [I.q, if_neg ht, zero_mul], mul_zero, add_zero]

theorem hh_raw (t e : Fin 128) : hh bc br ig mp q k v c (ix2 t e) = Ideal.div
    ((∑ s : Fin 128, ((∑ d : Fin 64, (q (ix2 t d) * Ideal.ofBits .f32 0x3E000000#32) * k (ix3 0 d s)) * wts bc br ig mp (ix2 t s)) * v (ix2 s e))
        + Ideal.exp (bb f t.val + mp0 - mt f g mp0 (min t.val 3)) * (∑ d : Fin 64, (q (ix2 t d) * Ideal.ofBits .f32 0x3E000000#32) * c (ix3 0 d ⟨e.val, by omega⟩)))
    (max (FloatOps.absf (F := Ideal) (φ := .f32)
        ((∑ s : Fin 128, ((∑ d : Fin 64, (q (ix2 t d) * Ideal.ofBits .f32 0x3E000000#32) * k (ix3 0 d s)) * wts bc br ig mp (ix2 t s)) * 1)
        + Ideal.exp (bb f t.val + mp0 - mt f g mp0 (min t.val 3)) * (∑ d : Fin 64, (q (ix2 t d) * Ideal.ofBits .f32 0x3E000000#32) * c (ix3 0 d ⟨128, by omega⟩))))
      (Ideal.exp (-(mt f g mp0 (min t.val 3))))) := by
  pointwise [hh, k0_pay22, k0_pay19, k0_pay20, k0_pay10, k0_pay21, mx_at I, inter_at I]
  rw [zero_sub, word_one]
  simp only [mul_one]

/-- The output before the normalisation: one value past the fourth token. -/
theorem hh_at (t e : Fin 128) : hh bc br ig mp q k v c (ix2 t e)
    = if t.val < 4 then SmpMath.hid f g mp0 qq kk vv cc (fun d => cc d 128) t.val e.val
      else Ideal.div 0 (max (FloatOps.absf (F := Ideal) (φ := .f32) (0 : EReal)) (Ideal.exp (-(mt f g mp0 3)))) := by
  rw [hh_raw I, num_at I t ⟨e.val, by omega⟩ (vv e.val) (fun s => v (ix2 s e)) (fun s hs => I.v s e hs),
    num_at I t ⟨128, by omega⟩ (fun _ => 1) (fun _ => 1) (fun _ _ => rfl)]
  by_cases ht : t.val < 4
  · rw [if_pos ht, if_pos ht, if_pos ht, min_eq_left (by omega)]
    rfl
  · rw [if_neg ht, if_neg ht, if_neg ht, min_eq_right (by omega)]

theorem out_at (o : FVec Ideal S128x128 .f32) (gn : FVec Ideal S1x128 .f32) (t : Fin 128) (e : Fin 128) :
    out bc br ig mp q k v c o gn (ix2 t e)
      = if t.val < 4 then normed (fun i => SmpMath.hid f g mp0 qq kk vv cc (fun d => cc d 128) t.val i.val) e * gn (ix2 0 e)
          * Ideal.div 1 (1 + Ideal.exp (-(o (ix2 t e)))) else 0 := by
  have h3 : ∀ x : EReal, (0 : EReal) - x = -x := fun x => zero_sub x
  have e1 : out bc br ig mp q k v c o gn (ix2 t e) = normed (fun i => hh bc br ig mp q k v c (ix2 t i)) e * gn (ix2 0 e)
      * Ideal.div 1 (1 + Ideal.exp (-(o (ix2 t e)))) := by
    have e2 : k0_pay22 (F := Ideal) k0_pay10 (mx bc br ig mp) (wts bc br ig mp) (subf (inter bc mp) (mx bc br ig mp)) q k v c
        = hh bc br ig mp q k v c := rfl
    pointwise [out, k0_pay24, k0_pay23, e2]
    simp only [h3, normed]
  rw [e1]
  by_cases ht : t.val < 4
  · rw [if_pos ht]
    refine congrArg (fun z : Fin 128 → EReal => normed z e * gn (ix2 0 e) * Ideal.div 1 (1 + Ideal.exp (-(o (ix2 t e))))) (funext fun i => ?_)
    rw [hh_at I, if_pos ht]
  · rw [if_neg ht]
    rw [show (fun i => hh bc br ig mp q k v c (ix2 t i)) = fun _ => _ from funext fun i => (hh_at I t i).trans (if_neg ht),
      normed_const _ (div_zero_row _), zero_mul, zero_mul]

/-- The stored blocks at any index of the stored block. -/
theorem mNew_idx (x : S1x128.Idx) : mNew bc br ig mp x = mt f g mp0 3 := by
  have e : x = ix2 0 (x 1) := by
    rw [← ix2_eta (n0 := 1) (n1 := 128) x]
    congr 1
    exact Subsingleton.elim (α := Fin 1) _ _
  rw [e]
  exact mNew_at I _

theorem cNew_idx (x : S1x64x256.Idx) : cNew bc br ig mp k v c x
    = cn f g mp0 (kk (x 1).val) (vx vv (x 2).val) (cc (x 1).val (x 2).val) := by
  have e : x = ix3 0 (x 1) (x 2) := by
    rw [← ix3_eta (n0 := 1) (n1 := 64) (n2 := 256) x]
    congr 1
    exact Subsingleton.elim (α := Fin 1) _ _
  rw [e]
  exact cNew_at I _ _

theorem out_idx (o : FVec Ideal S128x128 .f32) (gn : FVec Ideal S1x128 .f32) (x : S128x128.Idx) :
    out bc br ig mp q k v c o gn x
      = if (x 0).val < 4 then normed (fun i => SmpMath.hid f g mp0 qq kk vv cc (fun d => cc d 128) (x 0).val i.val) (x 1) * gn (ix2 0 (x 1))
          * Ideal.div 1 (1 + Ideal.exp (-(o x))) else 0 := by
  have e : x = ix2 (x 0) (x 1) := (ix2_eta (n0 := 128) (n1 := 128) x).symm
  rw [e]
  exact out_at I o gn _ _

end

end Cert.SmpHead

end
-- ==== Proof.SmpStep.lean ====
/- One grid point of the kernel on the sample: from the blocks of the arguments, each head's slices. -/
module

public import proofs.«01_k».proof.Proof.SmpHead
public import Idealize.ShloMosaic.Lib.Pipeline.ValueKit

@[expose] public section

set_option maxRecDepth 16384

noncomputable section

namespace Cert.SmpStep

open Idealize.ShloMosaic Idealize.ShloMosaic.TcCoe Idealize.SL.Sem
open Cert.KernelSmpIdeal Cert.KernelSmpIdeal.Gen Cert.SmpMath Cert.SmpHead
open scoped BigOperators

/-- A head's forget gates, input gates, scaled queries, keys and values, from the four rows of a batch element. -/
def fg (G : ℕ → ℕ → EReal) (h : ℕ) : ℕ → EReal := fun s => G s (8 + h)
def ig (G : ℕ → ℕ → EReal) (h : ℕ) : ℕ → EReal := fun s => G s h
def qs (P : ℕ → ℕ → EReal) (h : ℕ) : ℕ → ℕ → EReal := fun d t => P t (h * 64 + d) * Ideal.ofBits .f32 0x3E000000#32
def ks (P : ℕ → ℕ → EReal) (h : ℕ) : ℕ → ℕ → EReal := fun d s => P s (512 + (h * 64 + d))
def vs (P : ℕ → ℕ → EReal) (h : ℕ) : ℕ → ℕ → EReal := fun e s => P s (1024 + (h * 128 + e))

/-- The blocks of a batch element's point: four rows of the arguments, padded, and the state. -/
structure Blk (P G : ℕ → ℕ → EReal) (C : ℕ → ℕ → ℕ → EReal) (M : ℕ → EReal)
    (x0 : FVec Ideal S128x512 .f32) (x1 : FVec Ideal S1x512x128 .f32) (x2 : FVec Ideal S128x1024 .f32)
    (x4 : FVec Ideal S128x128 .f32) (x5 : FVec Ideal S1x16x128 .f32) (x6 : FVec Ideal S1x8x64x256 .f32) (x7 : FVec Ideal S1x8x128 .f32) : Prop where
  x0 : ∀ (t : Fin 128) (c : Fin 512), x0 (ix2 t c) = if t.val < 4 then P t.val c.val else 0
  x1 : ∀ (c : Fin 512) (s : Fin 128), x1 (ix3 0 c s) = if s.val < 4 then P s.val (512 + c.val) else 0
  x2 : ∀ (s : Fin 128) (c : Fin 1024), s.val < 4 → x2 (ix2 s c) = P s.val (1024 + c.val)
  x4 : ∀ (s : Fin 128) (h : Fin 8), x4 (ix2 s ⟨8 + h.val, by omega⟩) = if s.val < 4 then G s.val (8 + h.val) else 0
  x5f : ∀ (h : Fin 8) (s : Fin 128), x5 (ix3 0 ⟨8 + h.val, by omega⟩ s) = if s.val < 4 then G s.val (8 + h.val) else 0
  x5i : ∀ (h : Fin 8) (s : Fin 128), x5 (ix3 0 ⟨h.val, by omega⟩ s) = if s.val < 4 then G s.val h.val else pad
  x6 : ∀ (h : Fin 8) (d : Fin 64) (l : Fin 256), x6 (ix4 0 h d l) = C h.val d.val l.val
  x7 : ∀ (h : Fin 8) (l : Fin 128), x7 (ix3 0 h l) = M h.val
  small : ∀ h : Fin 8, Small (fg G h.val) (ig G h.val) (M h.val)

section
variable {P G : ℕ → ℕ → EReal} {C : ℕ → ℕ → ℕ → EReal} {M : ℕ → EReal}
    {x0 : FVec Ideal S128x512 .f32} {x1 : FVec Ideal S1x512x128 .f32} {x2 : FVec Ideal S128x1024 .f32}
    {x4 : FVec Ideal S128x128 .f32} {x5 : FVec Ideal S1x16x128 .f32} {x6 : FVec Ideal S1x8x64x256 .f32} {x7 : FVec Ideal S1x8x128 .f32}
    (B : Blk P G C M x0 x1 x2 x4 x5 x6 x7)

theorem word_zero : FloatOps.sitofp (F := Ideal) .f32 (BitVec.setWidth 32 0#1) = (0 : EReal) := by
  show (((0 : ℤ) : ℝ) : EReal) = _
  simp

include B

theorem col_at (t : Fin 128) (h : Fin 8) : k0_pay8 (F := Ideal) x4 (ix2 t ⟨8 + h.val, by omega⟩) = bb (fg G h.val) t.val := by
  pointwise [k0_pay8, mask_at]
  refine prefix_pad (fg G h.val) t.val _ fun s => ?_
  rw [B.x4 s h]
  split
  · rw [word_one, one_mul]; rfl
  · rw [word_zero, zero_mul]

theorem row_at (t : Fin 128) (h : Fin 8) : k0_pay9 (F := Ideal) x5 (ix2 ⟨8 + h.val, by omega⟩ t) = bb (fg G h.val) t.val := by
  pointwise [k0_pay9, k0_pay6]
  refine prefix_pad (fg G h.val) t.val _ fun s => ?_
  rw [causal' t.val s.val (by omega) (by omega), B.x5f h s]
  by_cases hs : s.val ≤ t.val
  · rw [if_pos hs, if_pos hs, word_one, mul_one]; rfl
  · rw [if_neg hs, if_neg hs, word_zero, mul_zero]

/-- Slices of the point's blocks at head `h` are the head's arrays. -/
theorem ok (h : Fin 8) {bc : FVec Ideal S128x1 .f32} {br ig' : FVec Ideal S1x128 .f32}
    {mp : FVec Ideal S1x1 .f32} {q : FVec Ideal S128x64 .f32} {k : FVec Ideal S1x64x128 .f32} {v : FVec Ideal S128x128 .f32}
    {c : FVec Ideal S1x64x256 .f32}
    (hbc : ∀ t : Fin 128, bc (ix2 t 0) = k0_pay8 x4 (ix2 t ⟨8 + h.val, by omega⟩))
    (hbr : ∀ s : Fin 128, br (ix2 0 s) = k0_pay9 x5 (ix2 ⟨8 + h.val, by omega⟩ s))
    (hig : ∀ s : Fin 128, ig' (ix2 0 s) = k0_pay6 x5 (ix2 ⟨h.val, by omega⟩ s))
    (hmp : mp (ix2 0 0) = k0_pay5 x7 (ix2 h 0))
    (hq : ∀ (t : Fin 128) (d : Fin 64), q (ix2 t d) = x0 (ix2 t ⟨h.val * 64 + d.val, by omega⟩))
    (hk : ∀ (d : Fin 64) (s : Fin 128), k (ix3 0 d s) = x1 (ix3 0 ⟨h.val * 64 + d.val, by omega⟩ s))
    (hv : ∀ (s : Fin 128) (e : Fin 128), v (ix2 s e) = x2 (ix2 s ⟨h.val * 128 + e.val, by omega⟩))
    (hc : ∀ (d : Fin 64) (l : Fin 256), c (ix3 0 d l) = k0_pay4 x6 (ix3 h d l)) :
    Ok (fg G h.val) (ig G h.val) (M h.val) (qs P h.val) (ks P h.val) (vs P h.val) (C h.val) bc br ig' mp q k v c where
  small := B.small h
  bc t := (hbc t).trans (col_at B t h)
  br s := (hbr s).trans (row_at B s h)
  ig s := by
    rw [hig]
    pointwise [k0_pay6]
    exact B.x5i h s
  mp := by
    rw [hmp]
    pointwise [k0_pay5]
    exact B.x7 h 0
  q t d := by
    rw [hq, B.x0]
    split
    · rfl
    · rw [zero_mul]
  k d s := by rw [hk, B.x1]; rfl
  v s e hs := by rw [hv, B.x2 _ _ hs]; rfl
  c d l := by
    rw [hc]
    pointwise [k0_pay4]
    exact B.x6 h d l

theorem ok0 : Ok (fg G 0) (ig G 0) (M 0) (qs P 0) (ks P 0) (vs P 0) (C 0) (k0_pay11 x4) (k0_pay12 x5) (k0_pay13 x5)
    (View.ld (Val := Elt Ideal) (e' := .f32) (k0_pay5 (F := Ideal) x7) (Rect.unit (s := S8x128) ![0, 0] ![1, 1] inb_S8x128_S1x1_0_0))
    (View.ld (Val := Elt Ideal) (e' := .f32) x0 (Rect.unit (s := S128x512) ![0, 0] ![128, 64] inb_S128x512_S128x64_0_0))
    (View.ld (Val := Elt Ideal) (e' := .f32) x1 (Rect.unit (s := S1x512x128) ![0, 0, 0] ![1, 64, 128] inb_S1x512x128_S1x64x128_0_0_0))
    (View.ld (Val := Elt Ideal) (e' := .f32) x2 (Rect.unit (s := S128x1024) ![0, 0] ![128, 128] inb_S128x1024_S128x128_0_0))
    (View.ld (Val := Elt Ideal) (e' := .f32) (k0_pay4 (F := Ideal) x6) (Rect.unit (s := S8x64x256) ![0, 0, 0] ![1, 64, 256] inb_S8x64x256_S1x64x256_0_0_0)) :=
  ok B ⟨0, by omega⟩ (fun t => by pointwise [k0_pay11]) (fun s => by pointwise [k0_pay12]) (fun s => by pointwise [k0_pay13])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

theorem ok1 : Ok (fg G 1) (ig G 1) (M 1) (qs P 1) (ks P 1) (vs P 1) (C 1) (k0_pay28 (k0_pay8 x4)) (k0_pay29 (k0_pay9 x5)) (k0_pay30 (k0_pay6 x5))
    (View.ld (Val := Elt Ideal) (e' := .f32) (k0_pay5 (F := Ideal) x7) (Rect.unit (s := S8x128) ![1, 0] ![1, 1] inb_S8x128_S1x1_1_0))
    (View.ld (Val := Elt Ideal) (e' := .f32) x0 (Rect.unit (s := S128x512) ![0, 64] ![128, 64] inb_S128x512_S128x64_0_64))
    (View.ld (Val := Elt Ideal) (e' := .f32) x1 (Rect.unit (s := S1x512x128) ![0, 64, 0] ![1, 64, 128] inb_S1x512x128_S1x64x128_0_64_0))
    (View.ld (Val := Elt Ideal) (e' := .f32) x2 (Rect.unit (s := S128x1024) ![0, 128] ![128, 128] inb_S128x1024_S128x128_0_128))
    (View.ld (Val := Elt Ideal) (e' := .f32) (k0_pay4 (F := Ideal) x6) (Rect.unit (s := S8x64x256) ![1, 0, 0] ![1, 64, 256] inb_S8x64x256_S1x64x256_1_0_0)) :=
  ok B ⟨1, by omega⟩ (fun t => by pointwise [k0_pay28]) (fun s => by pointwise [k0_pay29]) (fun s => by pointwise [k0_pay30])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

theorem ok2 : Ok (fg G 2) (ig G 2) (M 2) (qs P 2) (ks P 2) (vs P 2) (C 2) (k0_pay48 (k0_pay8 x4)) (k0_pay49 (k0_pay9 x5)) (k0_pay50 (k0_pay6 x5))
    (View.ld (Val := Elt Ideal) (e' := .f32) (k0_pay5 (F := Ideal) x7) (Rect.unit (s := S8x128) ![2, 0] ![1, 1] inb_S8x128_S1x1_2_0))
    (View.ld (Val := Elt Ideal) (e' := .f32) x0 (Rect.unit (s := S128x512) ![0, 128] ![128, 64] inb_S128x512_S128x64_0_128))
    (View.ld (Val := Elt Ideal) (e' := .f32) x1 (Rect.unit (s := S1x512x128) ![0, 128, 0] ![1, 64, 128] inb_S1x512x128_S1x64x128_0_128_0))
    (View.ld (Val := Elt Ideal) (e' := .f32) x2 (Rect.unit (s := S128x1024) ![0, 256] ![128, 128] inb_S128x1024_S128x128_0_256))
    (View.ld (Val := Elt Ideal) (e' := .f32) (k0_pay4 (F := Ideal) x6) (Rect.unit (s := S8x64x256) ![2, 0, 0] ![1, 64, 256] inb_S8x64x256_S1x64x256_2_0_0)) :=
  ok B ⟨2, by omega⟩ (fun t => by pointwise [k0_pay48]) (fun s => by pointwise [k0_pay49]) (fun s => by pointwise [k0_pay50])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

theorem ok3 : Ok (fg G 3) (ig G 3) (M 3) (qs P 3) (ks P 3) (vs P 3) (C 3) (k0_pay66 (k0_pay8 x4)) (k0_pay67 (k0_pay9 x5)) (k0_pay68 (k0_pay6 x5))
    (View.ld (Val := Elt Ideal) (e' := .f32) (k0_pay5 (F := Ideal) x7) (Rect.unit (s := S8x128) ![3, 0] ![1, 1] inb_S8x128_S1x1_3_0))
    (View.ld (Val := Elt Ideal) (e' := .f32) x0 (Rect.unit (s := S128x512) ![0, 192] ![128, 64] inb_S128x512_S128x64_0_192))
    (View.ld (Val := Elt Ideal) (e' := .f32) x1 (Rect.unit (s := S1x512x128) ![0, 192, 0] ![1, 64, 128] inb_S1x512x128_S1x64x128_0_192_0))
    (View.ld (Val := Elt Ideal) (e' := .f32) x2 (Rect.unit (s := S128x1024) ![0, 384] ![128, 128] inb_S128x1024_S128x128_0_384))
    (View.ld (Val := Elt Ideal) (e' := .f32) (k0_pay4 (F := Ideal) x6) (Rect.unit (s := S8x64x256) ![3, 0, 0] ![1, 64, 256] inb_S8x64x256_S1x64x256_3_0_0)) :=
  ok B ⟨3, by omega⟩ (fun t => by pointwise [k0_pay66]) (fun s => by pointwise [k0_pay67]) (fun s => by pointwise [k0_pay68])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

theorem ok4 : Ok (fg G 4) (ig G 4) (M 4) (qs P 4) (ks P 4) (vs P 4) (C 4) (k0_pay82 (k0_pay8 x4)) (k0_pay83 (k0_pay9 x5)) (k0_pay84 (k0_pay6 x5))
    (View.ld (Val := Elt Ideal) (e' := .f32) (k0_pay5 (F := Ideal) x7) (Rect.unit (s := S8x128) ![4, 0] ![1, 1] inb_S8x128_S1x1_4_0))
    (View.ld (Val := Elt Ideal) (e' := .f32) x0 (Rect.unit (s := S128x512) ![0, 256] ![128, 64] inb_S128x512_S128x64_0_256))
    (View.ld (Val := Elt Ideal) (e' := .f32) x1 (Rect.unit (s := S1x512x128) ![0, 256, 0] ![1, 64, 128] inb_S1x512x128_S1x64x128_0_256_0))
    (View.ld (Val := Elt Ideal) (e' := .f32) x2 (Rect.unit (s := S128x1024) ![0, 512] ![128, 128] inb_S128x1024_S128x128_0_512))
    (View.ld (Val := Elt Ideal) (e' := .f32) (k0_pay4 (F := Ideal) x6) (Rect.unit (s := S8x64x256) ![4, 0, 0] ![1, 64, 256] inb_S8x64x256_S1x64x256_4_0_0)) :=
  ok B ⟨4, by omega⟩ (fun t => by pointwise [k0_pay82]) (fun s => by pointwise [k0_pay83]) (fun s => by pointwise [k0_pay84])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

theorem ok5 : Ok (fg G 5) (ig G 5) (M 5) (qs P 5) (ks P 5) (vs P 5) (C 5) (k0_pay98 (k0_pay8 x4)) (k0_pay99 (k0_pay9 x5)) (k0_pay100 (k0_pay6 x5))
    (View.ld (Val := Elt Ideal) (e' := .f32) (k0_pay5 (F := Ideal) x7) (Rect.unit (s := S8x128) ![5, 0] ![1, 1] inb_S8x128_S1x1_5_0))
    (View.ld (Val := Elt Ideal) (e' := .f32) x0 (Rect.unit (s := S128x512) ![0, 320] ![128, 64] inb_S128x512_S128x64_0_320))
    (View.ld (Val := Elt Ideal) (e' := .f32) x1 (Rect.unit (s := S1x512x128) ![0, 320, 0] ![1, 64, 128] inb_S1x512x128_S1x64x128_0_320_0))
    (View.ld (Val := Elt Ideal) (e' := .f32) x2 (Rect.unit (s := S128x1024) ![0, 640] ![128, 128] inb_S128x1024_S128x128_0_640))
    (View.ld (Val := Elt Ideal) (e' := .f32) (k0_pay4 (F := Ideal) x6) (Rect.unit (s := S8x64x256) ![5, 0, 0] ![1, 64, 256] inb_S8x64x256_S1x64x256_5_0_0)) :=
  ok B ⟨5, by omega⟩ (fun t => by pointwise [k0_pay98]) (fun s => by pointwise [k0_pay99]) (fun s => by pointwise [k0_pay100])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

theorem ok6 : Ok (fg G 6) (ig G 6) (M 6) (qs P 6) (ks P 6) (vs P 6) (C 6) (k0_pay115 (k0_pay8 x4)) (k0_pay116 (k0_pay9 x5)) (k0_pay117 (k0_pay6 x5))
    (View.ld (Val := Elt Ideal) (e' := .f32) (k0_pay5 (F := Ideal) x7) (Rect.unit (s := S8x128) ![6, 0] ![1, 1] inb_S8x128_S1x1_6_0))
    (View.ld (Val := Elt Ideal) (e' := .f32) x0 (Rect.unit (s := S128x512) ![0, 384] ![128, 64] inb_S128x512_S128x64_0_384))
    (View.ld (Val := Elt Ideal) (e' := .f32) x1 (Rect.unit (s := S1x512x128) ![0, 384, 0] ![1, 64, 128] inb_S1x512x128_S1x64x128_0_384_0))
    (View.ld (Val := Elt Ideal) (e' := .f32) x2 (Rect.unit (s := S128x1024) ![0, 768] ![128, 128] inb_S128x1024_S128x128_0_768))
    (View.ld (Val := Elt Ideal) (e' := .f32) (k0_pay4 (F := Ideal) x6) (Rect.unit (s := S8x64x256) ![6, 0, 0] ![1, 64, 256] inb_S8x64x256_S1x64x256_6_0_0)) :=
  ok B ⟨6, by omega⟩ (fun t => by pointwise [k0_pay115]) (fun s => by pointwise [k0_pay116]) (fun s => by pointwise [k0_pay117])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

theorem ok7 : Ok (fg G 7) (ig G 7) (M 7) (qs P 7) (ks P 7) (vs P 7) (C 7) (k0_pay135 (k0_pay8 x4)) (k0_pay136 (k0_pay9 x5)) (k0_pay137 (k0_pay6 x5))
    (View.ld (Val := Elt Ideal) (e' := .f32) (k0_pay5 (F := Ideal) x7) (Rect.unit (s := S8x128) ![7, 0] ![1, 1] inb_S8x128_S1x1_7_0))
    (View.ld (Val := Elt Ideal) (e' := .f32) x0 (Rect.unit (s := S128x512) ![0, 448] ![128, 64] inb_S128x512_S128x64_0_448))
    (View.ld (Val := Elt Ideal) (e' := .f32) x1 (Rect.unit (s := S1x512x128) ![0, 448, 0] ![1, 64, 128] inb_S1x512x128_S1x64x128_0_448_0))
    (View.ld (Val := Elt Ideal) (e' := .f32) x2 (Rect.unit (s := S128x1024) ![0, 896] ![128, 128] inb_S128x1024_S128x128_0_896))
    (View.ld (Val := Elt Ideal) (e' := .f32) (k0_pay4 (F := Ideal) x6) (Rect.unit (s := S8x64x256) ![7, 0, 0] ![1, 64, 256] inb_S8x64x256_S1x64x256_7_0_0)) :=
  ok B ⟨7, by omega⟩ (fun t => by pointwise [k0_pay135]) (fun s => by pointwise [k0_pay136]) (fun s => by pointwise [k0_pay137])
    (View.ld_unit_apply_of _ _ _ _ _ _ (by intro a; fin_cases a <;> simp [ix2, ix3] <;> omega)) (fun t d => View.ld_unit_apply_of _ _ _ _ _ _ (by intro a; fin_cases a <;> simp [ix2, ix3] <;> omega))
    (fun d s => View.ld_unit_apply_of _ _ _ _ _ _ (by intro a; fin_cases a <;> simp [ix2, ix3] <;> omega)) (fun s e => View.ld_unit_apply_of _ _ _ _ _ _ (by intro a; fin_cases a <;> simp [ix2, ix3] <;> omega))
    (fun d l => View.ld_unit_apply_of _ _ _ _ _ _ (by intro a; fin_cases a <;> simp [ix2, ix3] <;> omega))

end

end Cert.SmpStep

end
-- ==== Proof.SmpPoint.lean ====
/- A point of the kernel on the sample: its three stored arrays read at an index. -/
module

public import proofs.«01_k».proof.Proof.SmpStep
public import proofs.«01_k».proof.Proof.PointA
public import proofs.«01_k».proof.Proof.Gen.KernelSmpIdeal.Frame
public import Idealize.ShloMosaic.Lib.Pipeline.ReadBack

@[expose] public section

set_option maxRecDepth 16384

noncomputable section

namespace Cert.SmpPoint

open Idealize.ShloMosaic Idealize.ShloMosaic.TcCoe Idealize.SL.Sem
open Cert.KernelSmpIdeal Cert.KernelSmpIdeal.Gen Cert.SmpMath Cert.SmpHead Cert.SmpStep
open scoped BigOperators

variable {P G : ℕ → ℕ → EReal} {C : ℕ → ℕ → ℕ → EReal} {M : ℕ → EReal}

theorem pay2_at (X : FVec Ideal S8x64x256 .f32) (h : Fin 8) (d : Fin 64) (l : Fin 256) : k0_pay2 X (ix4 0 h d l) = X (ix3 h d l) := by
  pointwise [k0_pay2]

theorem pay3_at (X : FVec Ideal S8x128 .f32) (h : Fin 8) (l : Fin 128) : k0_pay3 X (ix3 0 h l) = X (ix2 h l) := by
  pointwise [k0_pay3]

theorem readCov_whole {sp : Space} {s : Shape} {e : EltTy} {Val : EltTy → Type} [∀ e, Nonempty (Val e)] (v : View sig .tc sp s e)
    (L : List (View.Piece Val s e)) (off : Fin s.rank → Nat) (h0 : ∀ a, off a = 0) (inb) :
    v.readCov L (Rect.unit off s.size inb).toLoadRect = View.canon L := by
  rw [View.readCov_eq_canon']
  funext j
  refine congrArg (View.canon L) (funext fun a => Fin.ext ?_)
  refine (Rect.idx_unit_val off s.size inb j a).trans ?_
  rw [h0 a, Nat.zero_add]

theorem whole_m {sp : Space} (v : View sig .tc sp S8x128 .f32) (L : List (View.Piece (Elt Ideal) S8x128 .f32)) (inb) :
    v.readCov L (Rect.unit (s := S8x128) ![0, 0] ![8, 128] inb).toLoadRect = View.canon L :=
  readCov_whole v L ![0, 0] (by decide) inb

theorem whole_c {sp : Space} (v : View sig .tc sp S8x64x256 .f32) (L : List (View.Piece (Elt Ideal) S8x64x256 .f32)) (inb) :
    v.readCov L (Rect.unit (s := S8x64x256) ![0, 0, 0] ![8, 64, 256] inb).toLoadRect = View.canon L :=
  readCov_whole v L ![0, 0, 0] (by decide) inb

theorem m_at (c : Dev nD) (i : grid0.Coords) (arg2 : Memref sig .tc .vmem S128x512 .f32) (harg2 : arg2.IsWhole) (arg3 : Memref sig .tc .vmem S1x512x128 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S1x16x128 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : cond0_0 i) (hc1 : cond0_1 i)
    (x0 : Vec Ideal S128x512 .f32) (x1 : Vec Ideal S1x512x128 .f32) (x2 : Vec Ideal S128x1024 .f32) (x3 : Vec Ideal S128x1024 .f32) (x4 : Vec Ideal S128x128 .f32) (x5 : Vec Ideal S1x16x128 .f32) (x6 : Vec Ideal S1x8x64x256 .f32) (x7 : Vec Ideal S1x8x128 .f32) (x8 : Vec Ideal S1x1024 .f32) (B : Blk P G C M x0 x1 x2 x4 x5 x6 x7) (h : Fin 8) (l : Fin 128) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix3 0 h l) = mt (fg G h.val) (ig G h.val) (M h.val) 3 := by
  frame_out
  simp (disch := decide) only [↓View.readCov_skip, ↓View.readCov_fill]
  refine (pay3_at _ h l).trans ?_
  refine (congrFun (whole_m _ _ _) _).trans ?_
  refine (PointA.canon_append_cover [_] _ [_, _, _, _, _, _, _, _] (View.cover_of_tiled_head _ _ _ (by rfl) _)).trans ?_
  canon_tiles x hx
  case piece0 =>
    have e : h.val = 7 := by change h.val = _ at hx0; omega
    rw [e]
    exact mNew_idx (ok7 B) x
  case piece1 =>
    have e : h.val = 6 := by change h.val = _ at hx0; omega
    rw [e]
    exact mNew_idx (ok6 B) x
  case piece2 =>
    have e : h.val = 5 := by change h.val = _ at hx0; omega
    rw [e]
    exact mNew_idx (ok5 B) x
  case piece3 =>
    have e : h.val = 4 := by change h.val = _ at hx0; omega
    rw [e]
    exact mNew_idx (ok4 B) x
  case piece4 =>
    have e : h.val = 3 := by change h.val = _ at hx0; omega
    rw [e]
    exact mNew_idx (ok3 B) x
  case piece5 =>
    have e : h.val = 2 := by change h.val = _ at hx0; omega
    rw [e]
    exact mNew_idx (ok2 B) x
  case piece6 =>
    have e : h.val = 1 := by change h.val = _ at hx0; omega
    rw [e]
    exact mNew_idx (ok1 B) x
  case piece7 =>
    have e : h.val = 0 := by change h.val = _ at hx0; omega
    rw [e]
    exact mNew_idx (ok0 B) x

theorem c_at (c : Dev nD) (i : grid0.Coords) (arg2 : Memref sig .tc .vmem S128x512 .f32) (harg2 : arg2.IsWhole) (arg3 : Memref sig .tc .vmem S1x512x128 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S1x16x128 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : cond0_0 i) (hc1 : cond0_1 i)
    (x0 : Vec Ideal S128x512 .f32) (x1 : Vec Ideal S1x512x128 .f32) (x2 : Vec Ideal S128x1024 .f32) (x3 : Vec Ideal S128x1024 .f32) (x4 : Vec Ideal S128x128 .f32) (x5 : Vec Ideal S1x16x128 .f32) (x6 : Vec Ideal S1x8x64x256 .f32) (x7 : Vec Ideal S1x8x128 .f32) (x8 : Vec Ideal S1x1024 .f32) (B : Blk P G C M x0 x1 x2 x4 x5 x6 x7) (h : Fin 8) (d : Fin 64) (l : Fin 256) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix4 0 h d l) = cn (fg G h.val) (ig G h.val) (M h.val) (ks P h.val d.val) (vx (vs P h.val) l.val) (C h.val d.val l.val) := by
  frame_out
  simp (disch := decide) only [↓View.readCov_skip, ↓View.readCov_fill]
  refine (pay2_at _ h d l).trans ?_
  try rw [harg4.read_unread]
  refine (congrFun (whole_c _ _ _) _).trans ?_
  refine (PointA.canon_append_cover [_] _ [_, _, _, _, _, _, _, _] (View.cover_of_tiled_head _ _ _ (by rfl) _)).trans ?_
  canon_tiles x hx
  case piece0 =>
    have e : h.val = 7 := by change h.val = _ at hx0; omega
    rw [e]
    change d.val = (x 1).val at hx1
    change l.val = (x 2).val at hx2
    rw [hx1, hx2]
    exact cNew_idx (ok7 B) x
  case piece1 =>
    have e : h.val = 6 := by change h.val = _ at hx0; omega
    rw [e]
    change d.val = (x 1).val at hx1
    change l.val = (x 2).val at hx2
    rw [hx1, hx2]
    exact cNew_idx (ok6 B) x
  case piece2 =>
    have e : h.val = 5 := by change h.val = _ at hx0; omega
    rw [e]
    change d.val = (x 1).val at hx1
    change l.val = (x 2).val at hx2
    rw [hx1, hx2]
    exact cNew_idx (ok5 B) x
  case piece3 =>
    have e : h.val = 4 := by change h.val = _ at hx0; omega
    rw [e]
    change d.val = (x 1).val at hx1
    change l.val = (x 2).val at hx2
    rw [hx1, hx2]
    exact cNew_idx (ok4 B) x
  case piece4 =>
    have e : h.val = 3 := by change h.val = _ at hx0; omega
    rw [e]
    change d.val = (x 1).val at hx1
    change l.val = (x 2).val at hx2
    rw [hx1, hx2]
    exact cNew_idx (ok3 B) x
  case piece5 =>
    have e : h.val = 2 := by change h.val = _ at hx0; omega
    rw [e]
    change d.val = (x 1).val at hx1
    change l.val = (x 2).val at hx2
    rw [hx1, hx2]
    exact cNew_idx (ok2 B) x
  case piece6 =>
    have e : h.val = 1 := by change h.val = _ at hx0; omega
    rw [e]
    change d.val = (x 1).val at hx1
    change l.val = (x 2).val at hx2
    rw [hx1, hx2]
    exact cNew_idx (ok1 B) x
  case piece7 =>
    have e : h.val = 0 := by change h.val = _ at hx0; omega
    rw [e]
    change d.val = (x 1).val at hx1
    change l.val = (x 2).val at hx2
    rw [hx1, hx2]
    exact cNew_idx (ok0 B) x

theorem y_at (c : Dev nD) (i : grid0.Coords) (arg2 : Memref sig .tc .vmem S128x512 .f32) (harg2 : arg2.IsWhole) (arg3 : Memref sig .tc .vmem S1x512x128 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x128 .f32) (harg6 : arg6.IsWhole) (arg7 : Memref sig .tc .vmem S1x16x128 .f32) (harg7 : arg7.IsWhole) (arg8 : Memref sig .tc .vmem S1x8x64x256 .f32) (harg8 : arg8.IsWhole) (arg9 : Memref sig .tc .vmem S1x8x128 .f32) (harg9 : arg9.IsWhole) (arg10 : Memref sig .tc .vmem S1x1024 .f32) (harg10 : arg10.IsWhole) (arg11 : Memref sig .tc .vmem S128x1024 .f32) (harg11 : arg11.IsWhole) (arg12 : Memref sig .tc .vmem S1x8x64x256 .f32) (harg12 : arg12.IsWhole) (arg13 : Memref sig .tc .vmem S1x8x128 .f32) (harg13 : arg13.IsWhole) (arg14 : Memref sig .tc .vmem S8x64x256 .f32) (harg14 : arg14.IsWhole) (arg15 : Memref sig .tc .vmem S8x128 .f32) (harg15 : arg15.IsWhole) (hc0 : cond0_0 i) (hc1 : cond0_1 i)
    (x0 : Vec Ideal S128x512 .f32) (x1 : Vec Ideal S1x512x128 .f32) (x2 : Vec Ideal S128x1024 .f32) (x3 : Vec Ideal S128x1024 .f32) (x4 : Vec Ideal S128x128 .f32) (x5 : Vec Ideal S1x16x128 .f32) (x6 : Vec Ideal S1x8x64x256 .f32) (x7 : Vec Ideal S1x8x128 .f32) (x8 : Vec Ideal S1x1024 .f32) (B : Blk P G C M x0 x1 x2 x4 x5 x6 x7) (t : Fin 128) (l : Fin 1024) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 (ix2 t l) = if t.val < 4 then normed (fun i => SmpMath.hid (fg G (l.val / 128)) (ig G (l.val / 128)) (M (l.val / 128)) (qs P (l.val / 128))
        (ks P (l.val / 128)) (vs P (l.val / 128)) (C (l.val / 128)) (fun d => C (l.val / 128) d 128) t.val i.val) ⟨l.val % 128, by omega⟩
      * x8 (ix2 0 l) * Ideal.div 1 (1 + Ideal.exp (-(x3 (ix2 t l)))) else 0 := by
  frame_out
  canon_tiles x hx
  case piece0 =>
    change t.val = (x 0).val at hx0
    change l.val = _ at hx1
    simp (disch := decide) only [↓View.readCov_skip, ↓View.readCov_fill]
    try rw [harg4.read_unread]
    refine (out_idx (ok7 B) _ _ x).trans ?_
    have e : l.val / 128 = 7 := by omega
    have e2 : (⟨l.val % 128, by omega⟩ : Fin 128) = x 1 := Fin.ext (by dsimp only; omega)
    rw [e, e2, hx0]
    refine if_congr Iff.rfl ?_ rfl
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece1 =>
    change t.val = (x 0).val at hx0
    change l.val = _ at hx1
    simp (disch := decide) only [↓View.readCov_skip, ↓View.readCov_fill]
    try rw [harg4.read_unread]
    refine (out_idx (ok6 B) _ _ x).trans ?_
    have e : l.val / 128 = 6 := by omega
    have e2 : (⟨l.val % 128, by omega⟩ : Fin 128) = x 1 := Fin.ext (by dsimp only; omega)
    rw [e, e2, hx0]
    refine if_congr Iff.rfl ?_ rfl
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece2 =>
    change t.val = (x 0).val at hx0
    change l.val = _ at hx1
    simp (disch := decide) only [↓View.readCov_skip, ↓View.readCov_fill]
    try rw [harg4.read_unread]
    refine (out_idx (ok5 B) _ _ x).trans ?_
    have e : l.val / 128 = 5 := by omega
    have e2 : (⟨l.val % 128, by omega⟩ : Fin 128) = x 1 := Fin.ext (by dsimp only; omega)
    rw [e, e2, hx0]
    refine if_congr Iff.rfl ?_ rfl
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece3 =>
    change t.val = (x 0).val at hx0
    change l.val = _ at hx1
    simp (disch := decide) only [↓View.readCov_skip, ↓View.readCov_fill]
    try rw [harg4.read_unread]
    refine (out_idx (ok4 B) _ _ x).trans ?_
    have e : l.val / 128 = 4 := by omega
    have e2 : (⟨l.val % 128, by omega⟩ : Fin 128) = x 1 := Fin.ext (by dsimp only; omega)
    rw [e, e2, hx0]
    refine if_congr Iff.rfl ?_ rfl
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece4 =>
    change t.val = (x 0).val at hx0
    change l.val = _ at hx1
    simp (disch := decide) only [↓View.readCov_skip, ↓View.readCov_fill]
    try rw [harg4.read_unread]
    refine (out_idx (ok3 B) _ _ x).trans ?_
    have e : l.val / 128 = 3 := by omega
    have e2 : (⟨l.val % 128, by omega⟩ : Fin 128) = x 1 := Fin.ext (by dsimp only; omega)
    rw [e, e2, hx0]
    refine if_congr Iff.rfl ?_ rfl
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece5 =>
    change t.val = (x 0).val at hx0
    change l.val = _ at hx1
    simp (disch := decide) only [↓View.readCov_skip, ↓View.readCov_fill]
    try rw [harg4.read_unread]
    refine (out_idx (ok2 B) _ _ x).trans ?_
    have e : l.val / 128 = 2 := by omega
    have e2 : (⟨l.val % 128, by omega⟩ : Fin 128) = x 1 := Fin.ext (by dsimp only; omega)
    rw [e, e2, hx0]
    refine if_congr Iff.rfl ?_ rfl
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece6 =>
    change t.val = (x 0).val at hx0
    change l.val = _ at hx1
    simp (disch := decide) only [↓View.readCov_skip, ↓View.readCov_fill]
    try rw [harg4.read_unread]
    refine (out_idx (ok1 B) _ _ x).trans ?_
    have e : l.val / 128 = 1 := by omega
    have e2 : (⟨l.val % 128, by omega⟩ : Fin 128) = x 1 := Fin.ext (by dsimp only; omega)
    rw [e, e2, hx0]
    refine if_congr Iff.rfl ?_ rfl
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1
    · intro a
      fin_cases a
      · exact hx0.trans (Nat.zero_add _).symm
      · exact hx1
  case piece7 =>
    change t.val = (x 0).val at hx0
    change l.val = _ at hx1
    simp (disch := decide) only [↓View.readCov_skip, ↓View.readCov_fill]
    try rw [harg4.read_unread]
    refine (out_idx (ok0 B) _ _ x).trans ?_
    have e : l.val / 128 = 0 := by omega
    have e2 : (⟨l.val % 128, by omega⟩ : Fin 128) = x 1 := Fin.ext (by dsimp only; omega)
    rw [e, e2, hx0]
    refine if_congr Iff.rfl ?_ rfl
    refine congrArg₂ (· * ·) (congrArg₂ (· * ·) rfl (View.ld_unit_apply_of _ _ _ _ _ _ ?_)) (congrArg (fun z => Ideal.div 1 (1 + Ideal.exp (-z))) (View.ld_unit_apply_of _ _ _ _ _ _ ?_))
    · intro a
      fin_cases a
      · rfl
      · exact hx1.trans (Nat.zero_add _).symm
    · intro a
      fin_cases a
      · exact hx0.trans (Nat.zero_add _).symm
      · exact hx1.trans (Nat.zero_add _).symm

end Cert.SmpPoint

end
-- ==== Proof.SmpBlocks.lean ====
/- The blocks of the kernel's windows on the sample, read off the arguments. -/
module

public import proofs.«01_k».proof.Proof.SmpStep
public import proofs.«01_k».proof.Proof.Gen.KernelSmpIdeal.Value
public import Idealize.ShloMosaic.Lib.ValueIdxCore
public import Idealize.ShloMosaic.Lib.StableHlo.Run

@[expose] public section

set_option maxRecDepth 16384

noncomputable section

namespace Cert.SmpBlocks

open Idealize.ShloMosaic Idealize.ShloMosaic.TcCoe Idealize.SL.Sem
open Cert.KernelSmpIdeal Cert.KernelSmpIdeal.Gen Cert.SmpMath
open scoped BigOperators

variable (m : (ℓ : Loc nD τ sig) → Buf (Elt Ideal) ℓ) (c : Dev nD)

abbrev P : (⟨2, ![33280, 3072]⟩ : Shape).Idx → EReal := m ((c : Thread nD τ).loc main_arg0)
abbrev G : (⟨2, ![33280, 128]⟩ : Shape).Idx → EReal := m ((c : Thread nD τ).loc main_arg1)
abbrev C0 : (⟨4, ![32, 8, 64, 128]⟩ : Shape).Idx → EReal := m ((c : Thread nD τ).loc main_arg2)
abbrev N0 : (⟨3, ![32, 8, 64]⟩ : Shape).Idx → EReal := m ((c : Thread nD τ).loc main_arg3)
abbrev M0 : (⟨2, ![32, 8]⟩ : Shape).Idx → EReal := m ((c : Thread nD τ).loc main_arg4)
abbrev gain : (⟨1, ![1024]⟩ : Shape).Idx → EReal := m ((c : Thread nD τ).loc main_arg5)

theorem word0 : FloatOps.sitofp (F := Ideal) .f32 0#32 = (0 : EReal) := by
  show (((0 : ℤ) : ℝ) : EReal) = _
  simp

theorem lt_eight (l : ℕ) (hl : l < 1024) (h : l < 8) : IntOp.cmpi .slt (BitVec.ofNat 32 l) 8#32 = 1#1 := by
  rw [show (8#32 : BitVec 32) = BitVec.ofNat 32 8 from rfl]
  simp (disch := omega) only [hlo_ix]
  simp [h]

theorem not_lt_eight (l : ℕ) (hl : l < 1024) (h : ¬ l < 8) : ¬ IntOp.cmpi .slt (BitVec.ofNat 32 l) 8#32 = 1#1 := by
  rw [show (8#32 : BitVec 32) = BitVec.ofNat 32 8 from rfl]
  simp (disch := omega) only [hlo_ix]
  simp [h]

theorem v2_at (b : Fin 32) (s : Fin 128) (l : Fin 3072) : (V m c main_v2 : FVec Ideal S32x128x3072 .f32) (ix3 b s l)
    = if h : s.val < 4 then P m c (ix2 ⟨32768 + (b.val * 4 + s.val), by omega⟩ l) else 0 := by
  unfold V
  simp only [hostOps0, hostOps0_1, hostOps0_2, hostOps0_3, hostOps0_4, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  try dsimp only [Matrix.cons_val]
  try after_results_simp
  pointwise
  split
  · rfl
  · exact word0

/-- The padding of the gates: the constant in the columns of the input gates, zero in the others. -/
theorem gate_pad (l : Fin 128) : Scalar.select (IntOp.cmpi .slt (BitVec.ofNat 32 l.val) 8#32) pad (Ideal.ofBits .f32 0#32) = if l.val < 8 then pad else (0 : EReal) := by
  by_cases hl : l.val < 8
  · rw [if_pos hl, lt_eight l.val (by omega) hl]
    rfl
  · rw [if_neg hl]
    refine (if_neg (not_lt_eight l.val (by omega) hl)).trans ?_
    simp [Ideal.ofBits, Ideal.ieee]

theorem v18_at (b : Fin 32) (h : Fin 8) (d : Fin 64) (l : Fin 256) : (V m c main_v18 : FVec Ideal S32x8x64x256 .f32) (ix4 b h d l)
    = if hl : l.val < 128 then C0 m c (ix4 b h d ⟨l.val, hl⟩) else if l.val = 128 then N0 m c (ix3 b h d) else 0 := by
  unfold V
  simp only [hostOps0, hostOps0_1, hostOps0_2, hostOps0_3, hostOps0_4, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  try dsimp only [Matrix.cons_val]
  try after_results_simp
  pointwise
  by_cases hl : l.val < 128
  · rw [dif_pos hl, dif_pos hl]
  · rw [dif_neg hl, dif_neg hl]
    by_cases h2 : l.val = 128
    · rw [dif_pos (by omega), if_pos h2]
    · rw [dif_neg (by omega), if_neg h2]

theorem v20_at (b : Fin 32) (h : Fin 8) (l : Fin 128) : (V m c main_v20 : FVec Ideal S32x8x128 .f32) (ix3 b h l) = M0 m c (ix2 b h) := by
  unfold V
  simp only [hostOps0, hostOps0_1, hostOps0_2, hostOps0_3, hostOps0_4, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  try dsimp only [Matrix.cons_val]
  try after_results_simp
  pointwise

theorem v21_at (r : Fin 4096) (l : Fin 3072) : (V m c main_v21 : FVec Ideal S4096x3072 .f32) (ix2 r l)
    = (V m c main_v2 : FVec Ideal S32x128x3072 .f32) (ix3 ⟨r.val / 128, by omega⟩ ⟨r.val % 128, by omega⟩ l) := by
  unfold V
  simp only [hostOps0, hostOps0_1, hostOps0_2, hostOps0_3, hostOps0_4, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  try dsimp only [Matrix.cons_val]
  try after_results_simp
  pointwise

theorem v22_at (r : Fin 4096) (l : Fin 128) : (V m c main_v22 : FVec Ideal S4096x128 .f32) (ix2 r l)
    = if h : r.val % 128 < 4 then G m c (ix2 ⟨32768 + (r.val / 128 * 4 + r.val % 128), by omega⟩ l) else if l.val < 8 then pad else 0 := by
  unfold V
  simp only [hostOps0, hostOps0_1, hostOps0_2, hostOps0_3, hostOps0_4, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  try dsimp only [Matrix.cons_val]
  try after_results_simp
  pointwise
  try after_results_simp
  try dsimp only [Matrix.cons_val]
  try after_results_simp
  try pointwise
  exact dite_congr rfl (fun _ => rfl) fun _ => gate_pad l

theorem v13_at (b : Fin 32) (l : Fin 512) (s : Fin 128) : (V m c main_v13 : FVec Ideal S32x512x128 .f32) (ix3 b l s)
    = (V m c main_v2 : FVec Ideal S32x128x3072 .f32) (ix3 b s ⟨512 + l.val, by omega⟩) := by
  unfold V
  simp only [hostOps0, hostOps0_1, hostOps0_2, hostOps0_3, hostOps0_4, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  try dsimp only [Matrix.cons_val]
  try after_results_simp
  pointwise

theorem v15_at (b : Fin 32) (l : Fin 16) (s : Fin 128) : (V m c main_v15 : FVec Ideal S32x16x128 .f32) (ix3 b l s)
    = if h : s.val < 4 then G m c (ix2 ⟨32768 + (b.val * 4 + s.val), by omega⟩ ⟨l.val, by omega⟩) else if l.val < 8 then pad else 0 := by
  unfold V
  simp only [hostOps0, hostOps0_1, hostOps0_2, hostOps0_3, hostOps0_4, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  try dsimp only [Matrix.cons_val]
  try after_results_simp
  pointwise
  try after_results_simp
  try dsimp only [Matrix.cons_val]
  try after_results_simp
  try pointwise
  exact dite_congr rfl (fun _ => rfl) fun _ => gate_pad ⟨l.val, by omega⟩

theorem v23_at (l : Fin 1024) : (V m c main_v23 : FVec Ideal S1x1024 .f32) (ix2 0 l) = gain m c (ix1 l) := by
  unfold V
  simp only [hostOps0, hostOps0_1, hostOps0_2, hostOps0_3, hostOps0_4, List.flatten_cons, List.flatten_nil, List.cons_append, List.nil_append, List.append_nil,
    StableHlo.TRef.binary, StableHlo.TRef.nullary, StableHlo.TRef.ternary, StableHlo.TRef.unary, StableHlo.TRef.toBuf, StableHlo.TRef.ofBuf, cast_eq]
  after_results_simp
  try dsimp only [Matrix.cons_val]
  try after_results_simp
  pointwise

/-- Each window's block index at a point. -/
theorem idx : ∀ t : Fin cfg0.N, win0_0.index t = ![t.val, 0] ∧ win0_1.index t = ![t.val, 0, 0]
    ∧ win0_2.index t = ![t.val, 1] ∧ win0_3.index t = ![t.val, 2] ∧ win0_4.index t = ![t.val, 0]
    ∧ win0_5.index t = ![t.val, 0, 0] ∧ win0_6.index t = ![t.val, 0, 0, 0]
    ∧ win0_7.index t = ![t.val, 0, 0] ∧ win0_8.index t = ![0, 0] ∧ win0_9.index t = ![t.val, 0]
    ∧ win0_10.index t = ![t.val, 0, 0, 0] ∧ win0_11.index t = ![t.val, 0, 0] := by decide +kernel

theorem blk0 (t : Fin cfg0.N) (i : Fin 128) (j : Fin 512) : (iblk m c 0 t : FVec Ideal S128x512 .f32) (ix2 i j)
    = (V m c main_v21 : FVec Ideal S4096x3072 .f32) (ix2 ⟨t.val * 128 + i.val, by have := lt_of_lt_of_eq t.isLt N_0; omega⟩ ⟨j.val, by omega⟩) := by
  blk_ext [iblk, idx t]

theorem blk1 (t : Fin cfg0.N) (l : Fin 512) (s : Fin 128) : (iblk m c 1 t : FVec Ideal S1x512x128 .f32) (ix3 0 l s)
    = (V m c main_v13 : FVec Ideal S32x512x128 .f32) (ix3 ⟨t.val, lt_of_lt_of_eq t.isLt N_0⟩ l s) := by
  blk_ext [iblk, idx t]

theorem blk2 (t : Fin cfg0.N) (i : Fin 128) (j : Fin 1024) : (iblk m c 2 t : FVec Ideal S128x1024 .f32) (ix2 i j)
    = (V m c main_v21 : FVec Ideal S4096x3072 .f32) (ix2 ⟨t.val * 128 + i.val, by have := lt_of_lt_of_eq t.isLt N_0; omega⟩ ⟨1024 + j.val, by omega⟩) := by
  blk_ext [iblk, idx t]

theorem blk3 (t : Fin cfg0.N) (i : Fin 128) (j : Fin 1024) : (iblk m c 3 t : FVec Ideal S128x1024 .f32) (ix2 i j)
    = (V m c main_v21 : FVec Ideal S4096x3072 .f32) (ix2 ⟨t.val * 128 + i.val, by have := lt_of_lt_of_eq t.isLt N_0; omega⟩ ⟨2048 + j.val, by omega⟩) := by
  blk_ext [iblk, idx t]

theorem blk4 (t : Fin cfg0.N) (i : Fin 128) (j : Fin 128) : (iblk m c 4 t : FVec Ideal S128x128 .f32) (ix2 i j)
    = (V m c main_v22 : FVec Ideal S4096x128 .f32) (ix2 ⟨t.val * 128 + i.val, by have := lt_of_lt_of_eq t.isLt N_0; omega⟩ j) := by
  blk_ext [iblk, idx t]

theorem blk5 (t : Fin cfg0.N) (l : Fin 16) (s : Fin 128) : (iblk m c 5 t : FVec Ideal S1x16x128 .f32) (ix3 0 l s)
    = (V m c main_v15 : FVec Ideal S32x16x128 .f32) (ix3 ⟨t.val, lt_of_lt_of_eq t.isLt N_0⟩ l s) := by
  blk_ext [iblk, idx t]

theorem blk6 (t : Fin cfg0.N) (h : Fin 8) (d : Fin 64) (l : Fin 256) : (iblk m c 6 t : FVec Ideal S1x8x64x256 .f32) (ix4 0 h d l)
    = (V m c main_v18 : FVec Ideal S32x8x64x256 .f32) (ix4 ⟨t.val, lt_of_lt_of_eq t.isLt N_0⟩ h d l) := by
  blk_ext [iblk, idx t]

theorem blk7 (t : Fin cfg0.N) (h : Fin 8) (l : Fin 128) : (iblk m c 7 t : FVec Ideal S1x8x128 .f32) (ix3 0 h l)
    = (V m c main_v20 : FVec Ideal S32x8x128 .f32) (ix3 ⟨t.val, lt_of_lt_of_eq t.isLt N_0⟩ h l) := by
  blk_ext [iblk, idx t]

theorem blk8 (t : Fin cfg0.N) (l : Fin 1024) : (iblk m c 8 t : FVec Ideal S1x1024 .f32) (ix2 0 l) = gain m c (ix1 l) := by
  have e : (iblk m c 8 t : FVec Ideal S1x1024 .f32) (ix2 0 l) = (V m c main_v23 : FVec Ideal S1x1024 .f32) (ix2 0 l) := by blk_ext [iblk, idx t]
  exact e.trans (v23_at m c l)

/-- The padded projections at a row of a point's block. -/
theorem proj_at (t : Fin cfg0.N) (i : Fin 128) (j : Fin 3072) (h : t.val * 128 + i.val < 4096) :
    (V m c main_v21 : FVec Ideal S4096x3072 .f32) (ix2 ⟨t.val * 128 + i.val, h⟩ j) = if i.val < 4 then row (P m c) t.val i.val j.val else 0 := by
  have ht := lt_of_lt_of_eq t.isLt N_0
  rw [v21_at, v2_at]
  have e1 : (t.val * 128 + i.val) % 128 = i.val := by omega
  have e2 : (t.val * 128 + i.val) / 128 = t.val := by omega
  dsimp only
  by_cases hi : i.val < 4
  · rw [dif_pos (by omega), if_pos hi, row_eq _ _ _ _ (by omega) j.isLt]
    congr 2
    exact Fin.ext (by dsimp only; omega)
  · rw [dif_neg (by omega), if_neg hi]

/-- The padded gates at a row of a batch element. -/
theorem gates_at (b s l : ℕ) (hb : b < 32) (hl : l < 128) :
    (if h : s < 4 then G m c (ix2 ⟨32768 + (b * 4 + s), by omega⟩ ⟨l, hl⟩) else if l < 8 then pad else 0)
    = if s < 4 then row (G m c) b s l else if l < 8 then pad else 0 := by
  by_cases hs : s < 4
  · rw [dif_pos hs, if_pos hs, row_eq _ _ _ _ (by omega) hl]
  · rw [dif_neg hs, if_neg hs]

theorem blk (t : Fin cfg0.N) (H : ∀ h : Fin 8, Small (SmpStep.fg (row (G m c) t.val) h.val) (SmpStep.ig (row (G m c) t.val) h.val) (km (M0 m c) t.val h.val)) :
    SmpStep.Blk (row (P m c) t.val) (row (G m c) t.val) (st (C0 m c) (N0 m c) t.val) (km (M0 m c) t.val)
      (iblk m c 0 t) (iblk m c 1 t) (iblk m c 2 t) (iblk m c 4 t) (iblk m c 5 t) (iblk m c 6 t) (iblk m c 7 t) where
  x0 i j := (blk0 m c t i j).trans (proj_at m c t i ⟨j.val, by omega⟩ _)
  x1 l s := by
    refine (blk1 m c t l s).trans ((v13_at m c _ l s).trans ?_)
    rw [v2_at]
    have ht := lt_of_lt_of_eq t.isLt N_0
    by_cases hs : s.val < 4
    · rw [dif_pos hs, if_pos hs, row_eq _ _ _ _ (by omega) (by omega)]
    · rw [dif_neg hs, if_neg hs]
  x2 s j hs := ((blk2 m c t s j).trans (proj_at m c t s ⟨1024 + j.val, by omega⟩ _)).trans (if_pos hs)
  x4 s h := by
    have ht := lt_of_lt_of_eq t.isLt N_0
    refine (blk4 m c t s _).trans ((v22_at m c _ _).trans ((gates_at m c ((t.val * 128 + s.val) / 128) ((t.val * 128 + s.val) % 128) (8 + h.val) (by omega) (by omega)).trans ?_))
    rw [show (t.val * 128 + s.val) % 128 = s.val by omega, show (t.val * 128 + s.val) / 128 = t.val by omega, if_neg (show ¬ 8 + h.val < 8 by omega)]
  x5f h s := by
    refine (blk5 m c t _ s).trans ((v15_at m c _ _ s).trans ((gates_at m c t.val s.val (8 + h.val) (lt_of_lt_of_eq t.isLt N_0) (by omega)).trans ?_))
    rw [if_neg (show ¬ 8 + h.val < 8 by omega)]
  x5i h s := by
    refine (blk5 m c t _ s).trans ((v15_at m c _ _ s).trans ((gates_at m c t.val s.val h.val (lt_of_lt_of_eq t.isLt N_0) (by omega)).trans ?_))
    rw [if_pos h.isLt]
  x6 h d l := by
    refine (blk6 m c t h d l).trans ((v18_at m c _ h d l).trans ?_)
    exact (st_eq (C0 m c) (N0 m c) ⟨t.val, lt_of_lt_of_eq t.isLt N_0⟩ h d l.val).symm
  x7 h l := by
    refine (blk7 m c t h l).trans ((v20_at m c _ h l).trans ?_)
    exact (km_eq (M0 m c) ⟨t.val, lt_of_lt_of_eq t.isLt N_0⟩ h).symm
  small := H

end Cert.SmpBlocks

end
-- ==== Proof.SmpRef.lean ====
/- The reference of the sample's mLSTM call, read at an index: its step by step arrays are the plain formulas of the four
   tokens. -/
module

public import proofs.«01_k».proof.Proof.SmpStep
public import proofs.«01_k».proof.Proof.HostReads
public import proofs.«01_k».proof.Proof.Gen.ReferenceSmpIdeal.Run

@[expose] public section

set_option maxRecDepth 16384

noncomputable section

namespace Cert.SmpRef

open Idealize.ShloMosaic Cert.ReferenceSmpIdeal Cert.ReferenceSmpIdeal.Gen Cert.SmpMath Cert.Chunk Cert.HostReads
open scoped BigOperators

/-- A running sum over four tokens: the windowed sum along the last axis is, at each position, the sum up to it. -/
theorem cumsum4 {A B : ℕ} (x : FVec Ideal (⟨3, ![A, B, 4]⟩ : Shape) .f32) (init : FVec Ideal (⟨0, ![]⟩ : Shape) .f32)
    (hinit : ∀ i, init i = (0 : EReal))
    (h : (⟨3, ![A, B, 4]⟩ : Shape).ReduceWindows (![1, 1, 4] : Fin 3 → ℕ) ![1, 1, 1] ![0, 0, 3] ![0, 0, 0] ⟨3, ![A, B, 4]⟩)
    (hu : 0 < (⟨0, ![]⟩ : Shape).numel) (a : Fin A) (b : Fin B) (t : Fin 4) :
    Host.reduceWindowAdd (F := Ideal) ![1, 1, 4] ![1, 1, 1] ![0, 0, 3] ![0, 0, 0] x init h hu (ix3 a b t)
      = ∑ s : Fin 4, if s.val ≤ t.val then (x (ix3 a b s) : EReal) else 0 := by
  show Ideal.hostReduceWindowAdd ![1, 1, 4] ![1, 1, 1] ![0, 0, 3] ![0, 0, 0] h x (init (Shape.Idx.first hu)) (ix3 a b t) = _
  rw [hinit]
  unfold Ideal.hostReduceWindowAdd Host.reduceWindow
  dsimp only
  rw [foldl_sum, zero_add, ← Fin.sum_univ_def]
  let G : (⟨3, ![1, 1, 4]⟩ : Shape).Idx → EReal := fun w =>
    if hin : ∀ d : Fin 3, (![0, 0, 3] : Fin 3 → ℕ) d ≤ ((ix3 a b t : (⟨3, ![A, B, 4]⟩ : Shape).Idx) d).val * (![1, 1, 1] : Fin 3 → ℕ) d + (w d).val
        ∧ ((ix3 a b t : (⟨3, ![A, B, 4]⟩ : Shape).Idx) d).val * (![1, 1, 1] : Fin 3 → ℕ) d + (w d).val - (![0, 0, 3] : Fin 3 → ℕ) d < (⟨3, ![A, B, 4]⟩ : Shape).size d
      then x (fun d => ⟨((ix3 a b t : (⟨3, ![A, B, 4]⟩ : Shape).Idx) d).val * (![1, 1, 1] : Fin 3 → ℕ) d + (w d).val - (![0, 0, 3] : Fin 3 → ℕ) d, (hin d).2⟩) else 0
  refine Eq.trans (b := ∑ n, G ((⟨3, ![1, 1, 4]⟩ : Shape).rowMajor.symm n)) (Finset.sum_congr rfl fun n _ => ?_) ?_
  · dsimp only [G]
    refine dite_congr (by rfl) (fun _ => by rfl) (fun _ => by rfl)
  rw [Equiv.sum_comp (⟨3, ![1, 1, 4]⟩ : Shape).rowMajor.symm G]
  rw [← Equiv.sum_comp (rowEquiv 4).symm G]
  have hG : ∀ i : Fin 4, G ((rowEquiv 4).symm i) = if hi : 3 ≤ t.val + i.val then (x (ix3 a b ⟨t.val + i.val - 3, by omega⟩) : EReal) else 0 := by
    intro i
    have ht := t.isLt
    have hi' := i.isLt
    by_cases hi : 3 ≤ t.val + i.val
    · rw [dif_pos hi]
      refine (dif_pos ?_).trans (congrArg x (funext fun d => Fin.ext ?_))
      · intro d
        match d with
        | ⟨0, _⟩ => exact ⟨Nat.zero_le _, by show a.val * 1 + 0 - 0 < A; omega⟩
        | ⟨1, _⟩ => exact ⟨Nat.zero_le _, by show b.val * 1 + 0 - 0 < B; omega⟩
        | ⟨2, _⟩ => exact ⟨by show 3 ≤ t.val * 1 + i.val; omega, by show t.val * 1 + i.val - 3 < 4; omega⟩
      · match d with
        | ⟨0, _⟩ => show a.val * 1 + 0 - 0 = a.val; omega
        | ⟨1, _⟩ => show b.val * 1 + 0 - 0 = b.val; omega
        | ⟨2, _⟩ => show t.val * 1 + i.val - 3 = t.val + i.val - 3; omega
    · rw [dif_neg hi]
      refine dif_neg fun hin => hi ?_
      have h2 : 3 ≤ t.val * 1 + i.val := (hin 2).1
      omega
  rw [Finset.sum_congr rfl fun i _ => hG i]
  have ht := t.isLt
  rw [← Finset.sum_filter]
  have e : ∀ i : Fin 4, (if hi : 3 ≤ t.val + i.val then (x (ix3 a b ⟨t.val + i.val - 3, by omega⟩) : EReal) else 0)
      = if 3 ≤ t.val + i.val then (x (ix3 a b ⟨(t.val + i.val - 3) % 4, Nat.mod_lt _ (by omega)⟩) : EReal) else 0 := by
    intro i
    by_cases hi : 3 ≤ t.val + i.val
    · rw [dif_pos hi, if_pos hi]
      exact congrArg x (congrArg (ix3 a b) (Fin.ext (Nat.mod_eq_of_lt (by have := i.isLt; omega)).symm))
    · rw [dif_neg hi, if_neg hi]
  rw [Finset.sum_congr rfl fun i _ => e i, ← Finset.sum_filter]
  refine Finset.sum_nbij' (fun i => (⟨(t.val + i.val - 3) % 4, Nat.mod_lt _ (by omega)⟩ : Fin 4))
    (fun s => (⟨(s.val + 3 - t.val) % 4, Nat.mod_lt _ (by omega)⟩ : Fin 4)) ?_ ?_ ?_ ?_ ?_
  · intro i hi
    rw [Finset.mem_filter] at hi ⊢
    refine ⟨Finset.mem_univ _, ?_⟩
    have := i.isLt
    show (t.val + i.val - 3) % 4 ≤ t.val
    omega
  · intro s hs
    rw [Finset.mem_filter] at hs ⊢
    refine ⟨Finset.mem_univ _, ?_⟩
    have := s.isLt
    have h2 := hs.2
    show 3 ≤ t.val + (s.val + 3 - t.val) % 4
    omega
  · intro i hi
    rw [Finset.mem_filter] at hi
    have := i.isLt
    have h2 := hi.2
    refine Fin.ext ?_
    show ((t.val + i.val - 3) % 4 + 3 - t.val) % 4 = i.val
    omega
  · intro s hs
    rw [Finset.mem_filter] at hs
    have := s.isLt
    have h2 := hs.2
    refine Fin.ext ?_
    show (t.val + (s.val + 3 - t.val) % 4 - 3) % 4 = s.val
    omega
  · intro i _
    rfl

variable (m : (ℓ : Loc nD τ sig) → Buf (Elt Ideal) ℓ) (c : Dev nD)

/-- Argument 0. -/
abbrev a0 : FVec Ideal S33280x3072 .f32 := m ((c.tc : Thread nD τ).loc main_arg0)

/-- Argument 1. -/
abbrev a1 : FVec Ideal S33280x128 .f32 := m ((c.tc : Thread nD τ).loc main_arg1)

/-- Argument 2. -/
abbrev a2 : FVec Ideal S32x8x64x128 .f32 := m ((c.tc : Thread nD τ).loc main_arg2)

/-- Argument 3. -/
abbrev a3 : FVec Ideal S32x8x64 .f32 := m ((c.tc : Thread nD τ).loc main_arg3)

/-- Argument 4. -/
abbrev a4 : FVec Ideal S32x8 .f32 := m ((c.tc : Thread nD τ).loc main_arg4)

/-- Argument 5. -/
abbrev a5 : FVec Ideal S1024 .f32 := m ((c.tc : Thread nD τ).loc main_arg5)

/-- The input gates, head by head. -/
def w5 : FVec Ideal S32x8x4 .f32 := transpose S32x8x4 [0, 2, 1] (extractStridedSlice S32x4x8 ![0, 0, 0] (shapeCast _ (extractStridedSlice S128x128 ![32768, 0] (a1 m c) slices_S33280x128_S128x128_32768_0) shapeCasts_S128x128_S32x4x128) slices_S32x4x128_S32x4x8_0_0_0) transposes_S32x4x8_S32x8x4_0_2_1

/-- The forget gates, head by head. -/
def w7 : FVec Ideal S32x8x4 .f32 := transpose S32x8x4 [0, 2, 1] (extractStridedSlice S32x4x8 ![0, 0, 8] (shapeCast _ (extractStridedSlice S128x128 ![32768, 0] (a1 m c) slices_S33280x128_S128x128_32768_0) shapeCasts_S128x128_S32x4x128) slices_S32x4x128_S32x4x8_0_0_8) transposes_S32x4x8_S32x8x4_0_2_1

/-- The queries over eight. -/
def w12 : FVec Ideal S32x8x4x64 .f32 := mulf (transpose S32x8x4x64 [0, 2, 1, 3] (shapeCast _ (extractStridedSlice S32x4x512 ![0, 0, 0] (shapeCast _ (extractStridedSlice S128x3072 ![32768, 0] (a0 m c) slices_S33280x3072_S128x3072_32768_0) shapeCasts_S128x3072_S32x4x3072) slices_S32x4x3072_S32x4x512_0_0_0) shapeCasts_S32x4x512_S32x4x8x64) transposes_S32x4x8x64_S32x8x4x64_0_2_1_3) (broadcastInDim S32x8x4x64 ![] bcast_S_S32x8x4x64 (constant S_ .f32 0x3E000000#32))

/-- The keys. -/
def w15 : FVec Ideal S32x8x4x64 .f32 := transpose S32x8x4x64 [0, 2, 1, 3] (shapeCast _ (extractStridedSlice S32x4x512 ![0, 0, 512] (shapeCast _ (extractStridedSlice S128x3072 ![32768, 0] (a0 m c) slices_S33280x3072_S128x3072_32768_0) shapeCasts_S128x3072_S32x4x3072) slices_S32x4x3072_S32x4x512_0_0_512) shapeCasts_S32x4x512_S32x4x8x64) transposes_S32x4x8x64_S32x8x4x64_0_2_1_3

/-- The values. -/
def w18 : FVec Ideal S32x8x4x128 .f32 := transpose S32x8x4x128 [0, 2, 1, 3] (shapeCast _ (extractStridedSlice S32x4x1024 ![0, 0, 1024] (shapeCast _ (extractStridedSlice S128x3072 ![32768, 0] (a0 m c) slices_S33280x3072_S128x3072_32768_0) shapeCasts_S128x3072_S32x4x3072) slices_S32x4x3072_S32x4x1024_0_0_1024) shapeCasts_S32x4x1024_S32x4x8x128) transposes_S32x4x8x128_S32x8x4x128_0_2_1_3

/-- The running sums of the forget gates. -/
def w19 : FVec Ideal S32x8x4 .f32 := Host.reduceWindowAdd ![1, 1, 4] ![1, 1, 1] ![0, 0, 3] ![0, 0, 0] (w7 m c) (broadcastInDim S_ ![] bcast_S_S_ (constant S_ .f32 0x00000000#32)) reduceWindows_S32x8x4_S32x8x4_w1s1p0_0_w1s1p0_0_w4s1p3_0 h_S_

/-- The exponents of the weights. -/
def w30 : FVec Ideal S32x8x4x4 .f32 := select (broadcastInDim S32x8x4x4 ![2, 3] bcast_S4x4_S32x8x4x4_2_3 (select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1)))) (addf (subf (broadcastInDim S32x8x4x4 ![0, 1, 2, 3] bcast_S32x8x4x1_S32x8x4x4_0_1_2_3 (broadcastInDim S32x8x4x1 ![0, 1, 2] bcast_S32x8x4_S32x8x4x1_0_1_2 (w19 m c))) (broadcastInDim S32x8x4x4 ![0, 1, 2, 3] bcast_S32x8x1x4_S32x8x4x4_0_1_2_3 (broadcastInDim S32x8x1x4 ![0, 1, 3] bcast_S32x8x4_S32x8x1x4_0_1_3 (w19 m c)))) (broadcastInDim S32x8x4x4 ![0, 1, 2, 3] bcast_S32x8x1x4_S32x8x4x4_0_1_2_3 (broadcastInDim S32x8x1x4 ![0, 1, 3] bcast_S32x8x4_S32x8x1x4_0_1_3 (w5 m c)))) (broadcastInDim S32x8x4x4 ![] bcast_S_S32x8x4x4 ((constant S_ .f32 0xFF800000#32)))

/-- The exponent of the kept state. -/
def w33 : FVec Ideal S32x8x4 .f32 := addf (w19 m c) (broadcastInDim S32x8x4 ![0, 1, 2] bcast_S32x8x1_S32x8x4_0_1_2 (broadcastInDim S32x8x1 ![0, 1] bcast_S32x8_S32x8x1_0_1 (a4 m c)))

/-- The running maximum. -/
def w35 : FVec Ideal S32x8x4 .f32 := maximumf (w33 m c) (Host.reduce FloatOps.maximumf (w30 m c) (constant S_ .f32 0xFF800000#32) reducesTo_S32x8x4x4_S32x8x4_d3 h_S_)

/-- The weights. -/
def w39 : FVec Ideal S32x8x4x4 .f32 := Host.exp (subf (w30 m c) (broadcastInDim S32x8x4x4 ![0, 1, 2, 3] bcast_S32x8x4x1_S32x8x4x4_0_1_2_3 (broadcastInDim S32x8x4x1 ![0, 1, 2] bcast_S32x8x4_S32x8x4x1_0_1_2 (w35 m c))))

/-- The weight of the kept state. -/
def w41 : FVec Ideal S32x8x4 .f32 := Host.exp (subf (w33 m c) (w35 m c))

/-- The scores. -/
def w43 : FVec Ideal S32x8x4x4 .f32 := mulf (Host.dotGeneral dot_S32x8x4x64_S32x8x4x64_S32x8x4x4_3_3_2_2_01_01 none (w12 m c) (w15 m c)) (w39 m c)

/-- The numerator. -/
def w49 : FVec Ideal S32x8x4x128 .f32 := addf (Host.dotGeneral dot_S32x8x4x4_S32x8x4x128_S32x8x4x128_3_2_2_3_01_01 none (w43 m c) (w18 m c)) (mulf (broadcastInDim S32x8x4x128 ![0, 1, 2, 3] bcast_S32x8x4x1_S32x8x4x128_0_1_2_3 (broadcastInDim S32x8x4x1 ![0, 1, 2] bcast_S32x8x4_S32x8x4x1_0_1_2 (w41 m c))) (Host.dotGeneral dot_S32x8x4x64_S32x8x64x128_S32x8x4x128_3_2_2_3_01_01 none (w12 m c) (a2 m c)))

/-- The denominator. -/
def w53 : FVec Ideal S32x8x4 .f32 := addf (Host.reduceAdd (w43 m c) (constant S_ .f32 0x00000000#32) reducesTo_S32x8x4x4_S32x8x4_d3 h_S_) (mulf (w41 m c) (Host.dotGeneral dot_S32x8x4x64_S32x8x64_S32x8x4_3_2_2_n_01_01 none (w12 m c) (a3 m c)))

/-- The hidden rows. -/
def w60 : FVec Ideal S32x8x4x128 .f32 := Host.divf (w49 m c) (broadcastInDim S32x8x4x128 ![0, 1, 2, 3] bcast_S32x8x4x1_S32x8x4x128_0_1_2_3 (broadcastInDim S32x8x4x1 ![0, 1, 2] bcast_S32x8x4_S32x8x4x1_0_1_2 (maximumf (Host.absf (w53 m c)) (Host.exp (Host.negf (w35 m c))))))

/-- The new maximum. -/
def w62 : FVec Ideal S32x8 .f32 := shapeCast _ (extractStridedSlice S32x8x1 ![0, 0, 3] (w35 m c) slices_S32x8x4_S32x8x1_0_0_3) shapeCasts_S32x8x1_S32x8

/-- The decay of the state. -/
def w67 : FVec Ideal S32x8 .f32 := Host.exp (subf (addf (shapeCast _ (extractStridedSlice S32x8x1 ![0, 0, 3] (w19 m c) slices_S32x8x4_S32x8x1_0_0_3) shapeCasts_S32x8x1_S32x8) (a4 m c)) (w62 m c))

/-- The weights of the new tokens in the state. -/
def w75 : FVec Ideal S32x8x4 .f32 := Host.exp (subf (addf (subf (broadcastInDim S32x8x4 ![0, 1, 2] bcast_S32x8x1_S32x8x4_0_1_2 (extractStridedSlice S32x8x1 ![0, 0, 3] (w19 m c) slices_S32x8x4_S32x8x1_0_0_3)) (w19 m c)) (w5 m c)) (broadcastInDim S32x8x4 ![0, 1, 2] bcast_S32x8x1_S32x8x4_0_1_2 (broadcastInDim S32x8x1 ![0, 1] bcast_S32x8_S32x8x1_0_1 (w62 m c))))

/-- The weighted keys. -/
def w78 : FVec Ideal S32x8x4x64 .f32 := mulf (broadcastInDim S32x8x4x64 ![0, 1, 2, 3] bcast_S32x8x4x1_S32x8x4x64_0_1_2_3 (broadcastInDim S32x8x4x1 ![0, 1, 2] bcast_S32x8x4_S32x8x4x1_0_1_2 (w75 m c))) (w15 m c)

/-- The new state. -/
def w83 : FVec Ideal S32x8x64x128 .f32 := addf (mulf (broadcastInDim S32x8x64x128 ![0, 1, 2, 3] bcast_S32x8x1x1_S32x8x64x128_0_1_2_3 (broadcastInDim S32x8x1x1 ![0, 1] bcast_S32x8_S32x8x1x1_0_1 (w67 m c))) (a2 m c)) (Host.dotGeneral dot_S32x8x4x64_S32x8x4x128_S32x8x64x128_2_2_3_3_01_01 none (w78 m c) (w18 m c))

/-- The new normaliser. -/
def w88 : FVec Ideal S32x8x64 .f32 := addf (mulf (broadcastInDim S32x8x64 ![0, 1, 2] bcast_S32x8x1_S32x8x64_0_1_2 (broadcastInDim S32x8x1 ![0, 1] bcast_S32x8_S32x8x1_0_1 (w67 m c))) (a3 m c)) (Host.reduceAdd (w78 m c) (constant S_ .f32 0x00000000#32) reducesTo_S32x8x4x64_S32x8x64_d2 h_S_)

/-- The hidden rows, token by token. -/
def w89 : FVec Ideal S32x4x8x128 .f32 := transpose S32x4x8x128 [0, 2, 1, 3] (w60 m c) transposes_S32x8x4x128_S32x4x8x128_0_2_1_3

/-- The normalised rows. -/
def w99 : FVec Ideal S32x4x8x128 .f32 := mulf (w89 m c) (broadcastInDim S32x4x8x128 ![0, 1, 2, 3] bcast_S32x4x8x1_S32x4x8x128_0_1_2_3 (Host.rsqrt (addf (Host.divf (broadcastInDim S32x4x8x1 ![0, 1, 2] bcast_S32x4x8_S32x4x8x1_0_1_2 (Host.reduceAdd (mulf (w89 m c) (w89 m c)) (constant S_ .f32 0x00000000#32) reducesTo_S32x4x8x128_S32x4x8_d3 h_S_)) (broadcastInDim S32x4x8x1 ![] bcast_S_S32x4x8x1 (constant S_ .f32 0x43000000#32))) (broadcastInDim S32x4x8x1 ![] bcast_S_S32x4x8x1 (constant S_ .f32 0x358637BD#32)))))

/-- The columns of the output gate. -/
def w100 : FVec Ideal S32x4x1024 .f32 := extractStridedSlice S32x4x1024 ![0, 0, 2048] (shapeCast _ (extractStridedSlice S128x3072 ![32768, 0] (a0 m c) slices_S33280x3072_S128x3072_32768_0) shapeCasts_S128x3072_S32x4x3072) slices_S32x4x3072_S32x4x1024_0_0_2048

/-- The gated rows. -/
def w111 : FVec Ideal S32x4x1024 .f32 := mulf (mulf (shapeCast _ (w99 m c) shapeCasts_S32x4x8x128_S32x4x1024) (broadcastInDim S32x4x1024 ![0, 1, 2] bcast_S1x1x1024_S32x4x1024_0_1_2 (broadcastInDim S1x1x1024 ![2] bcast_S1024_S1x1x1024_2 (a5 m c)))) (Host.divf (broadcastInDim S32x4x1024 ![] bcast_S_S32x4x1024 (constant S_ .f32 0x3F800000#32)) (addf (broadcastInDim S32x4x1024 ![] bcast_S_S32x4x1024 (constant S_ .f32 0x3F800000#32)) (Host.exp (Host.negf (w100 m c)))))

/-- The gated rows, padded. -/
def w113 : FVec Ideal S32x128x1024 .f32 := concatenate S32x128x1024 1 [⟨S32x4x1024, (w111 m c)⟩, ⟨S32x124x1024, (broadcastInDim S32x124x1024 ![] bcast_S_S32x124x1024 (constant S_ .f32 0x00000000#32))⟩] concatenates_S32x4x1024_S32x124x1024_S32x128x1024_d1

/-- The new state with its column of the normaliser, padded. -/
def w116 : FVec Ideal S32x8x64x256 .f32 := concatenate S32x8x64x256 3 [⟨S32x8x64x128, (w83 m c)⟩, ⟨S32x8x64x1, (broadcastInDim S32x8x64x1 ![0, 1, 2] bcast_S32x8x64_S32x8x64x1_0_1_2 (w88 m c))⟩, ⟨S32x8x64x127, (broadcastInDim S32x8x64x127 ![] bcast_S_S32x8x64x127 (constant S_ .f32 0x00000000#32))⟩] concatenates_S32x8x64x128_S32x8x64x1_S32x8x64x127_S32x8x64x256_d3

/-- The first result. -/
def w117 : FVec Ideal S4096x1024 .f32 := shapeCast _ (w113 m c) shapeCasts_S32x128x1024_S4096x1024

/-- The third result. -/
def w119 : FVec Ideal S32x8x128 .f32 := broadcastInDim S32x8x128 ![0, 1, 2] bcast_S32x8x1_S32x8x128_0_1_2 (broadcastInDim S32x8x1 ![0, 1] bcast_S32x8_S32x8x1_0_1 (w62 m c))

theorem w5_at (b : Fin 32) (h : Fin 8) (t : Fin 4) : w5 m c (ix3 b h t) = (SmpStep.ig (row (a1 m c) b.val) h.val) t.val := by
  pointwise [w5]
  refine Eq.trans ?_ (row_eq (a1 m c) b.val t.val h.val (by omega) (by omega)).symm
  refine congrArg (a1 m c) (funext fun d => ?_)
  match d with
  | ⟨0, _⟩ => exact Fin.ext (by dsimp only [ix2])
  | ⟨1, _⟩ => exact Fin.ext (by dsimp only [ix2])

theorem w7_at (b : Fin 32) (h : Fin 8) (t : Fin 4) : w7 m c (ix3 b h t) = (SmpStep.fg (row (a1 m c) b.val) h.val) t.val := by
  pointwise [w7]
  refine Eq.trans ?_ (row_eq (a1 m c) b.val t.val (8 + h.val) (by omega) (by omega)).symm
  refine congrArg (a1 m c) (funext fun d => ?_)
  match d with
  | ⟨0, _⟩ => exact Fin.ext (by dsimp only [ix2])
  | ⟨1, _⟩ => exact Fin.ext (by dsimp only [ix2])

theorem w12_at (b : Fin 32) (h : Fin 8) (t : Fin 4) (d : Fin 64) : w12 m c (ix4 b h t d) = (SmpStep.qs (row (a0 m c) b.val) h.val) d.val t.val := by
  pointwise [w12]
  unfold SmpStep.qs
  rw [row_eq (a0 m c) b.val t.val (h.val * 64 + d.val) (by omega) (by omega)]
  try rfl

theorem w15_at (b : Fin 32) (h : Fin 8) (t : Fin 4) (d : Fin 64) : w15 m c (ix4 b h t d) = (SmpStep.ks (row (a0 m c) b.val) h.val) d.val t.val := by
  pointwise [w15]
  unfold SmpStep.ks
  rw [row_eq (a0 m c) b.val t.val (512 + (h.val * 64 + d.val)) (by omega) (by omega)]
  try rfl

theorem w18_at (b : Fin 32) (h : Fin 8) (t : Fin 4) (e : Fin 128) : w18 m c (ix4 b h t e) = (SmpStep.vs (row (a0 m c) b.val) h.val) e.val t.val := by
  pointwise [w18]
  unfold SmpStep.vs
  rw [row_eq (a0 m c) b.val t.val (1024 + (h.val * 128 + e.val)) (by omega) (by omega)]
  try rfl

theorem w19_at (b : Fin 32) (h : Fin 8) (t : Fin 4) : w19 m c (ix3 b h t) = bb (SmpStep.fg (row (a1 m c) b.val) h.val) t.val := by
  unfold w19
  refine (cumsum4 (w7 m c) _ (fun i => by pointwise) _ _ b h t).trans ?_
  unfold bb
  exact Finset.sum_congr rfl fun s _ => by rw [w7_at]

theorem w30_at (b : Fin 32) (h : Fin 8) (t u : Fin 4) : w30 m c (ix4 b h t u) = dl (SmpStep.fg (row (a1 m c) b.val) h.val) (SmpStep.ig (row (a1 m c) b.val) h.val) t.val u.val := by
  pointwise [w30, w19_at, w5_at, neg_inf]
  rw [show IntOp.addi (BitVec.ofNat 32 t.val) 0#32 = BitVec.ofNat 32 t.val from BitVec.add_zero _, causal t.val u.val (by omega) (by omega)]
  unfold dl
  by_cases hu : u.val ≤ t.val
  · rw [if_pos hu, if_pos hu]; rfl
  · rw [if_neg hu, if_neg hu]; rfl

theorem w33_at (b : Fin 32) (h : Fin 8) (t : Fin 4) : w33 m c (ix3 b h t) = bb (SmpStep.fg (row (a1 m c) b.val) h.val) t.val + (km (a4 m c) b.val h.val) := by
  pointwise [w33, w19_at]
  rw [km_eq]

theorem w35_at (b : Fin 32) (h : Fin 8) (t : Fin 4) : w35 m c (ix3 b h t) = mt (SmpStep.fg (row (a1 m c) b.val) h.val) (SmpStep.ig (row (a1 m c) b.val) h.val) (km (a4 m c) b.val h.val) t.val := by
  pointwise [w35, w33_at, w30_at, neg_inf]
  rfl

theorem w39_at (b : Fin 32) (h : Fin 8) (t u : Fin 4) : w39 m c (ix4 b h t u) = Ideal.exp (dl (SmpStep.fg (row (a1 m c) b.val) h.val) (SmpStep.ig (row (a1 m c) b.val) h.val) t.val u.val - mt (SmpStep.fg (row (a1 m c) b.val) h.val) (SmpStep.ig (row (a1 m c) b.val) h.val) (km (a4 m c) b.val h.val) t.val) := by
  pointwise [w39, w30_at, w35_at]

theorem w41_at (b : Fin 32) (h : Fin 8) (t : Fin 4) : w41 m c (ix3 b h t) = Ideal.exp (bb (SmpStep.fg (row (a1 m c) b.val) h.val) t.val + (km (a4 m c) b.val h.val) - mt (SmpStep.fg (row (a1 m c) b.val) h.val) (SmpStep.ig (row (a1 m c) b.val) h.val) (km (a4 m c) b.val h.val) t.val) := by
  pointwise [w41, w33_at, w35_at]

theorem w43_at (b : Fin 32) (h : Fin 8) (t u : Fin 4) : w43 m c (ix4 b h t u)
    = (∑ d : Fin 64, (SmpStep.qs (row (a0 m c) b.val) h.val) d.val t.val * (SmpStep.ks (row (a0 m c) b.val) h.val) d.val u.val) * Ideal.exp (dl (SmpStep.fg (row (a1 m c) b.val) h.val) (SmpStep.ig (row (a1 m c) b.val) h.val) t.val u.val - mt (SmpStep.fg (row (a1 m c) b.val) h.val) (SmpStep.ig (row (a1 m c) b.val) h.val) (km (a4 m c) b.val h.val) t.val) := by
  pointwise [w43, w12_at, w15_at, w39_at]

theorem w49_at (b : Fin 32) (h : Fin 8) (t : Fin 4) (e : Fin 128) : w49 m c (ix4 b h t e)
    = nd (SmpStep.fg (row (a1 m c) b.val) h.val) (SmpStep.ig (row (a1 m c) b.val) h.val) (km (a4 m c) b.val h.val) (SmpStep.qs (row (a0 m c) b.val) h.val) (SmpStep.ks (row (a0 m c) b.val) h.val) ((SmpStep.vs (row (a0 m c) b.val) h.val) e.val) (fun d => (st (a2 m c) (a3 m c) b.val h.val) d e.val) t.val := by
  pointwise [w49, w43_at, w18_at, w41_at, w12_at]
  unfold nd
  refine congrArg₂ (· + ·) rfl (congrArg₂ (· * ·) rfl (Finset.sum_congr rfl fun d _ => ?_))
  dsimp only
  rw [st_eq, dif_pos e.isLt]

theorem w53_at (b : Fin 32) (h : Fin 8) (t : Fin 4) : w53 m c (ix3 b h t)
    = nd (SmpStep.fg (row (a1 m c) b.val) h.val) (SmpStep.ig (row (a1 m c) b.val) h.val) (km (a4 m c) b.val h.val) (SmpStep.qs (row (a0 m c) b.val) h.val) (SmpStep.ks (row (a0 m c) b.val) h.val) (fun _ => 1) (fun d => (st (a2 m c) (a3 m c) b.val h.val) d 128) t.val := by
  pointwise [w53, w43_at, w41_at, w12_at]
  unfold nd
  refine congrArg₂ (· + ·) (Finset.sum_congr rfl fun s _ => (mul_one _).symm) (congrArg₂ (· * ·) rfl (Finset.sum_congr rfl fun d _ => ?_))
  dsimp only
  rw [st_eq, dif_neg (by decide), if_pos rfl]

theorem w60_at (b : Fin 32) (h : Fin 8) (t : Fin 4) (e : Fin 128) : w60 m c (ix4 b h t e)
    = hid (SmpStep.fg (row (a1 m c) b.val) h.val) (SmpStep.ig (row (a1 m c) b.val) h.val) (km (a4 m c) b.val h.val) (SmpStep.qs (row (a0 m c) b.val) h.val) (SmpStep.ks (row (a0 m c) b.val) h.val) (SmpStep.vs (row (a0 m c) b.val) h.val) (st (a2 m c) (a3 m c) b.val h.val) (fun d => (st (a2 m c) (a3 m c) b.val h.val) d 128) t.val e.val := by
  pointwise [w60, w49_at, w53_at, w35_at]
  rfl

theorem w62_at (b : Fin 32) (h : Fin 8) : w62 m c (ix2 b h) = mt (SmpStep.fg (row (a1 m c) b.val) h.val) (SmpStep.ig (row (a1 m c) b.val) h.val) (km (a4 m c) b.val h.val) 3 := by
  pointwise [w62, w35_at]

theorem w67_at (b : Fin 32) (h : Fin 8) : w67 m c (ix2 b h) = Ideal.exp (bb (SmpStep.fg (row (a1 m c) b.val) h.val) 3 + (km (a4 m c) b.val h.val) - mt (SmpStep.fg (row (a1 m c) b.val) h.val) (SmpStep.ig (row (a1 m c) b.val) h.val) (km (a4 m c) b.val h.val) 3) := by
  pointwise [w67, w19_at, w62_at]
  rw [km_eq]

theorem w75_at (b : Fin 32) (h : Fin 8) (s : Fin 4) : w75 m c (ix3 b h s)
    = Ideal.exp (bb (SmpStep.fg (row (a1 m c) b.val) h.val) 3 - bb (SmpStep.fg (row (a1 m c) b.val) h.val) s.val + (SmpStep.ig (row (a1 m c) b.val) h.val) s.val - mt (SmpStep.fg (row (a1 m c) b.val) h.val) (SmpStep.ig (row (a1 m c) b.val) h.val) (km (a4 m c) b.val h.val) 3) := by
  pointwise [w75, w19_at, w5_at, w62_at]

theorem w78_at (b : Fin 32) (h : Fin 8) (s : Fin 4) (d : Fin 64) : w78 m c (ix4 b h s d)
    = (SmpStep.ks (row (a0 m c) b.val) h.val) d.val s.val * Ideal.exp (bb (SmpStep.fg (row (a1 m c) b.val) h.val) 3 - bb (SmpStep.fg (row (a1 m c) b.val) h.val) s.val + (SmpStep.ig (row (a1 m c) b.val) h.val) s.val - mt (SmpStep.fg (row (a1 m c) b.val) h.val) (SmpStep.ig (row (a1 m c) b.val) h.val) (km (a4 m c) b.val h.val) 3) := by
  pointwise [w78, w75_at, w15_at]
  exact mul_comm _ _

theorem w83_at (b : Fin 32) (h : Fin 8) (d : Fin 64) (e : Fin 128) : w83 m c (ix4 b h d e)
    = cn (SmpStep.fg (row (a1 m c) b.val) h.val) (SmpStep.ig (row (a1 m c) b.val) h.val) (km (a4 m c) b.val h.val) ((SmpStep.ks (row (a0 m c) b.val) h.val) d.val) ((SmpStep.vs (row (a0 m c) b.val) h.val) e.val) ((st (a2 m c) (a3 m c) b.val h.val) d.val e.val) := by
  pointwise [w83, w67_at, w78_at, w18_at]
  unfold cn
  rw [st_eq, dif_pos e.isLt]

theorem w88_at (b : Fin 32) (h : Fin 8) (d : Fin 64) : w88 m c (ix3 b h d)
    = cn (SmpStep.fg (row (a1 m c) b.val) h.val) (SmpStep.ig (row (a1 m c) b.val) h.val) (km (a4 m c) b.val h.val) ((SmpStep.ks (row (a0 m c) b.val) h.val) d.val) (fun _ => 1) ((st (a2 m c) (a3 m c) b.val h.val) d.val 128) := by
  pointwise [w88, w67_at, w78_at]
  unfold cn
  rw [st_eq, dif_neg (by decide), if_pos rfl]
  exact congrArg₂ (· + ·) rfl (Finset.sum_congr rfl fun s _ => (mul_one _).symm)

theorem w89_at (b : Fin 32) (t : Fin 4) (h : Fin 8) (e : Fin 128) : w89 m c (ix4 b t h e)
    = hid (SmpStep.fg (row (a1 m c) b.val) h.val) (SmpStep.ig (row (a1 m c) b.val) h.val) (km (a4 m c) b.val h.val) (SmpStep.qs (row (a0 m c) b.val) h.val) (SmpStep.ks (row (a0 m c) b.val) h.val) (SmpStep.vs (row (a0 m c) b.val) h.val) (st (a2 m c) (a3 m c) b.val h.val) (fun d => (st (a2 m c) (a3 m c) b.val h.val) d 128) t.val e.val := by
  pointwise [w89, w60_at]

theorem w99_at (b : Fin 32) (t : Fin 4) (h : Fin 8) (e : Fin 128) : w99 m c (ix4 b t h e)
    = SmpHead.normed (fun i => hid (SmpStep.fg (row (a1 m c) b.val) h.val) (SmpStep.ig (row (a1 m c) b.val) h.val) (km (a4 m c) b.val h.val) (SmpStep.qs (row (a0 m c) b.val) h.val) (SmpStep.ks (row (a0 m c) b.val) h.val) (SmpStep.vs (row (a0 m c) b.val) h.val) (st (a2 m c) (a3 m c) b.val h.val) (fun d => (st (a2 m c) (a3 m c) b.val h.val) d 128) t.val i.val) e := by
  pointwise [w99, w89_at]
  rfl

theorem w100_at (b : Fin 32) (t : Fin 4) (l : Fin 1024) : w100 m c (ix3 b t l) = row (a0 m c) b.val t.val (2048 + l.val) := by
  pointwise [w100]
  rw [row_eq (a0 m c) b.val t.val (2048 + l.val) (by omega) (by omega)]
  try rfl

theorem one_bits : Ideal.ofBits FTy.f32 0x3F800000#32 = (1 : EReal) := by
  have h : Ideal.ofBits FTy.f32 0x3F800000#32 = ((1 : ℝ) : EReal) := by
    simp [Ideal.ofBits, Ideal.ieee, -EReal.coe_mul]
    try norm_num
  exact h.trans EReal.coe_one

/-- A gated row of a batch element, column by column. -/
def gated (P G : ℕ → ℕ → EReal) (C : ℕ → ℕ → ℕ → EReal) (M : ℕ → EReal) (gain : EReal) (t : ℕ) (l : Fin 1024) : EReal :=
  SmpHead.normed (fun i => hid (SmpStep.fg G (l.val / 128)) (SmpStep.ig G (l.val / 128)) (M (l.val / 128)) (SmpStep.qs P (l.val / 128))
      (SmpStep.ks P (l.val / 128)) (SmpStep.vs P (l.val / 128)) (C (l.val / 128)) (fun d => C (l.val / 128) d 128) t i.val) ⟨l.val % 128, by omega⟩
    * gain * Ideal.div 1 (1 + Ideal.exp (-(P t (2048 + l.val))))

theorem w111_at (b : Fin 32) (t : Fin 4) (l : Fin 1024) : w111 m c (ix3 b t l)
    = gated (row (a0 m c) b.val) (row (a1 m c) b.val) (st (a2 m c) (a3 m c) b.val) (km (a4 m c) b.val) (a5 m c (ix1 l)) t.val l := by
  pointwise [w111, w99_at, w100_at, one_bits]
  rfl

theorem w117_at (r : Fin 4096) (l : Fin 1024) : w117 m c (ix2 r l)
    = if r.val % 128 < 4 then gated (row (a0 m c) (r.val / 128)) (row (a1 m c) (r.val / 128)) (st (a2 m c) (a3 m c) (r.val / 128)) (km (a4 m c) (r.val / 128))
        (a5 m c (ix1 l)) (r.val % 128) l else 0 := by
  pointwise [w117, w113, w111_at]
  split_ifs <;> rfl

theorem w116_at (b : Fin 32) (h : Fin 8) (d : Fin 64) (l : Fin 256) : w116 m c (ix4 b h d l)
    = cn (SmpStep.fg (row (a1 m c) b.val) h.val) (SmpStep.ig (row (a1 m c) b.val) h.val) (km (a4 m c) b.val h.val) ((SmpStep.ks (row (a0 m c) b.val) h.val) d.val) (SmpHead.vx (SmpStep.vs (row (a0 m c) b.val) h.val) l.val) ((st (a2 m c) (a3 m c) b.val h.val) d.val l.val) := by
  pointwise [w116, w83_at, w88_at]
  unfold SmpHead.vx
  by_cases hl : l.val < 128
  · rw [dif_pos hl]
    simp only [if_pos hl]
  · rw [dif_neg hl]
    simp only [if_neg hl]
    by_cases h2 : l.val = 128
    · rw [dif_pos (by omega)]
      simp only [if_pos h2]
      rw [h2]
    · rw [dif_neg (by omega)]
      simp only [if_neg h2]
      unfold cn
      rw [st_eq, dif_neg hl, if_neg h2]
      simp

theorem w119_at (b : Fin 32) (h : Fin 8) (l : Fin 128) : w119 m c (ix3 b h l) = mt (SmpStep.fg (row (a1 m c) b.val) h.val) (SmpStep.ig (row (a1 m c) b.val) h.val) (km (a4 m c) b.val h.val) 3 := by
  pointwise [w119, w62_at]

end Cert.SmpRef

end
-- ==== Proof.SmpPre.lean ====
/- The precondition of the sample's mLSTM call, opened: the last token's input gates are not below the padding's constant, so
   a padding token never raises the maximum. -/
module

public import proofs.«01_k».proof.Proof.SmpStep
public import proofs.«01_k».proof.Pre_last_gates
public import proofs.«01_k».proof.Proof.Gen.Pre_last_gates
public import Idealize.ShloMosaic.Lib.Pointwise
public import Idealize.ShloMosaic.Lib.IdealHost
public import Idealize.ShloMosaic.Lib.ReduceAll
public import Idealize.ShloMosaic.Lib.Affine

@[expose] public section

noncomputable section

namespace Cert.SmpPre

open Idealize.ShloMosaic Cert.Pre_last_gates Cert.SmpMath
open scoped BigOperators

/-- A value the comparison finds at least the padding's constant. -/
theorem ge_of (x : EReal) (h : FloatOps.cmpf (F := Ideal) (φ := .f32) .oge x (FloatOps.ofBits (F := Ideal) .f32 0xF149F2CA#32) = 1#1) : SmpMath.pad ≤ x := by
  by_contra hn
  change BitVec.ofBool (decide (SmpMath.pad ≤ x)) = 1#1 at h
  rw [decide_eq_false hn] at h
  exact absurd h (by decide)

/-- Such a gate never lets the padding's constant win. -/
theorem small_of (f g : ℕ → EReal) (mp : EReal) (hl : SmpMath.pad ≤ g 3) : Small f g mp := by
  refine ⟨le_trans (add_le_add_right hl _) (le_max_of_le_right ?_)⟩
  refine le_trans (le_of_eq ?_) (Finset.le_sup (f := fun s : Fin 4 => dl f g 3 s.val) (Finset.mem_univ (3 : Fin 4)))
  dsimp only [dl]
  exact (if_pos (by decide)).symm

instance : Subsingleton S_.Idx := ⟨fun a b => funext fun x => x.elim0⟩

theorem small (P : FVec Ideal S33280x3072 .f32) (G : FVec Ideal S33280x128 .f32) (C : FVec Ideal S32x8x64x128 .f32) (N : FVec Ideal S32x8x64 .f32)
    (M : FVec Ideal S32x8 .f32) (g : FVec Ideal S1024 .f32) (h : fn (F := Ideal) P G C N M g = fun _ => 1#1) (b : ℕ) (hb : b < 32) (k : Fin 8) :
    Small (SmpStep.fg (row G b) k.val) (SmpStep.ig (row G b) k.val) (km M b k.val) := by
  have h0 := congrFun h ix0
  unfold fn at h0
  dsimp only at h0
  refine small_of _ _ _ ?_
  · have e := Host.reduce_andi_all _ _ _ _ ix0 h0 (ix3 ⟨b, hb⟩ 0 k)
    refine ge_of _ (Eq.trans ?_ e)
    have l : extractStridedSlice S32x1x8 ![0, 3, 0] (shapeCast S32x4x128 (extractStridedSlice S128x128 ![32768, 0] G
        Facts.slices_S33280x128_S128x128_32768_0) Facts.shapeCasts_S128x128_S32x4x128) Facts.slices_S32x4x128_S32x1x8_0_3_0 (ix3 ⟨b, hb⟩ 0 k)
        = SmpStep.ig (row G b) k.val 3 := by
      pointwise
      refine Eq.trans ?_ (row_eq G b 3 k.val (by omega) (by omega)).symm
      refine congrArg G (funext fun d => ?_)
      match d with
      | ⟨0, _⟩ => exact Fin.ext (by dsimp only [ix2])
      | ⟨1, _⟩ => exact Fin.ext (by dsimp only [ix2])
    rw [← l]
    rfl

end Cert.SmpPre

end
-- ==== Proof.CallSmp.lean ====
/- The mLSTM call on the sample: the padded tiles of 128 rows against the four tokens, the padding proved to change nothing. -/
module

public import proofs.«01_k».proof.Defs
public import proofs.«01_k».proof.Proof.SmpPoint
public import proofs.«01_k».proof.Proof.SmpBlocks
public import proofs.«01_k».proof.Proof.SmpRef
public import proofs.«01_k».proof.Proof.SmpPre
public import proofs.«01_k».proof.Proof.Gen.KernelSmp
public import proofs.«01_k».proof.Proof.Gen.KernelSmp.Frame
public import proofs.«01_k».proof.Proof.Gen.KernelSmpIdeal
public import proofs.«01_k».proof.Proof.Gen.KernelSmpIdeal.Frame
public import proofs.«01_k».proof.Proof.Gen.KernelSmpIdeal.Value
public import proofs.«01_k».proof.Proof.Gen.ReferenceSmpIdeal
public import proofs.«01_k».proof.Proof.Gen.ReferenceSmpIdeal.Run
public import Idealize.ShloMosaic.Lib.Pipeline.ValueKit
public import Idealize.ShloMosaic.Lib.Pipeline.ReadBack
public import Idealize.ShloMosaic.Lib.ValueIdxCore
public import Idealize.ShloMosaic.Adequacy
public import Idealize.ShloMosaic.Init
public import proofs.«01_k».proof.Proof.Gen.Pre_last_gates

@[expose] public section

set_option maxRecDepth 16384

noncomputable section

namespace Cert.CallSmp

open Idealize.ShloMosaic Idealize.ShloMosaic.TcCoe Idealize.SL.Sem
open Cert.KernelSmpIdeal Cert.KernelSmpIdeal.Gen Cert.SmpMath Cert.SmpBlocks

section
variable (m : (ℓ : Loc nD τ sig) → Buf (Elt Ideal) ℓ) (c : Dev nD)

/-- A gated row of batch element `b`: token `s` of the four, zero after them. -/
def yrow (b s : ℕ) (l : Fin 1024) : EReal :=
  if s < 4 then SmpRef.gated (row (P m c) b) (row (G m c) b) (st (C0 m c) (N0 m c) b) (km (M0 m c) b) (gain m c (ix1 l)) s l else 0

/-- The gated rows of the padded batch. -/
def outY : FVec Ideal S4096x1024 .f32 := fun y => yrow m c ((y 0).val / 128) ((y 0).val % 128) (y 1)

/-- The new state. -/
def outC : FVec Ideal S32x8x64x256 .f32 := fun y =>
  cn (SmpStep.fg (row (G m c) (y 0).val) (y 1).val) (SmpStep.ig (row (G m c) (y 0).val) (y 1).val) (km (M0 m c) (y 0).val (y 1).val)
    (SmpStep.ks (row (P m c) (y 0).val) (y 1).val (y 2).val) (SmpHead.vx (SmpStep.vs (row (P m c) (y 0).val) (y 1).val) (y 3).val) (st (C0 m c) (N0 m c) (y 0).val (y 1).val (y 2).val (y 3).val)

/-- The new maxima. -/
def outM : FVec Ideal S32x8x128 .f32 := fun y =>
  mt (SmpStep.fg (row (G m c) (y 0).val) (y 1).val) (SmpStep.ig (row (G m c) (y 0).val) (y 1).val) (km (M0 m c) (y 0).val (y 1).val) 3

variable (H : ∀ (t : Fin cfg0.N) (h : Fin 8), Small (SmpStep.fg (row (G m c) t.val) h.val) (SmpStep.ig (row (G m c) t.val) h.val) (km (M0 m c) t.val h.val))
include H

theorem after9_at (t : Fin cfg0.N) (i : Fin 128) (l : Fin 1024) : ((dats m 0 c).after 9 t : FVec Ideal S128x1024 .f32) (ix2 i l)
    = outY m c (ix2 ⟨t.val * 128 + i.val, by have := lt_of_lt_of_eq t.isLt N_0; omega⟩ l) := by
  rw [after0_9]
  refine (SmpPoint.y_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (blk m c t (H t)) i l).trans ?_
  have ht := lt_of_lt_of_eq t.isLt N_0
  have e1 : (t.val * 128 + i.val) % 128 = i.val := by omega
  have e2 : (t.val * 128 + i.val) / 128 = t.val := by omega
  refine Eq.trans ?_ (show yrow m c t.val i.val l = yrow m c ((t.val * 128 + i.val) / 128) ((t.val * 128 + i.val) % 128) l by rw [e1, e2])
  unfold yrow
  by_cases hi : i.val < 4
  · rw [if_pos hi, if_pos hi, blk8]
    unfold SmpRef.gated
    refine congrArg₂ (· * ·) rfl ?_
    rw [blk3, proj_at m c t i ⟨2048 + l.val, by omega⟩ _, if_pos hi]
  · rw [if_neg hi, if_neg hi]

theorem after10_at (t : Fin cfg0.N) (h : Fin 8) (d : Fin 64) (l : Fin 256) : ((dats m 0 c).after 10 t : FVec Ideal S1x8x64x256 .f32) (ix4 0 h d l)
    = outC m c (ix4 ⟨t.val, lt_of_lt_of_eq t.isLt N_0⟩ h d l) := by
  rw [after0_10]
  simp only [outsAt0]
  refine (SmpPoint.c_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (blk m c t (H t)) h d l).trans ?_
  rfl

theorem after11_at (t : Fin cfg0.N) (h : Fin 8) (l : Fin 128) : ((dats m 0 c).after 11 t : FVec Ideal S1x8x128 .f32) (ix3 0 h l)
    = outM m c (ix3 ⟨t.val, lt_of_lt_of_eq t.isLt N_0⟩ h l) := by
  rw [after0_11]
  simp only [outsAt0]
  refine (SmpPoint.m_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (blk m c t (H t)) h l).trans ?_
  rfl

theorem final9 : (dats m 0 c).arrAt 9 (cfgs 0).N = outY m c := by
  refine (dats m 0 c).arrAt_eq_of_covers 9 _ (by decide +kernel) fun t _ y => ?_
  obtain ⟨i, l, rfl⟩ : ∃ (i : Fin 128) (l : Fin 1024), y = ix2 i l := ⟨y 0, y 1, eq_ix2 y⟩
  refine (after9_at m c H t i l).trans ?_
  blk_ext [idx t]

theorem final10 : (dats m 0 c).arrAt 10 (cfgs 0).N = outC m c := by
  refine (dats m 0 c).arrAt_eq_of_covers 10 _ (by decide +kernel) fun t _ y => ?_
  obtain ⟨z, h, d, l, rfl⟩ : ∃ (z : Fin 1) (h : Fin 8) (d : Fin 64) (l : Fin 256), y = ix4 z h d l := ⟨y 0, y 1, y 2, y 3, eq_ix4 y⟩
  obtain rfl : z = 0 := Subsingleton.elim _ _
  refine (after10_at m c H t h d l).trans ?_
  blk_ext [idx t]

theorem final11 : (dats m 0 c).arrAt 11 (cfgs 0).N = outM m c := by
  refine (dats m 0 c).arrAt_eq_of_covers 11 _ (by decide +kernel) fun t _ y => ?_
  obtain ⟨z, h, l, rfl⟩ : ∃ (z : Fin 1) (h : Fin 8) (l : Fin 128), y = ix3 z h l := ⟨y 0, y 1, y 2, eq_ix3 y⟩
  obtain rfl : z = 0 := Subsingleton.elim _ _
  refine (after11_at m c H t h l).trans ?_
  blk_ext [idx t]

end

theorem run_ref (m : (ℓ : Loc Cert.ReferenceSmpIdeal.nD Cert.ReferenceSmpIdeal.τ Cert.ReferenceSmpIdeal.sig) → Buf (Elt Ideal) ℓ) (g : Dev Cert.ReferenceSmpIdeal.nD → PrngReg) :
    θ_run (Cert.ReferenceSmpIdeal.defs (F := Ideal)) (onTc (τ := Cert.ReferenceSmpIdeal.τ) (Cert.ReferenceSmpIdeal.main (F := Ideal))) ⟨m, fun _ => 0, g⟩ (fun r => ∀ c : Dev Cert.ReferenceSmpIdeal.nD,
      r.2.mem ((c.tc : Thread Cert.ReferenceSmpIdeal.nD Cert.ReferenceSmpIdeal.τ).loc Cert.ReferenceSmpIdeal.main_v117) = SmpRef.w117 m c
      ∧ r.2.mem ((c.tc : Thread Cert.ReferenceSmpIdeal.nD Cert.ReferenceSmpIdeal.τ).loc Cert.ReferenceSmpIdeal.main_v116) = SmpRef.w116 m c
      ∧ r.2.mem ((c.tc : Thread Cert.ReferenceSmpIdeal.nD Cert.ReferenceSmpIdeal.τ).loc Cert.ReferenceSmpIdeal.main_v119) = SmpRef.w119 m c
      ∧ r.2.mem ((c.tc : Thread Cert.ReferenceSmpIdeal.nD Cert.ReferenceSmpIdeal.τ).loc Cert.ReferenceSmpIdeal.main_arg0) = m ((c.tc : Thread Cert.ReferenceSmpIdeal.nD Cert.ReferenceSmpIdeal.τ).loc Cert.ReferenceSmpIdeal.main_arg0)
      ∧ r.2.mem ((c.tc : Thread Cert.ReferenceSmpIdeal.nD Cert.ReferenceSmpIdeal.τ).loc Cert.ReferenceSmpIdeal.main_arg1) = m ((c.tc : Thread Cert.ReferenceSmpIdeal.nD Cert.ReferenceSmpIdeal.τ).loc Cert.ReferenceSmpIdeal.main_arg1)
      ∧ r.2.mem ((c.tc : Thread Cert.ReferenceSmpIdeal.nD Cert.ReferenceSmpIdeal.τ).loc Cert.ReferenceSmpIdeal.main_arg2) = m ((c.tc : Thread Cert.ReferenceSmpIdeal.nD Cert.ReferenceSmpIdeal.τ).loc Cert.ReferenceSmpIdeal.main_arg2)
      ∧ r.2.mem ((c.tc : Thread Cert.ReferenceSmpIdeal.nD Cert.ReferenceSmpIdeal.τ).loc Cert.ReferenceSmpIdeal.main_arg3) = m ((c.tc : Thread Cert.ReferenceSmpIdeal.nD Cert.ReferenceSmpIdeal.τ).loc Cert.ReferenceSmpIdeal.main_arg3)
      ∧ r.2.mem ((c.tc : Thread Cert.ReferenceSmpIdeal.nD Cert.ReferenceSmpIdeal.τ).loc Cert.ReferenceSmpIdeal.main_arg4) = m ((c.tc : Thread Cert.ReferenceSmpIdeal.nD Cert.ReferenceSmpIdeal.τ).loc Cert.ReferenceSmpIdeal.main_arg4)
      ∧ r.2.mem ((c.tc : Thread Cert.ReferenceSmpIdeal.nD Cert.ReferenceSmpIdeal.τ).loc Cert.ReferenceSmpIdeal.main_arg5) = m ((c.tc : Thread Cert.ReferenceSmpIdeal.nD Cert.ReferenceSmpIdeal.τ).loc Cert.ReferenceSmpIdeal.main_arg5)) :=
  (θ_run _ _ _).mono (fun r h c => by
    obtain ⟨h1, h2, h3, h4⟩ := h c
    refine ⟨h1.trans ?_, h2.trans ?_, h3.trans ?_, h4⟩
    · delta SmpRef.w117 SmpRef.w113 SmpRef.w111 SmpRef.w100 SmpRef.w99 SmpRef.w89 SmpRef.w60 SmpRef.w53 SmpRef.w49 SmpRef.w43 SmpRef.w41 SmpRef.w39 SmpRef.w35 SmpRef.w33 SmpRef.w30 SmpRef.w19 SmpRef.w18 SmpRef.w15 SmpRef.w12 SmpRef.w7 SmpRef.w5 SmpRef.a0 SmpRef.a1 SmpRef.a2 SmpRef.a3 SmpRef.a4 SmpRef.a5 Cert.ReferenceSmpIdeal.Value.res_main_v117; rfl
    · delta SmpRef.w116 SmpRef.w88 SmpRef.w83 SmpRef.w78 SmpRef.w75 SmpRef.w67 SmpRef.w62 SmpRef.w35 SmpRef.w33 SmpRef.w30 SmpRef.w19 SmpRef.w18 SmpRef.w15 SmpRef.w7 SmpRef.w5 SmpRef.a0 SmpRef.a1 SmpRef.a2 SmpRef.a3 SmpRef.a4 Cert.ReferenceSmpIdeal.Value.res_main_v116; rfl
    · delta SmpRef.w119 SmpRef.w62 SmpRef.w35 SmpRef.w33 SmpRef.w30 SmpRef.w19 SmpRef.w7 SmpRef.w5 SmpRef.a1 SmpRef.a4; rfl) (Cert.ReferenceSmpIdeal.Value.run m g)

theorem algebraic : algebraic_KernelSmpIdeal_ReferenceSmpIdeal_pre_last_gates (hKernelSmpIdeal := Cert.KernelSmpIdeal.Gen.facts)
    (hReferenceSmpIdeal := Cert.ReferenceSmpIdeal.Gen.facts) (hPre_last_gates := Cert.Pre_last_gates.Gen.facts) := by
  intro m g m' g' hpre heq
  have H : ∀ (c : Dev nD) (t : Fin cfg0.N) (h : Fin 8), Small (SmpStep.fg (row (G m c) t.val) h.val) (SmpStep.ig (row (G m c) t.val) h.val) (km (M0 m c) t.val h.val) :=
    fun c t h => SmpPre.small _ _ _ _ _ _ (hpre c) t.val (lt_of_lt_of_eq t.isLt N_0) h
  refine ⟨fun c => (dats m 0 c).arrAt 9 (cfgs 0).N, fun c => (dats m 0 c).arrAt 10 (cfgs 0).N, fun c => (dats m 0 c).arrAt 11 (cfgs 0).N,
    Cert.KernelSmpIdeal.Value.run_blocks m g, ?_⟩
  refine (θ_run _ _ _).mono (fun r h c => ?_) (run_ref m' g')
  obtain ⟨h1, h2, h3, h4⟩ := h c
  obtain ⟨q0, q1, q2, q3, q4, q5⟩ := heq c
  refine ⟨h1.trans (Eq.trans ?_ (final9 m c (H c)).symm), h2.trans (Eq.trans ?_ (final10 m c (H c)).symm), h3.trans (Eq.trans ?_ (final11 m c (H c)).symm), h4⟩
  · funext y
    obtain ⟨i, l, rfl⟩ : ∃ (i : Fin 4096) (l : Fin 1024), y = ix2 i l := ⟨y 0, y 1, eq_ix2 y⟩
    refine (SmpRef.w117_at m' c i l).trans ?_
    unfold SmpRef.a0 SmpRef.a1 SmpRef.a2 SmpRef.a3 SmpRef.a4 SmpRef.a5
    rw [q0, q1, q2, q3, q4, q5]
    rfl
  · funext y
    obtain ⟨b, h, d, l, rfl⟩ : ∃ (b : Fin 32) (h : Fin 8) (d : Fin 64) (l : Fin 256), y = ix4 b h d l := ⟨y 0, y 1, y 2, y 3, eq_ix4 y⟩
    refine (SmpRef.w116_at m' c b h d l).trans ?_
    unfold SmpRef.a0 SmpRef.a1 SmpRef.a2 SmpRef.a3 SmpRef.a4
    rw [q0, q1, q2, q3, q4]
    rfl
  · funext y
    obtain ⟨b, h, l, rfl⟩ : ∃ (b : Fin 32) (h : Fin 8) (l : Fin 128), y = ix3 b h l := ⟨y 0, y 1, y 2, eq_ix3 y⟩
    refine (SmpRef.w119_at m' c b h l).trans ?_
    unfold SmpRef.a1 SmpRef.a4
    rw [q1, q4]
    rfl

/-- The reference ends, its arguments as they were. -/
theorem frame_reference (m : (ℓ : Loc Cert.ReferenceSmpIdeal.nD Cert.ReferenceSmpIdeal.τ Cert.ReferenceSmpIdeal.sig) → Buf (Elt Ideal) ℓ) (g : Dev Cert.ReferenceSmpIdeal.nD → PrngReg) :
    θ_run (Cert.ReferenceSmpIdeal.defs (F := Ideal)) (onTc (τ := Cert.ReferenceSmpIdeal.τ) (Cert.ReferenceSmpIdeal.main (F := Ideal))) ⟨m, fun _ => 0, g⟩ (fun r => (∀ c : Dev Cert.ReferenceSmpIdeal.nD,
      r.2.mem ((c.tc : Thread Cert.ReferenceSmpIdeal.nD Cert.ReferenceSmpIdeal.τ).loc Cert.ReferenceSmpIdeal.main_arg0) = m ((c.tc : Thread Cert.ReferenceSmpIdeal.nD Cert.ReferenceSmpIdeal.τ).loc Cert.ReferenceSmpIdeal.main_arg0)
      ∧ r.2.mem ((c.tc : Thread Cert.ReferenceSmpIdeal.nD Cert.ReferenceSmpIdeal.τ).loc Cert.ReferenceSmpIdeal.main_arg1) = m ((c.tc : Thread Cert.ReferenceSmpIdeal.nD Cert.ReferenceSmpIdeal.τ).loc Cert.ReferenceSmpIdeal.main_arg1)
      ∧ r.2.mem ((c.tc : Thread Cert.ReferenceSmpIdeal.nD Cert.ReferenceSmpIdeal.τ).loc Cert.ReferenceSmpIdeal.main_arg2) = m ((c.tc : Thread Cert.ReferenceSmpIdeal.nD Cert.ReferenceSmpIdeal.τ).loc Cert.ReferenceSmpIdeal.main_arg2)
      ∧ r.2.mem ((c.tc : Thread Cert.ReferenceSmpIdeal.nD Cert.ReferenceSmpIdeal.τ).loc Cert.ReferenceSmpIdeal.main_arg3) = m ((c.tc : Thread Cert.ReferenceSmpIdeal.nD Cert.ReferenceSmpIdeal.τ).loc Cert.ReferenceSmpIdeal.main_arg3)
      ∧ r.2.mem ((c.tc : Thread Cert.ReferenceSmpIdeal.nD Cert.ReferenceSmpIdeal.τ).loc Cert.ReferenceSmpIdeal.main_arg4) = m ((c.tc : Thread Cert.ReferenceSmpIdeal.nD Cert.ReferenceSmpIdeal.τ).loc Cert.ReferenceSmpIdeal.main_arg4)
      ∧ r.2.mem ((c.tc : Thread Cert.ReferenceSmpIdeal.nD Cert.ReferenceSmpIdeal.τ).loc Cert.ReferenceSmpIdeal.main_arg5) = m ((c.tc : Thread Cert.ReferenceSmpIdeal.nD Cert.ReferenceSmpIdeal.τ).loc Cert.ReferenceSmpIdeal.main_arg5))
      ∧ r.2.sem = fun _ => 0) :=
  (θ_run _ _ _).mono (fun r h => ⟨fun c => (h c).2.2.2, Idealize.ShloMosaic.sem_eq_zero_of_no_sems (by decide) r.2⟩)
    (Cert.ReferenceSmpIdeal.Value.run m g)

end Cert.CallSmp

end
-- ==== Proof.lean ====
module

public import proofs.«01_k».proof.Proof.Gen.KernelIdeal.Value
public import proofs.«01_k».proof.Proof.Gen.ReferenceIdeal.Run
public import proofs.«01_k».proof.Proof.RefRun
public import proofs.«01_k».proof.Proof.Pre
public import proofs.«01_k».proof.Proof.Final
public import proofs.«01_k».proof.Proof.CallIn
public import proofs.«01_k».proof.Proof.CallQkv
public import proofs.«01_k».proof.Proof.CallPq
public import proofs.«01_k».proof.Proof.CallMix
public import proofs.«01_k».proof.Proof.CallFfn
public import proofs.«01_k».proof.Proof.CallRot
public import proofs.«01_k».proof.Proof.CallSmp
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_rows
public import Idealize.ShloMosaic.Adequacy
public import Idealize.ShloMosaic.Init

@[expose] public section

noncomputable section

namespace Cert.Proof

open Idealize.ShloMosaic Idealize.SL.Sem

theorem algebraic : algebraic_KernelIdeal_ReferenceIdeal_pre_finite_rows (hKernelIdeal := Cert.KernelIdeal.Gen.facts)
    (hReferenceIdeal := Cert.ReferenceIdeal.Gen.facts) (hPre_finite_rows := Cert.Pre_finite_rows.Gen.facts) := by
  intro m g m' g' hpre heq
  have hF : ∀ c : Dev Cert.KernelIdeal.nD, Seq.Fin' (Blocks.P m c) (Blocks.G m c) := fun c => Pre.fin _ _ _ (hpre c)
  refine ⟨fun c => Cert.KernelIdeal.Value.G9 m c, fun c => Cert.KernelIdeal.Value.G10 m c, fun c => Cert.KernelIdeal.Value.G11 m c,
    Cert.KernelIdeal.Value.run m g, ?_⟩
  refine (θ_run _ _ _).mono (fun r h c => ?_) (Cert.RefRun.run_iter m' g' (fun c => RefValue.iter (Blocks.P m c) (Blocks.G m c))
    (fun c => ?_) (fun _ _ => rfl))
  · obtain ⟨h1, h2, h3, h4⟩ := h c
    refine ⟨h1.trans ?_, h2.trans (Final.eq10 (hF c)).symm, h3.trans (Final.eq11 (hF c)).symm, h4⟩
    rw [(heq c).1, (heq c).2.2]
    exact (Final.eq9 (hF c)).symm
  · show RefValue.iter (Blocks.P m c) (Blocks.G m c) 0 = Cert.ReferenceIdeal.Step.init _ _
    rw [(heq c).1, (heq c).2.1]
    rfl

theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2, Idealize.ShloMosaic.sem_eq_zero_of_no_sems (by decide) r.2⟩)
    (Cert.ReferenceIdeal.Value.run m g)

theorem claim : Cert.Claim := ⟨Cert.Kernel.Gen.facts,
  Cert.KernelIdeal.Gen.facts,
  Cert.ReferenceIdeal.Gen.facts,
  Cert.KernelIn.Gen.facts,
  Cert.KernelInIdeal.Gen.facts,
  Cert.ReferenceInIdeal.Gen.facts,
  Cert.KernelQkv.Gen.facts,
  Cert.KernelQkvIdeal.Gen.facts,
  Cert.ReferenceQkvIdeal.Gen.facts,
  Cert.KernelPq.Gen.facts,
  Cert.KernelPqIdeal.Gen.facts,
  Cert.ReferencePqIdeal.Gen.facts,
  Cert.KernelMix.Gen.facts,
  Cert.KernelMixIdeal.Gen.facts,
  Cert.ReferenceMixIdeal.Gen.facts,
  Cert.KernelFfn.Gen.facts,
  Cert.KernelFfnIdeal.Gen.facts,
  Cert.ReferenceFfnIdeal.Gen.facts,
  Cert.KernelRot.Gen.facts,
  Cert.KernelRotIdeal.Gen.facts,
  Cert.ReferenceRotIdeal.Gen.facts,
  Cert.KernelSmp.Gen.facts,
  Cert.KernelSmpIdeal.Gen.facts,
  Cert.ReferenceSmpIdeal.Gen.facts,
  Cert.Pre_finite_rows.Gen.facts,
  Cert.Pre_last_gates.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  fun m ρ _ => Cert.KernelIn.Gen.frame m ρ,
  fun m ρ _ => Cert.KernelInIdeal.Gen.frame m ρ,
  fun m ρ _ => CallIn.frame_reference m ρ,
  fun m ρ _ => Cert.KernelQkv.Gen.frame m ρ,
  fun m ρ _ => Cert.KernelQkvIdeal.Gen.frame m ρ,
  fun m ρ _ => CallQkv.frame_reference m ρ,
  fun m ρ _ => Cert.KernelPq.Gen.frame m ρ,
  fun m ρ _ => Cert.KernelPqIdeal.Gen.frame m ρ,
  fun m ρ _ => CallPq.frame_reference m ρ,
  fun m ρ _ => Cert.KernelMix.Gen.frame m ρ,
  fun m ρ _ => Cert.KernelMixIdeal.Gen.frame m ρ,
  fun m ρ _ => CallMix.frame_reference m ρ,
  fun m ρ _ => Cert.KernelFfn.Gen.frame m ρ,
  fun m ρ _ => Cert.KernelFfnIdeal.Gen.frame m ρ,
  fun m ρ _ => CallFfn.frame_reference m ρ,
  fun m ρ _ => Cert.KernelRot.Gen.frame m ρ,
  fun m ρ _ => Cert.KernelRotIdeal.Gen.frame m ρ,
  fun m ρ _ => CallRot.frame_reference m ρ,
  fun m ρ _ => Cert.KernelSmp.Gen.frame m ρ,
  fun m ρ _ => Cert.KernelSmpIdeal.Gen.frame m ρ,
  fun m ρ _ => Cert.KernelSmpIdeal.Gen.frame m ρ,
  fun m ρ _ => CallSmp.frame_reference m ρ,
  fun m ρ _ => CallSmp.frame_reference m ρ,
  IdealRules.named_const.statement Cert.KernelIdeal.κ "mask" .f32 0xF149F2CA#32 ⊥ rfl,
  algebraic,
  trivial,
  CallIn.algebraic,
  trivial,
  CallQkv.algebraic,
  trivial,
  CallPq.algebraic,
  trivial,
  CallMix.algebraic,
  trivial,
  CallFfn.algebraic,
  trivial,
  CallRot.algebraic,
  IdealRules.named_const.statement Cert.KernelSmpIdeal.κ "mask" .f32 0xF149F2CA#32 ⊥ rfl,
  CallSmp.algebraic⟩

end Cert.Proof

end
